-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_LruStep (m : (ℓ : Loc Cert.LruStep.nD Cert.LruStep.τ Cert.LruStep.sig) → Buf (Elt Bits) ℓ) : Prop :=
  True

def Pre_LruStepIdeal (m : (ℓ : Loc Cert.LruStepIdeal.nD Cert.LruStepIdeal.τ Cert.LruStepIdeal.sig) → Buf (Elt Ideal) ℓ) : Prop :=
  True

def Pre_LruStepRefIdeal (m : (ℓ : Loc Cert.LruStepRefIdeal.nD Cert.LruStepRefIdeal.τ Cert.LruStepRefIdeal.sig) → Buf (Elt Ideal) ℓ) : Prop :=
  True

def Pre_HgrnStep (m : (ℓ : Loc Cert.HgrnStep.nD Cert.HgrnStep.τ Cert.HgrnStep.sig) → Buf (Elt Bits) ℓ) : Prop :=
  True

def Pre_HgrnStepIdeal (m : (ℓ : Loc Cert.HgrnStepIdeal.nD Cert.HgrnStepIdeal.τ Cert.HgrnStepIdeal.sig) → Buf (Elt Ideal) ℓ) : Prop :=
  True

def Pre_HgrnStepRefIdeal (m : (ℓ : Loc Cert.HgrnStepRefIdeal.nD Cert.HgrnStepRefIdeal.τ Cert.HgrnStepRefIdeal.sig) → Buf (Elt Ideal) ℓ) : Prop :=
  True

def Pre_FoxLogf (m : (ℓ : Loc Cert.FoxLogf.nD Cert.FoxLogf.τ Cert.FoxLogf.sig) → Buf (Elt Bits) ℓ) : Prop :=
  True

def Pre_FoxLogfIdeal (m : (ℓ : Loc Cert.FoxLogfIdeal.nD Cert.FoxLogfIdeal.τ Cert.FoxLogfIdeal.sig) → Buf (Elt Ideal) ℓ) : Prop :=
  True

def Pre_FoxLogfRefIdeal (m : (ℓ : Loc Cert.FoxLogfRefIdeal.nD Cert.FoxLogfRefIdeal.τ Cert.FoxLogfRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2))
      ∧ r.2.sem = fun _ => 0)

def quiescent_LruStep [hLruStep : Cert.LruStep.Facts] : Prop :=
  ∀ (m : (ℓ : Loc Cert.LruStep.nD Cert.LruStep.τ Cert.LruStep.sig) → Buf (Elt Bits) ℓ) (g : Dev Cert.LruStep.nD → PrngReg), Pre_LruStep m →
    θ_run (Cert.LruStep.defs (F := Bits)) (onTc (τ := Cert.LruStep.τ) (Cert.LruStep.main (F := Bits))) ⟨m, fun _ => 0, g⟩ (fun r => (∀ c : Dev Cert.LruStep.nD,
      r.2.mem ((c.tc : Thread Cert.LruStep.nD Cert.LruStep.τ).loc Cert.LruStep.main_arg0) = m ((c.tc : Thread Cert.LruStep.nD Cert.LruStep.τ).loc Cert.LruStep.main_arg0)
      ∧ r.2.mem ((c.tc : Thread Cert.LruStep.nD Cert.LruStep.τ).loc Cert.LruStep.main_arg1) = m ((c.tc : Thread Cert.LruStep.nD Cert.LruStep.τ).loc Cert.LruStep.main_arg1)
      ∧ r.2.mem ((c.tc : Thread Cert.LruStep.nD Cert.LruStep.τ).loc Cert.LruStep.main_arg2) = m ((c.tc : Thread Cert.LruStep.nD Cert.LruStep.τ).loc Cert.LruStep.main_arg2)
      ∧ r.2.mem ((c.tc : Thread Cert.LruStep.nD Cert.LruStep.τ).loc Cert.LruStep.main_arg3) = m ((c.tc : Thread Cert.LruStep.nD Cert.LruStep.τ).loc Cert.LruStep.main_arg3)
      ∧ r.2.mem ((c.tc : Thread Cert.LruStep.nD Cert.LruStep.τ).loc Cert.LruStep.main_arg4) = m ((c.tc : Thread Cert.LruStep.nD Cert.LruStep.τ).loc Cert.LruStep.main_arg4)
      ∧ r.2.mem ((c.tc : Thread Cert.LruStep.nD Cert.LruStep.τ).loc Cert.LruStep.main_arg5) = m ((c.tc : Thread Cert.LruStep.nD Cert.LruStep.τ).loc Cert.LruStep.main_arg5)
      ∧ r.2.mem ((c.tc : Thread Cert.LruStep.nD Cert.LruStep.τ).loc Cert.LruStep.main_arg6) = m ((c.tc : Thread Cert.LruStep.nD Cert.LruStep.τ).loc Cert.LruStep.main_arg6)
      ∧ r.2.mem ((c.tc : Thread Cert.LruStep.nD Cert.LruStep.τ).loc Cert.LruStep.main_arg7) = m ((c.tc : Thread Cert.LruStep.nD Cert.LruStep.τ).loc Cert.LruStep.main_arg7)
      ∧ r.2.mem ((c.tc : Thread Cert.LruStep.nD Cert.LruStep.τ).loc Cert.LruStep.main_arg8) = m ((c.tc : Thread Cert.LruStep.nD Cert.LruStep.τ).loc Cert.LruStep.main_arg8)
      ∧ r.2.mem ((c.tc : Thread Cert.LruStep.nD Cert.LruStep.τ).loc Cert.LruStep.main_arg9) = m ((c.tc : Thread Cert.LruStep.nD Cert.LruStep.τ).loc Cert.LruStep.main_arg9))
      ∧ r.2.sem = fun _ => 0)

def quiescent_LruStepIdeal [hLruStepIdeal : Cert.LruStepIdeal.Facts] : Prop :=
  ∀ (m : (ℓ : Loc Cert.LruStepIdeal.nD Cert.LruStepIdeal.τ Cert.LruStepIdeal.sig) → Buf (Elt Ideal) ℓ) (g : Dev Cert.LruStepIdeal.nD → PrngReg), Pre_LruStepIdeal m →
    θ_run (Cert.LruStepIdeal.defs (F := Ideal)) (onTc (τ := Cert.LruStepIdeal.τ) (Cert.LruStepIdeal.main (F := Ideal))) ⟨m, fun _ => 0, g⟩ (fun r => (∀ c : Dev Cert.LruStepIdeal.nD,
      r.2.mem ((c.tc : Thread Cert.LruStepIdeal.nD Cert.LruStepIdeal.τ).loc Cert.LruStepIdeal.main_arg0) = m ((c.tc : Thread Cert.LruStepIdeal.nD Cert.LruStepIdeal.τ).loc Cert.LruStepIdeal.main_arg0)
      ∧ r.2.mem ((c.tc : Thread Cert.LruStepIdeal.nD Cert.LruStepIdeal.τ).loc Cert.LruStepIdeal.main_arg1) = m ((c.tc : Thread Cert.LruStepIdeal.nD Cert.LruStepIdeal.τ).loc Cert.LruStepIdeal.main_arg1)
      ∧ r.2.mem ((c.tc : Thread Cert.LruStepIdeal.nD Cert.LruStepIdeal.τ).loc Cert.LruStepIdeal.main_arg2) = m ((c.tc : Thread Cert.LruStepIdeal.nD Cert.LruStepIdeal.τ).loc Cert.LruStepIdeal.main_arg2)
      ∧ r.2.mem ((c.tc : Thread Cert.LruStepIdeal.nD Cert.LruStepIdeal.τ).loc Cert.LruStepIdeal.main_arg3) = m ((c.tc : Thread Cert.LruStepIdeal.nD Cert.LruStepIdeal.τ).loc Cert.LruStepIdeal.main_arg3)
      ∧ r.2.mem ((c.tc : Thread Cert.LruStepIdeal.nD Cert.LruStepIdeal.τ).loc Cert.LruStepIdeal.main_arg4) = m ((c.tc : Thread Cert.LruStepIdeal.nD Cert.LruStepIdeal.τ).loc Cert.LruStepIdeal.main_arg4)
      ∧ r.2.mem ((c.tc : Thread Cert.LruStepIdeal.nD Cert.LruStepIdeal.τ).loc Cert.LruStepIdeal.main_arg5) = m ((c.tc : Thread Cert.LruStepIdeal.nD Cert.LruStepIdeal.τ).loc Cert.LruStepIdeal.main_arg5)
      ∧ r.2.mem ((c.tc : Thread Cert.LruStepIdeal.nD Cert.LruStepIdeal.τ).loc Cert.LruStepIdeal.main_arg6) = m ((c.tc : Thread Cert.LruStepIdeal.nD Cert.LruStepIdeal.τ).loc Cert.LruStepIdeal.main_arg6)
      ∧ r.2.mem ((c.tc : Thread Cert.LruStepIdeal.nD Cert.LruStepIdeal.τ).loc Cert.LruStepIdeal.main_arg7) = m ((c.tc : Thread Cert.LruStepIdeal.nD Cert.LruStepIdeal.τ).loc Cert.LruStepIdeal.main_arg7)
      ∧ r.2.mem ((c.tc : Thread Cert.LruStepIdeal.nD Cert.LruStepIdeal.τ).loc Cert.LruStepIdeal.main_arg8) = m ((c.tc : Thread Cert.LruStepIdeal.nD Cert.LruStepIdeal.τ).loc Cert.LruStepIdeal.main_arg8)
      ∧ r.2.mem ((c.tc : Thread Cert.LruStepIdeal.nD Cert.LruStepIdeal.τ).loc Cert.LruStepIdeal.main_arg9) = m ((c.tc : Thread Cert.LruStepIdeal.nD Cert.LruStepIdeal.τ).loc Cert.LruStepIdeal.main_arg9))
      ∧ r.2.sem = fun _ => 0)

def quiescent_LruStepRefIdeal [hLruStepRefIdeal : Cert.LruStepRefIdeal.Facts] : Prop :=
  ∀ (m : (ℓ : Loc Cert.LruStepRefIdeal.nD Cert.LruStepRefIdeal.τ Cert.LruStepRefIdeal.sig) → Buf (Elt Ideal) ℓ) (g : Dev Cert.LruStepRefIdeal.nD → PrngReg), Pre_LruStepRefIdeal m →
    θ_run (Cert.LruStepRefIdeal.defs (F := Ideal)) (onTc (τ := Cert.LruStepRefIdeal.τ) (Cert.LruStepRefIdeal.main (F := Ideal))) ⟨m, fun _ => 0, g⟩ (fun r => (∀ c : Dev Cert.LruStepRefIdeal.nD,
      r.2.mem ((c.tc : Thread Cert.LruStepRefIdeal.nD Cert.LruStepRefIdeal.τ).loc Cert.LruStepRefIdeal.main_arg0) = m ((c.tc : Thread Cert.LruStepRefIdeal.nD Cert.LruStepRefIdeal.τ).loc Cert.LruStepRefIdeal.main_arg0)
      ∧ r.2.mem ((c.tc : Thread Cert.LruStepRefIdeal.nD Cert.LruStepRefIdeal.τ).loc Cert.LruStepRefIdeal.main_arg1) = m ((c.tc : Thread Cert.LruStepRefIdeal.nD Cert.LruStepRefIdeal.τ).loc Cert.LruStepRefIdeal.main_arg1)
      ∧ r.2.mem ((c.tc : Thread Cert.LruStepRefIdeal.nD Cert.LruStepRefIdeal.τ).loc Cert.LruStepRefIdeal.main_arg2) = m ((c.tc : Thread Cert.LruStepRefIdeal.nD Cert.LruStepRefIdeal.τ).loc Cert.LruStepRefIdeal.main_arg2)
      ∧ r.2.mem ((c.tc : Thread Cert.LruStepRefIdeal.nD Cert.LruStepRefIdeal.τ).loc Cert.LruStepRefIdeal.main_arg3) = m ((c.tc : Thread Cert.LruStepRefIdeal.nD Cert.LruStepRefIdeal.τ).loc Cert.LruStepRefIdeal.main_arg3)
      ∧ r.2.mem ((c.tc : Thread Cert.LruStepRefIdeal.nD Cert.LruStepRefIdeal.τ).loc Cert.LruStepRefIdeal.main_arg4) = m ((c.tc : Thread Cert.LruStepRefIdeal.nD Cert.LruStepRefIdeal.τ).loc Cert.LruStepRefIdeal.main_arg4)
      ∧ r.2.mem ((c.tc : Thread Cert.LruStepRefIdeal.nD Cert.LruStepRefIdeal.τ).loc Cert.LruStepRefIdeal.main_arg5) = m ((c.tc : Thread Cert.LruStepRefIdeal.nD Cert.LruStepRefIdeal.τ).loc Cert.LruStepRefIdeal.main_arg5)
      ∧ r.2.mem ((c.tc : Thread Cert.LruStepRefIdeal.nD Cert.LruStepRefIdeal.τ).loc Cert.LruStepRefIdeal.main_arg6) = m ((c.tc : Thread Cert.LruStepRefIdeal.nD Cert.LruStepRefIdeal.τ).loc Cert.LruStepRefIdeal.main_arg6)
      ∧ r.2.mem ((c.tc : Thread Cert.LruStepRefIdeal.nD Cert.LruStepRefIdeal.τ).loc Cert.LruStepRefIdeal.main_arg7) = m ((c.tc : Thread Cert.LruStepRefIdeal.nD Cert.LruStepRefIdeal.τ).loc Cert.LruStepRefIdeal.main_arg7)
      ∧ r.2.mem ((c.tc : Thread Cert.LruStepRefIdeal.nD Cert.LruStepRefIdeal.τ).loc Cert.LruStepRefIdeal.main_arg8) = m ((c.tc : Thread Cert.LruStepRefIdeal.nD Cert.LruStepRefIdeal.τ).loc Cert.LruStepRefIdeal.main_arg8)
      ∧ r.2.mem ((c.tc : Thread Cert.LruStepRefIdeal.nD Cert.LruStepRefIdeal.τ).loc Cert.LruStepRefIdeal.main_arg9) = m ((c.tc : Thread Cert.LruStepRefIdeal.nD Cert.LruStepRefIdeal.τ).loc Cert.LruStepRefIdeal.main_arg9))
      ∧ r.2.sem = fun _ => 0)

def quiescent_HgrnStep [hHgrnStep : Cert.HgrnStep.Facts] : Prop :=
  ∀ (m : (ℓ : Loc Cert.HgrnStep.nD Cert.HgrnStep.τ Cert.HgrnStep.sig) → Buf (Elt Bits) ℓ) (g : Dev Cert.HgrnStep.nD → PrngReg), Pre_HgrnStep m →
    θ_run (Cert.HgrnStep.defs (F := Bits)) (onTc (τ := Cert.HgrnStep.τ) (Cert.HgrnStep.main (F := Bits))) ⟨m, fun _ => 0, g⟩ (fun r => (∀ c : Dev Cert.HgrnStep.nD,
      r.2.mem ((c.tc : Thread Cert.HgrnStep.nD Cert.HgrnStep.τ).loc Cert.HgrnStep.main_arg0) = m ((c.tc : Thread Cert.HgrnStep.nD Cert.HgrnStep.τ).loc Cert.HgrnStep.main_arg0)
      ∧ r.2.mem ((c.tc : Thread Cert.HgrnStep.nD Cert.HgrnStep.τ).loc Cert.HgrnStep.main_arg1) = m ((c.tc : Thread Cert.HgrnStep.nD Cert.HgrnStep.τ).loc Cert.HgrnStep.main_arg1)
      ∧ r.2.mem ((c.tc : Thread Cert.HgrnStep.nD Cert.HgrnStep.τ).loc Cert.HgrnStep.main_arg2) = m ((c.tc : Thread Cert.HgrnStep.nD Cert.HgrnStep.τ).loc Cert.HgrnStep.main_arg2)
      ∧ r.2.mem ((c.tc : Thread Cert.HgrnStep.nD Cert.HgrnStep.τ).loc Cert.HgrnStep.main_arg3) = m ((c.tc : Thread Cert.HgrnStep.nD Cert.HgrnStep.τ).loc Cert.HgrnStep.main_arg3))
      ∧ r.2.sem = fun _ => 0)

def quiescent_HgrnStepIdeal [hHgrnStepIdeal : Cert.HgrnStepIdeal.Facts] : Prop :=
  ∀ (m : (ℓ : Loc Cert.HgrnStepIdeal.nD Cert.HgrnStepIdeal.τ Cert.HgrnStepIdeal.sig) → Buf (Elt Ideal) ℓ) (g : Dev Cert.HgrnStepIdeal.nD → PrngReg), Pre_HgrnStepIdeal m →
    θ_run (Cert.HgrnStepIdeal.defs (F := Ideal)) (onTc (τ := Cert.HgrnStepIdeal.τ) (Cert.HgrnStepIdeal.main (F := Ideal))) ⟨m, fun _ => 0, g⟩ (fun r => (∀ c : Dev Cert.HgrnStepIdeal.nD,
      r.2.mem ((c.tc : Thread Cert.HgrnStepIdeal.nD Cert.HgrnStepIdeal.τ).loc Cert.HgrnStepIdeal.main_arg0) = m ((c.tc : Thread Cert.HgrnStepIdeal.nD Cert.HgrnStepIdeal.τ).loc Cert.HgrnStepIdeal.main_arg0)
      ∧ r.2.mem ((c.tc : Thread Cert.HgrnStepIdeal.nD Cert.HgrnStepIdeal.τ).loc Cert.HgrnStepIdeal.main_arg1) = m ((c.tc : Thread Cert.HgrnStepIdeal.nD Cert.HgrnStepIdeal.τ).loc Cert.HgrnStepIdeal.main_arg1)
      ∧ r.2.mem ((c.tc : Thread Cert.HgrnStepIdeal.nD Cert.HgrnStepIdeal.τ).loc Cert.HgrnStepIdeal.main_arg2) = m ((c.tc : Thread Cert.HgrnStepIdeal.nD Cert.HgrnStepIdeal.τ).loc Cert.HgrnStepIdeal.main_arg2)
      ∧ r.2.mem ((c.tc : Thread Cert.HgrnStepIdeal.nD Cert.HgrnStepIdeal.τ).loc Cert.HgrnStepIdeal.main_arg3) = m ((c.tc : Thread Cert.HgrnStepIdeal.nD Cert.HgrnStepIdeal.τ).loc Cert.HgrnStepIdeal.main_arg3))
      ∧ r.2.sem = fun _ => 0)

def quiescent_HgrnStepRefIdeal [hHgrnStepRefIdeal : Cert.HgrnStepRefIdeal.Facts] : Prop :=
  ∀ (m : (ℓ : Loc Cert.HgrnStepRefIdeal.nD Cert.HgrnStepRefIdeal.τ Cert.HgrnStepRefIdeal.sig) → Buf (Elt Ideal) ℓ) (g : Dev Cert.HgrnStepRefIdeal.nD → PrngReg), Pre_HgrnStepRefIdeal m →
    θ_run (Cert.HgrnStepRefIdeal.defs (F := Ideal)) (onTc (τ := Cert.HgrnStepRefIdeal.τ) (Cert.HgrnStepRefIdeal.main (F := Ideal))) ⟨m, fun _ => 0, g⟩ (fun r => (∀ c : Dev Cert.HgrnStepRefIdeal.nD,
      r.2.mem ((c.tc : Thread Cert.HgrnStepRefIdeal.nD Cert.HgrnStepRefIdeal.τ).loc Cert.HgrnStepRefIdeal.main_arg0) = m ((c.tc : Thread Cert.HgrnStepRefIdeal.nD Cert.HgrnStepRefIdeal.τ).loc Cert.HgrnStepRefIdeal.main_arg0)
      ∧ r.2.mem ((c.tc : Thread Cert.HgrnStepRefIdeal.nD Cert.HgrnStepRefIdeal.τ).loc Cert.HgrnStepRefIdeal.main_arg1) = m ((c.tc : Thread Cert.HgrnStepRefIdeal.nD Cert.HgrnStepRefIdeal.τ).loc Cert.HgrnStepRefIdeal.main_arg1)
      ∧ r.2.mem ((c.tc : Thread Cert.HgrnStepRefIdeal.nD Cert.HgrnStepRefIdeal.τ).loc Cert.HgrnStepRefIdeal.main_arg2) = m ((c.tc : Thread Cert.HgrnStepRefIdeal.nD Cert.HgrnStepRefIdeal.τ).loc Cert.HgrnStepRefIdeal.main_arg2)
      ∧ r.2.mem ((c.tc : Thread Cert.HgrnStepRefIdeal.nD Cert.HgrnStepRefIdeal.τ).loc Cert.HgrnStepRefIdeal.main_arg3) = m ((c.tc : Thread Cert.HgrnStepRefIdeal.nD Cert.HgrnStepRefIdeal.τ).loc Cert.HgrnStepRefIdeal.main_arg3))
      ∧ r.2.sem = fun _ => 0)

def quiescent_FoxLogf [hFoxLogf : Cert.FoxLogf.Facts] : Prop :=
  ∀ (m : (ℓ : Loc Cert.FoxLogf.nD Cert.FoxLogf.τ Cert.FoxLogf.sig) → Buf (Elt Bits) ℓ) (g : Dev Cert.FoxLogf.nD → PrngReg), Pre_FoxLogf m →
    θ_run (Cert.FoxLogf.defs (F := Bits)) (onTc (τ := Cert.FoxLogf.τ) (Cert.FoxLogf.main (F := Bits))) ⟨m, fun _ => 0, g⟩ (fun r => (∀ c : Dev Cert.FoxLogf.nD,
      r.2.mem ((c.tc : Thread Cert.FoxLogf.nD Cert.FoxLogf.τ).loc Cert.FoxLogf.main_arg0) = m ((c.tc : Thread Cert.FoxLogf.nD Cert.FoxLogf.τ).loc Cert.FoxLogf.main_arg0)
      ∧ r.2.mem ((c.tc : Thread Cert.FoxLogf.nD Cert.FoxLogf.τ).loc Cert.FoxLogf.main_arg1) = m ((c.tc : Thread Cert.FoxLogf.nD Cert.FoxLogf.τ).loc Cert.FoxLogf.main_arg1))
      ∧ r.2.sem = fun _ => 0)

def quiescent_FoxLogfIdeal [hFoxLogfIdeal : Cert.FoxLogfIdeal.Facts] : Prop :=
  ∀ (m : (ℓ : Loc Cert.FoxLogfIdeal.nD Cert.FoxLogfIdeal.τ Cert.FoxLogfIdeal.sig) → Buf (Elt Ideal) ℓ) (g : Dev Cert.FoxLogfIdeal.nD → PrngReg), Pre_FoxLogfIdeal m →
    θ_run (Cert.FoxLogfIdeal.defs (F := Ideal)) (onTc (τ := Cert.FoxLogfIdeal.τ) (Cert.FoxLogfIdeal.main (F := Ideal))) ⟨m, fun _ => 0, g⟩ (fun r => (∀ c : Dev Cert.FoxLogfIdeal.nD,
      r.2.mem ((c.tc : Thread Cert.FoxLogfIdeal.nD Cert.FoxLogfIdeal.τ).loc Cert.FoxLogfIdeal.main_arg0) = m ((c.tc : Thread Cert.FoxLogfIdeal.nD Cert.FoxLogfIdeal.τ).loc Cert.FoxLogfIdeal.main_arg0)
      ∧ r.2.mem ((c.tc : Thread Cert.FoxLogfIdeal.nD Cert.FoxLogfIdeal.τ).loc Cert.FoxLogfIdeal.main_arg1) = m ((c.tc : Thread Cert.FoxLogfIdeal.nD Cert.FoxLogfIdeal.τ).loc Cert.FoxLogfIdeal.main_arg1))
      ∧ r.2.sem = fun _ => 0)

def quiescent_FoxLogfRefIdeal [hFoxLogfRefIdeal : Cert.FoxLogfRefIdeal.Facts] : Prop :=
  ∀ (m : (ℓ : Loc Cert.FoxLogfRefIdeal.nD Cert.FoxLogfRefIdeal.τ Cert.FoxLogfRefIdeal.sig) → Buf (Elt Ideal) ℓ) (g : Dev Cert.FoxLogfRefIdeal.nD → PrngReg), Pre_FoxLogfRefIdeal m →
    θ_run (Cert.FoxLogfRefIdeal.defs (F := Ideal)) (onTc (τ := Cert.FoxLogfRefIdeal.τ) (Cert.FoxLogfRefIdeal.main (F := Ideal))) ⟨m, fun _ => 0, g⟩ (fun r => (∀ c : Dev Cert.FoxLogfRefIdeal.nD,
      r.2.mem ((c.tc : Thread Cert.FoxLogfRefIdeal.nD Cert.FoxLogfRefIdeal.τ).loc Cert.FoxLogfRefIdeal.main_arg0) = m ((c.tc : Thread Cert.FoxLogfRefIdeal.nD Cert.FoxLogfRefIdeal.τ).loc Cert.FoxLogfRefIdeal.main_arg0)
      ∧ r.2.mem ((c.tc : Thread Cert.FoxLogfRefIdeal.nD Cert.FoxLogfRefIdeal.τ).loc Cert.FoxLogfRefIdeal.main_arg1) = m ((c.tc : Thread Cert.FoxLogfRefIdeal.nD Cert.FoxLogfRefIdeal.τ).loc Cert.FoxLogfRefIdeal.main_arg1))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3)
      ∧ r.2.mem ((c.tc : Thread Cert.MlpS.nD Cert.MlpS.τ).loc Cert.MlpS.main_arg4) = m ((c.tc : Thread Cert.MlpS.nD Cert.MlpS.τ).loc Cert.MlpS.main_arg4))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
      ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3)
      ∧ r.2.mem ((c.tc : Thread Cert.MlpSRefIdeal.nD Cert.MlpSRefIdeal.τ).loc Cert.MlpSRefIdeal.main_arg4) = m ((c.tc : Thread Cert.MlpSRefIdeal.nD Cert.MlpSRefIdeal.τ).loc Cert.MlpSRefIdeal.main_arg4))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5_0)) (v1 : (c : Dev Cert.MlpIdeal.nD) → Buf (Elt Ideal) ((c.tc : Thread Cert.MlpIdeal.nD Cert.MlpIdeal.τ).loc Cert.MlpIdeal.main_v5_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5_0) = v0 c
          ∧ r.2.mem ((c.tc : Thread Cert.MlpIdeal.nD Cert.MlpIdeal.τ).loc Cert.MlpIdeal.main_v5_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v18) = v0 c
          ∧ r.2.mem ((c.tc : Thread Cert.MlpRefIdeal.nD Cert.MlpRefIdeal.τ).loc Cert.MlpRefIdeal.main_v32) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)) →
    ∃ (v0 : (c : Dev Cert.ProjInIdeal.nD) → Buf (Elt Ideal) ((c.tc : Thread Cert.ProjInIdeal.nD Cert.ProjInIdeal.τ).loc Cert.ProjInIdeal.main_v3)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v3) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v14) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2))

def preserves_Qkv_QkvIdeal : Prop :=
  IdealRules.named_const.Statement Cert.QkvIdeal.κ "q_scale" .f32 0x3E0293EE#32 (((Real.sqrt 128)⁻¹ * (Real.log 2)⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v7_0)) (v1 : (c : Dev Cert.QkvIdeal.nD) → Buf (Elt Ideal) ((c.tc : Thread Cert.QkvIdeal.nD Cert.QkvIdeal.τ).loc Cert.QkvIdeal.main_v7_1)) (v2 : (c : Dev Cert.QkvIdeal.nD) → Buf (Elt Ideal) ((c.tc : Thread Cert.QkvIdeal.nD Cert.QkvIdeal.τ).loc Cert.QkvIdeal.main_v7_2)) (v3 : (c : Dev Cert.QkvIdeal.nD) → Buf (Elt Ideal) ((c.tc : Thread Cert.QkvIdeal.nD Cert.QkvIdeal.τ).loc Cert.QkvIdeal.main_v7_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7_0) = v0 c
          ∧ r.2.mem ((c.tc : Thread Cert.QkvIdeal.nD Cert.QkvIdeal.τ).loc Cert.QkvIdeal.main_v7_1) = v1 c
          ∧ r.2.mem ((c.tc : Thread Cert.QkvIdeal.nD Cert.QkvIdeal.τ).loc Cert.QkvIdeal.main_v7_2) = v2 c
          ∧ r.2.mem ((c.tc : Thread Cert.QkvIdeal.nD Cert.QkvIdeal.τ).loc Cert.QkvIdeal.main_v7_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v25) = v0 c
          ∧ r.2.mem ((c.tc : Thread Cert.QkvRefIdeal.nD Cert.QkvRefIdeal.τ).loc Cert.QkvRefIdeal.main_v26) = v1 c
          ∧ r.2.mem ((c.tc : Thread Cert.QkvRefIdeal.nD Cert.QkvRefIdeal.τ).loc Cert.QkvRefIdeal.main_v27) = v2 c
          ∧ r.2.mem ((c.tc : Thread Cert.QkvRefIdeal.nD Cert.QkvRefIdeal.τ).loc Cert.QkvRefIdeal.main_v29) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)) →
    ∃ (v0 : (c : Dev Cert.OutEvenIdeal.nD) → Buf (Elt Ideal) ((c.tc : Thread Cert.OutEvenIdeal.nD Cert.OutEvenIdeal.τ).loc Cert.OutEvenIdeal.main_v8)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v8) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v3) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)) →
    ∃ (v0 : (c : Dev Cert.OutOddIdeal.nD) → Buf (Elt Ideal) ((c.tc : Thread Cert.OutOddIdeal.nD Cert.OutOddIdeal.τ).loc Cert.OutOddIdeal.main_v4)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v4) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v2) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2))

def preserves_LruStep_LruStepIdeal : Prop :=
  True

def algebraic_LruStepIdeal_LruStepRefIdeal [hLruStepIdeal : Cert.LruStepIdeal.Facts] [hLruStepRefIdeal : Cert.LruStepRefIdeal.Facts] : Prop :=
  ∀ (m : (ℓ : Loc Cert.LruStepIdeal.nD Cert.LruStepIdeal.τ Cert.LruStepIdeal.sig) → Buf (Elt Ideal) ℓ) (g : Dev Cert.LruStepIdeal.nD → PrngReg)
    (m' : (ℓ : Loc Cert.LruStepRefIdeal.nD Cert.LruStepRefIdeal.τ Cert.LruStepRefIdeal.sig) → Buf (Elt Ideal) ℓ) (g' : Dev Cert.LruStepRefIdeal.nD → PrngReg), Pre_LruStepIdeal m →
    (∀ c : Dev Cert.LruStepIdeal.nD,
      m' ((c.tc : Thread Cert.LruStepRefIdeal.nD Cert.LruStepRefIdeal.τ).loc Cert.LruStepRefIdeal.main_arg0) = m ((c.tc : Thread Cert.LruStepIdeal.nD Cert.LruStepIdeal.τ).loc Cert.LruStepIdeal.main_arg0)
      ∧ m' ((c.tc : Thread Cert.LruStepRefIdeal.nD Cert.LruStepRefIdeal.τ).loc Cert.LruStepRefIdeal.main_arg1) = m ((c.tc : Thread Cert.LruStepIdeal.nD Cert.LruStepIdeal.τ).loc Cert.LruStepIdeal.main_arg1)
      ∧ m' ((c.tc : Thread Cert.LruStepRefIdeal.nD Cert.LruStepRefIdeal.τ).loc Cert.LruStepRefIdeal.main_arg2) = m ((c.tc : Thread Cert.LruStepIdeal.nD Cert.LruStepIdeal.τ).loc Cert.LruStepIdeal.main_arg2)
      ∧ m' ((c.tc : Thread Cert.LruStepRefIdeal.nD Cert.LruStepRefIdeal.τ).loc Cert.LruStepRefIdeal.main_arg3) = m ((c.tc : Thread Cert.LruStepIdeal.nD Cert.LruStepIdeal.τ).loc Cert.LruStepIdeal.main_arg3)
      ∧ m' ((c.tc : Thread Cert.LruStepRefIdeal.nD Cert.LruStepRefIdeal.τ).loc Cert.LruStepRefIdeal.main_arg4) = m ((c.tc : Thread Cert.LruStepIdeal.nD Cert.LruStepIdeal.τ).loc Cert.LruStepIdeal.main_arg4)
      ∧ m' ((c.tc : Thread Cert.LruStepRefIdeal.nD Cert.LruStepRefIdeal.τ).loc Cert.LruStepRefIdeal.main_arg5) = m ((c.tc : Thread Cert.LruStepIdeal.nD Cert.LruStepIdeal.τ).loc Cert.LruStepIdeal.main_arg5)
      ∧ m' ((c.tc : Thread Cert.LruStepRefIdeal.nD Cert.LruStepRefIdeal.τ).loc Cert.LruStepRefIdeal.main_arg6) = m ((c.tc : Thread Cert.LruStepIdeal.nD Cert.LruStepIdeal.τ).loc Cert.LruStepIdeal.main_arg6)
      ∧ m' ((c.tc : Thread Cert.LruStepRefIdeal.nD Cert.LruStepRefIdeal.τ).loc Cert.LruStepRefIdeal.main_arg7) = m ((c.tc : Thread Cert.LruStepIdeal.nD Cert.LruStepIdeal.τ).loc Cert.LruStepIdeal.main_arg7)
      ∧ m' ((c.tc : Thread Cert.LruStepRefIdeal.nD Cert.LruStepRefIdeal.τ).loc Cert.LruStepRefIdeal.main_arg8) = m ((c.tc : Thread Cert.LruStepIdeal.nD Cert.LruStepIdeal.τ).loc Cert.LruStepIdeal.main_arg8)
      ∧ m' ((c.tc : Thread Cert.LruStepRefIdeal.nD Cert.LruStepRefIdeal.τ).loc Cert.LruStepRefIdeal.main_arg9) = m ((c.tc : Thread Cert.LruStepIdeal.nD Cert.LruStepIdeal.τ).loc Cert.LruStepIdeal.main_arg9)) →
    ∃ (v0 : (c : Dev Cert.LruStepIdeal.nD) → Buf (Elt Ideal) ((c.tc : Thread Cert.LruStepIdeal.nD Cert.LruStepIdeal.τ).loc Cert.LruStepIdeal.main_v8_0)) (v1 : (c : Dev Cert.LruStepIdeal.nD) → Buf (Elt Ideal) ((c.tc : Thread Cert.LruStepIdeal.nD Cert.LruStepIdeal.τ).loc Cert.LruStepIdeal.main_v8_1)) (v2 : (c : Dev Cert.LruStepIdeal.nD) → Buf (Elt Ideal) ((c.tc : Thread Cert.LruStepIdeal.nD Cert.LruStepIdeal.τ).loc Cert.LruStepIdeal.main_v8_2)),
      θ_run (Cert.LruStepIdeal.defs (F := Ideal)) (onTc (τ := Cert.LruStepIdeal.τ) (Cert.LruStepIdeal.main (F := Ideal))) ⟨m, fun _ => 0, g⟩ (fun r => ∀ c : Dev Cert.LruStepIdeal.nD,
          r.2.mem ((c.tc : Thread Cert.LruStepIdeal.nD Cert.LruStepIdeal.τ).loc Cert.LruStepIdeal.main_v8_0) = v0 c
          ∧ r.2.mem ((c.tc : Thread Cert.LruStepIdeal.nD Cert.LruStepIdeal.τ).loc Cert.LruStepIdeal.main_v8_1) = v1 c
          ∧ r.2.mem ((c.tc : Thread Cert.LruStepIdeal.nD Cert.LruStepIdeal.τ).loc Cert.LruStepIdeal.main_v8_2) = v2 c
          ∧ r.2.mem ((c.tc : Thread Cert.LruStepIdeal.nD Cert.LruStepIdeal.τ).loc Cert.LruStepIdeal.main_arg0) = m ((c.tc : Thread Cert.LruStepIdeal.nD Cert.LruStepIdeal.τ).loc Cert.LruStepIdeal.main_arg0)
          ∧ r.2.mem ((c.tc : Thread Cert.LruStepIdeal.nD Cert.LruStepIdeal.τ).loc Cert.LruStepIdeal.main_arg1) = m ((c.tc : Thread Cert.LruStepIdeal.nD Cert.LruStepIdeal.τ).loc Cert.LruStepIdeal.main_arg1)
          ∧ r.2.mem ((c.tc : Thread Cert.LruStepIdeal.nD Cert.LruStepIdeal.τ).loc Cert.LruStepIdeal.main_arg2) = m ((c.tc : Thread Cert.LruStepIdeal.nD Cert.LruStepIdeal.τ).loc Cert.LruStepIdeal.main_arg2)
          ∧ r.2.mem ((c.tc : Thread Cert.LruStepIdeal.nD Cert.LruStepIdeal.τ).loc Cert.LruStepIdeal.main_arg3) = m ((c.tc : Thread Cert.LruStepIdeal.nD Cert.LruStepIdeal.τ).loc Cert.LruStepIdeal.main_arg3)
          ∧ r.2.mem ((c.tc : Thread Cert.LruStepIdeal.nD Cert.LruStepIdeal.τ).loc Cert.LruStepIdeal.main_arg4) = m ((c.tc : Thread Cert.LruStepIdeal.nD Cert.LruStepIdeal.τ).loc Cert.LruStepIdeal.main_arg4)
          ∧ r.2.mem ((c.tc : Thread Cert.LruStepIdeal.nD Cert.LruStepIdeal.τ).loc Cert.LruStepIdeal.main_arg5) = m ((c.tc : Thread Cert.LruStepIdeal.nD Cert.LruStepIdeal.τ).loc Cert.LruStepIdeal.main_arg5)
          ∧ r.2.mem ((c.tc : Thread Cert.LruStepIdeal.nD Cert.LruStepIdeal.τ).loc Cert.LruStepIdeal.main_arg6) = m ((c.tc : Thread Cert.LruStepIdeal.nD Cert.LruStepIdeal.τ).loc Cert.LruStepIdeal.main_arg6)
          ∧ r.2.mem ((c.tc : Thread Cert.LruStepIdeal.nD Cert.LruStepIdeal.τ).loc Cert.LruStepIdeal.main_arg7) = m ((c.tc : Thread Cert.LruStepIdeal.nD Cert.LruStepIdeal.τ).loc Cert.LruStepIdeal.main_arg7)
          ∧ r.2.mem ((c.tc : Thread Cert.LruStepIdeal.nD Cert.LruStepIdeal.τ).loc Cert.LruStepIdeal.main_arg8) = m ((c.tc : Thread Cert.LruStepIdeal.nD Cert.LruStepIdeal.τ).loc Cert.LruStepIdeal.main_arg8)
          ∧ r.2.mem ((c.tc : Thread Cert.LruStepIdeal.nD Cert.LruStepIdeal.τ).loc Cert.LruStepIdeal.main_arg9) = m ((c.tc : Thread Cert.LruStepIdeal.nD Cert.LruStepIdeal.τ).loc Cert.LruStepIdeal.main_arg9))
      ∧ θ_run (Cert.LruStepRefIdeal.defs (F := Ideal)) (onTc (τ := Cert.LruStepRefIdeal.τ) (Cert.LruStepRefIdeal.main (F := Ideal))) ⟨m', fun _ => 0, g'⟩ (fun r => ∀ c : Dev Cert.LruStepRefIdeal.nD,
          r.2.mem ((c.tc : Thread Cert.LruStepRefIdeal.nD Cert.LruStepRefIdeal.τ).loc Cert.LruStepRefIdeal.main_v95) = v0 c
          ∧ r.2.mem ((c.tc : Thread Cert.LruStepRefIdeal.nD Cert.LruStepRefIdeal.τ).loc Cert.LruStepRefIdeal.main_v96) = v1 c
          ∧ r.2.mem ((c.tc : Thread Cert.LruStepRefIdeal.nD Cert.LruStepRefIdeal.τ).loc Cert.LruStepRefIdeal.main_v93) = v2 c
          ∧ r.2.mem ((c.tc : Thread Cert.LruStepRefIdeal.nD Cert.LruStepRefIdeal.τ).loc Cert.LruStepRefIdeal.main_arg0) = m' ((c.tc : Thread Cert.LruStepRefIdeal.nD Cert.LruStepRefIdeal.τ).loc Cert.LruStepRefIdeal.main_arg0)
          ∧ r.2.mem ((c.tc : Thread Cert.LruStepRefIdeal.nD Cert.LruStepRefIdeal.τ).loc Cert.LruStepRefIdeal.main_arg1) = m' ((c.tc : Thread Cert.LruStepRefIdeal.nD Cert.LruStepRefIdeal.τ).loc Cert.LruStepRefIdeal.main_arg1)
          ∧ r.2.mem ((c.tc : Thread Cert.LruStepRefIdeal.nD Cert.LruStepRefIdeal.τ).loc Cert.LruStepRefIdeal.main_arg2) = m' ((c.tc : Thread Cert.LruStepRefIdeal.nD Cert.LruStepRefIdeal.τ).loc Cert.LruStepRefIdeal.main_arg2)
          ∧ r.2.mem ((c.tc : Thread Cert.LruStepRefIdeal.nD Cert.LruStepRefIdeal.τ).loc Cert.LruStepRefIdeal.main_arg3) = m' ((c.tc : Thread Cert.LruStepRefIdeal.nD Cert.LruStepRefIdeal.τ).loc Cert.LruStepRefIdeal.main_arg3)
          ∧ r.2.mem ((c.tc : Thread Cert.LruStepRefIdeal.nD Cert.LruStepRefIdeal.τ).loc Cert.LruStepRefIdeal.main_arg4) = m' ((c.tc : Thread Cert.LruStepRefIdeal.nD Cert.LruStepRefIdeal.τ).loc Cert.LruStepRefIdeal.main_arg4)
          ∧ r.2.mem ((c.tc : Thread Cert.LruStepRefIdeal.nD Cert.LruStepRefIdeal.τ).loc Cert.LruStepRefIdeal.main_arg5) = m' ((c.tc : Thread Cert.LruStepRefIdeal.nD Cert.LruStepRefIdeal.τ).loc Cert.LruStepRefIdeal.main_arg5)
          ∧ r.2.mem ((c.tc : Thread Cert.LruStepRefIdeal.nD Cert.LruStepRefIdeal.τ).loc Cert.LruStepRefIdeal.main_arg6) = m' ((c.tc : Thread Cert.LruStepRefIdeal.nD Cert.LruStepRefIdeal.τ).loc Cert.LruStepRefIdeal.main_arg6)
          ∧ r.2.mem ((c.tc : Thread Cert.LruStepRefIdeal.nD Cert.LruStepRefIdeal.τ).loc Cert.LruStepRefIdeal.main_arg7) = m' ((c.tc : Thread Cert.LruStepRefIdeal.nD Cert.LruStepRefIdeal.τ).loc Cert.LruStepRefIdeal.main_arg7)
          ∧ r.2.mem ((c.tc : Thread Cert.LruStepRefIdeal.nD Cert.LruStepRefIdeal.τ).loc Cert.LruStepRefIdeal.main_arg8) = m' ((c.tc : Thread Cert.LruStepRefIdeal.nD Cert.LruStepRefIdeal.τ).loc Cert.LruStepRefIdeal.main_arg8)
          ∧ r.2.mem ((c.tc : Thread Cert.LruStepRefIdeal.nD Cert.LruStepRefIdeal.τ).loc Cert.LruStepRefIdeal.main_arg9) = m' ((c.tc : Thread Cert.LruStepRefIdeal.nD Cert.LruStepRefIdeal.τ).loc Cert.LruStepRefIdeal.main_arg9))

def preserves_HgrnStep_HgrnStepIdeal : Prop :=
  True

def algebraic_HgrnStepIdeal_HgrnStepRefIdeal [hHgrnStepIdeal : Cert.HgrnStepIdeal.Facts] [hHgrnStepRefIdeal : Cert.HgrnStepRefIdeal.Facts] : Prop :=
  ∀ (m : (ℓ : Loc Cert.HgrnStepIdeal.nD Cert.HgrnStepIdeal.τ Cert.HgrnStepIdeal.sig) → Buf (Elt Ideal) ℓ) (g : Dev Cert.HgrnStepIdeal.nD → PrngReg)
    (m' : (ℓ : Loc Cert.HgrnStepRefIdeal.nD Cert.HgrnStepRefIdeal.τ Cert.HgrnStepRefIdeal.sig) → Buf (Elt Ideal) ℓ) (g' : Dev Cert.HgrnStepRefIdeal.nD → PrngReg), Pre_HgrnStepIdeal m →
    (∀ c : Dev Cert.HgrnStepIdeal.nD,
      m' ((c.tc : Thread Cert.HgrnStepRefIdeal.nD Cert.HgrnStepRefIdeal.τ).loc Cert.HgrnStepRefIdeal.main_arg0) = m ((c.tc : Thread Cert.HgrnStepIdeal.nD Cert.HgrnStepIdeal.τ).loc Cert.HgrnStepIdeal.main_arg0)
      ∧ m' ((c.tc : Thread Cert.HgrnStepRefIdeal.nD Cert.HgrnStepRefIdeal.τ).loc Cert.HgrnStepRefIdeal.main_arg1) = m ((c.tc : Thread Cert.HgrnStepIdeal.nD Cert.HgrnStepIdeal.τ).loc Cert.HgrnStepIdeal.main_arg1)
      ∧ m' ((c.tc : Thread Cert.HgrnStepRefIdeal.nD Cert.HgrnStepRefIdeal.τ).loc Cert.HgrnStepRefIdeal.main_arg2) = m ((c.tc : Thread Cert.HgrnStepIdeal.nD Cert.HgrnStepIdeal.τ).loc Cert.HgrnStepIdeal.main_arg2)
      ∧ m' ((c.tc : Thread Cert.HgrnStepRefIdeal.nD Cert.HgrnStepRefIdeal.τ).loc Cert.HgrnStepRefIdeal.main_arg3) = m ((c.tc : Thread Cert.HgrnStepIdeal.nD Cert.HgrnStepIdeal.τ).loc Cert.HgrnStepIdeal.main_arg3)) →
    ∃ (v0 : (c : Dev Cert.HgrnStepIdeal.nD) → Buf (Elt Ideal) ((c.tc : Thread Cert.HgrnStepIdeal.nD Cert.HgrnStepIdeal.τ).loc Cert.HgrnStepIdeal.main_v7_0)) (v1 : (c : Dev Cert.HgrnStepIdeal.nD) → Buf (Elt Ideal) ((c.tc : Thread Cert.HgrnStepIdeal.nD Cert.HgrnStepIdeal.τ).loc Cert.HgrnStepIdeal.main_v7_1)),
      θ_run (Cert.HgrnStepIdeal.defs (F := Ideal)) (onTc (τ := Cert.HgrnStepIdeal.τ) (Cert.HgrnStepIdeal.main (F := Ideal))) ⟨m, fun _ => 0, g⟩ (fun r => ∀ c : Dev Cert.HgrnStepIdeal.nD,
          r.2.mem ((c.tc : Thread Cert.HgrnStepIdeal.nD Cert.HgrnStepIdeal.τ).loc Cert.HgrnStepIdeal.main_v7_0) = v0 c
          ∧ r.2.mem ((c.tc : Thread Cert.HgrnStepIdeal.nD Cert.HgrnStepIdeal.τ).loc Cert.HgrnStepIdeal.main_v7_1) = v1 c
          ∧ r.2.mem ((c.tc : Thread Cert.HgrnStepIdeal.nD Cert.HgrnStepIdeal.τ).loc Cert.HgrnStepIdeal.main_arg0) = m ((c.tc : Thread Cert.HgrnStepIdeal.nD Cert.HgrnStepIdeal.τ).loc Cert.HgrnStepIdeal.main_arg0)
          ∧ r.2.mem ((c.tc : Thread Cert.HgrnStepIdeal.nD Cert.HgrnStepIdeal.τ).loc Cert.HgrnStepIdeal.main_arg1) = m ((c.tc : Thread Cert.HgrnStepIdeal.nD Cert.HgrnStepIdeal.τ).loc Cert.HgrnStepIdeal.main_arg1)
          ∧ r.2.mem ((c.tc : Thread Cert.HgrnStepIdeal.nD Cert.HgrnStepIdeal.τ).loc Cert.HgrnStepIdeal.main_arg2) = m ((c.tc : Thread Cert.HgrnStepIdeal.nD Cert.HgrnStepIdeal.τ).loc Cert.HgrnStepIdeal.main_arg2)
          ∧ r.2.mem ((c.tc : Thread Cert.HgrnStepIdeal.nD Cert.HgrnStepIdeal.τ).loc Cert.HgrnStepIdeal.main_arg3) = m ((c.tc : Thread Cert.HgrnStepIdeal.nD Cert.HgrnStepIdeal.τ).loc Cert.HgrnStepIdeal.main_arg3))
      ∧ θ_run (Cert.HgrnStepRefIdeal.defs (F := Ideal)) (onTc (τ := Cert.HgrnStepRefIdeal.τ) (Cert.HgrnStepRefIdeal.main (F := Ideal))) ⟨m', fun _ => 0, g'⟩ (fun r => ∀ c : Dev Cert.HgrnStepRefIdeal.nD,
          r.2.mem ((c.tc : Thread Cert.HgrnStepRefIdeal.nD Cert.HgrnStepRefIdeal.τ).loc Cert.HgrnStepRefIdeal.main_v63) = v0 c
          ∧ r.2.mem ((c.tc : Thread Cert.HgrnStepRefIdeal.nD Cert.HgrnStepRefIdeal.τ).loc Cert.HgrnStepRefIdeal.main_v44) = v1 c
          ∧ r.2.mem ((c.tc : Thread Cert.HgrnStepRefIdeal.nD Cert.HgrnStepRefIdeal.τ).loc Cert.HgrnStepRefIdeal.main_arg0) = m' ((c.tc : Thread Cert.HgrnStepRefIdeal.nD Cert.HgrnStepRefIdeal.τ).loc Cert.HgrnStepRefIdeal.main_arg0)
          ∧ r.2.mem ((c.tc : Thread Cert.HgrnStepRefIdeal.nD Cert.HgrnStepRefIdeal.τ).loc Cert.HgrnStepRefIdeal.main_arg1) = m' ((c.tc : Thread Cert.HgrnStepRefIdeal.nD Cert.HgrnStepRefIdeal.τ).loc Cert.HgrnStepRefIdeal.main_arg1)
          ∧ r.2.mem ((c.tc : Thread Cert.HgrnStepRefIdeal.nD Cert.HgrnStepRefIdeal.τ).loc Cert.HgrnStepRefIdeal.main_arg2) = m' ((c.tc : Thread Cert.HgrnStepRefIdeal.nD Cert.HgrnStepRefIdeal.τ).loc Cert.HgrnStepRefIdeal.main_arg2)
          ∧ r.2.mem ((c.tc : Thread Cert.HgrnStepRefIdeal.nD Cert.HgrnStepRefIdeal.τ).loc Cert.HgrnStepRefIdeal.main_arg3) = m' ((c.tc : Thread Cert.HgrnStepRefIdeal.nD Cert.HgrnStepRefIdeal.τ).loc Cert.HgrnStepRefIdeal.main_arg3))

def preserves_FoxLogf_FoxLogfIdeal : Prop :=
  IdealRules.named_const.Statement Cert.FoxLogfIdeal.κ "log2_e" .f32 0x3FB8AA3B#32 (((Real.log 2)⁻¹ : ℝ) : EReal)

def algebraic_FoxLogfIdeal_FoxLogfRefIdeal [hFoxLogfIdeal : Cert.FoxLogfIdeal.Facts] [hFoxLogfRefIdeal : Cert.FoxLogfRefIdeal.Facts] : Prop :=
  ∀ (m : (ℓ : Loc Cert.FoxLogfIdeal.nD Cert.FoxLogfIdeal.τ Cert.FoxLogfIdeal.sig) → Buf (Elt Ideal) ℓ) (g : Dev Cert.FoxLogfIdeal.nD → PrngReg)
    (m' : (ℓ : Loc Cert.FoxLogfRefIdeal.nD Cert.FoxLogfRefIdeal.τ Cert.FoxLogfRefIdeal.sig) → Buf (Elt Ideal) ℓ) (g' : Dev Cert.FoxLogfRefIdeal.nD → PrngReg), Pre_FoxLogfIdeal m →
    (∀ c : Dev Cert.FoxLogfIdeal.nD,
      m' ((c.tc : Thread Cert.FoxLogfRefIdeal.nD Cert.FoxLogfRefIdeal.τ).loc Cert.FoxLogfRefIdeal.main_arg0) = m ((c.tc : Thread Cert.FoxLogfIdeal.nD Cert.FoxLogfIdeal.τ).loc Cert.FoxLogfIdeal.main_arg0)
      ∧ m' ((c.tc : Thread Cert.FoxLogfRefIdeal.nD Cert.FoxLogfRefIdeal.τ).loc Cert.FoxLogfRefIdeal.main_arg1) = m ((c.tc : Thread Cert.FoxLogfIdeal.nD Cert.FoxLogfIdeal.τ).loc Cert.FoxLogfIdeal.main_arg1)) →
    ∃ (v0 : (c : Dev Cert.FoxLogfIdeal.nD) → Buf (Elt Ideal) ((c.tc : Thread Cert.FoxLogfIdeal.nD Cert.FoxLogfIdeal.τ).loc Cert.FoxLogfIdeal.main_v7)) (v1 : (c : Dev Cert.FoxLogfIdeal.nD) → Buf (Elt Ideal) ((c.tc : Thread Cert.FoxLogfIdeal.nD Cert.FoxLogfIdeal.τ).loc Cert.FoxLogfIdeal.main_v8)),
      θ_run (Cert.FoxLogfIdeal.defs (F := Ideal)) (onTc (τ := Cert.FoxLogfIdeal.τ) (Cert.FoxLogfIdeal.main (F := Ideal))) ⟨m, fun _ => 0, g⟩ (fun r => ∀ c : Dev Cert.FoxLogfIdeal.nD,
          r.2.mem ((c.tc : Thread Cert.FoxLogfIdeal.nD Cert.FoxLogfIdeal.τ).loc Cert.FoxLogfIdeal.main_v7) = v0 c
          ∧ r.2.mem ((c.tc : Thread Cert.FoxLogfIdeal.nD Cert.FoxLogfIdeal.τ).loc Cert.FoxLogfIdeal.main_v8) = v1 c
          ∧ r.2.mem ((c.tc : Thread Cert.FoxLogfIdeal.nD Cert.FoxLogfIdeal.τ).loc Cert.FoxLogfIdeal.main_arg0) = m ((c.tc : Thread Cert.FoxLogfIdeal.nD Cert.FoxLogfIdeal.τ).loc Cert.FoxLogfIdeal.main_arg0)
          ∧ r.2.mem ((c.tc : Thread Cert.FoxLogfIdeal.nD Cert.FoxLogfIdeal.τ).loc Cert.FoxLogfIdeal.main_arg1) = m ((c.tc : Thread Cert.FoxLogfIdeal.nD Cert.FoxLogfIdeal.τ).loc Cert.FoxLogfIdeal.main_arg1))
      ∧ θ_run (Cert.FoxLogfRefIdeal.defs (F := Ideal)) (onTc (τ := Cert.FoxLogfRefIdeal.τ) (Cert.FoxLogfRefIdeal.main (F := Ideal))) ⟨m', fun _ => 0, g'⟩ (fun r => ∀ c : Dev Cert.FoxLogfRefIdeal.nD,
          r.2.mem ((c.tc : Thread Cert.FoxLogfRefIdeal.nD Cert.FoxLogfRefIdeal.τ).loc Cert.FoxLogfRefIdeal.main_v3) = v0 c
          ∧ r.2.mem ((c.tc : Thread Cert.FoxLogfRefIdeal.nD Cert.FoxLogfRefIdeal.τ).loc Cert.FoxLogfRefIdeal.main_v9) = v1 c
          ∧ r.2.mem ((c.tc : Thread Cert.FoxLogfRefIdeal.nD Cert.FoxLogfRefIdeal.τ).loc Cert.FoxLogfRefIdeal.main_arg0) = m' ((c.tc : Thread Cert.FoxLogfRefIdeal.nD Cert.FoxLogfRefIdeal.τ).loc Cert.FoxLogfRefIdeal.main_arg0)
          ∧ r.2.mem ((c.tc : Thread Cert.FoxLogfRefIdeal.nD Cert.FoxLogfRefIdeal.τ).loc Cert.FoxLogfRefIdeal.main_arg1) = m' ((c.tc : Thread Cert.FoxLogfRefIdeal.nD Cert.FoxLogfRefIdeal.τ).loc Cert.FoxLogfRefIdeal.main_arg1))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)
      ∧ m' ((c.tc : Thread Cert.MlpSRefIdeal.nD Cert.MlpSRefIdeal.τ).loc Cert.MlpSRefIdeal.main_arg4) = m ((c.tc : Thread Cert.MlpSIdeal.nD Cert.MlpSIdeal.τ).loc Cert.MlpSIdeal.main_arg4)) →
    ∃ (v0 : (c : Dev Cert.MlpSIdeal.nD) → Buf (Elt Ideal) ((c.tc : Thread Cert.MlpSIdeal.nD Cert.MlpSIdeal.τ).loc Cert.MlpSIdeal.main_v5_0)) (v1 : (c : Dev Cert.MlpSIdeal.nD) → Buf (Elt Ideal) ((c.tc : Thread Cert.MlpSIdeal.nD Cert.MlpSIdeal.τ).loc Cert.MlpSIdeal.main_v5_1)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v5_0) = v0 c
          ∧ r.2.mem ((c.tc : Thread Cert.MlpSIdeal.nD Cert.MlpSIdeal.τ).loc Cert.MlpSIdeal.main_v5_1) = v1 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
          ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v18) = v0 c
          ∧ r.2.mem ((c.tc : Thread Cert.MlpSRefIdeal.nD Cert.MlpSRefIdeal.τ).loc Cert.MlpSRefIdeal.main_v32) = v1 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3)
          ∧ r.2.mem ((c.tc : Thread Cert.MlpSRefIdeal.nD Cert.MlpSRefIdeal.τ).loc Cert.MlpSRefIdeal.main_arg4) = m' ((c.tc : Thread Cert.MlpSRefIdeal.nD Cert.MlpSRefIdeal.τ).loc Cert.MlpSRefIdeal.main_arg4))

def preserves_QkvS_QkvSIdeal : Prop :=
  IdealRules.named_const.Statement Cert.QkvSIdeal.κ "q_scale" .f32 0x3E0293EE#32 (((Real.sqrt 128)⁻¹ * (Real.log 2)⁻¹ : ℝ) : EReal)

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)
      ∧ m' ((c.tc : Thread Cert.QkvSRefIdeal.nD Cert.QkvSRefIdeal.τ).loc Cert.QkvSRefIdeal.main_arg2) = m ((c.tc : Thread Cert.QkvSIdeal.nD Cert.QkvSIdeal.τ).loc Cert.QkvSIdeal.main_arg2)) →
    ∃ (v0 : (c : Dev Cert.QkvSIdeal.nD) → Buf (Elt Ideal) ((c.tc : Thread Cert.QkvSIdeal.nD Cert.QkvSIdeal.τ).loc Cert.QkvSIdeal.main_v7_0)) (v1 : (c : Dev Cert.QkvSIdeal.nD) → Buf (Elt Ideal) ((c.tc : Thread Cert.QkvSIdeal.nD Cert.QkvSIdeal.τ).loc Cert.QkvSIdeal.main_v7_1)) (v2 : (c : Dev Cert.QkvSIdeal.nD) → Buf (Elt Ideal) ((c.tc : Thread Cert.QkvSIdeal.nD Cert.QkvSIdeal.τ).loc Cert.QkvSIdeal.main_v7_2)) (v3 : (c : Dev Cert.QkvSIdeal.nD) → Buf (Elt Ideal) ((c.tc : Thread Cert.QkvSIdeal.nD Cert.QkvSIdeal.τ).loc Cert.QkvSIdeal.main_v7_3)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v7_0) = v0 c
          ∧ r.2.mem ((c.tc : Thread Cert.QkvSIdeal.nD Cert.QkvSIdeal.τ).loc Cert.QkvSIdeal.main_v7_1) = v1 c
          ∧ r.2.mem ((c.tc : Thread Cert.QkvSIdeal.nD Cert.QkvSIdeal.τ).loc Cert.QkvSIdeal.main_v7_2) = v2 c
          ∧ r.2.mem ((c.tc : Thread Cert.QkvSIdeal.nD Cert.QkvSIdeal.τ).loc Cert.QkvSIdeal.main_v7_3) = v3 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v25) = v0 c
          ∧ r.2.mem ((c.tc : Thread Cert.QkvSRefIdeal.nD Cert.QkvSRefIdeal.τ).loc Cert.QkvSRefIdeal.main_v26) = v1 c
          ∧ r.2.mem ((c.tc : Thread Cert.QkvSRefIdeal.nD Cert.QkvSRefIdeal.τ).loc Cert.QkvSRefIdeal.main_v27) = v2 c
          ∧ r.2.mem ((c.tc : Thread Cert.QkvSRefIdeal.nD Cert.QkvSRefIdeal.τ).loc Cert.QkvSRefIdeal.main_v29) = v3 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1)
          ∧ r.2.mem ((c.tc : Thread Cert.QkvSRefIdeal.nD Cert.QkvSRefIdeal.τ).loc Cert.QkvSRefIdeal.main_arg2) = m' ((c.tc : Thread Cert.QkvSRefIdeal.nD Cert.QkvSRefIdeal.τ).loc Cert.QkvSRefIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hProjIn : Cert.ProjIn.Facts) (hProjInIdeal : Cert.ProjInIdeal.Facts) (hProjInRefIdeal : Cert.ProjInRefIdeal.Facts) (hQkv : Cert.Qkv.Facts) (hQkvIdeal : Cert.QkvIdeal.Facts) (hQkvRefIdeal : Cert.QkvRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hLruStep : Cert.LruStep.Facts) (hLruStepIdeal : Cert.LruStepIdeal.Facts) (hLruStepRefIdeal : Cert.LruStepRefIdeal.Facts) (hHgrnStep : Cert.HgrnStep.Facts) (hHgrnStepIdeal : Cert.HgrnStepIdeal.Facts) (hHgrnStepRefIdeal : Cert.HgrnStepRefIdeal.Facts) (hFoxLogf : Cert.FoxLogf.Facts) (hFoxLogfIdeal : Cert.FoxLogfIdeal.Facts) (hFoxLogfRefIdeal : Cert.FoxLogfRefIdeal.Facts) (hMlpS : Cert.MlpS.Facts) (hMlpSIdeal : Cert.MlpSIdeal.Facts) (hMlpSRefIdeal : Cert.MlpSRefIdeal.Facts) (hQkvS : Cert.QkvS.Facts) (hQkvSIdeal : Cert.QkvSIdeal.Facts) (hQkvSRefIdeal : Cert.QkvSRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_LruStep (hLruStep := hLruStep)
    ∧ quiescent_LruStepIdeal (hLruStepIdeal := hLruStepIdeal)
    ∧ quiescent_LruStepRefIdeal (hLruStepRefIdeal := hLruStepRefIdeal)
    ∧ quiescent_HgrnStep (hHgrnStep := hHgrnStep)
    ∧ quiescent_HgrnStepIdeal (hHgrnStepIdeal := hHgrnStepIdeal)
    ∧ quiescent_HgrnStepRefIdeal (hHgrnStepRefIdeal := hHgrnStepRefIdeal)
    ∧ quiescent_FoxLogf (hFoxLogf := hFoxLogf)
    ∧ quiescent_FoxLogfIdeal (hFoxLogfIdeal := hFoxLogfIdeal)
    ∧ quiescent_FoxLogfRefIdeal (hFoxLogfRefIdeal := hFoxLogfRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpRefIdeal (hMlpIdeal := hMlpIdeal) (hMlpRefIdeal := hMlpRefIdeal)
    ∧ preserves_ProjIn_ProjInIdeal
    ∧ algebraic_ProjInIdeal_ProjInRefIdeal (hProjInIdeal := hProjInIdeal) (hProjInRefIdeal := hProjInRefIdeal)
    ∧ preserves_Qkv_QkvIdeal
    ∧ algebraic_QkvIdeal_QkvRefIdeal (hQkvIdeal := hQkvIdeal) (hQkvRefIdeal := hQkvRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_LruStep_LruStepIdeal
    ∧ algebraic_LruStepIdeal_LruStepRefIdeal (hLruStepIdeal := hLruStepIdeal) (hLruStepRefIdeal := hLruStepRefIdeal)
    ∧ preserves_HgrnStep_HgrnStepIdeal
    ∧ algebraic_HgrnStepIdeal_HgrnStepRefIdeal (hHgrnStepIdeal := hHgrnStepIdeal) (hHgrnStepRefIdeal := hHgrnStepRefIdeal)
    ∧ preserves_FoxLogf_FoxLogfIdeal
    ∧ algebraic_FoxLogfIdeal_FoxLogfRefIdeal (hFoxLogfIdeal := hFoxLogfIdeal) (hFoxLogfRefIdeal := hFoxLogfRefIdeal)
    ∧ preserves_MlpS_MlpSIdeal
    ∧ algebraic_MlpSIdeal_MlpSRefIdeal (hMlpSIdeal := hMlpSIdeal) (hMlpSRefIdeal := hMlpSRefIdeal)
    ∧ preserves_QkvS_QkvSIdeal
    ∧ algebraic_QkvSIdeal_QkvSRefIdeal (hQkvSIdeal := hQkvSIdeal) (hQkvSRefIdeal := hQkvSRefIdeal)
-- ==== Pre_finite.lean ====
abbrev S2x4096x8x128 : Shape := ⟨4, ![2, 4096, 8, 128]⟩
abbrev S2x4096x8 : Shape := ⟨3, ![2, 4096, 8]⟩
abbrev S_ : Shape := ⟨0, ![]⟩

class Facts : Prop where
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_
  h_S_ : 0 < S_.numel
  bcast_S_S2x4096x8 : S_.BroadcastsInDim S2x4096x8 (![] : Fin 0 → Fin S2x4096x8.rank)
  reducesTo_S2x4096x8_S_d0_1_2 : S2x4096x8.ReducesTo [0, 1, 2] S_

variable [Facts]

def fn {F : FTy → Type} [FloatOps F] (main_arg0 : FVec F S2x4096x8x128 .f32) (main_arg1 : FVec F S2x4096x8x128 .f32) (main_arg2 : FVec F S2x4096x8x128 .f32) (main_arg3 : FVec F S2x4096x8 .f32) : IVec S_ 1 :=
  let main_v0 : FVec F S2x4096x8x128 .f32 := Host.absf main_arg0
  let main_cst : FVec F S_ .f32 := constant S_ .f32 0x7F800000#32
  let main_v1 : FVec F S2x4096x8x128 .f32 := broadcastInDim S2x4096x8x128 ![] bcast_S_S2x4096x8x128 main_cst
  let main_v2 : IVec S2x4096x8x128 1 := cmpf .olt main_v0 main_v1
  let main_c : IVec S_ 1 := constantI S_ 1 1#1
  let main_v3 : IVec S_ 1 := (fun x v => Host.reduce IntOp.andi x v reducesTo_S2x4096x8x128_S_d0_1_2_3 h_S_) main_v2 main_c
  let main_v4 : FVec F S2x4096x8x128 .f32 := Host.absf main_arg1
  let main_cst_0 : FVec F S_ .f32 := constant S_ .f32 0x7F800000#32
  let main_v5 : FVec F S2x4096x8x128 .f32 := broadcastInDim S2x4096x8x128 ![] bcast_S_S2x4096x8x128 main_cst_0
  let main_v6 : IVec S2x4096x8x128 1 := cmpf .olt main_v4 main_v5
  let main_c_1 : IVec S_ 1 := constantI S_ 1 1#1
  let main_v7 : IVec S_ 1 := (fun x v => Host.reduce IntOp.andi x v reducesTo_S2x4096x8x128_S_d0_1_2_3 h_S_) main_v6 main_c_1
  let main_v8 : IVec S_ 1 := andi main_v3 main_v7
  let main_v9 : FVec F S2x4096x8 .f32 := Host.absf main_arg3
  let main_cst_2 : FVec F S_ .f32 := constant S_ .f32 0x7F800000#32
  let main_v10 : FVec F S2x4096x8 .f32 := broadcastInDim S2x4096x8 ![] bcast_S_S2x4096x8 main_cst_2
  let main_v11 : IVec S2x4096x8 1 := cmpf .olt main_v9 main_v10
  let main_c_3 : IVec S_ 1 := constantI S_ 1 1#1
  let main_v12 : IVec S_ 1 := (fun x v => Host.reduce IntOp.andi x v reducesTo_S2x4096x8_S_d0_1_2 h_S_) main_v11 main_c_3
  let main_v13 : IVec S_ 1 := andi main_v8 main_v12
  main_v13
-- ==== Kernel.lean ====
abbrev S2x4096x8x128 : Shape := ⟨4, ![2, 4096, 8, 128]⟩
abbrev S2x4096x8 : Shape := ⟨3, ![2, 4096, 8]⟩
abbrev S_ : Shape := ⟨0, ![]⟩
abbrev S2x4096x1024 : Shape := ⟨3, ![2, 4096, 1024]⟩
abbrev S2x4096x3072 : Shape := ⟨3, ![2, 4096, 3072]⟩
abbrev S2x8x4096 : Shape := ⟨3, ![2, 8, 4096]⟩
abbrev S2x8x1x4096 : Shape := ⟨4, ![2, 8, 1, 4096]⟩
abbrev S1x1024x128 : Shape := ⟨3, ![1, 1024, 128]⟩
abbrev S1x4096x128 : Shape := ⟨3, ![1, 4096, 128]⟩
abbrev S1x1x1x4096 : Shape := ⟨4, ![1, 1, 1, 4096]⟩
abbrev S1024x128 : Shape := ⟨2, ![1024, 128]⟩
abbrev S1x1x1x128 : Shape := ⟨4, ![1, 1, 1, 128]⟩
abbrev S1x128 : Shape := ⟨2, ![1, 128]⟩
abbrev S1x1 : Shape := ⟨2, ![1, 1]⟩
abbrev S1024x1 : Shape := ⟨2, ![1024, 1]⟩
abbrev S1024x1024 : Shape := ⟨2, ![1024, 1024]⟩
abbrev S1x1x1x1024 : Shape := ⟨4, ![1, 1, 1, 1024]⟩
abbrev S1x1024 : Shape := ⟨2, ![1, 1024]⟩
abbrev S1024 : Shape := ⟨1, ![1024]⟩

abbrev nBuf : Space → Nat
  | .hbm => 21
  | .vmem => 10
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x8, .f32⟩
  | .hbm, ⟨4, _⟩ => ⟨S_, .f32⟩
  | .hbm, ⟨5, _⟩ => ⟨S_, .f32⟩
  | .hbm, ⟨6, _⟩ => ⟨S2x4096x1024, .f32⟩
  | .hbm, ⟨7, _⟩ => ⟨S_, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x3072, .f32⟩
  | .hbm, ⟨15, _⟩ => ⟨S2x4096x3072, .bf16⟩
  | .hbm, ⟨16, _⟩ => ⟨S2x8x4096, .f32⟩
  | .hbm, ⟨17, _⟩ => ⟨S2x8x4096, .f32⟩
  | .hbm, ⟨18, _⟩ => ⟨S2x8x4096, .f32⟩
  | .hbm, ⟨19, _⟩ => ⟨S2x8x1x4096, .f32⟩
  | .hbm, ⟨20, _⟩ => ⟨S2x4096x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x1x4096, .f32⟩
  | .local _ .vmem, ⟨7, _⟩ => ⟨S1x1x1x4096, .f32⟩
  | .local _ .vmem, ⟨8, _⟩ => ⟨S1x1024x128, .bf16⟩
  | .local _ .vmem, ⟨9, _⟩ => ⟨S1x1024x128, .bf16⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_off1 (i : grid0.Coords) : Fin 4 → Nat :=
  let c0_2 : Index := 0#32
  let c0_3 : Index := 0#32
  let c0_4 : Index := 0#32
  let arg2 : BitVec 32 := BitVec.ofNat 32 (i 2).val
  let c1024_i32 : BitVec 32 := 1024#32
  let v0 : BitVec 32 := Scalar.muli arg2 c1024_i32
  let v1 : BitVec 32 := v0
  let v4 : Index := Scalar.indexCast v1
  ![0, 0, 0, v4.toNat]
@[reducible] def k0_t1_loop (i : grid0.Coords) : Scf.Loop 32 :=
  let c0_i32 : BitVec 32 := 0#32
  let arg2 : BitVec 32 := BitVec.ofNat 32 (i 2).val
  let v11 : BitVec 32 := Scalar.subi arg2 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  ⟨c0_i32, v15, c1_i32_7⟩
def k0_mult2 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c1024_i32_24 : BitVec 32 := 1024#32
  let v60 : BitVec 32 := Scalar.muli arg8 c1024_i32_24
  v60
def k0_off2 (i : grid0.Coords) (k0_t1 : Fin (k0_t1_loop i).trips) : Fin 3 → Nat :=
  let c0_25 : Index := 0#32
  let c0_i32 : BitVec 32 := 0#32
  let c1_i32_7 : BitVec 32 := 1#32
  let arg8 : BitVec 32 := Scf.iv c0_i32 c1_i32_7 k0_t1
  let c1024_i32_24 : BitVec 32 := 1024#32
  let v60 : BitVec 32 := Scalar.muli arg8 c1024_i32_24
  let v61 : BitVec 32 := v60
  let v62 : Index := Scalar.indexCast v61
  let c0_26 : Index := 0#32
  ![0, v62.toNat, 0]
def k0_off3 (i : grid0.Coords) (k0_t1 : Fin (k0_t1_loop i).trips) : Fin 4 → Nat :=
  let c0_28 : Index := 0#32
  let c0_29 : Index := 0#32
  let c0_30 : Index := 0#32
  let c0_i32 : BitVec 32 := 0#32
  let c1_i32_7 : BitVec 32 := 1#32
  let arg8 : BitVec 32 := Scf.iv c0_i32 c1_i32_7 k0_t1
  let c1024_i32_24 : BitVec 32 := 1024#32
  let v60 : BitVec 32 := Scalar.muli arg8 c1024_i32_24
  let v61 : BitVec 32 := v60
  let v66 : Index := Scalar.indexCast v61
  ![0, 0, 0, v66.toNat]
@[reducible] def k0_t2_loop (i : grid0.Coords) : Scf.Loop 32 :=
  let c0_i32 : BitVec 32 := 0#32
  let arg2 : BitVec 32 := BitVec.ofNat 32 (i 2).val
  let v11 : BitVec 32 := Scalar.subi arg2 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_8 : BitVec 32 := 1#32
  ⟨v15, v12, c1_i32_8⟩
def k0_mult3 (i : grid0.Coords) (k0_t2 : Fin (k0_t2_loop i).trips) : BitVec 32 :=
  let c0_i32 : BitVec 32 := 0#32
  let arg2 : BitVec 32 := BitVec.ofNat 32 (i 2).val
  let v11 : BitVec 32 := Scalar.subi arg2 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c1024_i32_24 : BitVec 32 := 1024#32
  let v60 : BitVec 32 := Scalar.muli arg8 c1024_i32_24
  v60
def k0_off4 (i : grid0.Coords) (k0_t2 : Fin (k0_t2_loop i).trips) : Fin 3 → Nat :=
  let c0_25 : Index := 0#32
  let c0_i32 : BitVec 32 := 0#32
  let arg2 : BitVec 32 := BitVec.ofNat 32 (i 2).val
  let v11 : BitVec 32 := Scalar.subi arg2 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c1024_i32_24 : BitVec 32 := 1024#32
  let v60 : BitVec 32 := Scalar.muli arg8 c1024_i32_24
  let v61 : BitVec 32 := v60
  let v62 : Index := Scalar.indexCast v61
  let c0_26 : Index := 0#32
  ![0, v62.toNat, 0]
def k0_off5 (i : grid0.Coords) (k0_t2 : Fin (k0_t2_loop i).trips) : Fin 4 → Nat :=
  let c0_28 : Index := 0#32
  let c0_29 : Index := 0#32
  let c0_30 : Index := 0#32
  let c0_i32 : BitVec 32 := 0#32
  let arg2 : BitVec 32 := BitVec.ofNat 32 (i 2).val
  let v11 : BitVec 32 := Scalar.subi arg2 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c1024_i32_24 : BitVec 32 := 1024#32
  let v60 : BitVec 32 := Scalar.muli arg8 c1024_i32_24
  let v61 : BitVec 32 := v60
  let v66 : Index := Scalar.indexCast v61
  ![0, 0, 0, v66.toNat]
def k0_off6 (i : grid0.Coords) : Fin 3 → Nat :=
  let c0_9 : Index := 0#32
  let arg2 : BitVec 32 := BitVec.ofNat 32 (i 2).val
  let c1024_i32 : BitVec 32 := 1024#32
  let v0 : BitVec 32 := Scalar.muli arg2 c1024_i32
  let v1 : BitVec 32 := v0
  let v18 : Index := Scalar.indexCast v1
  let c0_10 : Index := 0#32
  ![0, v18.toNat, 0]
def k0_off7 (i : grid0.Coords) : Fin 4 → Nat :=
  let c0_12 : Index := 0#32
  let c0_13 : Index := 0#32
  let c0_14 : Index := 0#32
  let arg2 : BitVec 32 := BitVec.ofNat 32 (i 2).val
  let c1024_i32 : BitVec 32 := 1024#32
  let v0 : BitVec 32 := Scalar.muli arg2 c1024_i32
  let v1 : BitVec 32 := v0
  let v22 : Index := Scalar.indexCast v1
  ![0, 0, 0, v22.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x4096x8x128 : Shape := ⟨4, ![2, 4096, 8, 128]⟩
abbrev S2x4096x8 : Shape := ⟨3, ![2, 4096, 8]⟩
abbrev S4096 : Shape := ⟨1, ![4096]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x128x4096 : Shape := ⟨4, ![2, 8, 128, 4096]⟩
abbrev S2x4096x1024 : Shape := ⟨3, ![2, 4096, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x8, .f32⟩
  | .hbm, ⟨4, _⟩ => ⟨S4096, .i32⟩
  | .hbm, ⟨5, _⟩ => ⟨S2x8x4096x4096, .f32⟩
  | .hbm, ⟨6, _⟩ => ⟨S_, .f32⟩
  | .hbm, ⟨7, _⟩ => ⟨S2x8x4096x4096, .f32⟩
  | .hbm, ⟨8, _⟩ => ⟨S2x8x4096x4096, .f32⟩
  | .hbm, ⟨9, _⟩ => ⟨S2x8x4096, .f32⟩
  | .hbm, ⟨10, _⟩ => ⟨S2x8x4096x1, .f32⟩
  | .hbm, ⟨11, _⟩ => ⟨S2x8x4096, .f32⟩
  | .hbm, ⟨12, _⟩ => ⟨S2x8x1x4096, .f32⟩
  | .hbm, ⟨13, _⟩ => ⟨S2x8x4096x4096, .f32⟩
  | .hbm, ⟨14, _⟩ => ⟨S2x8x4096x4096, .f32⟩
  | .hbm, ⟨15, _⟩ => ⟨S2x8x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x1x4096x4096, .i1⟩
  | .hbm, ⟨22, _⟩ => ⟨S2x8x4096x4096, .f32⟩
  | .hbm, ⟨23, _⟩ => ⟨S_, .f32⟩
  | .hbm, ⟨24, _⟩ => ⟨S_, .f32⟩
  | .hbm, ⟨25, _⟩ => ⟨S2x8x4096x4096, .i1⟩
  | .hbm, ⟨26, _⟩ => ⟨S2x8x4096x4096, .f32⟩
  | .hbm, ⟨27, _⟩ => ⟨S2x8x4096x4096, .f32⟩
  | .hbm, ⟨28, _⟩ => ⟨S_, .f32⟩
  | .hbm, ⟨29, _⟩ => ⟨S2x8x4096, .f32⟩
  | .hbm, ⟨30, _⟩ => ⟨S_, .f32⟩
  | .hbm, ⟨31, _⟩ => ⟨S2x8x4096, .f32⟩
  | .hbm, ⟨32, _⟩ => ⟨S2x8x4096, .f32⟩
  | .hbm, ⟨33, _⟩ => ⟨S2x8x4096x1, .f32⟩
  | .hbm, ⟨34, _⟩ => ⟨S2x8x4096x4096, .f32⟩
  | .hbm, ⟨35, _⟩ => ⟨S2x8x4096x4096, .f32⟩
  | .hbm, ⟨36, _⟩ => ⟨S2x8x4096x4096, .f32⟩
  | .hbm, ⟨37, _⟩ => ⟨S_, .f32⟩
  | .hbm, ⟨38, _⟩ => ⟨S2x8x4096, .f32⟩
  | .hbm, ⟨39, _⟩ => ⟨S2x8x4096x1, .f32⟩
  | .hbm, ⟨40, _⟩ => ⟨S2x8x4096x4096, .f32⟩
  | .hbm, ⟨41, _⟩ => ⟨S2x8x4096x4096, .f32⟩
  | .hbm, ⟨42, _⟩ => ⟨S2x8x128x4096, .f32⟩
  | .hbm, ⟨43, _⟩ => ⟨S2x4096x8x128, .f32⟩
  | .hbm, ⟨44, _⟩ => ⟨S2x4096x1024, .f32⟩
  | .hbm, ⟨45, _⟩ => ⟨S2x4096x1024, .bf16⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Mlp.lean ====
abbrev S2x4096x2048 : Shape := ⟨3, ![2, 4096, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpIdeal.lean ====
abbrev S2x4096x2048 : Shape := ⟨3, ![2, 4096, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpRefIdeal.lean ====
abbrev S2x4096x2048 : Shape := ⟨3, ![2, 4096, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x8192 : Shape := ⟨3, ![2, 4096, 8192]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x4096x8192, .f32⟩
  | .hbm, ⟨22, _⟩ => ⟨S_, .f32⟩
  | .hbm, ⟨23, _⟩ => ⟨S2x4096x8192, .f32⟩
  | .hbm, ⟨24, _⟩ => ⟨S2x4096x8192, .f32⟩
  | .hbm, ⟨25, _⟩ => ⟨S2x4096x8192, .f32⟩
  | .hbm, ⟨26, _⟩ => ⟨S2x4096x2048, .f32⟩
  | .hbm, ⟨27, _⟩ => ⟨S2x4096x2048, .f32⟩
  | .hbm, ⟨28, _⟩ => ⟨S8192x2048, .f32⟩
  | .hbm, ⟨29, _⟩ => ⟨S2x4096x2048, .f32⟩
  | .hbm, ⟨30, _⟩ => ⟨S_, .f32⟩
  | .hbm, ⟨31, _⟩ => ⟨S2x4096, .f32⟩
  | .hbm, ⟨32, _⟩ => ⟨S2x4096x1, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x2048, .f32⟩
  | .hbm, ⟨41, _⟩ => ⟨S2x4096x2048, .f32⟩
  | .hbm, ⟨42, _⟩ => ⟨S1x1x2048, .f32⟩
  | .hbm, ⟨43, _⟩ => ⟨S2x4096x2048, .f32⟩
  | .hbm, ⟨44, _⟩ => ⟨S2x4096x2048, .f32⟩
  | .hbm, ⟨45, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== ProjIn.lean ====
abbrev S2x4096x2048 : Shape := ⟨3, ![2, 4096, 2048]⟩
abbrev S2048 : Shape := ⟨1, ![2048]⟩
abbrev S2048x4096 : Shape := ⟨2, ![2048, 4096]⟩
abbrev S8192x2048 : Shape := ⟨2, ![8192, 2048]⟩
abbrev S1x2048 : Shape := ⟨2, ![1, 2048]⟩
abbrev S8192x4096 : Shape := ⟨2, ![8192, 4096]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x4096, .f32⟩
  | .hbm, ⟨3, _⟩ => ⟨S8192x2048, .f32⟩
  | .hbm, ⟨4, _⟩ => ⟨S2048x4096, .bf16⟩
  | .hbm, ⟨5, _⟩ => ⟨S1x2048, .f32⟩
  | .hbm, ⟨6, _⟩ => ⟨S8192x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjInRefIdeal.lean ====
abbrev S2x4096x2048 : Shape := ⟨3, ![2, 4096, 2048]⟩
abbrev S2048 : Shape := ⟨1, ![2048]⟩
abbrev S2048x4096 : Shape := ⟨2, ![2048, 4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x4096 : Shape := ⟨3, ![2, 4096, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x4096, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x4096, .f32⟩
  | .hbm, ⟨20, _⟩ => ⟨S8192x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Qkv.lean ====
abbrev S2x4096x2048 : Shape := ⟨3, ![2, 4096, 2048]⟩
abbrev S2048 : Shape := ⟨1, ![2048]⟩
abbrev S2048x7176 : Shape := ⟨2, ![2048, 7176]⟩
abbrev S2048x3072 : Shape := ⟨2, ![2048, 3072]⟩
abbrev S2048x8 : Shape := ⟨2, ![2048, 8]⟩
abbrev S_ : Shape := ⟨0, ![]⟩
abbrev S2048x128 : Shape := ⟨2, ![2048, 128]⟩
abbrev S8192x2048 : Shape := ⟨2, ![8192, 2048]⟩
abbrev S1x2048 : Shape := ⟨2, ![1, 2048]⟩
abbrev S8192x3072 : Shape := ⟨2, ![8192, 3072]⟩
abbrev S8192x1024 : Shape := ⟨2, ![8192, 1024]⟩
abbrev S8192x128 : Shape := ⟨2, ![8192, 128]⟩
abbrev S512x2048 : Shape := ⟨2, ![512, 2048]⟩
abbrev S2048x1024 : Shape := ⟨2, ![2048, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x7176, .f32⟩
  | .hbm, ⟨3, _⟩ => ⟨S2048x3072, .f32⟩
  | .hbm, ⟨4, _⟩ => ⟨S2048x3072, .bf16⟩
  | .hbm, ⟨5, _⟩ => ⟨S2048x8, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S8192x2048, .f32⟩
  | .hbm, ⟨11, _⟩ => ⟨S1x2048, .f32⟩
  | .hbm, ⟨12, _⟩ => ⟨S8192x3072, .bf16⟩
  | .hbm, ⟨13, _⟩ => ⟨S8192x1024, .f32⟩
  | .hbm, ⟨14, _⟩ => ⟨S8192x1024, .f32⟩
  | .hbm, ⟨15, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | .local _ .vmem, ⟨14, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== QkvIdeal.lean ====
abbrev S2x4096x2048 : Shape := ⟨3, ![2, 4096, 2048]⟩
abbrev S2048 : Shape := ⟨1, ![2048]⟩
abbrev S2048x7176 : Shape := ⟨2, ![2048, 7176]⟩
abbrev S2048x3072 : Shape := ⟨2, ![2048, 3072]⟩
abbrev S2048x8 : Shape := ⟨2, ![2048, 8]⟩
abbrev S_ : Shape := ⟨0, ![]⟩
abbrev S2048x128 : Shape := ⟨2, ![2048, 128]⟩
abbrev S8192x2048 : Shape := ⟨2, ![8192, 2048]⟩
abbrev S1x2048 : Shape := ⟨2, ![1, 2048]⟩
abbrev S8192x3072 : Shape := ⟨2, ![8192, 3072]⟩
abbrev S8192x1024 : Shape := ⟨2, ![8192, 1024]⟩
abbrev S8192x128 : Shape := ⟨2, ![8192, 128]⟩
abbrev S512x2048 : Shape := ⟨2, ![512, 2048]⟩
abbrev S2048x1024 : Shape := ⟨2, ![2048, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x7176, .f32⟩
  | .hbm, ⟨3, _⟩ => ⟨S2048x3072, .f32⟩
  | .hbm, ⟨4, _⟩ => ⟨S2048x3072, .bf16⟩
  | .hbm, ⟨5, _⟩ => ⟨S2048x8, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S8192x2048, .f32⟩
  | .hbm, ⟨11, _⟩ => ⟨S1x2048, .f32⟩
  | .hbm, ⟨12, _⟩ => ⟨S8192x3072, .bf16⟩
  | .hbm, ⟨13, _⟩ => ⟨S8192x1024, .f32⟩
  | .hbm, ⟨14, _⟩ => ⟨S8192x1024, .f32⟩
  | .hbm, ⟨15, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | .local _ .vmem, ⟨14, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F] [Named F]

def κ : String → Option EReal := fun
  | "q_scale" => some (((Real.sqrt 128)⁻¹ * (Real.log 2)⁻¹ : ℝ) : EReal)
  | _ => none

abbrev grid0 : Pipeline.Grid := ⟨2, ![16, 3], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== QkvRefIdeal.lean ====
abbrev S2x4096x2048 : Shape := ⟨3, ![2, 4096, 2048]⟩
abbrev S2048 : Shape := ⟨1, ![2048]⟩
abbrev S2048x7176 : Shape := ⟨2, ![2048, 7176]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x7176 : Shape := ⟨3, ![2, 4096, 7176]⟩
abbrev S2x4096x1024 : Shape := ⟨3, ![2, 4096, 1024]⟩
abbrev S2x4096x8 : Shape := ⟨3, ![2, 4096, 8]⟩
abbrev S2x4096x3072 : Shape := ⟨3, ![2, 4096, 3072]⟩
abbrev S8192x3072 : Shape := ⟨2, ![8192, 3072]⟩
abbrev S8192x1024 : Shape := ⟨2, ![8192, 1024]⟩
abbrev S2x4096x128 : Shape := ⟨3, ![2, 4096, 128]⟩
abbrev S8192x128 : Shape := ⟨2, ![8192, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x7176, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x7176, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x8, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2x4096x1024, .f32⟩
  | .hbm, ⟨30, _⟩ => ⟨S2x4096x1024, .f32⟩
  | .hbm, ⟨31, _⟩ => ⟨S2x4096x3072, .f32⟩
  | .hbm, ⟨32, _⟩ => ⟨S2x4096x3072, .bf16⟩
  | .hbm, ⟨33, _⟩ => ⟨S8192x3072, .bf16⟩
  | .hbm, ⟨34, _⟩ => ⟨S8192x1024, .f32⟩
  | .hbm, ⟨35, _⟩ => ⟨S8192x1024, .f32⟩
  | .hbm, ⟨36, _⟩ => ⟨S_, .i32⟩
  | .hbm, ⟨37, _⟩ => ⟨S_, .f32⟩
  | .hbm, ⟨38, _⟩ => ⟨S2x4096x128, .f32⟩
  | .hbm, ⟨39, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== OutEven.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 13
  | .vmem => 12
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x2048, .f32⟩
  | .hbm, ⟨3, _⟩ => ⟨S2x4096x2048, .f32⟩
  | .hbm, ⟨4, _⟩ => ⟨S2048x2048, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S1024x2048, .bf16⟩
  | .hbm, ⟨10, _⟩ => ⟨S1024x2048, .bf16⟩
  | .hbm, ⟨11, _⟩ => ⟨S8192x2048, .f32⟩
  | .hbm, ⟨12, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutEvenRefIdeal.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x2048, .f32⟩
  | .hbm, ⟨3, _⟩ => ⟨S2x4096x2048, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S8192x2048, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutOdd.lean ====
abbrev S2x4096x2048 : Shape := ⟨3, ![2, 4096, 2048]⟩
abbrev S2048x2048 : Shape := ⟨2, ![2048, 2048]⟩
abbrev S8192x2048 : Shape := ⟨2, ![8192, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2x4096x2048, .f32⟩
  | .hbm, ⟨3, _⟩ => ⟨S8192x2048, .f32⟩
  | .hbm, ⟨4, _⟩ => ⟨S8192x2048, .bf16⟩
  | .hbm, ⟨5, _⟩ => ⟨S2048x2048, .bf16⟩
  | .hbm, ⟨6, _⟩ => ⟨S8192x2048, .f32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutOddRefIdeal.lean ====
abbrev S2x4096x2048 : Shape := ⟨3, ![2, 4096, 2048]⟩
abbrev S2048x2048 : Shape := ⟨2, ![2048, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2x4096x2048, .f32⟩
  | .hbm, ⟨3, _⟩ => ⟨S2x4096x2048, .f32⟩
  | .hbm, ⟨4, _⟩ => ⟨S2x4096x2048, .f32⟩
  | .hbm, ⟨5, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LruStep.lean ====
abbrev S8x1x4096 : Shape := ⟨3, ![8, 1, 4096]⟩
abbrev S8x3x2048 : Shape := ⟨3, ![8, 3, 2048]⟩
abbrev S8x2048 : Shape := ⟨2, ![8, 2048]⟩
abbrev S4x2048 : Shape := ⟨2, ![4, 2048]⟩
abbrev S2048 : Shape := ⟨1, ![2048]⟩
abbrev S16x128x128 : Shape := ⟨3, ![16, 128, 128]⟩
abbrev S8x4096 : Shape := ⟨2, ![8, 4096]⟩
abbrev S3x8x2048 : Shape := ⟨3, ![3, 8, 2048]⟩
abbrev S1x2048 : Shape := ⟨2, ![1, 2048]⟩
abbrev S1x8x2048 : Shape := ⟨3, ![1, 8, 2048]⟩
abbrev S8x128 : Shape := ⟨2, ![8, 128]⟩
abbrev S1x128x128 : Shape := ⟨3, ![1, 128, 128]⟩
abbrev S128x128 : Shape := ⟨2, ![128, 128]⟩

abbrev nBuf : Space → Nat
  | .hbm => 21
  | .vmem => 14
  | .smem => 0
  | _ => 0

abbrev bufTy : (tb : Table) → Fin (tcTables nBuf tb) → BufTy
  | .hbm, ⟨0, _⟩ => ⟨S8x1x4096, .f32⟩
  | .hbm, ⟨1, _⟩ => ⟨S8x3x2048, .f32⟩
  | .hbm, ⟨2, _⟩ => ⟨S8x2048, .f32⟩
  | .hbm, ⟨3, _⟩ => ⟨S4x2048, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S16x128x128, .f32⟩
  | .hbm, ⟨8, _⟩ => ⟨S2048, .f32⟩
  | .hbm, ⟨9, _⟩ => ⟨S2048, .f32⟩
  | .hbm, ⟨10, _⟩ => ⟨S8x4096, .f32⟩
  | .hbm, ⟨11, _⟩ => ⟨S3x8x2048, .f32⟩
  | .hbm, ⟨12, _⟩ => ⟨S16x128x128, .bf16⟩
  | .hbm, ⟨13, _⟩ => ⟨S16x128x128, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S8x2048, .bf16⟩
  | .hbm, ⟨19, _⟩ => ⟨S3x8x2048, .f32⟩
  | .hbm, ⟨20, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S3x8x2048, .f32⟩
  | .local _ .vmem, ⟨3, _⟩ => ⟨S8x2048, .f32⟩
  | .local _ .vmem, ⟨4, _⟩ => ⟨S4x2048, .f32⟩
  | .local _ .vmem, ⟨5, _⟩ => ⟨S1x2048, .f32⟩
  | .local _ .vmem, ⟨6, _⟩ => ⟨S16x128x128, .bf16⟩
  | .local _ .vmem, ⟨7, _⟩ => ⟨S16x128x128, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S8x2048, .bf16⟩
  | .local _ .vmem, ⟨12, _⟩ => ⟨S3x8x2048, .f32⟩
  | .local _ .vmem, ⟨13, _⟩ => ⟨S8x2048, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LruStepRefIdeal.lean ====
abbrev S8x1x4096 : Shape := ⟨3, ![8, 1, 4096]⟩
abbrev S8x3x2048 : Shape := ⟨3, ![8, 3, 2048]⟩
abbrev S8x2048 : Shape := ⟨2, ![8, 2048]⟩
abbrev S4x2048 : Shape := ⟨2, ![4, 2048]⟩
abbrev S2048 : Shape := ⟨1, ![2048]⟩
abbrev S16x128x128 : Shape := ⟨3, ![16, 128, 128]⟩
abbrev S8x1x2048 : Shape := ⟨3, ![8, 1, 2048]⟩
abbrev S8x4x2048 : Shape := ⟨3, ![8, 4, 2048]⟩
abbrev S1x2048 : Shape := ⟨2, ![1, 2048]⟩
abbrev S1x1x2048 : Shape := ⟨3, ![1, 1, 2048]⟩
abbrev S_ : Shape := ⟨0, ![]⟩
abbrev S8x1x16x128 : Shape := ⟨4, ![8, 1, 16, 128]⟩
abbrev S16x128x8x1 : Shape := ⟨4, ![16, 128, 8, 1]⟩
abbrev S3x8x2048 : Shape := ⟨3, ![3, 8, 2048]⟩

abbrev nBuf : Space → Nat
  | .hbm => 131
  | .vmem => 0
  | .smem => 0
  | _ => 0

abbrev hbmTy0_0 (i : Nat) : BufTy := match i % 128 with
  | 0 => ⟨S8x1x4096, .f32⟩
  | 1 => ⟨S8x3x2048, .f32⟩
  | 2 => ⟨S8x2048, .f32⟩
  | 3 => ⟨S4x2048, .f32⟩
  | 4 => ⟨S2048, .f32⟩
  | 5 => ⟨S16x128x128, .f32⟩
  | 6 => ⟨S2048, .f32⟩
  | 7 => ⟨S16x128x128, .f32⟩
  | 8 => ⟨S2048, .f32⟩
  | 9 => ⟨S2048, .f32⟩
  | 10 => ⟨S8x1x2048, .f32⟩
  | 11 => ⟨S8x1x2048, .f32⟩
  | 12 => ⟨S8x4x2048, .f32⟩
  | 13 => ⟨S8x1x2048, .f32⟩
  | 14 => ⟨S1x2048, .f32⟩
  | 15 => ⟨S2048, .f32⟩
  | 16 => ⟨S1x1x2048, .f32⟩
  | 17 => ⟨S8x1x2048, .f32⟩
  | 18 => ⟨S8x1x2048, .f32⟩
  | 19 => ⟨S_, .f32⟩
  | 20 => ⟨S8x1x2048, .f32⟩
  | 21 => ⟨S8x1x2048, .f32⟩
  | 22 => ⟨S8x1x2048, .f32⟩
  | 23 => ⟨S1x2048, .f32⟩
  | 24 => ⟨S2048, .f32⟩
  | 25 => ⟨S1x1x2048, .f32⟩
  | 26 => ⟨S8x1x2048, .f32⟩
  | 27 => ⟨S8x1x2048, .f32⟩
  | 28 => ⟨S8x1x2048, .f32⟩
  | 29 => ⟨S8x1x2048, .f32⟩
  | 30 => ⟨S1x2048, .f32⟩
  | 31 => ⟨S2048, .f32⟩
  | 32 => ⟨S1x1x2048, .f32⟩
  | 33 => ⟨S8x1x2048, .f32⟩
  | 34 => ⟨S8x1x2048, .f32⟩
  | 35 => ⟨S8x1x2048, .f32⟩
  | 36 => ⟨S8x1x2048, .f32⟩
  | 37 => ⟨S1x2048, .f32⟩
  | 38 => ⟨S2048, .f32⟩
  | 39 => ⟨S1x1x2048, .f32⟩
  | 40 => ⟨S8x1x2048, .f32⟩
  | 41 => ⟨S8x1x2048, .f32⟩
  | 42 => ⟨S8x1x2048, .f32⟩
  | 43 => ⟨S1x1x2048, .f32⟩
  | 44 => ⟨S8x1x2048, .f32⟩
  | 45 => ⟨S8x1x2048, .f32⟩
  | 46 => ⟨S8x3x2048, .f32⟩
  | 47 => ⟨S8x1x16x128, .f32⟩
  | 48 => ⟨S16x128x8x1, .f32⟩
  | 49 => ⟨S8x1x16x128, .f32⟩
  | 50 => ⟨S8x1x2048, .f32⟩
  | 51 => ⟨S1x1x2048, .f32⟩
  | 52 => ⟨S8x1x2048, .f32⟩
  | 53 => ⟨S8x1x2048, .f32⟩
  | 54 => ⟨S8x1x2048, .f32⟩
  | 55 => ⟨S8x1x2048, .f32⟩
  | 56 => ⟨S_, .f32⟩
  | 57 => ⟨S8x1x2048, .f32⟩
  | 58 => ⟨S8x1x2048, .f32⟩
  | 59 => ⟨S_, .f32⟩
  | 60 => ⟨S8x1x2048, .f32⟩
  | 61 => ⟨S8x1x2048, .f32⟩
  | 62 => ⟨S16x128x8x1, .f32⟩
  | 63 => ⟨S8x1x16x128, .f32⟩
  | 64 => ⟨S8x1x2048, .f32⟩
  | 65 => ⟨S1x1x2048, .f32⟩
  | 66 => ⟨S8x1x2048, .f32⟩
  | 67 => ⟨S8x1x2048, .f32⟩
  | 68 => ⟨S8x1x2048, .f32⟩
  | 69 => ⟨S8x1x2048, .f32⟩
  | 70 => ⟨S_, .f32⟩
  | 71 => ⟨S8x1x2048, .f32⟩
  | 72 => ⟨S8x1x2048, .f32⟩
  | 73 => ⟨S_, .f32⟩
  | 74 => ⟨S8x1x2048, .f32⟩
  | 75 => ⟨S8x1x2048, .f32⟩
  | 76 => ⟨S_, .f32⟩
  | 77 => ⟨S8x1x2048, .f32⟩
  | 78 => ⟨S8x1x2048, .f32⟩
  | 79 => ⟨S2048, .f32⟩
  | 80 => ⟨S_, .f32⟩
  | 81 => ⟨S2048, .f32⟩
  | 82 => ⟨S2048, .f32⟩
  | 83 => ⟨S2048, .f32⟩
  | 84 => ⟨S2048, .f32⟩
  | 85 => ⟨S2048, .i1⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S2048, .f32⟩
  | 94 => ⟨S1x1x2048, .f32⟩
  | 95 => ⟨S8x1x2048, .f32⟩
  | 96 => ⟨S8x1x2048, .f32⟩
  | 97 => ⟨S8x1x2048, .f32⟩
  | 98 => ⟨S_, .f32⟩
  | 99 => ⟨S8x1x2048, .f32⟩
  | 100 => ⟨S8x1x2048, .f32⟩
  | 101 => ⟨S8x1x2048, .f32⟩
  | 102 => ⟨S8x1x2048, .f32⟩
  | 103 => ⟨S8x1x2048, .f32⟩
  | 104 => ⟨S8x1x2048, .f32⟩
  | 105 => ⟨S8x1x2048, .f32⟩
  | 106 => ⟨S8x1x2048, .f32⟩
  | 107 => ⟨S8x1x2048, .f32⟩
  | 108 => ⟨S8x1x2048, .f32⟩
  | 109 => ⟨S8x1x2048, .f32⟩
  | 110 => ⟨S8x1x2048, .f32⟩
  | 111 => ⟨S_, .f32⟩
  | 112 => ⟨S8x1x2048, .f32⟩
  | 113 => ⟨S8x1x2048, .f32⟩
  | 114 => ⟨S8x1x2048, .f32⟩
  | 115 => ⟨S_, .f32⟩
  | 116 => ⟨S8x1x2048, .f32⟩
  | 117 => ⟨S8x1x2048, .f32⟩
  | 118 => ⟨S8x1x2048, .f32⟩
  | 119 => ⟨S_, .f32⟩
  | 120 => ⟨S8x1x2048, .f32⟩
  | 121 => ⟨S8x1x2048, .f32⟩
  | 122 => ⟨S_, .f32⟩
  | 123 => ⟨S8x1x2048, .f32⟩
  | 124 => ⟨S8x1x2048, .f32⟩
  | 125 => ⟨S8x1x2048, .f32⟩
  | 126 => ⟨S8x1x2048, .f32⟩
  | 127 => ⟨S8x2048, .f32⟩
  | _ => ⟨S8x1x4096, .f32⟩

abbrev hbmTy0_1 (i : Nat) : BufTy := match i % 128 with
  | 0 => ⟨S8x2048, .f32⟩
  | 1 => ⟨S8x2048, .bf16⟩
  | 2 => ⟨S3x8x2048, .f32⟩
  | _ => ⟨S8x1x4096, .f32⟩

abbrev hbmTy (i : Nat) : BufTy := match i / 128 with
  | 0 => hbmTy0_0 i
  | 1 => hbmTy0_1 i
  | _ => ⟨S8x1x4096, .f32⟩

abbrev bufTy : (tb : Table) → Fin (tcTables nBuf tb) → BufTy
  | .hbm, ⟨i, _⟩ => hbmTy i
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_0 : Ref sig .tc := ⟨.hbm, 56, rfl⟩
abbrev main_v45 : Ref sig .tc := ⟨.hbm, 57, rfl⟩
abbrev main_v46 : Ref sig .tc := ⟨.hbm, 58, rfl⟩
abbrev main_cst_1 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_cst_4 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_6 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_7 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_8 : Ref sig .tc := ⟨.hbm, 119, rfl⟩
abbrev main_v87 : Ref sig .tc := ⟨.hbm, 120, rfl⟩
abbrev main_v88 : Ref sig .tc := ⟨.hbm, 121, rfl⟩
abbrev main_cst_9 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]
-- ==== HgrnStep.lean ====
abbrev S8x1x4096 : Shape := ⟨3, ![8, 1, 4096]⟩
abbrev S1024 : Shape := ⟨1, ![1024]⟩
abbrev S8x2x8x128x128 : Shape := ⟨5, ![8, 2, 8, 128, 128]⟩
abbrev S8x32x1x128 : Shape := ⟨4, ![8, 32, 1, 128]⟩
abbrev S8x1x128 : Shape := ⟨3, ![8, 1, 128]⟩
abbrev S8x8x1x128 : Shape := ⟨4, ![8, 8, 1, 128]⟩
abbrev S8x8x128x128 : Shape := ⟨4, ![8, 8, 128, 128]⟩
abbrev S1x1x1x128 : Shape := ⟨4, ![1, 1, 1, 128]⟩
abbrev S1x1x128 : Shape := ⟨3, ![1, 1, 128]⟩
abbrev S1x1x1x128x128 : Shape := ⟨5, ![1, 1, 1, 128, 128]⟩
abbrev S1x1x128x128 : Shape := ⟨4, ![1, 1, 128, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 13
  | .vmem => 20
  | .smem => 0
  | _ => 0

abbrev bufTy : (tb : Table) → Fin (tcTables nBuf tb) → BufTy
  | .hbm, ⟨0, _⟩ => ⟨S8x1x4096, .f32⟩
  | .hbm, ⟨1, _⟩ => ⟨S1024, .f32⟩
  | .hbm, ⟨2, _⟩ => ⟨S1024, .f32⟩
  | .hbm, ⟨3, _⟩ => ⟨S8x2x8x128x128, .f32⟩
  | .hbm, ⟨4, _⟩ => ⟨S8x32x1x128, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8x1x128, .f32⟩
  | .hbm, ⟨9, _⟩ => ⟨S8x1x128, .f32⟩
  | .hbm, ⟨10, _⟩ => ⟨S8x1x128, .f32⟩
  | .hbm, ⟨11, _⟩ => ⟨S8x8x1x128, .f32⟩
  | .hbm, ⟨12, _⟩ => ⟨S8x8x128x128, .f32⟩
  | .local _ .vmem, ⟨0, _⟩ => ⟨S1x1x1x128, .f32⟩
  | .local _ .vmem, ⟨1, _⟩ => ⟨S1x1x1x128, .f32⟩
  | .local _ .vmem, ⟨2, _⟩ => ⟨S1x1x1x128, .f32⟩
  | .local _ .vmem, ⟨3, _⟩ => ⟨S1x1x1x128, .f32⟩
  | .local _ .vmem, ⟨4, _⟩ => ⟨S1x1x1x128, .f32⟩
  | .local _ .vmem, ⟨5, _⟩ => ⟨S1x1x1x128, .f32⟩
  | .local _ .vmem, ⟨6, _⟩ => ⟨S1x1x1x128, .f32⟩
  | .local _ .vmem, ⟨7, _⟩ => ⟨S1x1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x1x128x128, .f32⟩
  | .local _ .vmem, ⟨15, _⟩ => ⟨S1x1x1x128x128, .f32⟩
  | .local _ .vmem, ⟨16, _⟩ => ⟨S1x1x1x128, .f32⟩
  | .local _ .vmem, ⟨17, _⟩ => ⟨S1x1x1x128, .f32⟩
  | .local _ .vmem, ⟨18, _⟩ => ⟨S1x1x128x128, .f32⟩
  | .local _ .vmem, ⟨19, _⟩ => ⟨S1x1x128x128, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== HgrnStepRefIdeal.lean ====
abbrev S8x1x4096 : Shape := ⟨3, ![8, 1, 4096]⟩
abbrev S1024 : Shape := ⟨1, ![1024]⟩
abbrev S8x2x8x128x128 : Shape := ⟨5, ![8, 2, 8, 128, 128]⟩
abbrev S8x4096 : Shape := ⟨2, ![8, 4096]⟩
abbrev S8x1024 : Shape := ⟨2, ![8, 1024]⟩
abbrev S_ : Shape := ⟨0, ![]⟩
abbrev S1x1024 : Shape := ⟨2, ![1, 1024]⟩
abbrev S8x8x128 : Shape := ⟨3, ![8, 8, 128]⟩
abbrev S8x8x128x1 : Shape := ⟨4, ![8, 8, 128, 1]⟩
abbrev S8x1x8x128x128 : Shape := ⟨5, ![8, 1, 8, 128, 128]⟩
abbrev S8x8x128x128 : Shape := ⟨4, ![8, 8, 128, 128]⟩
abbrev S8x8x1x128 : Shape := ⟨4, ![8, 8, 1, 128]⟩
abbrev S8x128 : Shape := ⟨2, ![8, 128]⟩
abbrev S8x8 : Shape := ⟨2, ![8, 8]⟩
abbrev S8x8x1 : Shape := ⟨3, ![8, 8, 1]⟩
abbrev S1x8x128 : Shape := ⟨3, ![1, 8, 128]⟩

abbrev nBuf : Space → Nat
  | .hbm => 102
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S1024, .f32⟩
  | .hbm, ⟨2, _⟩ => ⟨S1024, .f32⟩
  | .hbm, ⟨3, _⟩ => ⟨S8x2x8x128x128, .f32⟩
  | .hbm, ⟨4, _⟩ => ⟨S8x4096, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .i1⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S1x1024, .f32⟩
  | .hbm, ⟨29, _⟩ => ⟨S8x1024, .f32⟩
  | .hbm, ⟨30, _⟩ => ⟨S8x1024, .f32⟩
  | .hbm, ⟨31, _⟩ => ⟨S1x1024, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S8x1024, .i1⟩
  | .hbm, ⟨37, _⟩ => ⟨S8x1024, .f32⟩
  | .hbm, ⟨38, _⟩ => ⟨S8x1024, .f32⟩
  | .hbm, ⟨39, _⟩ => ⟨S8x1024, .f32⟩
  | .hbm, ⟨40, _⟩ => ⟨S8x1024, .f32⟩
  | .hbm, ⟨41, _⟩ => ⟨S8x1024, .f32⟩
  | .hbm, ⟨42, _⟩ => ⟨S8x1024, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S8x1024, .f32⟩
  | .hbm, ⟨47, _⟩ => ⟨S_, .f32⟩
  | .hbm, ⟨48, _⟩ => ⟨S8x1024, .f32⟩
  | .hbm, ⟨49, _⟩ => ⟨S8x1024, .f32⟩
  | .hbm, ⟨50, _⟩ => ⟨S_, .f32⟩
  | .hbm, ⟨51, _⟩ => ⟨S8x1024, .f32⟩
  | .hbm, ⟨52, _⟩ => ⟨S8x1024, .f32⟩
  | .hbm, ⟨53, _⟩ => ⟨S8x1024, .f32⟩
  | .hbm, ⟨54, _⟩ => ⟨S8x8x128, .f32⟩
  | .hbm, ⟨55, _⟩ => ⟨S8x1024, .f32⟩
  | .hbm, ⟨56, _⟩ => ⟨S8x1024, .f32⟩
  | .hbm, ⟨57, _⟩ => ⟨S8x8x128, .f32⟩
  | .hbm, ⟨58, _⟩ => ⟨S8x8x128, .f32⟩
  | .hbm, ⟨59, _⟩ => ⟨S8x1024, .f32⟩
  | .hbm, ⟨60, _⟩ => ⟨S8x8x128, .f32⟩
  | .hbm, ⟨61, _⟩ => ⟨S8x8x128x1, .f32⟩
  | .hbm, ⟨62, _⟩ => ⟨S8x1x8x128x128, .f32⟩
  | .hbm, ⟨63, _⟩ => ⟨S8x8x128x128, .f32⟩
  | .hbm, ⟨64, _⟩ => ⟨S8x8x128x128, .f32⟩
  | .hbm, ⟨65, _⟩ => ⟨S8x8x128x128, .f32⟩
  | .hbm, ⟨66, _⟩ => ⟨S8x8x128x1, .f32⟩
  | .hbm, ⟨67, _⟩ => ⟨S8x8x1x128, .f32⟩
  | .hbm, ⟨68, _⟩ => ⟨S8x8x128x128, .f32⟩
  | .hbm, ⟨69, _⟩ => ⟨S8x8x128x128, .f32⟩
  | .hbm, ⟨70, _⟩ => ⟨S8x8x128x128, .f32⟩
  | .hbm, ⟨71, _⟩ => ⟨S8x8x128x128, .f32⟩
  | .hbm, ⟨72, _⟩ => ⟨S8x8x128, .f32⟩
  | .hbm, ⟨73, _⟩ => ⟨S8x128, .f32⟩
  | .hbm, ⟨74, _⟩ => ⟨S8x8x128, .f32⟩
  | .hbm, ⟨75, _⟩ => ⟨S_, .f32⟩
  | .hbm, ⟨76, _⟩ => ⟨S8x8, .f32⟩
  | .hbm, ⟨77, _⟩ => ⟨S8x8x1, .f32⟩
  | .hbm, ⟨78, _⟩ => ⟨S_, .f32⟩
  | .hbm, ⟨79, _⟩ => ⟨S8x8x1, .f32⟩
  | .hbm, ⟨80, _⟩ => ⟨S8x8x1, .f32⟩
  | .hbm, ⟨81, _⟩ => ⟨S_, .f32⟩
  | .hbm, ⟨82, _⟩ => ⟨S8x8x1, .f32⟩
  | .hbm, ⟨83, _⟩ => ⟨S8x8x1, .f32⟩
  | .hbm, ⟨84, _⟩ => ⟨S8x8x1, .f32⟩
  | .hbm, ⟨85, _⟩ => ⟨S8x8x128, .f32⟩
  | .hbm, ⟨86, _⟩ => ⟨S8x8x128, .f32⟩
  | .hbm, ⟨87, _⟩ => ⟨S1x8x128, .f32⟩
  | .hbm, ⟨88, _⟩ => ⟨S8x8x128, .f32⟩
  | .hbm, ⟨89, _⟩ => ⟨S8x8x128, .f32⟩
  | .hbm, ⟨90, _⟩ => ⟨S8x1024, .f32⟩
  | .hbm, ⟨91, _⟩ => ⟨S8x1024, .f32⟩
  | .hbm, ⟨92, _⟩ => ⟨S_, .f32⟩
  | .hbm, ⟨93, _⟩ => ⟨S8x1024, .f32⟩
  | .hbm, ⟨94, _⟩ => ⟨S8x1024, .f32⟩
  | .hbm, ⟨95, _⟩ => ⟨S_, .f32⟩
  | .hbm, ⟨96, _⟩ => ⟨S8x1024, .f32⟩
  | .hbm, ⟨97, _⟩ => ⟨S8x1024, .f32⟩
  | .hbm, ⟨98, _⟩ => ⟨S8x1024, .f32⟩
  | .hbm, ⟨99, _⟩ => ⟨S8x8x128, .f32⟩
  | .hbm, ⟨100, _⟩ => ⟨S8x8x128, .f32⟩
  | .hbm, ⟨101, _⟩ => ⟨S8x8x1x128, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst : Ref sig .tc := ⟨.hbm, 75, rfl⟩
abbrev main_v48 : Ref sig .tc := ⟨.hbm, 76, rfl⟩
abbrev main_v49 : Ref sig .tc := ⟨.hbm, 77, rfl⟩
abbrev main_cst_0 : Ref sig .tc := ⟨.hbm, 78, rfl⟩
abbrev main_v50 : Ref sig .tc := ⟨.hbm, 79, rfl⟩
abbrev main_v51 : Ref sig .tc := ⟨.hbm, 80, rfl⟩
abbrev main_cst_1 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩

abbrev nD : Nat := 1
abbrev τ : Topo := Topo.v7x

variable {F : FTy → Type} [FloatOps F]
-- ==== FoxLogf.lean ====
abbrev S2x4096x8 : Shape := ⟨3, ![2, 4096, 8]⟩
abbrev S8 : Shape := ⟨1, ![8]⟩
abbrev S2x8x4096 : Shape := ⟨3, ![2, 8, 4096]⟩
abbrev S512x128 : Shape := ⟨2, ![512, 128]⟩
abbrev S1x8x1 : Shape := ⟨3, ![1, 8, 1]⟩
abbrev S2x8x32 : Shape := ⟨3, ![2, 8, 32]⟩
abbrev S512x1 : Shape := ⟨2, ![512, 1]⟩
abbrev S128x128 : Shape := ⟨2, ![128, 128]⟩
abbrev S512x512 : Shape := ⟨2, ![512, 512]⟩
abbrev S2x8x1x4096 : Shape := ⟨4, ![2, 8, 1, 4096]⟩

abbrev nBuf : Space → Nat
  | .hbm => 12
  | .vmem => 4
  | .smem => 0
  | _ => 0

abbrev bufTy : (tb : Table) → Fin (tcTables nBuf tb) → BufTy
  | .hbm, ⟨0, _⟩ => ⟨S2x4096x8, .f32⟩
  | .hbm, ⟨1, _⟩ => ⟨S8, .f32⟩
  | .hbm, ⟨2, _⟩ => ⟨S2x8x4096, .f32⟩
  | .hbm, ⟨3, _⟩ => ⟨S512x128, .f32⟩
  | .hbm, ⟨4, _⟩ => ⟨S1x8x1, .f32⟩
  | .hbm, ⟨5, _⟩ => ⟨S2x8x32, .f32⟩
  | .hbm, ⟨6, _⟩ => ⟨S512x1, .f32⟩
  | .hbm, ⟨7, _⟩ => ⟨S512x128, .f32⟩
  | .hbm, ⟨8, _⟩ => ⟨S512x128, .f32⟩
  | .hbm, ⟨9, _⟩ => ⟨S2x8x4096, .f32⟩
  | .hbm, ⟨10, _⟩ => ⟨S2x4096x8, .f32⟩
  | .hbm, ⟨11, _⟩ => ⟨S2x8x1x4096, .f32⟩
  | .local _ .vmem, ⟨0, _⟩ => ⟨S512x128, .f32⟩
  | .local _ .vmem, ⟨1, _⟩ => ⟨S512x1, .f32⟩
  | .local _ .vmem, ⟨2, _⟩ => ⟨S512x128, .f32⟩
  | .local _ .vmem, ⟨3, _⟩ => ⟨S512x128, .f32⟩
  | _, _ => ⟨S2x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== FoxLogfIdeal.lean ====
variable {F : FTy → Type} [FloatOps F] [Named F]
def κ : String → Option EReal := fun
  | "log2_e" => some (((Real.log 2)⁻¹ : ℝ) : EReal)
  | _ => none
-- ==== FoxLogfRefIdeal.lean ====
abbrev S2x4096x8 : Shape := ⟨3, ![2, 4096, 8]⟩
abbrev S8 : Shape := ⟨1, ![8]⟩
abbrev S1x1x8 : Shape := ⟨3, ![1, 1, 8]⟩
abbrev S_ : Shape := ⟨0, ![]⟩
abbrev S2x8x4096 : Shape := ⟨3, ![2, 8, 4096]⟩
abbrev S2x8x1x4096 : Shape := ⟨4, ![2, 8, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x8, .f32⟩
  | .hbm, ⟨1, _⟩ => ⟨S8, .f32⟩
  | .hbm, ⟨2, _⟩ => ⟨S1x1x8, .f32⟩
  | .hbm, ⟨3, _⟩ => ⟨S2x4096x8, .f32⟩
  | .hbm, ⟨4, _⟩ => ⟨S2x4096x8, .f32⟩
  | .hbm, ⟨5, _⟩ => ⟨S2x4096x8, .f32⟩
  | .hbm, ⟨6, _⟩ => ⟨S_, .f32⟩
  | .hbm, ⟨7, _⟩ => ⟨S2x4096x8, .f32⟩
  | .hbm, ⟨8, _⟩ => ⟨S2x4096x8, .f32⟩
  | .hbm, ⟨9, _⟩ => ⟨S2x4096x8, .f32⟩
  | .hbm, ⟨10, _⟩ => ⟨S2x4096x8, .f32⟩
  | .hbm, ⟨11, _⟩ => ⟨S2x4096x8, .i1⟩
  | .hbm, ⟨12, _⟩ => ⟨S2x4096x8, .f32⟩
  | .hbm, ⟨13, _⟩ => ⟨S2x4096x8, .f32⟩
  | .hbm, ⟨14, _⟩ => ⟨S2x4096x8, .f32⟩
  | .hbm, ⟨15, _⟩ => ⟨S2x4096x8, .f32⟩
  | .hbm, ⟨16, _⟩ => ⟨S2x4096x8, .f32⟩
  | .hbm, ⟨17, _⟩ => ⟨S2x4096x8, .f32⟩
  | .hbm, ⟨18, _⟩ => ⟨S2x4096x8, .f32⟩
  | .hbm, ⟨19, _⟩ => ⟨S2x4096x8, .f32⟩
  | .hbm, ⟨20, _⟩ => ⟨S2x4096x8, .f32⟩
  | .hbm, ⟨21, _⟩ => ⟨S_, .f32⟩
  | .hbm, ⟨22, _⟩ => ⟨S_, .f32⟩
  | .hbm, ⟨23, _⟩ => ⟨S2x4096x8, .f32⟩
  | .hbm, ⟨24, _⟩ => ⟨S_, .f32⟩
  | .hbm, ⟨25, _⟩ => ⟨S_, .f32⟩
  | .hbm, ⟨26, _⟩ => ⟨S2x4096x8, .f32⟩
  | .hbm, ⟨27, _⟩ => ⟨S2x4096x8, .f32⟩
  | .hbm, ⟨28, _⟩ => ⟨S2x8x4096, .f32⟩
  | .hbm, ⟨29, _⟩ => ⟨S2x8x1x4096, .f32⟩
  | _, _ => ⟨S2x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== MlpS.lean ====
abbrev S8x1x2048 : Shape := ⟨3, ![8, 1, 2048]⟩
abbrev S2048 : Shape := ⟨1, ![2048]⟩
abbrev S2048x8192 : Shape := ⟨2, ![2048, 8192]⟩
abbrev S8192x2048 : Shape := ⟨2, ![8192, 2048]⟩
abbrev S8x2048 : Shape := ⟨2, ![8, 2048]⟩
abbrev S1x2048 : Shape := ⟨2, ![1, 2048]⟩
abbrev S2048x512 : Shape := ⟨2, ![2048, 512]⟩
abbrev S512x2048 : Shape := ⟨2, ![512, 2048]⟩
abbrev S8 : Shape := ⟨1, ![8]⟩
abbrev S8x1 : Shape := ⟨2, ![8, 1]⟩
abbrev S8x512 : Shape := ⟨2, ![8, 512]⟩

abbrev nBuf : Space → Nat
  | .hbm => 12
  | .vmem => 10
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8x2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S1x2048, .f32⟩
  | .hbm, ⟨10, _⟩ => ⟨S8x2048, .f32⟩
  | .hbm, ⟨11, _⟩ => ⟨S8x2048, .f32⟩
  | .local _ .vmem, ⟨0, _⟩ => ⟨S8x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== MlpSRefIdeal.lean ====
abbrev S8x1x2048 : Shape := ⟨3, ![8, 1, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x1x8192 : Shape := ⟨3, ![8, 1, 8192]⟩
abbrev S8x2048 : Shape := ⟨2, ![8, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8x1x2048, .f32⟩
  | .hbm, ⟨6, _⟩ => ⟨S_, .f32⟩
  | .hbm, ⟨7, _⟩ => ⟨S8x1, .f32⟩
  | .hbm, ⟨8, _⟩ => ⟨S8x1x1, .f32⟩
  | .hbm, ⟨9, _⟩ => ⟨S_, .f32⟩
  | .hbm, ⟨10, _⟩ => ⟨S8x1x1, .f32⟩
  | .hbm, ⟨11, _⟩ => ⟨S8x1x1, .f32⟩
  | .hbm, ⟨12, _⟩ => ⟨S_, .f32⟩
  | .hbm, ⟨13, _⟩ => ⟨S8x1x1, .f32⟩
  | .hbm, ⟨14, _⟩ => ⟨S8x1x1, .f32⟩
  | .hbm, ⟨15, _⟩ => ⟨S8x1x1, .f32⟩
  | .hbm, ⟨16, _⟩ => ⟨S8x1x2048, .f32⟩
  | .hbm, ⟨17, _⟩ => ⟨S8x1x2048, .f32⟩
  | .hbm, ⟨18, _⟩ => ⟨S1x1x2048, .f32⟩
  | .hbm, ⟨19, _⟩ => ⟨S8x1x2048, .f32⟩
  | .hbm, ⟨20, _⟩ => ⟨S8x1x2048, .f32⟩
  | .hbm, ⟨21, _⟩ => ⟨S8x1x8192, .f32⟩
  | .hbm, ⟨22, _⟩ => ⟨S_, .f32⟩
  | .hbm, ⟨23, _⟩ => ⟨S8x1x8192, .f32⟩
  | .hbm, ⟨24, _⟩ => ⟨S8x1x8192, .f32⟩
  | .hbm, ⟨25, _⟩ => ⟨S8x1x8192, .f32⟩
  | .hbm, ⟨26, _⟩ => ⟨S8x1x2048, .f32⟩
  | .hbm, ⟨27, _⟩ => ⟨S8x1x2048, .f32⟩
  | .hbm, ⟨28, _⟩ => ⟨S8x2048, .f32⟩
  | .hbm, ⟨29, _⟩ => ⟨S8x1x2048, .f32⟩
  | .hbm, ⟨30, _⟩ => ⟨S_, .f32⟩
  | .hbm, ⟨31, _⟩ => ⟨S8x1, .f32⟩
  | .hbm, ⟨32, _⟩ => ⟨S8x1x1, .f32⟩
  | .hbm, ⟨33, _⟩ => ⟨S_, .f32⟩
  | .hbm, ⟨34, _⟩ => ⟨S8x1x1, .f32⟩
  | .hbm, ⟨35, _⟩ => ⟨S8x1x1, .f32⟩
  | .hbm, ⟨36, _⟩ => ⟨S_, .f32⟩
  | .hbm, ⟨37, _⟩ => ⟨S8x1x1, .f32⟩
  | .hbm, ⟨38, _⟩ => ⟨S8x1x1, .f32⟩
  | .hbm, ⟨39, _⟩ => ⟨S8x1x1, .f32⟩
  | .hbm, ⟨40, _⟩ => ⟨S8x1x2048, .f32⟩
  | .hbm, ⟨41, _⟩ => ⟨S8x1x2048, .f32⟩
  | .hbm, ⟨42, _⟩ => ⟨S1x1x2048, .f32⟩
  | .hbm, ⟨43, _⟩ => ⟨S8x1x2048, .f32⟩
  | .hbm, ⟨44, _⟩ => ⟨S8x1x2048, .f32⟩
  | .hbm, ⟨45, _⟩ => ⟨S8x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== QkvS.lean ====
abbrev S8x1x2048 : Shape := ⟨3, ![8, 1, 2048]⟩
abbrev S2048 : Shape := ⟨1, ![2048]⟩
abbrev S2048x7176 : Shape := ⟨2, ![2048, 7176]⟩
abbrev S2048x3072 : Shape := ⟨2, ![2048, 3072]⟩
abbrev S2048x8 : Shape := ⟨2, ![2048, 8]⟩
abbrev S_ : Shape := ⟨0, ![]⟩
abbrev S2048x128 : Shape := ⟨2, ![2048, 128]⟩
abbrev S8x2048 : Shape := ⟨2, ![8, 2048]⟩
abbrev S1x2048 : Shape := ⟨2, ![1, 2048]⟩
abbrev S8x3072 : Shape := ⟨2, ![8, 3072]⟩
abbrev S8x1024 : Shape := ⟨2, ![8, 1024]⟩
abbrev S8x128 : Shape := ⟨2, ![8, 128]⟩
abbrev S2048x1024 : Shape := ⟨2, ![2048, 1024]⟩
abbrev S8 : Shape := ⟨1, ![8]⟩
abbrev S8x1 : Shape := ⟨2, ![8, 1]⟩

abbrev nBuf : Space → Nat
  | .hbm => 16
  | .vmem => 11
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x7176, .f32⟩
  | .hbm, ⟨3, _⟩ => ⟨S2048x3072, .f32⟩
  | .hbm, ⟨4, _⟩ => ⟨S2048x3072, .bf16⟩
  | .hbm, ⟨5, _⟩ => ⟨S2048x8, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S8x2048, .f32⟩
  | .hbm, ⟨11, _⟩ => ⟨S1x2048, .f32⟩
  | .hbm, ⟨12, _⟩ => ⟨S8x3072, .bf16⟩
  | .hbm, ⟨13, _⟩ => ⟨S8x1024, .f32⟩
  | .hbm, ⟨14, _⟩ => ⟨S8x1024, .f32⟩
  | .hbm, ⟨15, _⟩ => ⟨S8x128, .f32⟩
  | .local _ .vmem, ⟨0, _⟩ => ⟨S8x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S8x1024, .bf16⟩
  | .local _ .vmem, ⟨6, _⟩ => ⟨S8x1024, .bf16⟩
  | .local _ .vmem, ⟨7, _⟩ => ⟨S8x1024, .f32⟩
  | .local _ .vmem, ⟨8, _⟩ => ⟨S8x1024, .f32⟩
  | .local _ .vmem, ⟨9, _⟩ => ⟨S8x128, .f32⟩
  | .local _ .vmem, ⟨10, _⟩ => ⟨S8x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== QkvSIdeal.lean ====
variable {F : FTy → Type} [FloatOps F] [Named F]
def κ : String → Option EReal := fun
  | "q_scale" => some (((Real.sqrt 128)⁻¹ * (Real.log 2)⁻¹ : ℝ) : EReal)
  | _ => none
-- ==== QkvSRefIdeal.lean ====
abbrev S8x1x2048 : Shape := ⟨3, ![8, 1, 2048]⟩
abbrev S2048 : Shape := ⟨1, ![2048]⟩
abbrev S2048x7176 : Shape := ⟨2, ![2048, 7176]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x1x7176 : Shape := ⟨3, ![8, 1, 7176]⟩
abbrev S8x1x1024 : Shape := ⟨3, ![8, 1, 1024]⟩
abbrev S8x1x8 : Shape := ⟨3, ![8, 1, 8]⟩
abbrev S8x1x3072 : Shape := ⟨3, ![8, 1, 3072]⟩
abbrev S8x3072 : Shape := ⟨2, ![8, 3072]⟩
abbrev S8x1024 : Shape := ⟨2, ![8, 1024]⟩
abbrev S8x1x128 : Shape := ⟨3, ![8, 1, 128]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x7176, .f32⟩
  | .hbm, ⟨3, _⟩ => ⟨S8x1x2048, .f32⟩
  | .hbm, ⟨4, _⟩ => ⟨S_, .f32⟩
  | .hbm, ⟨5, _⟩ => ⟨S8x1, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .f32⟩
  | .hbm, ⟨10, _⟩ => ⟨S_, .f32⟩
  | .hbm, ⟨11, _⟩ => ⟨S8x1x1, .f32⟩
  | .hbm, ⟨12, _⟩ => ⟨S8x1x1, .f32⟩
  | .hbm, ⟨13, _⟩ => ⟨S8x1x1, .f32⟩
  | .hbm, ⟨14, _⟩ => ⟨S8x1x2048, .f32⟩
  | .hbm, ⟨15, _⟩ => ⟨S8x1x2048, .f32⟩
  | .hbm, ⟨16, _⟩ => ⟨S1x1x2048, .f32⟩
  | .hbm, ⟨17, _⟩ => ⟨S8x1x2048, .f32⟩
  | .hbm, ⟨18, _⟩ => ⟨S8x1x2048, .f32⟩
  | .hbm, ⟨19, _⟩ => ⟨S8x1x7176, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x8, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x1x3072, .f32⟩
  | .hbm, ⟨32, _⟩ => ⟨S8x1x3072, .bf16⟩
  | .hbm, ⟨33, _⟩ => ⟨S8x3072, .bf16⟩
  | .hbm, ⟨34, _⟩ => ⟨S8x1024, .f32⟩
  | .hbm, ⟨35, _⟩ => ⟨S8x1024, .f32⟩
  | .hbm, ⟨36, _⟩ => ⟨S_, .i32⟩
  | .hbm, ⟨37, _⟩ => ⟨S_, .f32⟩
  | .hbm, ⟨38, _⟩ => ⟨S8x1x128, .f32⟩
  | .hbm, ⟨39, _⟩ => ⟨S8x128, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Softmax.lean ====
module

public import Idealize.ShloMosaic.PureOps.Ideal
public import Mathlib.Analysis.SpecialFunctions.Pow.Real

@[expose] public section

noncomputable section

open Idealize.ShloMosaic

namespace Cert.Softmax

/-- A nonnegative real factor goes into a finite sum of extended reals. -/
theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A finite sum of coerced reals is the coerced sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score below infinity is a nonnegative real. -/
theorem exp2_real (x : EReal) (hx : x ≠ ⊤) (M : ℝ) : ∃ p : ℝ, 0 ≤ p ∧ Ideal.exp2 (x - (M : EReal)) = (p : EReal) := by
  induction x using EReal.rec with
  | bot => exact ⟨0, le_refl _, by rw [EReal.bot_sub, Ideal.exp2_bot]; rfl⟩
  | coe x => exact ⟨Real.rpow 2 (x - M), Real.rpow_nonneg (by norm_num) _, by rw [← EReal.coe_sub, Ideal.exp2_coe]⟩
  | top => exact absurd rfl hx

/-- Weights taken against one shift become those against another by one factor. -/
theorem exp2_shift (x : EReal) (hx : x ≠ ⊤) (M M' : ℝ) :
    Ideal.exp2 ((M : EReal) - (M' : EReal)) * Ideal.exp2 (x - (M : EReal)) = Ideal.exp2 (x - (M' : EReal)) := by
  induction x using EReal.rec with
  | bot => simp only [EReal.bot_sub, Ideal.exp2_bot, mul_zero]
  | coe x =>
    simp only [← EReal.coe_sub, Ideal.exp2_coe, ← EReal.coe_mul]
    congr 1
    show (2 : ℝ) ^ (M - M') * (2 : ℝ) ^ (x - M) = (2 : ℝ) ^ (x - M')
    rw [← Real.rpow_add (by norm_num)]
    congr 1; ring
  | top => exact absurd rfl hx

/-- What a row's running maximum, sum and weighted sum hold after its first `n` keys, of scores `s` and values `v`:
    their start values, or the sums of the weights against the maximum held. -/
def Inv (s v : ℕ → EReal) (n : ℕ) (m l a : EReal) : Prop :=
  (n = 0 ∧ m = ⊥ ∧ l = 0 ∧ a = 0)
  ∨ ∃ M : ℝ, m = (M : EReal) ∧ l = ∑ j ∈ Finset.range n, Ideal.exp2 (s j - (M : EReal))
      ∧ a = ∑ j ∈ Finset.range n, Ideal.exp2 (s j - (M : EReal)) * v j

/-- One block of `N` keys more: the held sums are scaled to the new maximum and the block's are added. -/
theorem Inv.step {s v : ℕ → EReal} {n : ℕ} {m l a : EReal} (h : Inv s v n m l a) (hs : ∀ j, s j ≠ ⊤) (N : ℕ)
    (S W : Fin N → EReal) (hS : ∀ j : Fin N, S j = s (n + j)) (hW : ∀ j : Fin N, W j = v (n + j))
    (m' : EReal) (hb : m' ≠ ⊥) (ht : m' ≠ ⊤) :
    Inv s v (n + N) m' (Ideal.exp2 (m - m') * l + ∑ j : Fin N, Ideal.exp2 (S j - m'))
      (Ideal.exp2 (m - m') * a + ∑ j : Fin N, Ideal.exp2 (S j - m') * W j) := by
  lift m' to ℝ using ⟨ht, hb⟩
  refine Or.inr ⟨m', rfl, ?_, ?_⟩
  · rw [Finset.sum_range_add, Finset.sum_range (fun x => Ideal.exp2 (s (n + x) - (m' : EReal)))]
    congr 1
    · rcases h with ⟨rfl, rfl, rfl, rfl⟩ | ⟨M, rfl, rfl, rfl⟩
      · simp
      · obtain ⟨c, hc, e⟩ := exp2_real (M : EReal) (EReal.coe_ne_top M) m'
        have hh := fun j => exp2_shift (s j) (hs j) M m'
        rw [e] at hh ⊢
        rw [coe_mul_sum c hc]
        exact Finset.sum_congr rfl fun j _ => hh j
    · exact Finset.sum_congr rfl fun j _ => by rw [hS j]
  · rw [Finset.sum_range_add, Finset.sum_range (fun x => Ideal.exp2 (s (n + x) - (m' : EReal)) * v (n + x))]
    congr 1
    · rcases h with ⟨rfl, rfl, rfl, rfl⟩ | ⟨M, rfl, rfl, rfl⟩
      · simp
      · obtain ⟨c, hc, e⟩ := exp2_real (M : EReal) (EReal.coe_ne_top M) m'
        have hh := fun j => exp2_shift (s j) (hs j) M m'
        rw [e] at hh ⊢
        rw [coe_mul_sum c hc]
        exact Finset.sum_congr rfl fun j _ => by rw [← mul_assoc, hh j]
    · exact Finset.sum_congr rfl fun j _ => by rw [hS j, hW j]

/-- A base two weight of a score is the natural weight of the score times `log 2`, by a positive factor that does not
    depend on the key. -/
theorem weight (C M T : ℝ) : ∃ K : ℝ, 0 < K ∧ ∀ s t : EReal,
    ((s = ⊥ ∧ t = ⊥) ∨ ∃ x : ℝ, t = (x : EReal) ∧ s = (((x + C) / Real.log 2 : ℝ) : EReal)) →
    Ideal.exp2 (s - (M : EReal)) = (K : EReal) * Ideal.exp (t - (T : EReal)) := by
  refine ⟨Real.exp (T + C - M * Real.log 2), Real.exp_pos _, fun s t h => ?_⟩
  have h2 : Real.log 2 ≠ 0 := (Real.log_pos (by norm_num)).ne'
  rcases h with ⟨rfl, rfl⟩ | ⟨x, rfl, rfl⟩
  · simp only [EReal.bot_sub, Ideal.exp2_bot, Ideal.exp_bot, mul_zero]
  · simp only [← EReal.coe_sub, Ideal.exp2_coe, Ideal.exp_coe, ← EReal.coe_mul]
    congr 1
    show (2 : ℝ) ^ ((x + C) / Real.log 2 - M) = _
    rw [Real.rpow_def_of_pos (by norm_num), ← Real.exp_add]
    congr 1
    field_simp
    ring

/-- The natural weight of a score below infinity is a nonnegative real, positive where the score is a real. -/
theorem exp_real (x : EReal) (hx : x ≠ ⊤) (T : ℝ) :
    ∃ p : ℝ, 0 ≤ p ∧ (x ≠ ⊥ → 0 < p) ∧ Ideal.exp (x - (T : EReal)) = (p : EReal) := by
  induction x using EReal.rec with
  | bot => exact ⟨0, le_refl _, fun h => absurd rfl h, by rw [EReal.bot_sub, Ideal.exp_bot]; rfl⟩
  | coe x => exact ⟨Real.exp (x - T), (Real.exp_pos _).le, fun _ => Real.exp_pos _, by rw [← EReal.coe_sub, Ideal.exp_coe]⟩
  | top => exact absurd rfl hx

/-- The two sums' quotient after the last key is the softmax of the scores times the values. -/
theorem Inv.out {s v t : ℕ → EReal} {n N : ℕ} {m l a : EReal} (h : Inv s v n m l a) (hn : 0 < n) (hN : n ≤ N) (C T : ℝ)
    (hl : ∀ j, (s j = ⊥ ∧ t j = ⊥) ∨ ∃ x : ℝ, t j = (x : EReal) ∧ s j = (((x + C) / Real.log 2 : ℝ) : EReal))
    (h0 : t 0 ≠ ⊥) (hlast : ∀ j, n ≤ j → t j = ⊥) :
    Ideal.div a l = ∑ j : Fin N, v j * Ideal.div (Ideal.exp (t j - (T : EReal))) (∑ i : Fin N, Ideal.exp (t i - (T : EReal))) := by
  rcases h with ⟨rfl, _⟩ | ⟨M, rfl, rfl, rfl⟩
  · exact absurd hn (lt_irrefl 0)
  have htop : ∀ j, t j ≠ ⊤ := fun j => by
    rcases hl j with ⟨_, e⟩ | ⟨x, e, _⟩
    · rw [e]; exact bot_ne_top
    · rw [e]; exact EReal.coe_ne_top x
  obtain ⟨K, hK, hw⟩ := weight C M T
  choose p hp hpos he using fun j => exp_real (t j) (htop j) T
  have hp0 : ∀ j, n ≤ j → p j = 0 := fun j hj => by
    have := he j
    rw [hlast j hj, EReal.bot_sub, Ideal.exp_bot] at this
    exact_mod_cast this.symm
  have hext : ∀ f : ℕ → EReal, (∀ j, n ≤ j → f j = 0) → ∑ j ∈ Finset.range n, f j = ∑ j : Fin N, f j := fun f hf => by
    rw [← Finset.sum_range f]
    refine Finset.sum_subset (Finset.range_mono hN) fun j _ hj => hf j ?_
    simpa using hj
  have hsum : (∑ i : Fin N, Ideal.exp (t i - (T : EReal))) = ((∑ i : Fin N, p i : ℝ) : EReal) := by
    rw [coe_sum]; exact Finset.sum_congr rfl fun i _ => he i
  have hL : 0 < ∑ i : Fin N, p i :=
    Finset.sum_pos' (fun i _ => hp i) ⟨⟨0, hn.trans_le hN⟩, Finset.mem_univ _, hpos 0 h0⟩
  rw [hsum]
  have hw' : ∀ j, Ideal.exp2 (s j - (M : EReal)) = ((K * p j : ℝ) : EReal) := fun j => by
    rw [hw (s j) (t j) (hl j), he j, EReal.coe_mul]
  simp only [hw', he]
  rw [hext (fun j => ((K * p j : ℝ) : EReal)) (fun j hj => by rw [hp0 j hj, mul_zero]; rfl),
    hext (fun j => ((K * p j : ℝ) : EReal) * v j) (fun j hj => by rw [hp0 j hj, mul_zero, EReal.coe_zero, zero_mul]),
    ← coe_sum, ← Finset.mul_sum, Ideal.div_coe (mul_pos hK hL).ne', mul_comm,
    coe_mul_sum _ (by positivity)]
  refine Finset.sum_congr rfl fun j _ => ?_
  rw [Ideal.div_coe hL.ne', ← mul_assoc, ← EReal.coe_mul, ← EReal.coe_mul, mul_comm]
  congr 2
  field_simp

end Cert.Softmax

end
-- ==== Proof.FoxBlock.lean ====
module

public import Idealize.ShloMosaic.Lib.WordCmp
public import proofs.«01_k».proof.Proof.Gen.KernelIdeal.Frame
public import proofs.«01_k».proof.Proof.Softmax
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Tie

open Cert.KernelIdeal Cert.KernelIdeal.Gen

/-- The f32 word of minus infinity. -/
theorem ninf : Ideal.ofBits .f32 0xFF800000#32 = (⊥ : EReal) := by
  simp [Ideal.ofBits, Ideal.ieee]

/-- A block's scores: query times key, minus the key's cumulative log-forget value measured from the tile's first row. -/
theorem pay7_apply (q : FVec Ideal S1x1024x128 .bf16) (c0 : FVec Ideal S1x1x1x128 .f32) (k : FVec Ideal S1x1024x128 .bf16)
    (ck : FVec Ideal S1x1x1x1024 .f32) (r j : Fin 1024) : k0_pay7 (F := Ideal) q c0 k ck (ix2 r j)
    = ∑ d, q (ix3 0 r d) * k (ix3 0 j d) - (ck (ix4 0 0 0 j) - c0 (ix4 0 0 0 0)) := by
  pointwise [k0_pay7, k0_pay3, k0_pay2]

/-- The diagonal block's scores: those of the keys after the query are minus infinity. -/
theorem pay19_apply (q : FVec Ideal S1x1024x128 .bf16) (c0 : FVec Ideal S1x1x1x128 .f32) (k : FVec Ideal S1x1024x128 .bf16)
    (ck : FVec Ideal S1x1x1x1024 .f32) (r j : Fin 1024) : k0_pay19 (F := Ideal) q c0 k ck (ix2 r j)
    = if j ≤ r then ∑ d, q (ix3 0 r d) * k (ix3 0 j d) - (ck (ix4 0 0 0 j) - c0 (ix4 0 0 0 0)) else ⊥ := by
  pointwise [k0_pay19, k0_pay3, k0_pay2]
  rw [ninf]
  have hr := r.isLt
  have hj := j.isLt
  have e : IntOp.cmpi CmpIPredicate.sle (BitVec.ofNat 32 ↑j) (BitVec.ofNat 32 ↑r) = if j ≤ r then 1#1 else 0#1 := by
    rw [Idealize.ShloMosaic.WordCmp.cmpi_sle_ofNat (by omega) (by omega)]
    by_cases h : j ≤ r
    · rw [if_pos h, decide_eq_true (Fin.le_def.1 h)]; rfl
    · rw [if_neg h, decide_eq_false (fun h' => h (Fin.le_def.2 h'))]; rfl
  rw [e]
  split <;> rfl

/-- The larger of the held maximum and a block's row maximum, where no score is infinite and one of the row's is a real. -/
theorem max_real (S : FVec Ideal S1024x1024 .f32) (hS : ∀ i, S i ≠ ⊤) (r x : Fin 1024) (hx : S (ix2 r x) ≠ ⊥) :
    multiReduction .maximumf [1] S1024 S 0xFF800000#32 reduces_S1024x1024_S1024 (.inl rfl) rfl (ix1 r) ≠ ⊤
    ∧ multiReduction .maximumf [1] S1024 S 0xFF800000#32 reduces_S1024x1024_S1024 (.inl rfl) rfl (ix1 r) ≠ ⊥ := by
  have e := multiReduction_maximumf_eq_fold (F := Ideal) S 0xFF800000#32 reduces_S1024x1024_S1024 (.inl rfl) rfl (ix1 r)
  constructor
  · refine ne_of_eq_of_ne e (ne_of_lt ?_)
    refine (Finset.fold_max_lt _).2 ⟨?_, fun i _ => lt_top_iff_ne_top.2 (hS i)⟩
    exact ninf.trans_lt bot_lt_top
  · refine ne_of_eq_of_ne e (ne_of_gt ?_)
    refine (Finset.lt_fold_max _).2 (Or.inr ⟨ix2 r x, ?_, bot_lt_iff_ne_bot.2 hx⟩)
    rw [Finset.mem_filter]
    refine ⟨Finset.mem_univ _, ?_⟩
    funext a
    fin_cases a
    rfl

/-- The new maximum of a row. -/
theorem pay8_apply (q : FVec Ideal S1x1024x128 .bf16) (c0 : FVec Ideal S1x1x1x128 .f32) (M : FVec Ideal S1024x1 .f32)
    (k : FVec Ideal S1x1024x128 .bf16) (ck : FVec Ideal S1x1x1x1024 .f32) (r : Fin 1024) :
    k0_pay8 (F := Ideal) q c0 M k ck (ix2 r 0) = max (M (ix2 r 0))
      (multiReduction .maximumf [1] S1024 (k0_pay7 (F := Ideal) q c0 k ck) 0xFF800000#32 reduces_S1024x1024_S1024 (.inl rfl) rfl (ix1 r)) := by
  unfold k0_pay8
  generalize multiReduction .maximumf [1] S1024 (k0_pay7 (F := Ideal) q c0 k ck) 0xFF800000#32 reduces_S1024x1024_S1024 (.inl rfl) rfl = R
  pointwise

/-- The new sum of a row's weights. -/
theorem pay11_apply (q : FVec Ideal S1x1024x128 .bf16) (c0 : FVec Ideal S1x1x1x128 .f32) (M L : FVec Ideal S1024x1 .f32)
    (k : FVec Ideal S1x1024x128 .bf16) (ck : FVec Ideal S1x1x1x1024 .f32) (r : Fin 1024) :
    k0_pay11 (F := Ideal) q c0 M L k ck (ix2 r 0)
    = Ideal.exp2 (M (ix2 r 0) - k0_pay8 (F := Ideal) q c0 M k ck (ix2 r 0)) * L (ix2 r 0)
      + ∑ j, Ideal.exp2 (k0_pay7 (F := Ideal) q c0 k ck (ix2 r j) - k0_pay8 (F := Ideal) q c0 M k ck (ix2 r 0)) := by
  unfold k0_pay11 k0_pay9 k0_pay10
  generalize k0_pay8 (F := Ideal) q c0 M k ck = M'
  generalize k0_pay7 (F := Ideal) q c0 k ck = S
  pointwise
  rfl

/-- The new weighted sum of a row's values. -/
theorem pay12_apply (q : FVec Ideal S1x1024x128 .bf16) (c0 : FVec Ideal S1x1x1x128 .f32) (M : FVec Ideal S1024x1 .f32)
    (A : FVec Ideal S1024x128 .f32) (k : FVec Ideal S1x1024x128 .bf16) (ck : FVec Ideal S1x1x1x1024 .f32)
    (v : FVec Ideal S1x1024x128 .bf16) (r : Fin 1024) (d : Fin 128) : k0_pay12 (F := Ideal) q c0 M A k ck v (ix2 r d)
    = Ideal.exp2 (M (ix2 r 0) - k0_pay8 (F := Ideal) q c0 M k ck (ix2 r 0)) * A (ix2 r d)
      + ∑ j, Ideal.exp2 (k0_pay7 (F := Ideal) q c0 k ck (ix2 r j) - k0_pay8 (F := Ideal) q c0 M k ck (ix2 r 0)) * v (ix3 0 j d) := by
  unfold k0_pay12 k0_pay9 k0_pay10
  generalize k0_pay8 (F := Ideal) q c0 M k ck = M'
  generalize k0_pay7 (F := Ideal) q c0 k ck = S
  pointwise
  rfl

/-- What is stored: the weighted sum over the sum of the weights, after the diagonal block. -/
theorem pay1_apply (M L : FVec Ideal S1024x1 .f32) (A : FVec Ideal S1024x128 .f32) (S : FVec Ideal S1024x1024 .f32)
    (mx : FVec Ideal S1024 .f32) (v : FVec Ideal S1x1024x128 .bf16) (r : Fin 1024) (d : Fin 128) :
    k0_pay1 (F := Ideal) M L A S mx v (ix3 0 r d) = Ideal.div
      (Ideal.exp2 (M (ix2 r 0) - max (M (ix2 r 0)) (mx (ix1 r))) * A (ix2 r d)
        + ∑ j, Ideal.exp2 (S (ix2 r j) - max (M (ix2 r 0)) (mx (ix1 r))) * v (ix3 0 j d))
      (Ideal.exp2 (M (ix2 r 0) - max (M (ix2 r 0)) (mx (ix1 r))) * L (ix2 r 0)
        + ∑ j, Ideal.exp2 (S (ix2 r j) - max (M (ix2 r 0)) (mx (ix1 r)))) := by
  pointwise [k0_pay1]
  rfl

/-- The running sums' start values. -/
theorem pay4_apply (i : S1024x1.Idx) : k0_pay4 (F := Ideal) i = ⊥ := ninf
theorem pay5_apply (i : S1024x1.Idx) : k0_pay5 (F := Ideal) i = 0 := by
  pointwise [k0_pay5]
theorem pay6_apply (i : S1024x128.Idx) : k0_pay6 (F := Ideal) i = 0 := by
  pointwise [k0_pay6]

end Cert.KernelIdeal.Tie

end
-- ==== Proof.FoxLoop.lean ====
module

public import proofs.«01_k».proof.Proof.FoxBlock
public import Idealize.ShloMosaic.Lib.LoopRemainder
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.KernelIdeal.Tie

open Cert.KernelIdeal Cert.KernelIdeal.Gen

/-- A grid point's query tile. -/
abbrev tile (t : Fin cfg0.N) : Fin 4 := ⟨t.val % 4, by omega⟩

/-- The places of the loads and the loops' lengths. -/
theorem offs : ∀ t : Fin cfg0.N, k0_off1 (grid0.coords t) = ![0, 0, 0, 1024 * (t.val % 4)]
    ∧ k0_off6 (grid0.coords t) = ![0, 1024 * (t.val % 4), 0] ∧ k0_off7 (grid0.coords t) = ![0, 0, 0, 1024 * (t.val % 4)]
    ∧ (k0_t1_loop (grid0.coords t)).trips = t.val % 4 ∧ (k0_t2_loop (grid0.coords t)).trips = 0 :=
  (by decide +kernel : ∀ t : Fin grid0.N, _)

/-- The places of the loads of a trip. -/
theorem offs_trip : ∀ t : Fin cfg0.N, ∀ k : Fin (k0_t1_loop (grid0.coords t)).trips,
    k0_off2 (grid0.coords t) k = ![0, 1024 * k.val, 0] ∧ k0_off3 (grid0.coords t) k = ![0, 0, 0, 1024 * k.val] :=
  (by decide +kernel : ∀ t : Fin grid0.N, ∀ k : Fin (k0_t1_loop (grid0.coords t)).trips, _)

/-- A score before the mask: query times key, minus the key's cumulative log-forget value measured from the tile's first row. -/
def raw (x0 : FVec Ideal S1x1024x128 .bf16) (x1 : FVec Ideal S1x4096x128 .bf16) (x3 : FVec Ideal S1x1x1x4096 .f32) (i : Fin 4)
    (r : Fin 1024) (j : Fin 4096) : EReal :=
  ∑ d, x0 (ix3 0 r d) * x1 (ix3 0 j d) - (x3 (ix4 0 0 0 j) - x3 (ix4 0 0 0 ⟨1024 * i.val, by omega⟩))

/-- A query's scores: minus infinity where the key comes after the query. -/
def score (x0 : FVec Ideal S1x1024x128 .bf16) (x1 : FVec Ideal S1x4096x128 .bf16) (x3 : FVec Ideal S1x1x1x4096 .f32) (i : Fin 4)
    (r : Fin 1024) (j : ℕ) : EReal :=
  if h : j < 4096 ∧ j ≤ 1024 * i.val + r.val then raw x0 x1 x3 i r ⟨j, h.1⟩ else ⊥

/-- A column of the values. -/
def val (x2 : FVec Ideal S1x4096x128 .bf16) (d : Fin 128) (j : ℕ) : EReal := if h : j < 4096 then x2 (ix3 0 ⟨j, h⟩ d) else 0

/-- A load of 1024 rows of keys or values reads them at the load's first row. -/
theorem ld_rows (X : FVec Ideal S1x4096x128 .bf16) (off : Fin 3 → ℕ) (inb) (n : ℕ) (ho : off = ![0, n, 0]) (j : Fin 1024) (d : Fin 128)
    (hn : n + j.val < 4096) : View.ld (Val := Elt Ideal) (e' := .bf16) X (Rect.unit (s := S1x4096x128) off S1x1024x128.size inb) (ix3 0 j d) = X (ix3 0 ⟨n + j.val, hn⟩ d) := by
  subst ho
  refine View.ld_unit_apply_of (Val := Elt Ideal) (e := .bf16) X _ _ inb _ _ fun a => ?_
  fin_cases a
  · rfl
  · rfl
  · show d.val = 0 + d.val
    omega

/-- A load of 1024 cumulative log-forget values reads them at the load's first place. -/
theorem ld_cum (X : FVec Ideal S1x1x1x4096 .f32) (off : Fin 4 → ℕ) (inb) (n : ℕ) (ho : off = ![0, 0, 0, n]) (j : Fin 1024)
    (hn : n + j.val < 4096) : View.ld (Val := Elt Ideal) (e' := .f32) X (Rect.unit (s := S1x1x1x4096) off S1x1x1x1024.size inb) (ix4 0 0 0 j) = X (ix4 0 0 0 ⟨n + j.val, hn⟩) := by
  subst ho
  refine View.ld_unit_apply_of (Val := Elt Ideal) (e := .f32) X _ _ inb _ _ fun a => ?_
  fin_cases a <;> rfl

/-- The load of the tile's first cumulative log-forget value. -/
theorem ld_first (X : FVec Ideal S1x1x1x4096 .f32) (off : Fin 4 → ℕ) (inb) (n : ℕ) (ho : off = ![0, 0, 0, n]) (hn : n < 4096) :
    View.ld (Val := Elt Ideal) (e' := .f32) X (Rect.unit (s := S1x1x1x4096) off S1x1x1x128.size inb) (ix4 0 0 0 0) = X (ix4 0 0 0 ⟨n, hn⟩) := by
  subst ho
  refine View.ld_unit_apply_of (Val := Elt Ideal) (e := .f32) X _ _ inb _ _ fun a => ?_
  fin_cases a <;> rfl

/-- What one trip of the loop over the tiles before the diagonal makes of the running values. -/
theorem trip_eq (𝒱 : Variants) (c : Dev nD) (bd : Option 𝒱.V) (i : grid0.Coords) (a3 h3 a4) (h4 : Memref.IsWhole a4) (a5) (h5 : Memref.IsWhole a5)
    (a6) (h6 : Memref.IsWhole a6) (a7 h7 q c0 x1 x2 x3) (k) (acc) :
    tripR_k0_t1 (F := Ideal) 𝒱 c bd i a3 h3 a4 h4 a5 h5 a6 h6 a7 h7 q c0 (h4.unread x1) (h5.unread x2) (h6.unread x3) k acc
    = (k0_pay8 q c0 acc.1 (View.ld x1 (Rect.unit (s := S1x4096x128) (k0_off2 i k) S1x1024x128.size (k0_off2_inb i k)))
        (View.ld x3 (Rect.unit (s := S1x1x1x4096) (k0_off3 i k) S1x1x1x1024.size (k0_off3_inb i k))),
      k0_pay11 q c0 acc.1 acc.2.1 (View.ld x1 (Rect.unit (s := S1x4096x128) (k0_off2 i k) S1x1024x128.size (k0_off2_inb i k)))
        (View.ld x3 (Rect.unit (s := S1x1x1x4096) (k0_off3 i k) S1x1x1x1024.size (k0_off3_inb i k))),
      k0_pay12 q c0 acc.1 acc.2.2 (View.ld x1 (Rect.unit (s := S1x4096x128) (k0_off2 i k) S1x1024x128.size (k0_off2_inb i k)))
        (View.ld x3 (Rect.unit (s := S1x1x1x4096) (k0_off3 i k) S1x1x1x1024.size (k0_off3_inb i k)))
        (View.ld x2 (Rect.unit (s := S1x4096x128) (k0_off2 i k) S1x1024x128.size (k0_off2_inb i k)))) := by
  have e1 : View.readAt (Elt Ideal) a4.view (Rect.unit (s := S1x4096x128) (k0_off2 i k) S1x1024x128.size (k0_off2_inb i k)).toLoadRect (h4.unread x1)
      = View.ld x1 (Rect.unit (s := S1x4096x128) (k0_off2 i k) S1x1024x128.size (k0_off2_inb i k)) := funext fun x => h4.readAt_unread x1 _ x
  have e2 : View.readAt (Elt Ideal) a5.view (Rect.unit (s := S1x4096x128) (k0_off2 i k) S1x1024x128.size (k0_off2_inb i k)).toLoadRect (h5.unread x2)
      = View.ld x2 (Rect.unit (s := S1x4096x128) (k0_off2 i k) S1x1024x128.size (k0_off2_inb i k)) := funext fun x => h5.readAt_unread x2 _ x
  have e3 : View.readAt (Elt Ideal) a6.view (Rect.unit (s := S1x1x1x4096) (k0_off3 i k) S1x1x1x1024.size (k0_off3_inb i k)).toLoadRect (h6.unread x3)
      = View.ld x3 (Rect.unit (s := S1x1x1x4096) (k0_off3 i k) S1x1x1x1024.size (k0_off3_inb i k)) := funext fun x => h6.readAt_unread x3 _ x
  rw [← e1, ← e2, ← e3]
  unfold tripR_k0_t1 trip_k0_t1
  rfl

/-- A score is never plus infinity. -/
theorem score_ne_top (x0 : FVec Ideal S1x1024x128 .bf16) (x1 : FVec Ideal S1x4096x128 .bf16) (x3 : FVec Ideal S1x1x1x4096 .f32) (i : Fin 4)
    (hr : ∀ r j, raw x0 x1 x3 i r j ≠ ⊤ ∧ raw x0 x1 x3 i r j ≠ ⊥) (r : Fin 1024) (j : ℕ) : score x0 x1 x3 i r j ≠ ⊤ := by
  unfold score
  split
  · exact (hr _ _).1
  · exact bot_ne_top

/-- After `k` blocks a row's running values are those of its first `1024 k` keys. -/
theorem loop_inv (𝒱 : Variants) (c : Dev nD) (bd : Option 𝒱.V) (t : Fin cfg0.N) (a3 h3 a4) (h4 : Memref.IsWhole a4) (a5) (h5 : Memref.IsWhole a5)
    (a6) (h6 : Memref.IsWhole a6) (a7 h7) (x0 : FVec Ideal S1x1024x128 .bf16) (x1 : FVec Ideal S1x4096x128 .bf16) (x2 : FVec Ideal S1x4096x128 .bf16)
    (x3 : FVec Ideal S1x1x1x4096 .f32) (hr : ∀ r j, raw x0 x1 x3 (tile t) r j ≠ ⊤ ∧ raw x0 x1 x3 (tile t) r j ≠ ⊥) (r : Fin 1024) (d : Fin 128)
    (inb) (k : ℕ) : k ≤ t.val % 4 → ∀ S, S = st_k0_t1 (F := Ideal) 𝒱 c bd (grid0.coords t) a3 h3 a4 h4 a5 h5 a6 h6 a7 h7 x0
      (View.ld x3 (Rect.unit (s := S1x1x1x4096) (k0_off1 (grid0.coords t)) S1x1x1x128.size inb)) (h4.unread x1) (h5.unread x2) (h6.unread x3)
      (k0_pay4, k0_pay5, k0_pay6) k →
    Softmax.Inv (score x0 x1 x3 (tile t) r) (val x2 d) (1024 * k) (S.1 (ix2 r 0)) (S.2.1 (ix2 r 0)) (S.2.2 (ix2 r d)) := by
  induction k with
  | zero =>
    rintro - S rfl
    rw [st_k0_t1_zero]
    exact Or.inl ⟨rfl, pay4_apply (ix2 r 0), pay5_apply (ix2 r 0), pay6_apply (ix2 r d)⟩
  | succ k ih =>
    rintro hk S rfl
    have hk' : k < (k0_t1_loop (grid0.coords t)).trips := by rw [(offs t).2.2.2.1]; omega
    have IH := ih (by omega) _ rfl
    have es := st_k0_t1_succ (F := Ideal) 𝒱 c bd (grid0.coords t) a3 h3 a4 h4 a5 h5 a6 h6 a7 h7 x0
      (View.ld x3 (Rect.unit (s := S1x1x1x4096) (k0_off1 (grid0.coords t)) S1x1x1x128.size inb)) (h4.unread x1) (h5.unread x2) (h6.unread x3)
      (k0_pay4, k0_pay5, k0_pay6) ⟨k, hk'⟩
    rw [trip_eq] at es
    dsimp only at es
    rw [es]
    generalize st_k0_t1 (F := Ideal) 𝒱 c bd (grid0.coords t) a3 h3 a4 h4 a5 h5 a6 h6 a7 h7 x0
      (View.ld x3 (Rect.unit (s := S1x1x1x4096) (k0_off1 (grid0.coords t)) S1x1x1x128.size inb)) (h4.unread x1) (h5.unread x2) (h6.unread x3)
      (k0_pay4, k0_pay5, k0_pay6) k = st at IH ⊢
    obtain ⟨o2, o3⟩ := offs_trip t ⟨k, hk'⟩
    have o1 := (offs t).1
    have hS : ∀ r' j : Fin 1024, k0_pay7 (F := Ideal) x0 (View.ld x3 (Rect.unit (s := S1x1x1x4096) (k0_off1 (grid0.coords t)) S1x1x1x128.size inb))
        (View.ld x1 (Rect.unit (s := S1x4096x128) (k0_off2 (grid0.coords t) ⟨k, hk'⟩) S1x1024x128.size (k0_off2_inb (grid0.coords t) ⟨k, hk'⟩)))
        (View.ld x3 (Rect.unit (s := S1x1x1x4096) (k0_off3 (grid0.coords t) ⟨k, hk'⟩) S1x1x1x1024.size (k0_off3_inb (grid0.coords t) ⟨k, hk'⟩))) (ix2 r' j)
        = raw x0 x1 x3 (tile t) r' ⟨1024 * k + j.val, by omega⟩ := fun r' j => by
      rw [pay7_apply, ld_cum _ _ _ _ o3 j (by dsimp only; omega), ld_first _ _ _ _ o1 (by omega)]
      unfold raw
      congr 1
      exact Finset.sum_congr rfl fun d _ => by rw [ld_rows _ _ _ _ o2 j d (by dsimp only; omega)]
    dsimp only
    rw [pay11_apply, pay12_apply, Nat.mul_succ]
    have hm := max_real _ (fun i => by
      have e : i = ix2 (i 0) (i 1) := by funext a; fin_cases a <;> rfl
      rw [e]; exact ne_of_eq_of_ne (hS (i 0) (i 1)) (hr _ _).1) r 0 (ne_of_eq_of_ne (hS r 0) (hr _ _).2)
    refine IH.step (score_ne_top x0 x1 x3 _ hr r) 1024 _ _ (fun j => ?_) (fun j => ?_) _ ?_ ?_
    · rw [hS]
      unfold score
      rw [dif_pos]
      constructor
      · omega
      · show 1024 * k + j.val ≤ 1024 * (t.val % 4) + r.val
        omega
    · rw [ld_rows _ _ _ _ o2 j d (by dsimp only; omega)]
      unfold val
      rw [dif_pos]
    · rw [pay8_apply]
      exact ne_of_gt (lt_max_of_lt_right (bot_lt_iff_ne_bot.2 hm.2))
    · rw [pay8_apply]
      refine ne_of_lt (max_lt ?_ (lt_top_iff_ne_top.2 hm.1))
      rcases IH with ⟨_, e, _⟩ | ⟨M, e, _⟩
      · rw [e]; exact bot_lt_top
      · rw [e]; exact EReal.coe_lt_top M

end Cert.KernelIdeal.Tie

end
-- ==== Proof.FoxIn.lean ====
module

public import proofs.«01_k».proof.Proof.FoxLoop
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Tie

open Cert.KernelIdeal Cert.KernelIdeal.Gen

variable (m : (ℓ : Loc nD τ sig) → Buf (Elt Ideal) ℓ)

/-- The array of the first three windows: scaled queries, keys and values side by side. -/
abbrev QKV (Q K V : FVec Ideal S2x4096x8x128 .f32) : FVec Ideal S2x4096x3072 .bf16 :=
  truncf .bf16 (concatenate S2x4096x3072 2 [⟨S2x4096x1024, (Host.divf (mulf (shapeCast S2x4096x1024 Q shapeCasts_S2x4096x8x128_S2x4096x1024)
      (broadcastInDim S2x4096x1024 ![] bcast_S_S2x4096x1024 (constant S_ .f32 0x3DB504F3#32)))
      (broadcastInDim S2x4096x1024 ![] bcast_S_S2x4096x1024 (Host.log (constant S_ .f32 0x40000000#32))))⟩,
    ⟨S2x4096x1024, shapeCast S2x4096x1024 K shapeCasts_S2x4096x8x128_S2x4096x1024⟩,
    ⟨S2x4096x1024, shapeCast S2x4096x1024 V shapeCasts_S2x4096x8x128_S2x4096x1024⟩]
    concatenates_S2x4096x1024_S2x4096x1024_S2x4096x1024_S2x4096x3072_d2) bitsLt_bf16_f32

/-- The array of the fourth window: the cumulative log-forget values in units of `log 2`, heads before time. -/
abbrev CUM (C : FVec Ideal S2x4096x8 .f32) : FVec Ideal S2x8x1x4096 .f32 :=
  shapeCast S2x8x1x4096 (Host.divf (transpose S2x8x4096 [0, 2, 1] C transposes_S2x4096x8_S2x8x4096_0_2_1)
    (broadcastInDim S2x8x4096 ![] bcast_S_S2x8x4096 (Host.log (constant S_ .f32 0x40000000#32)))) shapeCasts_S2x8x4096_S2x8x1x4096

/-- The first three windows' array. -/
theorem V_qkv (c : Dev nD) : V m c main_v9 = QKV (m ((c : Thread nD τ).loc main_arg0)) (m ((c : Thread nD τ).loc main_arg1))
    (m ((c : Thread nD τ).loc main_arg2)) := by
  rfl

/-- The fourth window's array. -/
theorem V_cum (c : Dev nD) : V m c main_v13 = CUM (m ((c : Thread nD τ).loc main_arg3)) := by
  entry_read
  rfl

/-- The natural logarithm of the word of 2. -/
theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    norm_cast
    push_cast
    norm_num
  rw [e]
  show (if (2 : ℝ) ≤ 0 then ⊥ else ((Real.log 2 : ℝ) : EReal)) = _
  rw [if_neg (by norm_num)]

/-- The word of the score scale is a real. -/
theorem scale_real : ∃ κ : ℝ, Ideal.ofBits .f32 0x3DB504F3#32 = (κ : EReal) := ⟨_, rfl⟩

/-- The fourth window's array at an index. -/
theorem CUM_apply (C : FVec Ideal S2x4096x8 .f32) (b : Fin 2) (h : Fin 8) (j : Fin 4096) :
    CUM C (ix4 b h 0 j) = Ideal.div (C (ix3 b j h)) (Real.log 2 : ℝ) := by
  pointwise [CUM]
  rw [log_two]

/-- The queries' columns hold the scaled queries in units of `log 2`. -/
theorem QKV_q (Q K V : FVec Ideal S2x4096x8x128 .f32) (b : Fin 2) (r : Fin 4096) (h : Fin 8) (d : Fin 128) (hd : h.val * 128 + d.val < 3072) :
    QKV Q K V (ix3 b r ⟨h.val * 128 + d.val, hd⟩) = Ideal.div (Q (ix4 b r h d) * Ideal.ofBits .f32 0x3DB504F3#32) (Real.log 2 : ℝ) := by
  pointwise [QKV]
  rw [dif_pos (by omega), log_two]

/-- The keys' columns hold the keys. -/
theorem QKV_k (Q K V : FVec Ideal S2x4096x8x128 .f32) (b : Fin 2) (r : Fin 4096) (h : Fin 8) (d : Fin 128) (hd : 1024 + h.val * 128 + d.val < 3072) :
    QKV Q K V (ix3 b r ⟨1024 + h.val * 128 + d.val, hd⟩) = K (ix4 b r h d) := by
  pointwise [QKV]
  rw [dif_neg (by omega), dif_pos (by omega)]
  congr 2 <;> exact Fin.ext (by dsimp only; omega)

/-- The values' columns hold the values. -/
theorem QKV_v (Q K V : FVec Ideal S2x4096x8x128 .f32) (b : Fin 2) (r : Fin 4096) (h : Fin 8) (d : Fin 128) (hd : 2048 + h.val * 128 + d.val < 3072) :
    QKV Q K V (ix3 b r ⟨2048 + h.val * 128 + d.val, hd⟩) = V (ix4 b r h d) := by
  pointwise [QKV]
  rw [dif_neg (by omega), dif_neg (by omega)]
  congr 2 <;> exact Fin.ext (by dsimp only; omega)

/-- The blocks' places: the grid is 2 batches of 8 heads of 4 query tiles. -/
theorem idx : ∀ t : Fin cfg0.N, win0_0.index t = ![t.val / 32, t.val % 4, t.val / 4 % 8] ∧ win0_1.index t = ![t.val / 32, 0, 8 + t.val / 4 % 8]
    ∧ win0_2.index t = ![t.val / 32, 0, 16 + t.val / 4 % 8] ∧ win0_3.index t = ![t.val / 32, t.val / 4 % 8, 0, 0]
    ∧ win0_4.index t = ![t.val / 32, t.val % 4, t.val / 4 % 8] :=
  (by decide +kernel : ∀ t : Fin grid0.N, _)

/-- A grid point's batch, head and the sequence's row of a row of its tile. -/
abbrev bat (t : Fin cfg0.N) : Fin 2 := ⟨t.val / 32, by have := lt_of_lt_of_eq t.isLt N_0; omega⟩
abbrev hd (t : Fin cfg0.N) : Fin 8 := ⟨t.val / 4 % 8, by omega⟩
abbrev row (t : Fin cfg0.N) (r : Fin 1024) : Fin 4096 := ⟨1024 * (t.val % 4) + r.val, by omega⟩

/-- The arguments. -/
abbrev aQ (c : Dev nD) : FVec Ideal S2x4096x8x128 .f32 := m ((c : Thread nD τ).loc main_arg0)
abbrev aK (c : Dev nD) : FVec Ideal S2x4096x8x128 .f32 := m ((c : Thread nD τ).loc main_arg1)
abbrev aV (c : Dev nD) : FVec Ideal S2x4096x8x128 .f32 := m ((c : Thread nD τ).loc main_arg2)
abbrev aC (c : Dev nD) : FVec Ideal S2x4096x8 .f32 := m ((c : Thread nD τ).loc main_arg3)

/-- The block of queries. -/
theorem blk_q (c : Dev nD) (t : Fin cfg0.N) (r : Fin 1024) (d : Fin 128) : iblk m c 0 t (ix3 0 r d)
    = Ideal.div (aQ m c (ix4 (bat t) (row t r) (hd t) d) * Ideal.ofBits .f32 0x3DB504F3#32) (Real.log 2 : ℝ) := by
  rw [← QKV_q (aQ m c) (aK m c) (aV m c) _ _ _ _ (by dsimp only; omega)]
  blk_simp [iblk]
  rw [V_qkv]
  blk_ext [idx t]

/-- The block of keys. -/
theorem blk_k (c : Dev nD) (t : Fin cfg0.N) (j : Fin 4096) (d : Fin 128) : iblk m c 1 t (ix3 0 j d)
    = aK m c (ix4 (bat t) j (hd t) d) := by
  rw [← QKV_k (aQ m c) (aK m c) (aV m c) _ _ _ _ (by dsimp only; omega)]
  blk_simp [iblk]
  rw [V_qkv]
  blk_ext [idx t]

/-- The block of values. -/
theorem blk_v (c : Dev nD) (t : Fin cfg0.N) (j : Fin 4096) (d : Fin 128) : iblk m c 2 t (ix3 0 j d)
    = aV m c (ix4 (bat t) j (hd t) d) := by
  rw [← QKV_v (aQ m c) (aK m c) (aV m c) _ _ _ _ (by dsimp only; omega)]
  blk_simp [iblk]
  rw [V_qkv]
  blk_ext [idx t]

/-- The block of cumulative log-forget values. -/
theorem blk_c (c : Dev nD) (t : Fin cfg0.N) (j : Fin 4096) : iblk m c 3 t (ix4 0 0 0 j)
    = Ideal.div (aC m c (ix3 (bat t) j (hd t))) (Real.log 2 : ℝ) := by
  rw [← CUM_apply (aC m c)]
  blk_simp [iblk]
  rw [V_cum]
  blk_ext [idx t]

end Cert.KernelIdeal.Tie

end
-- ==== Proof.FoxScore.lean ====
module

public import proofs.«01_k».proof.Proof.Gen.ReferenceIdeal.Run
public import proofs.«01_k».proof.Proof.Softmax
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.ReferenceIdeal.Tie

open Cert.ReferenceIdeal Cert.ReferenceIdeal.Gen

/-- The reference's masked scores. -/
abbrev SC (Q K : FVec Ideal S2x4096x8x128 .f32) (C : FVec Ideal S2x4096x8 .f32) : FVec Ideal S2x8x4096x4096 .f32 :=
  select (broadcastInDim S2x8x4096x4096 ![0, 1, 2, 3] bcast_S1x1x4096x4096_S2x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (addf (mulf (Host.dotGeneral dot_S2x4096x8x128_S2x4096x8x128_S2x8x4096x4096_3_3_1_1_02_02 none Q K) (broadcastInDim S2x8x4096x4096 ![] bcast_S_S2x8x4096x4096 (constant S_ .f32 0x3DB504F3#32))) (subf (broadcastInDim S2x8x4096x4096 ![0, 1, 2, 3] bcast_S2x8x4096x1_S2x8x4096x4096_0_1_2_3 (broadcastInDim S2x8x4096x1 ![0, 1, 2] bcast_S2x8x4096_S2x8x4096x1_0_1_2 (transpose S2x8x4096 [0, 2, 1] C transposes_S2x4096x8_S2x8x4096_0_2_1))) (broadcastInDim S2x8x4096x4096 ![0, 1, 2, 3] bcast_S2x8x1x4096_S2x8x4096x4096_0_1_2_3 (broadcastInDim S2x8x1x4096 ![0, 1, 3] bcast_S2x8x4096_S2x8x1x4096_0_1_3 (transpose S2x8x4096 [0, 2, 1] C transposes_S2x4096x8_S2x8x4096_0_2_1))))) (broadcastInDim S2x8x4096x4096 ![] bcast_S_S2x8x4096x4096 (id (constant S_ .f32 0xFF800000#32)))

/-- The reference's row maxima of the scores. -/
abbrev MX (S : FVec Ideal S2x8x4096x4096 .f32) : FVec Ideal S2x8x4096 .f32 :=
  maximumf (broadcastInDim S2x8x4096 ![] bcast_S_S2x8x4096 (constant S_ .f32 0xFF800000#32)) (Host.reduce FloatOps.maximumf S (constant S_ .f32 0xFF800000#32) reducesTo_S2x8x4096x4096_S2x8x4096_d3 h_S_)

/-- The reference's exponentials of the scores less their row's maximum. -/
abbrev EX (S : FVec Ideal S2x8x4096x4096 .f32) : FVec Ideal S2x8x4096x4096 .f32 :=
  Host.exp (subf S (broadcastInDim S2x8x4096x4096 ![0, 1, 2, 3] bcast_S2x8x4096x1_S2x8x4096x4096_0_1_2_3 (broadcastInDim S2x8x4096x1 ![0, 1, 2] bcast_S2x8x4096_S2x8x4096x1_0_1_2 (MX S))))

/-- What the reference computes. -/
abbrev REF (Q K V : FVec Ideal S2x4096x8x128 .f32) (C : FVec Ideal S2x4096x8 .f32) : FVec Ideal S2x4096x1024 .bf16 :=
  truncf .bf16 (shapeCast _ (transpose S2x4096x8x128 [0, 3, 1, 2] (Host.dotGeneral dot_S2x4096x8x128_S2x8x4096x4096_S2x8x128x4096_1_3_3_2_02_01 none V (Host.divf (EX (SC Q K C)) (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduceAdd (EX (SC Q K C)) (constant S_ .f32 0x00000000#32) reducesTo_S2x8x4096x4096_S2x8x4096_d3 h_S_))))) transposes_S2x8x128x4096_S2x4096x8x128_0_3_1_2) shapeCasts_S2x4096x8x128_S2x4096x1024) bitsLt_bf16_f32

/-- A score: minus infinity where the key comes after the query. -/
def tsc (Q K : FVec Ideal S2x4096x8x128 .f32) (C : FVec Ideal S2x4096x8 .f32) (b : Fin 2) (h : Fin 8) (r : Fin 4096) (j : ℕ) : EReal :=
  if hj : j < 4096 ∧ j ≤ r.val then (∑ x, Q (ix4 b r h x) * K (ix4 b ⟨j, hj.1⟩ h x)) * Ideal.ofBits .f32 0x3DB504F3#32
    + (C (ix3 b r h) - C (ix3 b ⟨j, hj.1⟩ h)) else ⊥

/-- The f32 word of minus infinity. -/
theorem ninf : Ideal.ofBits .f32 0xFF800000#32 = (⊥ : EReal) := by
  simp [Ideal.ofBits, Ideal.ieee]

/-- The masked scores read at an index. -/
theorem SC_apply (Q K : FVec Ideal S2x4096x8x128 .f32) (C : FVec Ideal S2x4096x8 .f32) (b : Fin 2) (h : Fin 8) (r j : Fin 4096) : SC Q K C (ix4 b h r j) = tsc Q K C b h r j.val := by
  pointwise [SC]
  have hr := r.isLt
  have hj := j.isLt
  rw [WordCmp.cmpi_sle_ofNat (by omega) (by omega)]
  unfold tsc
  by_cases hl : j.val ≤ r.val
  · rw [dif_pos ⟨hj, hl⟩, decide_eq_true hl]; rfl
  · rw [dif_neg (fun h' => hl h'.2), decide_eq_false hl]; exact ninf

/-- A row's maximum, from any score array: a real where no score is plus infinity and one of the row's is a real. -/
theorem reduce_max_real {s t u : Shape} {axes : List (Fin s.rank)} (f : EReal → EReal → EReal) (hf : f = max) (S : s.Idx → EReal) (init : u.Idx → EReal) (hr : s.ReducesTo axes t) (hu : 0 < u.numel)
    (hi : init (Shape.Idx.first hu) = ⊥) (hS : ∀ i, S i ≠ ⊤) (j : t.Idx) (i : s.Idx) (hd : hr.drop i = j) (h0 : S i ≠ ⊥) :
    Host.reduce f S init hr hu j ≠ ⊤ ∧ Host.reduce f S init hr hu j ≠ ⊥ := by
  subst hf
  rw [Host.reduce_eq_fold]
  constructor
  · refine ne_of_lt ((Finset.fold_max_lt _).2 ⟨?_, fun i _ => lt_top_iff_ne_top.2 (hS i)⟩)
    rw [hi]; exact bot_lt_top
  · refine ne_of_gt ((Finset.lt_fold_max _).2 (Or.inr ⟨i, ?_, bot_lt_iff_ne_bot.2 h0⟩))
    rw [Finset.mem_filter]
    exact ⟨Finset.mem_univ _, hd⟩

/-- The larger of two arrays' elements. -/
theorem max_apply (A B : FVec Ideal S2x8x4096 .f32) (i : S2x8x4096.Idx) : maximumf A B i = max (A i) (B i) := rfl

/-- Minus infinity at every place. -/
theorem bot_apply (i : S2x8x4096.Idx) :
    broadcastInDim S2x8x4096 ![] bcast_S_S2x8x4096 (constant (F := Ideal) S_ .f32 0xFF800000#32) i = (⊥ : EReal) := ninf

/-- The reference's row maximum is the larger of minus infinity and the row's. -/
theorem MX_apply (S : FVec Ideal S2x8x4096x4096 .f32) (i : S2x8x4096.Idx) :
    MX S i = max (broadcastInDim S2x8x4096 ![] bcast_S_S2x8x4096 (constant (F := Ideal) S_ .f32 0xFF800000#32) i)
    (Host.reduce (FloatOps.maximumf (F := Ideal) (φ := .f32)) S (constant (F := Ideal) S_ .f32 0xFF800000#32)
      reducesTo_S2x8x4096x4096_S2x8x4096_d3 h_S_ i) := by
  unfold MX
  rw [max_apply]

/-- A row's maximum is a real where no score is plus infinity and the first is a real. -/
theorem MX_real (S : FVec Ideal S2x8x4096x4096 .f32) (hS : ∀ i, S i ≠ ⊤) (b : Fin 2) (h : Fin 8) (r : Fin 4096)
    (h0 : S (ix4 b h r 0) ≠ ⊥) : MX S (ix3 b h r) ≠ ⊤ ∧ MX S (ix3 b h r) ≠ ⊥ := by
  have hd : reducesTo_S2x8x4096x4096_S2x8x4096_d3.drop (ix4 b h r 0) = ix3 b h r := by
    funext a
    fin_cases a <;> rfl
  rw [MX_apply, bot_apply, bot_sup_eq]
  exact reduce_max_real (FloatOps.maximumf (F := Ideal) (φ := .f32)) rfl S (constant (F := Ideal) S_ .f32 0xFF800000#32)
    reducesTo_S2x8x4096x4096_S2x8x4096_d3 h_S_ ninf hS (ix3 b h r) (ix4 b h r 0) hd h0

end Cert.ReferenceIdeal.Tie

end
-- ==== Proof.FoxRef.lean ====
module

public import proofs.«01_k».proof.Proof.Gen.ReferenceIdeal.Run
public import proofs.«01_k».proof.Proof.FoxScore
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.ReferenceIdeal.Tie

open Cert.ReferenceIdeal Cert.ReferenceIdeal.Gen

/-- The reference read at an index. -/
theorem ref_apply (Q K V : FVec Ideal S2x4096x8x128 .f32) (C : FVec Ideal S2x4096x8 .f32) (b : Fin 2) (r : Fin 4096) (h : Fin 8) (d : Fin 128)
    (hd : h.val * 128 + d.val < 1024) : REF Q K V C (ix3 b r ⟨h.val * 128 + d.val, hd⟩)
    = ∑ x : Fin 4096, V (ix4 b x h d) * Ideal.div (Ideal.exp (tsc Q K C b h r x.val - MX (SC Q K C) (ix3 b h r)))
        (∑ y : Fin 4096, Ideal.exp (tsc Q K C b h r y.val - MX (SC Q K C) (ix3 b h r))) := by
  simp only [← SC_apply]
  unfold REF
  generalize SC Q K C = S
  unfold EX
  generalize MX S = T
  pointwise

end Cert.ReferenceIdeal.Tie

end
-- ==== Proof.Fox.lean ====
module

public import proofs.«01_k».proof.Proof.FoxIn
public import proofs.«01_k».proof.Proof.FoxRef

@[expose] public section

set_option maxRecDepth 16384

noncomputable section

open Idealize.ShloMosaic Idealize.ShloMosaic.TcCoe Idealize.SL.Sem
open Idealize.ShloMosaic.Pipeline (Dat)

namespace Cert.KernelIdeal.Tie

open Cert.KernelIdeal Cert.KernelIdeal.Gen
open Cert.ReferenceIdeal.Tie (tsc SC MX REF)

variable (m : (ℓ : Loc nD τ sig) → Buf (Elt Ideal) ℓ)

/-- The precondition: queries, keys and cumulative log-forget values are reals. -/
def Fin3 (c : Dev nD) : Prop := ∃ (q k : S2x4096x8x128.Idx → ℝ) (f : S2x4096x8.Idx → ℝ),
  (∀ i, aQ m c i = (q i : EReal)) ∧ (∀ i, aK m c i = (k i : EReal)) ∧ ∀ i, aC m c i = (f i : EReal)

/-- The diagonal block ends a row's running values, and what is stored is their quotient. -/
theorem diag (t : Fin cfg0.N) (x0 : FVec Ideal S1x1024x128 .bf16) (x1 x2 : FVec Ideal S1x4096x128 .bf16)
    (x3 : FVec Ideal S1x1x1x4096 .f32) (hr : ∀ r j, raw x0 x1 x3 (tile t) r j ≠ ⊤ ∧ raw x0 x1 x3 (tile t) r j ≠ ⊥) (r : Fin 1024) (d : Fin 128)
    (M L : FVec Ideal S1024x1 .f32) (A : FVec Ideal S1024x128 .f32) (i1 i6 i7)
    (h : Softmax.Inv (score x0 x1 x3 (tile t) r) (val x2 d) (1024 * (t.val % 4)) (M (ix2 r 0)) (L (ix2 r 0)) (A (ix2 r d))) :
    ∃ m' l a, Softmax.Inv (score x0 x1 x3 (tile t) r) (val x2 d) (1024 * (t.val % 4) + 1024) m' l a ∧
      k0_pay1 (F := Ideal) M L A
        (k0_pay19 (F := Ideal) x0 (View.ld x3 (Rect.unit (s := S1x1x1x4096) (k0_off1 (grid0.coords t)) S1x1x1x128.size i1))
          (View.ld x1 (Rect.unit (s := S1x4096x128) (k0_off6 (grid0.coords t)) S1x1024x128.size i6))
          (View.ld x3 (Rect.unit (s := S1x1x1x4096) (k0_off7 (grid0.coords t)) S1x1x1x1024.size i7)))
        (k0_pay20 (F := Ideal) x0 (View.ld x3 (Rect.unit (s := S1x1x1x4096) (k0_off1 (grid0.coords t)) S1x1x1x128.size i1))
          (View.ld x1 (Rect.unit (s := S1x4096x128) (k0_off6 (grid0.coords t)) S1x1024x128.size i6))
          (View.ld x3 (Rect.unit (s := S1x1x1x4096) (k0_off7 (grid0.coords t)) S1x1x1x1024.size i7)))
        (View.ld x2 (Rect.unit (s := S1x4096x128) (k0_off6 (grid0.coords t)) S1x1024x128.size i6)) (ix3 0 r d) = Ideal.div a l := by
  obtain ⟨o1, o6, o7, -, -⟩ := offs t
  have hS : ∀ r' j : Fin 1024, k0_pay19 (F := Ideal) x0 (View.ld x3 (Rect.unit (s := S1x1x1x4096) (k0_off1 (grid0.coords t)) S1x1x1x128.size i1))
        (View.ld x1 (Rect.unit (s := S1x4096x128) (k0_off6 (grid0.coords t)) S1x1024x128.size i6))
        (View.ld x3 (Rect.unit (s := S1x1x1x4096) (k0_off7 (grid0.coords t)) S1x1x1x1024.size i7)) (ix2 r' j)
        = score x0 x1 x3 (tile t) r' (1024 * (t.val % 4) + j.val) := fun r' j => by
    rw [pay19_apply, ld_cum _ _ _ _ o7 j (by omega), ld_first _ _ _ _ o1 (by omega)]
    unfold score
    by_cases hj : j ≤ r'
    · have hj' := Fin.le_def.1 hj
      rw [if_pos hj, dif_pos ⟨by omega, by show _ ≤ 1024 * (t.val % 4) + r'.val; omega⟩]
      unfold raw
      congr 1
      exact Finset.sum_congr rfl fun d _ => by rw [ld_rows _ _ _ _ o6 j d (by omega)]
    · have hj' : ¬ j.val ≤ r'.val := fun e => hj (Fin.le_def.2 e)
      rw [if_neg hj, dif_neg]
      rintro ⟨-, e⟩
      have e' : 1024 * (t.val % 4) + j.val ≤ 1024 * (t.val % 4) + r'.val := e
      omega
  have hx : ∀ j : Fin 1024, View.ld (Val := Elt Ideal) (e' := .bf16) x2 (Rect.unit (s := S1x4096x128) (k0_off6 (grid0.coords t)) S1x1024x128.size i6) (ix3 0 j d)
      = val x2 d (1024 * (t.val % 4) + j.val) := fun j => by
    rw [ld_rows _ _ _ _ o6 j d (by omega)]
    unfold val
    rw [dif_pos]
  unfold k0_pay20
  generalize k0_pay19 (F := Ideal) x0 (View.ld x3 (Rect.unit (s := S1x1x1x4096) (k0_off1 (grid0.coords t)) S1x1x1x128.size i1))
        (View.ld x1 (Rect.unit (s := S1x4096x128) (k0_off6 (grid0.coords t)) S1x1024x128.size i6))
        (View.ld x3 (Rect.unit (s := S1x1x1x4096) (k0_off7 (grid0.coords t)) S1x1x1x1024.size i7)) = S at hS ⊢
  have hm := max_real S (fun i => by
      have e : i = ix2 (i 0) (i 1) := by funext a; fin_cases a <;> rfl
      rw [e]; exact ne_of_eq_of_ne (hS (i 0) (i 1)) (score_ne_top x0 x1 x3 _ hr _ _)) r 0 (ne_of_eq_of_ne (hS r 0) (by
      unfold score
      rw [dif_pos ⟨by show _ + 0 < _; omega, by show _ + 0 ≤ 1024 * (t.val % 4) + r.val; omega⟩]
      exact (hr _ _).2))
  dsimp only
  generalize hR : multiReduction .maximumf [1] S1024 S 0xFF800000#32 reduces_S1024x1024_S1024 (.inl rfl) rfl = R at hm ⊢
  rw [pay1_apply]
  refine ⟨_, _, _, h.step (score_ne_top x0 x1 x3 _ hr r) 1024 (fun j => S (ix2 r j)) _ (fun j => hS r j) hx (max (M (ix2 r 0)) (R (ix1 r))) ?_ ?_, rfl⟩
  · exact ne_of_gt (lt_max_of_lt_right (bot_lt_iff_ne_bot.2 hm.2))
  · refine ne_of_lt (max_lt ?_ (lt_top_iff_ne_top.2 hm.1))
    rcases h with ⟨_, e, _⟩ | ⟨M, e, _⟩
    · rw [e]; exact bot_lt_top
    · rw [e]; exact EReal.coe_lt_top M

/-- A kernel score and the reference's: the same real but for a shift of the row and the factor `log 2`. -/
theorem link (c : Dev nD) (t : Fin cfg0.N) (h : Fin3 m c) (r : Fin 1024) : ∃ C : ℝ, ∀ j : Fin 4096, ∃ x : ℝ,
    (∑ e, aQ m c (ix4 (bat t) (row t r) (hd t) e) * aK m c (ix4 (bat t) j (hd t) e)) * Ideal.ofBits .f32 0x3DB504F3#32
      + (aC m c (ix3 (bat t) (row t r) (hd t)) - aC m c (ix3 (bat t) j (hd t))) = (x : EReal)
    ∧ raw (iblk m c 0 t) (iblk m c 1 t) (iblk m c 3 t) (tile t) r j = (((x + C) / Real.log 2 : ℝ) : EReal) := by
  obtain ⟨q, k, f, hq, hk, hf⟩ := h
  obtain ⟨κ, hκ⟩ := scale_real
  have h2 : Real.log 2 ≠ 0 := (Real.log_pos (by norm_num)).ne'
  refine ⟨f (ix3 (bat t) ⟨1024 * (t.val % 4), by omega⟩ (hd t)) - f (ix3 (bat t) (row t r) (hd t)), fun j =>
    ⟨(∑ e : Fin 128, q (ix4 (bat t) (row t r) (hd t) e) * k (ix4 (bat t) j (hd t) e)) * κ + (f (ix3 (bat t) (row t r) (hd t)) - f (ix3 (bat t) j (hd t))), ?_, ?_⟩⟩
  · simp only [hq, hk, hf, hκ, ← EReal.coe_mul, ← EReal.coe_sub, ← Softmax.coe_sum, ← EReal.coe_add]
  · unfold raw
    simp only [blk_q, blk_k, blk_c]
    simp only [hq, hk, hf, hκ, Ideal.div_coe h2, ← EReal.coe_mul, ← EReal.coe_sub, ← Softmax.coe_sum]
    congr 1
    rw [show ∑ e : Fin 128, q (ix4 (bat t) (row t r) (hd t) e) * κ * (1 / Real.log 2) * k (ix4 (bat t) j (hd t) e)
        = (∑ e : Fin 128, q (ix4 (bat t) (row t r) (hd t) e) * k (ix4 (bat t) j (hd t) e)) * κ * (1 / Real.log 2) by
      rw [Finset.sum_mul, Finset.sum_mul]
      exact Finset.sum_congr rfl fun e _ => by ring]
    ring

/-- A score of the reference is never plus infinity. -/
theorem tsc_ne_top (c : Dev nD) (h : Fin3 m c) (b : Fin 2) (g : Fin 8) (r : Fin 4096) (j : ℕ) :
    tsc (aQ m c) (aK m c) (aC m c) b g r j ≠ ⊤ := by
  obtain ⟨q, k, f, hq, hk, hf⟩ := h
  obtain ⟨κ, hκ⟩ := scale_real
  unfold tsc
  split
  · simp only [hq, hk, hf, hκ, ← EReal.coe_mul, ← EReal.coe_sub, ← Softmax.coe_sum, ← EReal.coe_add]
    exact EReal.coe_ne_top _
  · exact bot_ne_top

/-- What a row's running values give after the diagonal block is the reference's row. -/
theorem tie (c : Dev nD) (t : Fin cfg0.N) (h : Fin3 m c) (r : Fin 1024) (d : Fin 128) (m' l a : EReal)
    (hI : Softmax.Inv (score (iblk m c 0 t) (iblk m c 1 t) (iblk m c 3 t) (tile t) r) (val (iblk m c 2 t) d) (1024 * (t.val % 4) + 1024) m' l a) :
    Ideal.div a l = REF (aQ m c) (aK m c) (aV m c) (aC m c) (ix3 (bat t) (row t r) ⟨(hd t).val * 128 + d.val, by omega⟩) := by
  obtain ⟨C, hC⟩ := link m c t h r
  have hl : ∀ j : ℕ, (score (iblk m c 0 t) (iblk m c 1 t) (iblk m c 3 t) (tile t) r j = ⊥ ∧ tsc (aQ m c) (aK m c) (aC m c) (bat t) (hd t) (row t r) j = ⊥)
      ∨ ∃ x : ℝ, tsc (aQ m c) (aK m c) (aC m c) (bat t) (hd t) (row t r) j = (x : EReal)
        ∧ score (iblk m c 0 t) (iblk m c 1 t) (iblk m c 3 t) (tile t) r j = (((x + C) / Real.log 2 : ℝ) : EReal) := fun j => by
    unfold score tsc
    by_cases hj : j < 4096 ∧ j ≤ 1024 * (t.val % 4) + r.val
    · rw [dif_pos hj, dif_pos hj]
      exact Or.inr (hC ⟨j, hj.1⟩)
    · rw [dif_neg hj, dif_neg hj]
      exact Or.inl ⟨rfl, rfl⟩
  have h0 : tsc (aQ m c) (aK m c) (aC m c) (bat t) (hd t) (row t r) 0 ≠ ⊥ := by
    obtain ⟨x, e, _⟩ := hC 0
    unfold tsc
    rw [dif_pos ⟨by omega, Nat.zero_le _⟩]
    exact ne_of_eq_of_ne e (EReal.coe_ne_bot x)
  have ht : ∀ i, SC (aQ m c) (aK m c) (aC m c) i ≠ ⊤ := fun i => by
    obtain ⟨b, g, r', j, rfl⟩ : ∃ (b : Fin 2) (g : Fin 8) (r' j : Fin 4096), i = ix4 b g r' j :=
      ⟨i 0, i 1, i 2, i 3, by funext a; fin_cases a <;> rfl⟩
    rw [Cert.ReferenceIdeal.Tie.SC_apply]
    exact tsc_ne_top m c h _ _ _ _
  have hT := Cert.ReferenceIdeal.Tie.MX_real (SC (aQ m c) (aK m c) (aC m c)) ht (bat t) (hd t) (row t r)
    (by rw [Cert.ReferenceIdeal.Tie.SC_apply]; exact h0)
  rw [Cert.ReferenceIdeal.Tie.ref_apply]
  generalize MX (SC (aQ m c) (aK m c) (aC m c)) (ix3 (bat t) (hd t) (row t r)) = T at hT ⊢
  lift T to ℝ using hT
  rw [hI.out (N := 4096) (by omega) (by omega) C T hl h0 (fun j hj => by
    unfold tsc
    rw [dif_neg]
    rintro ⟨-, e⟩
    have e' : j ≤ 1024 * (t.val % 4) + r.val := e
    omega)]
  refine Finset.sum_congr rfl fun j _ => ?_
  congr 1
  unfold val
  rw [dif_pos j.isLt]
  exact blk_v m c t j d

/-- One block: what a grid point stores is the reference at the block's place. -/
theorem point (c : Dev nD) (h : Fin3 m c) (t : Fin cfg0.N) (n1 n2 : ℕ) (e1 : n1 = t.val % 4) (e2 : n2 = 0) (h0 h1 h2 h3 h4 i1 i6 i7) (y S1 S2)
    (hS1 : S1 = st_k0_t1 (F := Ideal) Variants.none c none (grid0.coords t) (ms0_0 t) h0 (ms0_1 t) h1 (ms0_2 t) h2 (ms0_3 t) h3 (ms0_4 t) h4 (iblk m c 0 t)
      (View.ld (iblk m c 3 t) (Rect.unit (s := S1x1x1x4096) (k0_off1 (grid0.coords t)) S1x1x1x128.size i1)) (h1.unread (iblk m c 1 t))
      (h2.unread (iblk m c 2 t)) (h3.unread (iblk m c 3 t)) (k0_pay4, k0_pay5, k0_pay6) n1)
    (hS2 : S2 = st_k0_t2 (F := Ideal) Variants.none c none (grid0.coords t) (ms0_0 t) h0 (ms0_1 t) h1 (ms0_2 t) h2 (ms0_3 t) h3 (ms0_4 t) h4 (iblk m c 0 t)
      (View.ld (iblk m c 3 t) (Rect.unit (s := S1x1x1x4096) (k0_off1 (grid0.coords t)) S1x1x1x128.size i1)) (h1.unread (iblk m c 1 t))
      (h2.unread (iblk m c 2 t)) (h3.unread (iblk m c 3 t)) (S1.1, S1.2.1, S1.2.2) n2) :
    k0_pay1 (F := Ideal) S2.1 S2.2.1 S2.2.2
        (k0_pay19 (F := Ideal) (iblk m c 0 t) (View.ld (iblk m c 3 t) (Rect.unit (s := S1x1x1x4096) (k0_off1 (grid0.coords t)) S1x1x1x128.size i1))
          (View.ld (iblk m c 1 t) (Rect.unit (s := S1x4096x128) (k0_off6 (grid0.coords t)) S1x1024x128.size i6))
          (View.ld (iblk m c 3 t) (Rect.unit (s := S1x1x1x4096) (k0_off7 (grid0.coords t)) S1x1x1x1024.size i7)))
        (k0_pay20 (F := Ideal) (iblk m c 0 t) (View.ld (iblk m c 3 t) (Rect.unit (s := S1x1x1x4096) (k0_off1 (grid0.coords t)) S1x1x1x128.size i1))
          (View.ld (iblk m c 1 t) (Rect.unit (s := S1x4096x128) (k0_off6 (grid0.coords t)) S1x1024x128.size i6))
          (View.ld (iblk m c 3 t) (Rect.unit (s := S1x1x1x4096) (k0_off7 (grid0.coords t)) S1x1x1x1024.size i7)))
        (View.ld (iblk m c 2 t) (Rect.unit (s := S1x4096x128) (k0_off6 (grid0.coords t)) S1x1024x128.size i6)) y
    = REF (aQ m c) (aK m c) (aV m c) (aC m c) (((cfg0.win 4).blk t).view.emb y) := by
  subst e2
  rw [st_k0_t2_zero] at hS2
  subst hS2
  have hr : ∀ r j, raw (iblk m c 0 t) (iblk m c 1 t) (iblk m c 3 t) (tile t) r j ≠ ⊤ ∧ raw (iblk m c 0 t) (iblk m c 1 t) (iblk m c 3 t) (tile t) r j ≠ ⊥ :=
    fun r j => by
      obtain ⟨C, hC⟩ := link m c t h r
      obtain ⟨x, -, e⟩ := hC j
      rw [e]
      exact ⟨EReal.coe_ne_top _, EReal.coe_ne_bot _⟩
  obtain ⟨r, d, rfl⟩ : ∃ (r : Fin 1024) (d : Fin 128), y = ix3 0 r d := by
    refine ⟨y 1, y 2, ?_⟩
    funext a
    fin_cases a
    · exact Subsingleton.elim (α := Fin 1) _ _
    · rfl
    · rfl
  have hL := loop_inv Variants.none c none t (ms0_0 t) h0 (ms0_1 t) h1 (ms0_2 t) h2 (ms0_3 t) h3 (ms0_4 t) h4 (iblk m c 0 t) (iblk m c 1 t)
    (iblk m c 2 t) (iblk m c 3 t) hr r d i1 n1 (le_of_eq e1) S1 hS1
  rw [e1] at hL
  obtain ⟨m', l, a, hI, e⟩ := diag t (iblk m c 0 t) (iblk m c 1 t) (iblk m c 2 t) (iblk m c 3 t) hr r d S1.1 S1.2.1 S1.2.2 i1 i6 i7 hL
  refine e.trans ((tie m c t h r d m' l a hI).trans ?_)
  refine congrArg (REF (aQ m c) (aK m c) (aV m c) (aC m c)) ?_
  blk_ext [idx t]

/-- The result array after the run is the reference's. -/
theorem final (c : Dev nD) (h : Fin3 m c) : (dats m 0 c).arrAt 4 (cfgs 0).N = REF (aQ m c) (aK m c) (aV m c) (aC m c) := by
  refine (dats m 0 c).arrAt_eq_of_covers 4 _ (by decide +kernel) fun t _ y => ?_
  blk_simp
  rw [after0_4]; unfold outsAt0; frame_out
  exact point m c h t _ _ (offs t).2.2.2.1 (offs t).2.2.2.2 _ _ _ _ _ _ _ _ y _ _ rfl rfl

end Cert.KernelIdeal.Tie

end
-- ==== Proof.FoxPre.lean ====
module

public import proofs.«01_k».proof.Defs
public import proofs.«01_k».proof.Proof.Gen.Pre_finite
public import proofs.«01_k».proof.Proof.Fox
public import Idealize.ShloMosaic.Lib.ReduceAll

@[expose] public section

set_option maxRecDepth 16384

noncomputable section

open Idealize.ShloMosaic Idealize.ShloMosaic.TcCoe Idealize.SL.Sem

namespace Cert.KernelIdeal.Tie

open Cert.KernelIdeal Cert.KernelIdeal.Gen

/-- Both of two bits joined by `and` are set where the result is. -/
theorem both : ∀ a b : BitVec 1, a &&& b = 1#1 → a = 1#1 ∧ b = 1#1 := by decide

/-- What lies below plus infinity in size is a real. -/
theorem real_of_lt {s : Shape} (x inf : FVec Ideal s .f32) (hi : ∀ i, inf i = (⊤ : EReal)) (i : s.Idx)
    (h : cmpf .olt (Host.absf x) inf i = 1#1) : ((x i : EReal).toReal : EReal) = x i := by
  have h' : BitVec.ofBool (decide (max (x i) (-(x i)) < inf i)) = 1#1 := h
  rw [hi] at h'
  have hlt : max (x i : EReal) (-(x i)) < ⊤ := by
    by_contra hn
    rw [decide_eq_false hn] at h'
    exact absurd h' (by decide)
  refine EReal.coe_toReal (ne_of_lt (lt_of_le_of_lt (le_max_left _ _) hlt)) fun hb => ?_
  have := lt_of_le_of_lt (le_max_right _ _) hlt
  rw [hb, EReal.neg_bot] at this
  exact absurd this (lt_irrefl _)

/-- The precondition, opened. -/
theorem fin3 [hP : Cert.Pre_finite.Facts] (m : (ℓ : Loc nD τ sig) → Buf (Elt Ideal) ℓ) (h : Cert.Pre_KernelIdeal_finite m) (c : Dev nD) : Fin3 m c := by
  have e := congrFun (h c) ix0
  dsimp only [Cert.Pre_finite.fn] at e
  obtain ⟨e', eC⟩ := both _ _ e
  obtain ⟨eQ, eK⟩ := both _ _ e'
  refine ⟨fun i => (aQ m c i).toReal, fun i => (aK m c i).toReal, fun i => (aC m c i).toReal, fun i => ?_, fun i => ?_, fun i => ?_⟩
  · exact (real_of_lt _ _ (fun _ => rfl) i (Host.reduce_andi_all _ _ _ _ ix0 eQ i)).symm
  · exact (real_of_lt _ _ (fun _ => rfl) i (Host.reduce_andi_all _ _ _ _ ix0 eK i)).symm
  · exact (real_of_lt _ _ (fun _ => rfl) i (Host.reduce_andi_all _ _ _ _ ix0 eC i)).symm

end Cert.KernelIdeal.Tie

end
-- ==== Proof.Rows.lean ====
module

public import Idealize.ShloMosaic.Lib.Pointwise

@[expose] public section

noncomputable section

open Idealize.ShloMosaic

namespace Cert.Rows

/-- One over the root of a row's mean square plus the norm's small constant. The two words are 2048 and 1e-6. -/
def rms (x : Fin 2048 → EReal) : EReal :=
  Ideal.rsqrt (Ideal.div (∑ k, x k * x k) (Ideal.ofBits .f32 0x45000000#32) + Ideal.ofBits .f32 0x358637BD#32)

/-- A row's root-mean-square norm, times the gain `g`. -/
def norm (x g : Fin 2048 → EReal) (k : Fin 2048) : EReal := x k * rms x * g k

/-- The square of a number's positive part. -/
def sqrelu (a : EReal) : EReal := max a 0 * max a 0

end Cert.Rows

end
-- ==== Proof.Mlp.lean ====
module

public import proofs.«01_k».proof.Proof.Gen.MlpIdeal.Frame
public import proofs.«01_k».proof.Proof.Gen.MlpRefIdeal.Run
public import proofs.«01_k».proof.Proof.Rows
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpIdeal.Tie

open Cert.MlpIdeal Cert.MlpIdeal.Gen

variable (m : (ℓ : Loc nD τ sig) → Buf (Elt Ideal) ℓ)

/-- The reference's root-mean-square norm of the rows of `x`, times `g`. -/
abbrev NRM (X : FVec Ideal S2x4096x2048 .f32) (G : FVec Ideal S2048 .f32) : FVec Ideal S2x4096x2048 .f32 :=
  mulf (mulf X (broadcastInDim S2x4096x2048 ![0, 1, 2] Cert.MlpRefIdeal.Gen.bcast_S2x4096x1_S2x4096x2048_0_1_2
    (Host.rsqrt (addf (Host.divf (broadcastInDim Cert.MlpRefIdeal.S2x4096x1 ![0, 1] Cert.MlpRefIdeal.Gen.bcast_S2x4096_S2x4096x1_0_1
      (Host.reduceAdd (mulf X X) (constant Cert.MlpRefIdeal.S_ .f32 0x00000000#32) Cert.MlpRefIdeal.Gen.reducesTo_S2x4096x2048_S2x4096_d2 Cert.MlpRefIdeal.Gen.h_S_))
      (broadcastInDim Cert.MlpRefIdeal.S2x4096x1 ![] Cert.MlpRefIdeal.Gen.bcast_S_S2x4096x1 (constant Cert.MlpRefIdeal.S_ .f32 0x45000000#32)))
      (broadcastInDim Cert.MlpRefIdeal.S2x4096x1 ![] Cert.MlpRefIdeal.Gen.bcast_S_S2x4096x1 (constant Cert.MlpRefIdeal.S_ .f32 0x358637BD#32))))))
    (broadcastInDim S2x4096x2048 ![0, 1, 2] Cert.MlpRefIdeal.Gen.bcast_S1x1x2048_S2x4096x2048_0_1_2
      (broadcastInDim Cert.MlpRefIdeal.S1x1x2048 ![2] Cert.MlpRefIdeal.Gen.bcast_S2048_S1x1x2048_2 G))

/-- The reference's squared ReLU of the normed rows times `w1`. -/
abbrev ACT (X : FVec Ideal S2x4096x2048 .f32) (G : FVec Ideal S2048 .f32) (W1 : FVec Ideal S2048x8192 .f32) : FVec Ideal Cert.MlpRefIdeal.S2x4096x8192 .f32 :=
  mulf (maximumf (Host.dotGeneral Cert.MlpRefIdeal.dot_S2x4096x2048_S2048x8192_S2x4096x8192_2_0_01_1_n_n none (NRM X G) W1)
      (broadcastInDim Cert.MlpRefIdeal.S2x4096x8192 ![] Cert.MlpRefIdeal.Gen.bcast_S_S2x4096x8192 (constant Cert.MlpRefIdeal.S_ .f32 0x00000000#32)))
    (maximumf (Host.dotGeneral Cert.MlpRefIdeal.dot_S2x4096x2048_S2048x8192_S2x4096x8192_2_0_01_1_n_n none (NRM X G) W1)
      (broadcastInDim Cert.MlpRefIdeal.S2x4096x8192 ![] Cert.MlpRefIdeal.Gen.bcast_S_S2x4096x8192 (constant Cert.MlpRefIdeal.S_ .f32 0x00000000#32)))

/-- The reference's residual sum `x + relu(norm(x) * g @ w1)² @ w2`. -/
abbrev RES (X : FVec Ideal S2x4096x2048 .f32) (G : FVec Ideal S2048 .f32) (W1 : FVec Ideal S2048x8192 .f32) (W2 : FVec Ideal S8192x2048 .f32) :
    FVec Ideal S2x4096x2048 .f32 :=
  addf X (Host.dotGeneral Cert.MlpRefIdeal.dot_S2x4096x8192_S8192x2048_S2x4096x2048_2_0_01_1_n_n none (ACT X G W1) W2)

/-- The reference's first result: the residual sum, with the batch and time axes joined. -/
abbrev REF (X : FVec Ideal S2x4096x2048 .f32) (G : FVec Ideal S2048 .f32) (W1 : FVec Ideal S2048x8192 .f32) (W2 : FVec Ideal S8192x2048 .f32) :
    FVec Ideal S8192x2048 .f32 :=
  shapeCast S8192x2048 (RES X G W1 W2) Cert.MlpRefIdeal.Gen.shapeCasts_S2x4096x2048_S8192x2048

/-- The reference's second result: the final norm of the residual sum, with the batch and time axes joined. -/
abbrev REFY (X : FVec Ideal S2x4096x2048 .f32) (G : FVec Ideal S2048 .f32) (W1 : FVec Ideal S2048x8192 .f32) (W2 : FVec Ideal S8192x2048 .f32)
    (GF : FVec Ideal S2048 .f32) : FVec Ideal S8192x2048 .f32 :=
  shapeCast S8192x2048 (NRM (RES X G W1 W2) GF) Cert.MlpRefIdeal.Gen.shapeCasts_S2x4096x2048_S8192x2048

/-- The blocks' places: the grid is 16 row blocks, each of 16 blocks of the hidden axis. -/
theorem idx : ∀ t : Fin cfg0.N, win0_0.index t = ![t.val / 16, 0] ∧ win0_1.index t = ![0, 0]
    ∧ win0_2.index t = ![0, t.val % 16] ∧ win0_3.index t = ![t.val % 16, 0] ∧ win0_4.index t = ![0, 0]
    ∧ win0_5.index t = ![t.val / 16, 0] ∧ win0_6.index t = ![t.val / 16, 0] :=
  (by decide +kernel : ∀ t : Fin grid0.N, _)

/-- The reference's norm at an index. -/
theorem nrm_apply (X : FVec Ideal S2x4096x2048 .f32) (G : FVec Ideal S2048 .f32) (b : Fin 2) (r : Fin 4096) (k : Fin 2048) :
    NRM X G (ix3 b r k) = Rows.norm (fun j => X (ix3 b r j)) (fun j => G (ix1 j)) k := by
  pointwise [NRM, Rows.norm, Rows.rms]

/-- The reference's hidden activations at an index. -/
theorem act_apply (X : FVec Ideal S2x4096x2048 .f32) (G : FVec Ideal S2048 .f32) (W1 : FVec Ideal S2048x8192 .f32) (b : Fin 2) (r : Fin 4096) (f : Fin 8192) :
    ACT X G W1 (ix3 b r f) = Rows.sqrelu (∑ k : Fin 2048, Rows.norm (fun j => X (ix3 b r j)) (fun j => G (ix1 j)) k * W1 (ix2 k f)) := by
  unfold ACT
  generalize hN : NRM X G = N
  pointwise [Rows.sqrelu]
  subst hN
  simp only [nrm_apply]

/-- The reference's residual sum at an index. -/
theorem res_apply (X : FVec Ideal S2x4096x2048 .f32) (G : FVec Ideal S2048 .f32) (W1 : FVec Ideal S2048x8192 .f32) (W2 : FVec Ideal S8192x2048 .f32)
    (b : Fin 2) (r : Fin 4096) (k : Fin 2048) :
    RES X G W1 W2 (ix3 b r k) = X (ix3 b r k) + ∑ f : Fin 8192, ACT X G W1 (ix3 b r f) * W2 (ix2 f k) := by
  unfold RES
  generalize ACT X G W1 = A
  pointwise

/-- The copy of the rows that the first hidden block's point stores in the result's block. -/
theorem pay1_apply (x : FVec Ideal S512x2048 .f32) (y : S512x2048.Idx) : k0_pay1 (F := Ideal) x y = x y := by
  idx_vars y
  pointwise [k0_pay1]

/-- The normed block that the first hidden block's point stores in the scratch. -/
theorem pay2_apply (x : FVec Ideal S512x2048 .f32) (g : FVec Ideal S1x2048 .f32) (y : S512x2048.Idx) :
    k0_pay2 (F := Ideal) x g y = Rows.norm (fun j => x (ix2 (y 0) j)) (fun j => g (ix2 0 j)) (y 1) := by
  idx_vars y
  pointwise [k0_pay2, k0_pay1, Rows.norm, Rows.rms]

/-- What every point adds to the result's block. -/
theorem pay3_apply (h : FVec Ideal S512x2048 .bf16) (w1 : FVec Ideal S2048x512 .bf16) (a : FVec Ideal S512x2048 .f32) (w2 : FVec Ideal S512x2048 .bf16)
    (y : S512x2048.Idx) : k0_pay3 (F := Ideal) h w1 a w2 y
    = a y + ∑ f : Fin 512, Rows.sqrelu (∑ k : Fin 2048, h (ix2 (y 0) k) * w1 (ix2 k f)) * w2 (ix2 f (y 1)) := by
  idx_vars y
  pointwise [k0_pay3, Rows.sqrelu]

/-- The final norm that the last hidden block's point stores. -/
theorem pay4_apply (x : FVec Ideal S512x2048 .f32) (g : FVec Ideal S1x2048 .f32) (y : S512x2048.Idx) :
    k0_pay4 (F := Ideal) x g y = Rows.norm (fun j => x (ix2 (y 0) j)) (fun j => g (ix2 0 j)) (y 1) := by
  idx_vars y
  pointwise [k0_pay4, Rows.norm, Rows.rms]

/-- The rows the kernel's first window reads: `x`, batch and time joined. -/
theorem V_x (c : Dev nD) : V m c main_v0 = shapeCast S8192x2048 (m ((c : Thread nD τ).loc main_arg0)) shapeCasts_S2x4096x2048_S8192x2048 := by
  entry_read
  rfl

/-- The gain the kernel's second window reads, as one row. -/
theorem V_g (c : Dev nD) : V m c main_v3 = shapeCast S1x2048 (m ((c : Thread nD τ).loc main_arg1)) shapeCasts_S2048_S1x2048 := by
  entry_read
  rfl

/-- The final gain the kernel's fifth window reads, as one row. -/
theorem V_gf (c : Dev nD) : V m c main_v4 = shapeCast S1x2048 (m ((c : Thread nD τ).loc main_arg4)) shapeCasts_S2048_S1x2048 := by
  entry_read
  rfl

/-- The weight into the hidden axis that the kernel's third window reads. -/
theorem V_w1 (c : Dev nD) : V m c main_v1 = m ((c : Thread nD τ).loc main_arg2) := by
  entry_read
  rfl

/-- The weight out of the hidden axis that the kernel's fourth window reads. -/
theorem V_w2 (c : Dev nD) : V m c main_v2 = m ((c : Thread nD τ).loc main_arg3) := by
  entry_read
  rfl

/-- The joined rows at an index. -/
theorem cast_apply (A : FVec Ideal S2x4096x2048 .f32) (i : S8192x2048.Idx) :
    shapeCast S8192x2048 A shapeCasts_S2x4096x2048_S8192x2048 i
      = A (ix3 ⟨(i 0).val / 4096, by idx_bounds; omega⟩ ⟨(i 0).val % 4096, by omega⟩ (i 1)) := by
  idx_vars i
  pointwise

/-- The gain as one row at an index. -/
theorem cast_row_apply (A : FVec Ideal S2048 .f32) (i : S1x2048.Idx) :
    shapeCast S1x2048 A shapeCasts_S2048_S1x2048 i = A (ix1 (i 1)) := by
  idx_vars i
  pointwise

/-- The normed row `r` of the joined rows. -/
def row (c : Dev nD) (r : Fin 8192) (k : Fin 2048) : EReal :=
  Rows.norm (fun j => (m ((c : Thread nD τ).loc main_arg0) : FVec Ideal S2x4096x2048 .f32) (ix3 ⟨r.val / 4096, by omega⟩ ⟨r.val % 4096, by omega⟩ j))
    (fun j => (m ((c : Thread nD τ).loc main_arg1) : FVec Ideal S2048 .f32) (ix1 j)) k

/-- The hidden activation `f` of row `r` of the joined rows. -/
def act (c : Dev nD) (r f : Fin 8192) : EReal :=
  Rows.sqrelu (∑ k : Fin 2048, row m c r k * (m ((c : Thread nD τ).loc main_arg2) : FVec Ideal S2048x8192 .f32) (ix2 k f))

/-- Hidden block `s`'s part of the product with `w2`, at row `r` and column `k`. -/
def part (c : Dev nD) (r : Fin 8192) (s : ℕ) (k : Fin 2048) : EReal :=
  ∑ f : Fin 512, act m c r ⟨(s * 512 + f.val) % 8192, by omega⟩
    * (m ((c : Thread nD τ).loc main_arg3) : FVec Ideal S8192x2048 .f32) (ix2 ⟨(s * 512 + f.val) % 8192, by omega⟩ k)

/-- Row `r` of the joined rows. -/
def xrow (c : Dev nD) (r : Fin 8192) (k : Fin 2048) : EReal :=
  (m ((c : Thread nD τ).loc main_arg0) : FVec Ideal S2x4096x2048 .f32) (ix3 ⟨r.val / 4096, by omega⟩ ⟨r.val % 4096, by omega⟩ k)

/-- A point's block of rows is its row block of the joined rows. -/
theorem blk_x (c : Dev nD) (t : Fin cfg0.N) (y : S512x2048.Idx) : (iblk m c 0 t : FVec Ideal S512x2048 .f32) y
    = xrow m c ⟨t.val / 16 * 512 + (y 0).val, by have := lt_of_lt_of_eq t.isLt N_0; idx_bounds; omega⟩ (y 1) := by
  unfold xrow
  blk_simp [iblk]
  rw [V_x, cast_apply]
  blk_ext [idx t]

/-- The first hidden block's point norms the rows of its row block. -/
theorem fill (c : Dev nD) (t : Fin cfg0.N) (y : S512x2048.Idx) : k0_pay2 (iblk m c 0 t) (iblk m c 1 t) y
    = row m c ⟨t.val / 16 * 512 + (y 0).val, by have := lt_of_lt_of_eq t.isLt N_0; idx_bounds; omega⟩ (y 1) := by
  refine (pay2_apply _ _ y).trans ?_
  unfold row
  congr 1
  · funext j
    exact blk_x m c t (ix2 (y 0) j)
  · funext j
    blk_simp [iblk]
    rw [V_g, cast_row_apply]
    blk_ext [idx t]

/-- What a point adds is its hidden block's part, when the scratch holds the normed rows. -/
theorem add_part (c : Dev nD) (t : Fin cfg0.N) (h : FVec Ideal S512x2048 .bf16) (a : FVec Ideal S512x2048 .f32) (y : S512x2048.Idx)
    (hh : ∀ k : Fin 2048, h (ix2 (y 0) k) = row m c ⟨t.val / 16 * 512 + (y 0).val, by have := lt_of_lt_of_eq t.isLt N_0; idx_bounds; omega⟩ k) :
    k0_pay3 (F := Ideal) h (iblk m c 2 t) a (iblk m c 3 t) y
      = a y + part m c ⟨t.val / 16 * 512 + (y 0).val, by have := lt_of_lt_of_eq t.isLt N_0; idx_bounds; omega⟩ (t.val % 16) (y 1) := by
  refine (pay3_apply _ _ _ _ y).trans ?_
  refine congrArg (a y + ·) (Finset.sum_congr rfl fun f _ => ?_)
  unfold act
  refine congr (congrArg _ (congrArg Rows.sqrelu (Finset.sum_congr rfl fun k _ => ?_))) ?_
  · rw [hh k]
    refine congrArg (row m c _ k * ·) ?_
    blk_simp [iblk]
    rw [V_w1]
    blk_ext [idx t]
  · blk_simp [iblk]
    rw [V_w2]
    blk_ext [idx t]

/-- After any point, the scratch holds the normed rows of the point's row block. -/
theorem scratch (c : Dev nD) : ∀ (n : ℕ) (h : n < cfg0.N) (y : S512x2048.Idx), (outsAt0 m c n h).2.2 y
    = row m c ⟨n / 16 * 512 + (y 0).val, by have := lt_of_lt_of_eq h N_0; idx_bounds; omega⟩ (y 1) := by
  intro n
  induction n with
  | zero =>
    intro h y
    rw [outsAt0_A m c ⟨0, h⟩ rfl (by show ¬ 0 % 16 = 15; omega)]; frame_out
    exact fill m c ⟨0, h⟩ y
  | succ n ih =>
    intro h y
    have e : ¬ (n + 1) % 16 = 0 → n / 16 = (n + 1) / 16 := by omega
    by_cases h0 : (n + 1) % 16 = 0
    · rw [outsAt0_A m c ⟨n + 1, h⟩ h0 (by show ¬ (n + 1) % 16 = 15; omega)]; frame_out
      exact fill m c ⟨n + 1, h⟩ y
    · by_cases h1 : (n + 1) % 16 = 15
      · rw [outsAt0_C m c ⟨n + 1, h⟩ h0 h1]; frame_out
        refine (ih (Nat.lt_of_succ_lt h) y).trans ?_
        simp only [e h0]
      · rw [outsAt0_B m c ⟨n + 1, h⟩ h0 h1]; frame_out
        refine (ih (Nat.lt_of_succ_lt h) y).trans ?_
        simp only [e h0]

/-- The row block `b`'s running sum after `j` hidden blocks. -/
def run (c : Dev nD) (r : Fin 8192) (j : ℕ) (k : Fin 2048) : EReal := xrow m c r k + ∑ s ∈ Finset.range j, part m c r s k

/-- After any point, the first result's block holds the rows plus the parts of the hidden blocks so far. -/
theorem acc (c : Dev nD) : ∀ (n : ℕ) (h : n < cfg0.N) (y : S512x2048.Idx), (outsAt0 m c n h).1 y
    = run m c ⟨n / 16 * 512 + (y 0).val, by have := lt_of_lt_of_eq h N_0; idx_bounds; omega⟩ (n % 16 + 1) (y 1) := by
  have first : ∀ t : Fin cfg0.N, t.val % 16 = 0 → ∀ y : S512x2048.Idx,
      k0_pay3 (F := Ideal) (k0_pay2 (iblk m c 0 t) (iblk m c 1 t)) (iblk m c 2 t) (k0_pay1 (iblk m c 0 t)) (iblk m c 3 t) y
        = run m c ⟨t.val / 16 * 512 + (y 0).val, by have := lt_of_lt_of_eq t.isLt N_0; idx_bounds; omega⟩ (t.val % 16 + 1) (y 1) := by
    intro t h0 y
    refine (add_part m c t _ _ y fun k => fill m c t (ix2 (y 0) k)).trans ?_
    rw [pay1_apply, blk_x m c t y]
    unfold run
    rw [h0, Finset.sum_range_one]
  have step : ∀ (n : ℕ) (h : n + 1 < cfg0.N), ¬ (n + 1) % 16 = 0 →
      (∀ y : S512x2048.Idx, (outsAt0 m c n (Nat.lt_of_succ_lt h)).1 y
        = run m c ⟨n / 16 * 512 + (y 0).val, by have := lt_of_lt_of_eq h N_0; idx_bounds; omega⟩ (n % 16 + 1) (y 1)) →
      ∀ y : S512x2048.Idx, k0_pay3 (F := Ideal) (outsAt0 m c n (Nat.lt_of_succ_lt h)).2.2 (iblk m c 2 ⟨n + 1, h⟩) (outsAt0 m c n (Nat.lt_of_succ_lt h)).1 (iblk m c 3 ⟨n + 1, h⟩) y
        = run m c ⟨(n + 1) / 16 * 512 + (y 0).val, by have := lt_of_lt_of_eq h N_0; idx_bounds; omega⟩ ((n + 1) % 16 + 1) (y 1) := by
    intro n h h0 ih y
    have e : n / 16 = (n + 1) / 16 := by omega
    have e' : n % 16 + 1 = (n + 1) % 16 := by omega
    refine (add_part m c ⟨n + 1, h⟩ _ _ y fun k => (scratch m c n _ (ix2 (y 0) k)).trans ?_).trans ?_
    · simp only [e]
      rfl
    · rw [ih y]
      unfold run
      simp only [e, e']
      rw [Finset.sum_range_succ, add_assoc]
  intro n
  induction n with
  | zero =>
    intro h y
    rw [outsAt0_A m c ⟨0, h⟩ rfl (by show ¬ 0 % 16 = 15; omega)]; frame_out
    exact first ⟨0, h⟩ rfl y
  | succ n ih =>
    intro h y
    by_cases h0 : (n + 1) % 16 = 0
    · rw [outsAt0_A m c ⟨n + 1, h⟩ h0 (by show ¬ (n + 1) % 16 = 15; omega)]; frame_out
      exact first ⟨n + 1, h⟩ h0 y
    · by_cases h1 : (n + 1) % 16 = 15
      · rw [outsAt0_C m c ⟨n + 1, h⟩ h0 h1]; frame_out
        simp only [read_unread_whole]
        exact step n h h0 (ih (Nat.lt_of_succ_lt h)) y
      · rw [outsAt0_B m c ⟨n + 1, h⟩ h0 h1]; frame_out
        simp only [read_unread_whole]
        exact step n h h0 (ih (Nat.lt_of_succ_lt h)) y

/-- All sixteen hidden blocks' parts make the reference's residual sum. -/
theorem run_all (c : Dev nD) (r : Fin 8192) (k : Fin 2048) : run m c r 16 k
    = RES (m ((c : Thread nD τ).loc main_arg0)) (m ((c : Thread nD τ).loc main_arg1)) (m ((c : Thread nD τ).loc main_arg2)) (m ((c : Thread nD τ).loc main_arg3)) (ix3 ⟨r.val / 4096, by omega⟩ ⟨r.val % 4096, by omega⟩ k) := by
  rw [res_apply]
  unfold run
  refine congrArg (_ + ·) ?_
  rw [Finset.sum_range]
  unfold part
  refine Fin.sum_mul_add_congr fun s f hl => ?_
  have e : (s.val * 512 + f.val) % 8192 = s.val * 512 + f.val := Nat.mod_eq_of_lt hl
  simp only [e]
  refine congrArg (· * _) ?_
  rw [act_apply]
  rfl

/-- What the last hidden block's point leaves in the first result's block. -/
theorem acc_last (c : Dev nD) (t : Fin cfg0.N) (h1 : t.val % 16 = 15) (y : S512x2048.Idx) : (outsAt0 m c t.val t.isLt).1 y
    = RES (m ((c : Thread nD τ).loc main_arg0)) (m ((c : Thread nD τ).loc main_arg1)) (m ((c : Thread nD τ).loc main_arg2)) (m ((c : Thread nD τ).loc main_arg3))
      (ix3 ⟨(t.val / 16 * 512 + (y 0).val) / 4096, by have := lt_of_lt_of_eq t.isLt N_0; idx_bounds; omega⟩ ⟨(t.val / 16 * 512 + (y 0).val) % 4096, by omega⟩ (y 1)) := by
  rw [acc m c t.val t.isLt y, h1]
  exact run_all m c _ _

/-- … and in the second result's block: the final norm of it. -/
theorem out_y (c : Dev nD) (t : Fin cfg0.N) (h1 : t.val % 16 = 15) (y : S512x2048.Idx) : (outsAt0 m c t.val t.isLt).2.1 y
    = k0_pay4 (F := Ideal) (outsAt0 m c t.val t.isLt).1 (iblk m c 4 t) y := by
  rw [outsAt0_C m c t (by omega) h1]; frame_out

/-- The reference's first result at an index. -/
theorem ref_apply (X : FVec Ideal S2x4096x2048 .f32) (G : FVec Ideal S2048 .f32) (W1 : FVec Ideal S2048x8192 .f32) (W2 : FVec Ideal S8192x2048 .f32)
    (i : S8192x2048.Idx) : REF X G W1 W2 i = RES X G W1 W2 (ix3 ⟨(i 0).val / 4096, by idx_bounds; omega⟩ ⟨(i 0).val % 4096, by omega⟩ (i 1)) :=
  cast_apply _ i

/-- The reference's second result at an index. -/
theorem refy_apply (X : FVec Ideal S2x4096x2048 .f32) (G : FVec Ideal S2048 .f32) (W1 : FVec Ideal S2048x8192 .f32) (W2 : FVec Ideal S8192x2048 .f32)
    (GF : FVec Ideal S2048 .f32) (i : S8192x2048.Idx) : REFY X G W1 W2 GF i
      = Rows.norm (fun j => RES X G W1 W2 (ix3 ⟨(i 0).val / 4096, by idx_bounds; omega⟩ ⟨(i 0).val % 4096, by omega⟩ j)) (fun j => GF (ix1 j)) (i 1) :=
  (cast_apply _ i).trans (nrm_apply _ _ _ _ _)

/-- One block of the first result: the reference at the block's place. -/
theorem point (c : Dev nD) (t : Fin cfg0.N) (h1 : t.val % 16 = 15) (y : S512x2048.Idx) : (outsAt0 m c t.val t.isLt).1 y
    = REF (m ((c : Thread nD τ).loc main_arg0)) (m ((c : Thread nD τ).loc main_arg1)) (m ((c : Thread nD τ).loc main_arg2)) (m ((c : Thread nD τ).loc main_arg3)) (((cfg0.win 5).blk t).view.emb y) := by
  have e0 : (((((cfg0.win 5).blk t).view.emb y) 0 : Fin 8192) : ℕ) = t.val / 16 * 512 + (y 0).val := by blk_simp [idx t]
  have e1 : ((((cfg0.win 5).blk t).view.emb y) 1 : Fin 2048) = y 1 := by apply Fin.ext; blk_simp [idx t]
  rw [acc_last m c t h1 y, ref_apply]
  simp only [e0]
  exact congrArg (fun k => RES (m ((c : Thread nD τ).loc main_arg0)) (m ((c : Thread nD τ).loc main_arg1)) (m ((c : Thread nD τ).loc main_arg2)) (m ((c : Thread nD τ).loc main_arg3)) (ix3 _ _ k)) e1.symm

/-- One block of the second result: the reference at the block's place. -/
theorem point_y (c : Dev nD) (t : Fin cfg0.N) (h1 : t.val % 16 = 15) (y : S512x2048.Idx) : (outsAt0 m c t.val t.isLt).2.1 y
    = REFY (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have e0 : (((((cfg0.win 6).blk t).view.emb y) 0 : Fin 8192) : ℕ) = t.val / 16 * 512 + (y 0).val := by blk_simp [idx t]
  have e1 : ((((cfg0.win 6).blk t).view.emb y) 1 : Fin 2048) = y 1 := by apply Fin.ext; blk_simp [idx t]
  rw [out_y m c t h1 y, refy_apply, e1]
  refine (pay4_apply _ _ y).trans ?_
  congr 1
  · funext j
    simp only [e0]
    exact acc_last m c t h1 (ix2 (y 0) j)
  · funext j
    blk_simp [iblk]
    rw [V_gf, cast_row_apply]
    blk_ext [idx t]

/-- The first result's array after the run is the reference's. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact point m c t ((flush0_5 t).mp hf) y

/-- The second result's array after the run is the reference's. -/
theorem final_y (c : Dev nD) : (dats m 0 c).arrAt 6 (cfgs 0).N = REFY (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  exact point_y m c t ((flush0_6 t).mp hf) y

end Cert.MlpIdeal.Tie

end
-- ==== Proof.ProjIn.lean ====
module

public import proofs.«01_k».proof.Proof.Gen.ProjInIdeal.Frame
public import proofs.«01_k».proof.Proof.Gen.ProjInRefIdeal.Run
public import proofs.«01_k».proof.Proof.Rows
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjInIdeal.Tie

open Cert.ProjInIdeal Cert.ProjInIdeal.Gen

variable (m : (ℓ : Loc nD τ sig) → Buf (Elt Ideal) ℓ)

/-- The reference's root-mean-square norm of the rows of `x`, times `g`. -/
abbrev NRM (X : FVec Ideal S2x4096x2048 .f32) (G : FVec Ideal S2048 .f32) : FVec Ideal S2x4096x2048 .f32 :=
  mulf (mulf X (broadcastInDim S2x4096x2048 ![0, 1, 2] Cert.ProjInRefIdeal.Gen.bcast_S2x4096x1_S2x4096x2048_0_1_2
    (Host.rsqrt (addf (Host.divf (broadcastInDim Cert.ProjInRefIdeal.S2x4096x1 ![0, 1] Cert.ProjInRefIdeal.Gen.bcast_S2x4096_S2x4096x1_0_1
      (Host.reduceAdd (mulf X X) (constant Cert.ProjInRefIdeal.S_ .f32 0x00000000#32) Cert.ProjInRefIdeal.Gen.reducesTo_S2x4096x2048_S2x4096_d2 Cert.ProjInRefIdeal.Gen.h_S_))
      (broadcastInDim Cert.ProjInRefIdeal.S2x4096x1 ![] Cert.ProjInRefIdeal.Gen.bcast_S_S2x4096x1 (constant Cert.ProjInRefIdeal.S_ .f32 0x45000000#32)))
      (broadcastInDim Cert.ProjInRefIdeal.S2x4096x1 ![] Cert.ProjInRefIdeal.Gen.bcast_S_S2x4096x1 (constant Cert.ProjInRefIdeal.S_ .f32 0x358637BD#32))))))
    (broadcastInDim S2x4096x2048 ![0, 1, 2] Cert.ProjInRefIdeal.Gen.bcast_S1x1x2048_S2x4096x2048_0_1_2
      (broadcastInDim Cert.ProjInRefIdeal.S1x1x2048 ![2] Cert.ProjInRefIdeal.Gen.bcast_S2048_S1x1x2048_2 G))

/-- What the reference computes: `norm(x) * g @ w`, with the batch and time axes joined. -/
abbrev REF (X : FVec Ideal S2x4096x2048 .f32) (G : FVec Ideal S2048 .f32) (Wt : FVec Ideal S2048x4096 .f32) : FVec Ideal S8192x4096 .f32 :=
  shapeCast S8192x4096 (Host.dotGeneral Cert.ProjInRefIdeal.dot_S2x4096x2048_S2048x4096_S2x4096x4096_2_0_01_1_n_n none (NRM X G) Wt)
    Cert.ProjInRefIdeal.Gen.shapeCasts_S2x4096x4096_S8192x4096

/-- The blocks' places: the grid is 16 row blocks, each of 4 column blocks. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The reference's norm at an index. -/
theorem nrm_apply (X : FVec Ideal S2x4096x2048 .f32) (G : FVec Ideal S2048 .f32) (b : Fin 2) (r : Fin 4096) (k : Fin 2048) :
    NRM X G (ix3 b r k) = Rows.norm (fun j => X (ix3 b r j)) (fun j => G (ix1 j)) k := by
  pointwise [NRM, Rows.norm, Rows.rms]

/-- The reference at an index. -/
theorem ref_apply (X : FVec Ideal S2x4096x2048 .f32) (G : FVec Ideal S2048 .f32) (Wt : FVec Ideal S2048x4096 .f32) (i : S8192x4096.Idx) :
    REF X G Wt i = ∑ k : Fin 2048, Rows.norm (fun j => X (ix3 ⟨(i 0).val / 4096, by idx_bounds; omega⟩ ⟨(i 0).val % 4096, by omega⟩ j))
      (fun j => G (ix1 j)) k * Wt (ix2 k (i 1)) := by
  idx_vars i
  unfold REF
  generalize hN : NRM X G = N
  pointwise
  subst hN
  simp only [nrm_apply]

/-- The normed block that the first column block's point stores in the scratch. -/
theorem pay1_apply (x : FVec Ideal S512x2048 .f32) (g : FVec Ideal S1x2048 .f32) (y : S512x2048.Idx) :
    k0_pay1 (F := Ideal) x g y = Rows.norm (fun j => x (ix2 (y 0) j)) (fun j => g (ix2 0 j)) (y 1) := by
  idx_vars y
  pointwise [k0_pay1, Rows.norm, Rows.rms]

/-- The product that every point stores. -/
theorem pay2_apply (a : FVec Ideal S512x2048 .bf16) (b : FVec Ideal S2048x1024 .bf16) (y : S512x1024.Idx) :
    k0_pay2 (F := Ideal) a b y = ∑ k : Fin 2048, a (ix2 (y 0) k) * b (ix2 k (y 1)) := by
  idx_vars y
  pointwise [k0_pay2]

/-- The rows the kernel's first window reads: `x`, batch and time joined. -/
theorem V_x (c : Dev nD) : V m c main_v0 = shapeCast S8192x2048 (m ((c : Thread nD τ).loc main_arg0)) shapeCasts_S2x4096x2048_S8192x2048 := by
  entry_read
  rfl

/-- The gain the kernel's second window reads, as one row. -/
theorem V_g (c : Dev nD) : V m c main_v2 = shapeCast S1x2048 (m ((c : Thread nD τ).loc main_arg1)) shapeCasts_S2048_S1x2048 := by
  entry_read
  rfl

/-- The weight the kernel's third window reads. -/
theorem V_w (c : Dev nD) : V m c main_v1 = m ((c : Thread nD τ).loc main_arg2) := by
  entry_read
  rfl

/-- The joined rows at an index. -/
theorem cast_apply (A : FVec Ideal S2x4096x2048 .f32) (i : S8192x2048.Idx) :
    shapeCast S8192x2048 A shapeCasts_S2x4096x2048_S8192x2048 i
      = A (ix3 ⟨(i 0).val / 4096, by idx_bounds; omega⟩ ⟨(i 0).val % 4096, by omega⟩ (i 1)) := by
  idx_vars i
  pointwise

/-- The gain as one row at an index. -/
theorem cast_row_apply (A : FVec Ideal S2048 .f32) (i : S1x2048.Idx) :
    shapeCast S1x2048 A shapeCasts_S2048_S1x2048 i = A (ix1 (i 1)) := by
  idx_vars i
  pointwise

/-- The normed row `r` of the joined rows. -/
def row (c : Dev nD) (r : Fin 8192) (k : Fin 2048) : EReal :=
  Rows.norm (fun j => (m ((c : Thread nD τ).loc main_arg0) : FVec Ideal S2x4096x2048 .f32) (ix3 ⟨r.val / 4096, by omega⟩ ⟨r.val % 4096, by omega⟩ j))
    (fun j => (m ((c : Thread nD τ).loc main_arg1) : FVec Ideal S2048 .f32) (ix1 j)) k

/-- The first column block's point norms the rows of its row block. -/
theorem fill (c : Dev nD) (t : Fin cfg0.N) (y : S512x2048.Idx) : k0_pay1 (iblk m c 0 t) (iblk m c 1 t) y
    = row m c ⟨t.val / 4 * 512 + (y 0).val, by have := lt_of_lt_of_eq t.isLt N_0; idx_bounds; omega⟩ (y 1) := by
  refine (pay1_apply _ _ y).trans ?_
  unfold row
  congr 1
  · funext j
    blk_simp [iblk]
    rw [V_x, cast_apply]
    blk_ext [idx t]
  · funext j
    blk_simp [iblk]
    rw [V_g, cast_row_apply]
    blk_ext [idx t]

/-- After any point, the scratch holds the normed rows of the point's row block. -/
theorem scratch (c : Dev nD) : ∀ (n : ℕ) (h : n < cfg0.N) (y : S512x2048.Idx), (outsAt0 m c n h).2 y
    = row m c ⟨n / 4 * 512 + (y 0).val, by have := lt_of_lt_of_eq h N_0; idx_bounds; omega⟩ (y 1) := by
  intro n
  induction n with
  | zero =>
    intro h y
    rw [outsAt0_A m c ⟨0, h⟩ rfl]; frame_out
    exact fill m c ⟨0, h⟩ y
  | succ n ih =>
    intro h y
    by_cases h0 : (n + 1) % 4 = 0
    · rw [outsAt0_A m c ⟨n + 1, h⟩ h0]; frame_out
      exact fill m c ⟨n + 1, h⟩ y
    · rw [outsAt0_B m c ⟨n + 1, h⟩ h0]; frame_out
      refine (ih (Nat.lt_of_succ_lt h) y).trans ?_
      have e : n / 4 = (n + 1) / 4 := by omega
      simp only [e]

/-- One block: what a grid point stores is the product of the normed rows with the weight's columns. -/
theorem out (c : Dev nD) (t : Fin cfg0.N) (y : S512x1024.Idx) : (outsAt0 m c t.val t.isLt).1 y
    = ∑ k : Fin 2048, row m c ⟨t.val / 4 * 512 + (y 0).val, by have := lt_of_lt_of_eq t.isLt N_0; idx_bounds; omega⟩ k
      * (iblk m c 2 t : FVec Ideal S2048x1024 .bf16) (ix2 k (y 1)) := by
  by_cases h0 : t.val % 4 = 0
  · rw [outsAt0_A m c t h0]; frame_out
    refine (pay2_apply _ _ y).trans ?_
    refine Finset.sum_congr rfl fun k _ => ?_
    rw [fill m c t]
    rfl
  · rw [outsAt0_B m c t h0]; frame_out
    refine (pay2_apply _ _ y).trans ?_
    refine Finset.sum_congr rfl fun k _ => ?_
    refine congrArg (· * _) ?_
    simp only [read_unread_whole]
    refine (scratch m c (t.val - 1) _ (ix2 (y 0) k)).trans ?_
    have e : (t.val - 1) / 4 = t.val / 4 := by omega
    simp only [e]
    rfl

/-- One block: what a grid point stores is the reference at the block's place. -/
theorem point (c : Dev nD) (t : Fin cfg0.N) (y : S512x1024.Idx) : (outsAt0 m c t.val t.isLt).1 y
    = REF (m ((c : Thread nD τ).loc main_arg0)) (m ((c : Thread nD τ).loc main_arg1)) (m ((c : Thread nD τ).loc main_arg2))
      (((cfg0.win 3).blk t).view.emb y) := by
  have e0 : (((((cfg0.win 3).blk t).view.emb y) 0 : Fin 8192) : ℕ) = t.val / 4 * 512 + (y 0).val := by blk_simp [idx t]
  rw [out m c t y, ref_apply]
  refine Finset.sum_congr rfl fun k _ => ?_
  refine congr (congrArg _ ?_) ?_
  · unfold row
    simp only [e0]
  · blk_simp [iblk]
    rw [V_w]
    blk_ext [idx t]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.ProjInIdeal.Tie

end
-- ==== Proof.QkvIdealBody.lean ====
module

public import proofs.«01_k».proof.Proof.Gen.QkvIdeal.Frame
public import proofs.«01_k».proof.Proof.Gen.QkvIdeal.Skeleton
public import Idealize.ShloMosaic.Lib.Pipeline.ValueKit

@[expose] public section

set_option maxRecDepth 16384

noncomputable section

namespace Cert.QkvIdeal.Body

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A store through a whole buffer leaves what it stores. -/
theorem stored {Val : EltTy → Type} {κ : Kind} {sp : Space} {S : Shape} {e : EltTy} (v : View sig κ sp S e) (f : v.ty.Contents Val)
    {off : Fin S.rank → Nat} (inb : ∀ a, off a + S.size a ≤ S.size a) (w : S.Idx → Val e) (h : ∀ a, off a = 0) :
    v.read Val (v.writes Val f [⟨Rect.unit off S.size inb, w⟩]) = w := by
  funext y
  have e : (Rect.unit off S.size inb).emb y = y := by
    funext a
    refine Fin.ext ?_
    show off a + 1 * (y a).val = (y a).val
    rw [h a]; omega
  have h := View.read_writes_cons_emb v f (Rect.unit off S.size inb) w [] y
  rwa [e] at h

set_option maxHeartbeats 1000000 in
/-- The body at the first column block, on any staging buffers: it stores the normed rows in the scratch, their product
    with the gate's weight in the last output, and their product with the query's weight, scaled, in the first output. -/
theorem run_q (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2048x128 .bf16) (harg5 : arg5.IsWhole)
    (arg6 : Memref sig .tc .vmem S512x1024 .bf16) (harg6 : arg6.IsWhole) (arg7 : Memref sig .tc .vmem S512x1024 .f32) (harg7 : arg7.IsWhole)
    (arg8 : Memref sig .tc .vmem S512x1024 .f32) (harg8 : arg8.IsWhole) (arg9 : Memref sig .tc .vmem S512x128 .f32) (harg9 : arg9.IsWhole)
    (arg10 : Memref sig .tc .vmem S512x2048 .bf16) (harg10 : arg10.IsWhole)
    (hc1 : k0_cond1 i = 1#1) (hc2 : k0_cond2 i = 1#1) (hc3 : ¬k0_cond3 i = 1#1) (hc4 : ¬k0_cond4 i = 1#1)
    (x0 : Vec F S512x2048 .f32) (x1 : Vec F S1x2048 .f32) (x2 : Vec F S2048x1024 .bf16) (x3 : Vec F S2048x128 .bf16)
    (x5 : Vec F S512x1024 .f32) (x6 : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay5 (k0_pay2 x0 x1) x2) ∗ owns (c : Thread nD τ) arg7 fullShare x5
            ∗ owns (c : Thread nD τ) arg8 fullShare x6 ∗ owns (c : Thread nD τ) arg9 fullShare (k0_pay3 x0 x1 x3) ∗ owns (c : Thread nD τ) arg10 fullShare (k0_pay2 x0 x1)) -∗ K ⟨⟩))
      ⊢ wp frame (wpE (defs₀ (F := F)) Variants.none c none) E
        (cc0_qkv_proj i arg2 harg2 arg3 harg3 arg4 harg4 arg5 harg5 arg6 harg6 arg7 harg7 arg8 harg8 arg9 harg9 arg10 harg10) K := by
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%dS, %fS, -, HS⟩, Hk⟩
  obtain rfl := harg2.eq_unread hf0; obtain rfl := harg3.eq_unread hf1; obtain rfl := harg4.eq_unread hf2; obtain rfl := harg5.eq_unread hf3
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; frame_out; exact stored _ _ _ _ (by decide)
  isplitl [H5]
  · iexists _; isplitr; · ipureintro; exact hf5
    iexact H5
  isplitl [H6]
  · iexists _; isplitr; · ipureintro; exact hf6
    iexact H6
  isplitl [H7]
  · iexists _; isplitr
    swap; · iexact H7
    ipureintro; frame_out; exact stored _ _ _ _ (by decide)
  iexists _; isplitr
  swap; · iexact HS
  ipureintro; frame_out; exact stored _ _ _ _ (by decide)

set_option maxHeartbeats 1000000 in
/-- The body at the second column block: it stores the scratch's product with the key's weight in the first and in the
    second output, and leaves the other outputs and the scratch as they are. -/
theorem run_k (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2048x128 .bf16) (harg5 : arg5.IsWhole)
    (arg6 : Memref sig .tc .vmem S512x1024 .bf16) (harg6 : arg6.IsWhole) (arg7 : Memref sig .tc .vmem S512x1024 .f32) (harg7 : arg7.IsWhole)
    (arg8 : Memref sig .tc .vmem S512x1024 .f32) (harg8 : arg8.IsWhole) (arg9 : Memref sig .tc .vmem S512x128 .f32) (harg9 : arg9.IsWhole)
    (arg10 : Memref sig .tc .vmem S512x2048 .bf16) (harg10 : arg10.IsWhole)
    (hc1 : ¬k0_cond1 i = 1#1) (hc2 : ¬k0_cond2 i = 1#1) (hc3 : k0_cond3 i = 1#1) (hc4 : ¬k0_cond4 i = 1#1)
    (x0 : Vec F S512x2048 .f32) (x1 : Vec F S1x2048 .f32) (x2 : Vec F S2048x1024 .bf16) (x3 : Vec F S2048x128 .bf16)
    (x6 : Vec F S512x1024 .f32) (x7 : Vec F S512x128 .f32) (xs : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare x6 ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay6 xs x2) ∗ owns (c : Thread nD τ) arg7 fullShare (k0_pay4 xs x2)
            ∗ owns (c : Thread nD τ) arg8 fullShare x6 ∗ owns (c : Thread nD τ) arg9 fullShare x7 ∗ owns (c : Thread nD τ) arg10 fullShare xs) -∗ K ⟨⟩))
      ⊢ wp frame (wpE (defs₀ (F := F)) Variants.none c none) E
        (cc0_qkv_proj i arg2 harg2 arg3 harg3 arg4 harg4 arg5 harg5 arg6 harg6 arg7 harg7 arg8 harg8 arg9 harg9 arg10 harg10) K := by
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fS, %hfS, HS⟩, Hk⟩
  obtain rfl := harg2.eq_unread hf0; obtain rfl := harg3.eq_unread hf1; obtain rfl := harg4.eq_unread hf2; obtain rfl := harg5.eq_unread hf3
  obtain rfl := harg10.eq_unread hfS
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; frame_out; exact stored _ _ _ _ (by decide)
  isplitl [H5]
  · iexists _; isplitr
    swap; · iexact H5
    ipureintro; frame_out; exact stored _ _ _ _ (by decide)
  isplitl [H6]
  · iexists _; isplitr; · ipureintro; exact hf6
    iexact H6
  isplitl [H7]
  · iexists _; isplitr; · ipureintro; exact hf7
    iexact H7
  iexists _; isplitr; · ipureintro; exact harg10.read_unread _
  iexact HS

set_option maxHeartbeats 1000000 in
/-- The body at the third column block: it stores the scratch's product with the value's weight in the first and in the
    third output, and leaves the other outputs and the scratch as they are. -/
theorem run_v (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2048x128 .bf16) (harg5 : arg5.IsWhole)
    (arg6 : Memref sig .tc .vmem S512x1024 .bf16) (harg6 : arg6.IsWhole) (arg7 : Memref sig .tc .vmem S512x1024 .f32) (harg7 : arg7.IsWhole)
    (arg8 : Memref sig .tc .vmem S512x1024 .f32) (harg8 : arg8.IsWhole) (arg9 : Memref sig .tc .vmem S512x128 .f32) (harg9 : arg9.IsWhole)
    (arg10 : Memref sig .tc .vmem S512x2048 .bf16) (harg10 : arg10.IsWhole)
    (hc1 : ¬k0_cond1 i = 1#1) (hc2 : ¬k0_cond2 i = 1#1) (hc3 : ¬k0_cond3 i = 1#1) (hc4 : k0_cond4 i = 1#1)
    (x0 : Vec F S512x2048 .f32) (x1 : Vec F S1x2048 .f32) (x2 : Vec F S2048x1024 .bf16) (x3 : Vec F S2048x128 .bf16)
    (x5 : Vec F S512x1024 .f32) (x7 : Vec F S512x128 .f32) (xs : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ (∃ d, owns (c : Thread nD τ) arg8 fullShare d) ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay7 xs x2) ∗ owns (c : Thread nD τ) arg7 fullShare x5
            ∗ owns (c : Thread nD τ) arg8 fullShare (k0_pay4 xs x2) ∗ owns (c : Thread nD τ) arg9 fullShare x7 ∗ owns (c : Thread nD τ) arg10 fullShare xs) -∗ K ⟨⟩))
      ⊢ wp frame (wpE (defs₀ (F := F)) Variants.none c none) E
        (cc0_qkv_proj i arg2 harg2 arg3 harg3 arg4 harg4 arg5 harg5 arg6 harg6 arg7 harg7 arg8 harg8 arg9 harg9 arg10 harg10) K := by
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%f7, %hf7, H7⟩, ⟨%fS, %hfS, HS⟩, Hk⟩
  obtain rfl := harg2.eq_unread hf0; obtain rfl := harg3.eq_unread hf1; obtain rfl := harg4.eq_unread hf2; obtain rfl := harg5.eq_unread hf3
  obtain rfl := harg10.eq_unread hfS
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; frame_out; exact stored _ _ _ _ (by decide)
  isplitl [H5]
  · iexists _; isplitr; · ipureintro; exact hf5
    iexact H5
  isplitl [H6]
  · iexists _; isplitr
    swap; · iexact H6
    ipureintro; frame_out; exact stored _ _ _ _ (by decide)
  isplitl [H7]
  · iexists _; isplitr; · ipureintro; exact hf7
    iexact H7
  iexists _; isplitr; · ipureintro; exact harg10.read_unread _
  iexact HS

end Cert.QkvIdeal.Body

end
-- ==== Proof.QkvIdealFrame.lean ====
module

public import proofs.«01_k».proof.Proof.QkvIdealBody
public import Idealize.ShloMosaic.Lib.Claim
public import Idealize.ShloMosaic.Lib.Pipeline.TableIdle

@[expose] public section

set_option maxRecDepth 16384

noncomputable section

namespace Cert.QkvIdeal.Body

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid: 16 row blocks, each of the three column blocks query, key and value -/

/-- The point of the query's column block in the row block of point `n`. -/
def pq (n : ℕ) (h : n < cfg0.N) : Fin cfg0.N := ⟨3 * (n / 3), by omega⟩
/-- The point of the key's column block in the row block of point `n`. -/
def pk (n : ℕ) (h : n < cfg0.N) : Fin cfg0.N := ⟨3 * (n / 3) + 1, by have : cfg0.N = 48 := N_0; omega⟩

theorem pq_self (t : Fin cfg0.N) (h : t.val % 3 = 0) : pq t.val t.isLt = t := Fin.ext (by unfold pq; dsimp only; omega)
theorem pk_self (t : Fin cfg0.N) (h : t.val % 3 = 1) : pk t.val t.isLt = t := Fin.ext (by unfold pk; dsimp only; omega)
theorem pq_pred (n : ℕ) (h : n < cfg0.N) (h' : n - 1 < cfg0.N) (h0 : n % 3 ≠ 0) : pq (n - 1) h' = pq n h :=
  Fin.ext (by unfold pq; dsimp only; omega)
theorem pk_pred (n : ℕ) (h : n < cfg0.N) (h' : n - 1 < cfg0.N) (h0 : n % 3 ≠ 0) : pk (n - 1) h' = pk n h :=
  Fin.ext (by unfold pk; dsimp only; omega)

/-- The branches that the query's points take. -/
theorem cond_q : ∀ t : Fin cfg0.N, t.val % 3 = 0 → k0_cond1 (grid0.coords t) = 1#1 ∧ k0_cond2 (grid0.coords t) = 1#1
    ∧ ¬k0_cond3 (grid0.coords t) = 1#1 ∧ ¬k0_cond4 (grid0.coords t) = 1#1 :=
  (by decide +kernel : ∀ t : Fin grid0.N, _)
/-- The branches that the key's points take. -/
theorem cond_k : ∀ t : Fin cfg0.N, t.val % 3 = 1 → ¬k0_cond1 (grid0.coords t) = 1#1 ∧ ¬k0_cond2 (grid0.coords t) = 1#1
    ∧ k0_cond3 (grid0.coords t) = 1#1 ∧ ¬k0_cond4 (grid0.coords t) = 1#1 :=
  (by decide +kernel : ∀ t : Fin grid0.N, _)
/-- The branches that the value's points take. -/
theorem cond_v : ∀ t : Fin cfg0.N, t.val % 3 = 2 → ¬k0_cond1 (grid0.coords t) = 1#1 ∧ ¬k0_cond2 (grid0.coords t) = 1#1
    ∧ ¬k0_cond3 (grid0.coords t) = 1#1 ∧ k0_cond4 (grid0.coords t) = 1#1 :=
  (by decide +kernel : ∀ t : Fin grid0.N, _)

/-- The first output is stored at every point. -/
theorem idle_4 : ∀ t : Fin cfg0.N, cfg0.idle 4 (grid0.coords t) = false := (by decide +kernel : ∀ t : Fin grid0.N, _)
/-- The second output is stored at the key's points alone, the third at the value's, the last at the query's. -/
theorem idle_5 : ∀ t : Fin cfg0.N, cfg0.idle 5 (grid0.coords t) = !decide (t.val % 3 = 1) := (by decide +kernel : ∀ t : Fin grid0.N, _)
theorem idle_6 : ∀ t : Fin cfg0.N, cfg0.idle 6 (grid0.coords t) = !decide (t.val % 3 = 2) := (by decide +kernel : ∀ t : Fin grid0.N, _)
theorem idle_7 : ∀ t : Fin cfg0.N, cfg0.idle 7 (grid0.coords t) = !decide (t.val % 3 = 0) := (by decide +kernel : ∀ t : Fin grid0.N, _)
/-- The three are written back at the value's points. -/
theorem flush_5 (t : Fin cfg0.N) : (cfg0.win 5).flush t = decide (t.val % 3 = 2) := by rw [Bool.eq_iff_iff, flush0_5, decide_eq_true_iff]
theorem flush_6 (t : Fin cfg0.N) : (cfg0.win 6).flush t = decide (t.val % 3 = 2) := by rw [Bool.eq_iff_iff, flush0_6, decide_eq_true_iff]
theorem flush_7 (t : Fin cfg0.N) : (cfg0.win 7).flush t = decide (t.val % 3 = 2) := by rw [Bool.eq_iff_iff, flush0_7, decide_eq_true_iff]
/-- Before the key's point of a row block is done, nothing of it is in the second output's buffer. -/
theorem fresh_5 : ∀ n, n ≤ cfg0.N → cfg0.fresh 5 n = !decide (n % 3 = 2) :=
  Cfg.fresh_tab cfg0 5 _ rfl fun t => by
    rw [flush_5, idle_5]
    rcases (by omega : t.val % 3 = 0 ∨ t.val % 3 = 1 ∨ t.val % 3 = 2) with h | h | h
    · rw [h, show (t.val + 1) % 3 = 1 by omega]; rfl
    · rw [h, show (t.val + 1) % 3 = 2 by omega]; rfl
    · rw [h, show (t.val + 1) % 3 = 0 by omega]; rfl
/-- Before the query's point of a row block is done, nothing of it is in the last output's buffer. -/
theorem fresh_7 : ∀ n, n ≤ cfg0.N → cfg0.fresh 7 n = decide (n % 3 = 0) :=
  Cfg.fresh_tab cfg0 7 _ rfl fun t => by
    rw [flush_7, idle_7]
    rcases (by omega : t.val % 3 = 0 ∨ t.val % 3 = 1 ∨ t.val % 3 = 2) with h | h | h
    · rw [h, show (t.val + 1) % 3 = 1 by omega]; rfl
    · rw [h, show (t.val + 1) % 3 = 2 by omega]; rfl
    · rw [h, show (t.val + 1) % 3 = 0 by omega]; rfl

/-! ## What the scratch and the outputs' buffers hold -/

/-- Window 0's current buffer at point `t`. -/
abbrev ms0_0 (t : Fin cfg0.N) : Memref sig .tc .vmem S512x2048 .f32 := win0_0.stage (cfg0.slots t 0)
/-- Window 1's current buffer at point `t`. -/
abbrev ms0_1 (t : Fin cfg0.N) : Memref sig .tc .vmem S1x2048 .f32 := win0_1.stage (cfg0.slots t 1)
/-- Window 2's current buffer at point `t`. -/
abbrev ms0_2 (t : Fin cfg0.N) : Memref sig .tc .vmem S2048x1024 .bf16 := win0_2.stage (cfg0.slots t 2)
/-- Window 3's current buffer at point `t`. -/
abbrev ms0_3 (t : Fin cfg0.N) : Memref sig .tc .vmem S2048x128 .bf16 := win0_3.stage (cfg0.slots t 3)
/-- Window 4's current buffer at point `t`. -/
abbrev ms0_4 (t : Fin cfg0.N) : Memref sig .tc .vmem S512x1024 .bf16 := win0_4.stage (cfg0.slots t 4)
/-- Window 5's current buffer at point `t`. -/
abbrev ms0_5 (t : Fin cfg0.N) : Memref sig .tc .vmem S512x1024 .f32 := win0_5.stage (cfg0.slots t 5)
/-- Window 6's current buffer at point `t`. -/
abbrev ms0_6 (t : Fin cfg0.N) : Memref sig .tc .vmem S512x1024 .f32 := win0_6.stage (cfg0.slots t 6)
/-- Window 7's current buffer at point `t`. -/
abbrev ms0_7 (t : Fin cfg0.N) : Memref sig .tc .vmem S512x128 .f32 := win0_7.stage (cfg0.slots t 7)
/-- The scratch that holds the normed rows of the row block. -/
abbrev scr : Memref sig .tc .vmem S512x2048 .bf16 := Memref.whole cc0_scratch0

/-- After point `n` the scratch holds the normed rows of the point's row block. -/
def hAt (c : Dev nD) (n : ℕ) (h : n < cfg0.N) : Vec F S512x2048 .bf16 := k0_pay2 (iblk m c 0 (pq n h)) (iblk m c 1 (pq n h))
/-- What point `t` stores in the first output: the product with the point's columns of the weight, the query's scaled. -/
def out4 (c : Dev nD) (t : Fin cfg0.N) : Vec F S512x1024 .bf16 :=
  if t.val % 3 = 0 then k0_pay5 (hAt m c t.val t.isLt) (iblk m c 2 t) else k0_pay6 (hAt m c t.val t.isLt) (iblk m c 2 t)
/-- The key's block of the point's row block. -/
def out5 (c : Dev nD) (t : Fin cfg0.N) : Vec F S512x1024 .f32 := k0_pay4 (hAt m c t.val t.isLt) (iblk m c 2 (pk t.val t.isLt))
/-- The value's block, at the value's points. -/
def out6 (c : Dev nD) (t : Fin cfg0.N) : Vec F S512x1024 .f32 := k0_pay4 (hAt m c t.val t.isLt) (iblk m c 2 t)
/-- The gate's block of the point's row block. -/
def out7 (c : Dev nD) (t : Fin cfg0.N) : Vec F S512x128 .f32 :=
  k0_pay3 (iblk m c 0 (pq t.val t.isLt)) (iblk m c 1 (pq t.val t.isLt)) (iblk m c 3 (pq t.val t.isLt))

/-- What every scratch holds is any thing, as the launch hands it. -/
theorem any_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- The invariant before position `n`: at first the scratch at anything, later at what the point before left. -/
def Inv (c : Dev nD) : (n : ℕ) → n ≤ cfg0.N → sProp 𝕄
  | 0, _ => Pipeline.ΦA spec0 c
  | n + 1, hn => iprop(iprop(owns (c : Thread nD τ) scr fullShare (hAt m c n hn)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) scr fullShare (hAt m c n hn)) ∗ (∃ r, prngReg c r)) := rfl
theorem Inv_pos (c : Dev nD) (n : ℕ) (h : n ≤ cfg0.N) (hz : n ≠ 0) :
    Inv m c n h = iprop(iprop(owns (c : Thread nD τ) scr fullShare (hAt m c (n - 1) (by omega))) ∗ (∃ r, prngReg c r)) := by
  cases n with
  | zero => exact absurd rfl hz
  | succ n => rfl

/-- The invariant before any point gives the scratch at some contents. -/
theorem Inv_any (c : Dev nD) (n : ℕ) (h : n ≤ cfg0.N) : Inv m c n h ⊢ Pipeline.ΦA spec0 c := by
  cases n with
  | zero => exact Idealize.SL.BI.Entails.refl _
  | succ n =>
    rw [Inv_succ m c n h, any_eq]
    iintro ⟨HS, Hg⟩
    isplitl [HS]
    · iexists _; iexact HS
    iexact Hg

/-- The proof data: the arrays as the region finds them; each input's buffer at its block; the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
    | ⟨7, _⟩ => out7 m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val (Nat.le_of_lt t.isLt) := by
  dsimp only [dats]; exact Pipeline.Dat.Φ_castSucc (Inv m c) t

/-! What the body leaves in each buffer. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]

/-! What each input's buffer holds before the body: its block. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At the value's points the second output's buffer still holds the key's block. -/
theorem before0_5 (c : Dev nD) (t : Fin cfg0.N) (h : t.val % 3 = 2) (d) : (dats m 0 c).before 5 t d = out5 m c t := by
  rw [(dats m 0 c).before_out_traj 5 rfl (fun _ _ => rfl) (fun s hs hi hf => ?_) t.val t rfl d, fresh_5 t.val (Nat.le_of_lt t.isLt),
    if_neg (by rw [h]; exact Bool.false_ne_true), after0_5]
  · unfold out5 hAt
    rw [pq_pred t.val t.isLt _ (by omega), pk_pred t.val t.isLt _ (by omega)]
  · have h2 : s.val % 3 = 2 := by
      rw [fresh_5 s.val (Nat.le_of_lt s.isLt)] at hf
      simpa using hf
    rw [after0_5, after0_5]
    unfold out5 hAt
    rw [pq_pred s.val s.isLt _ (by omega), pk_pred s.val s.isLt _ (by omega)]
/-- At the value's points the last output's buffer still holds the gate's block. -/
theorem before0_7 (c : Dev nD) (t : Fin cfg0.N) (h : t.val % 3 = 2) (d) : (dats m 0 c).before 7 t d = out7 m c t := by
  rw [(dats m 0 c).before_out_traj 7 rfl (fun _ _ => rfl) (fun s hs hi hf => ?_) t.val t rfl d, fresh_7 t.val (Nat.le_of_lt t.isLt),
    if_neg (by rw [h]; exact Bool.false_ne_true), after0_7]
  · unfold out7
    rw [pq_pred t.val t.isLt _ (by omega)]
  · have h2 : s.val % 3 ≠ 0 := by
      rw [fresh_7 s.val (Nat.le_of_lt s.isLt)] at hf
      simpa using hf
    rw [after0_7, after0_7]
    unfold out7
    rw [pq_pred s.val s.isLt _ h2]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from rfl, after0_0]
theorem leaves_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from rfl, after0_1]
theorem leaves_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from rfl, after0_2]
theorem leaves_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from rfl, after0_3]
theorem leaves_4 (c : Dev nD) (t : Fin cfg0.N) : (dats m 0 c).leavesExact 4 t = owns (c : Thread nD τ) (ms0_4 t) fullShare (out4 m c t) := by
  rw [show (dats m 0 c).leavesExact 4 t = owns (c : Thread nD τ) (ms0_4 t) fullShare ((dats m 0 c).after 4 t) from by
    unfold Dat.leavesExact; rw [idle_4 t], after0_4]
theorem leaves_5 (c : Dev nD) (t : Fin cfg0.N) (h : t.val % 3 = 1) : (dats m 0 c).leavesExact 5 t = owns (c : Thread nD τ) (ms0_5 t) fullShare (out5 m c t) := by
  rw [show (dats m 0 c).leavesExact 5 t = owns (c : Thread nD τ) (ms0_5 t) fullShare ((dats m 0 c).after 5 t) from by
    unfold Dat.leavesExact; rw [show cfg0.idle 5 (cfg0.grid.coords t) = false from (idle_5 t).trans (by rw [h]; rfl)], after0_5]
theorem leaves_6 (c : Dev nD) (t : Fin cfg0.N) (h : t.val % 3 = 2) : (dats m 0 c).leavesExact 6 t = owns (c : Thread nD τ) (ms0_6 t) fullShare (out6 m c t) := by
  rw [show (dats m 0 c).leavesExact 6 t = owns (c : Thread nD τ) (ms0_6 t) fullShare ((dats m 0 c).after 6 t) from by
    unfold Dat.leavesExact; rw [show cfg0.idle 6 (cfg0.grid.coords t) = false from (idle_6 t).trans (by rw [h]; rfl)], after0_6]
theorem leaves_7 (c : Dev nD) (t : Fin cfg0.N) (h : t.val % 3 = 0) : (dats m 0 c).leavesExact 7 t = owns (c : Thread nD τ) (ms0_7 t) fullShare (out7 m c t) := by
  rw [show (dats m 0 c).leavesExact 7 t = owns (c : Thread nD τ) (ms0_7 t) fullShare ((dats m 0 c).after 7 t) from by
    unfold Dat.leavesExact; rw [show cfg0.idle 7 (cfg0.grid.coords t) = false from (idle_7 t).trans (by rw [h]; rfl)], after0_7]
theorem leaves_5_back (c : Dev nD) (t : Fin cfg0.N) (h : t.val % 3 = 2) : (dats m 0 c).leavesExact 5 t = owns (c : Thread nD τ) (ms0_5 t) fullShare (out5 m c t) := by
  rw [show (dats m 0 c).leavesExact 5 t = owns (c : Thread nD τ) (ms0_5 t) fullShare ((dats m 0 c).after 5 t) from by
    unfold Dat.leavesExact
    rw [show cfg0.idle 5 (cfg0.grid.coords t) = true from (idle_5 t).trans (by rw [h]; rfl), show (cfg0.win 5).flush t = true from (flush_5 t).trans (by rw [h]; rfl)], after0_5]
theorem leaves_7_back (c : Dev nD) (t : Fin cfg0.N) (h : t.val % 3 = 2) : (dats m 0 c).leavesExact 7 t = owns (c : Thread nD τ) (ms0_7 t) fullShare (out7 m c t) := by
  rw [show (dats m 0 c).leavesExact 7 t = owns (c : Thread nD τ) (ms0_7 t) fullShare ((dats m 0 c).after 7 t) from by
    unfold Dat.leavesExact
    rw [show cfg0.idle 7 (cfg0.grid.coords t) = true from (idle_7 t).trans (by rw [h]; rfl), show (cfg0.win 7).flush t = true from (flush_7 t).trans (by rw [h]; rfl)], after0_7]
theorem keeps_5_0 (c : Dev nD) (t : Fin cfg0.N) (h : t.val % 3 = 0) : (dats m 0 c).leavesExact 5 t = iprop(∃ d, owns (c : Thread nD τ) (ms0_5 t) fullShare ((dats m 0 c).before 5 t d)) :=
  Dat.leavesExact_idle (dats m 0 c) 5 t ((idle_5 t).trans (by rw [h]; rfl)) ((flush_5 t).trans (by rw [h]; rfl))
theorem keeps_6_0 (c : Dev nD) (t : Fin cfg0.N) (h : t.val % 3 = 0) : (dats m 0 c).leavesExact 6 t = iprop(∃ d, owns (c : Thread nD τ) (ms0_6 t) fullShare ((dats m 0 c).before 6 t d)) :=
  Dat.leavesExact_idle (dats m 0 c) 6 t ((idle_6 t).trans (by rw [h]; rfl)) ((flush_6 t).trans (by rw [h]; rfl))
theorem keeps_6_1 (c : Dev nD) (t : Fin cfg0.N) (h : t.val % 3 = 1) : (dats m 0 c).leavesExact 6 t = iprop(∃ d, owns (c : Thread nD τ) (ms0_6 t) fullShare ((dats m 0 c).before 6 t d)) :=
  Dat.leavesExact_idle (dats m 0 c) 6 t ((idle_6 t).trans (by rw [h]; rfl)) ((flush_6 t).trans (by rw [h]; rfl))
theorem keeps_7_1 (c : Dev nD) (t : Fin cfg0.N) (h : t.val % 3 = 1) : (dats m 0 c).leavesExact 7 t = iprop(∃ d, owns (c : Thread nD τ) (ms0_7 t) fullShare ((dats m 0 c).before 7 t d)) :=
  Dat.leavesExact_idle (dats m 0 c) 7 t ((idle_7 t).trans (by rw [h]; rfl)) ((flush_7 t).trans (by rw [h]; rfl))

set_option maxHeartbeats 4000000 in
/-- The body at the query's points. -/
theorem sound_q (c : Dev nD) (t : Fin cfg0.N) (h : t.val % 3 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Inv m c (t.val + 1) t.isLt from rfl, Inv_succ, Inv_castSucc]
  obtain ⟨hc1, hc2, hc3, hc4⟩ := cond_q t h
  rw [leaves_0, leaves_1, leaves_2, leaves_3, leaves_4, keeps_5_0 m c t h, keeps_6_0 m c t h, leaves_7 m c t h]
  rw [show hAt m c t.val t.isLt = k0_pay2 (iblk m c 0 t) (iblk m c 1 t) from by unfold hAt; rw [pq_self t h]]
  rw [show out4 m c t = k0_pay5 (k0_pay2 (iblk m c 0 t) (iblk m c 1 t)) (iblk m c 2 t) from by unfold out4 hAt; rw [if_pos h, pq_self t h]]
  rw [show out7 m c t = k0_pay3 (iblk m c 0 t) (iblk m c 1 t) (iblk m c 3 t) from by unfold out7; rw [pq_self t h]]
  refine (Laws.sep_mono_left (Inv_any m c t.val (Nat.le_of_lt t.isLt))).trans ?_
  rw [any_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_q c (grid0.coords t) _ _ _ _ _ _ _ _ _ _ _ _ _ _ _ _ _ _ hc1 hc2 hc3 hc4 (iblk m c 0 t) (iblk m c 1 t) (iblk m c 2 t) (iblk m c 3 t) _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexists _; iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexact H7

set_option maxHeartbeats 4000000 in
/-- The body at the key's points. -/
theorem sound_k (c : Dev nD) (t : Fin cfg0.N) (h : t.val % 3 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Inv m c (t.val + 1) t.isLt from rfl, Inv_succ, Inv_castSucc]
  obtain ⟨hc1, hc2, hc3, hc4⟩ := cond_k t h
  rw [leaves_0, leaves_1, leaves_2, leaves_3, leaves_4, leaves_5 m c t h, keeps_6_1 m c t h, keeps_7_1 m c t h]
  rw [Inv_pos m c t.val _ (by omega)]
  rw [show hAt m c (t.val - 1) (by omega) = hAt m c t.val t.isLt from by unfold hAt; rw [pq_pred t.val t.isLt _ (by omega)]]
  rw [show out4 m c t = k0_pay6 (hAt m c t.val t.isLt) (iblk m c 2 t) from by unfold out4; rw [if_neg (by omega)]]
  rw [show out5 m c t = k0_pay4 (hAt m c t.val t.isLt) (iblk m c 2 t) from by unfold out5; rw [pk_self t h]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_k c (grid0.coords t) _ _ _ _ _ _ _ _ _ _ _ _ _ _ _ _ _ _ hc1 hc2 hc3 hc4 (iblk m c 0 t) (iblk m c 1 t) (iblk m c 2 t) (iblk m c 3 t) _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4000000 in
/-- The body at the value's points. -/
theorem sound_v (c : Dev nD) (t : Fin cfg0.N) (h : t.val % 3 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_5 m c t h, before0_7 m c t h]
  rw [show (dats m 0 c).owesAt () t.succ = (dats m 0 c).owesAt () t.castSucc from rfl]
  rw [show (dats m 0 c).Φ t.succ = Inv m c (t.val + 1) t.isLt from rfl, Inv_succ, Inv_castSucc]
  obtain ⟨hc1, hc2, hc3, hc4⟩ := cond_v t h
  rw [leaves_0, leaves_1, leaves_2, leaves_3, leaves_4, leaves_5_back m c t h, leaves_6 m c t h, leaves_7_back m c t h]
  rw [Inv_pos m c t.val _ (by omega)]
  rw [show hAt m c (t.val - 1) (by omega) = hAt m c t.val t.isLt from by unfold hAt; rw [pq_pred t.val t.isLt _ (by omega)]]
  rw [show out4 m c t = k0_pay7 (hAt m c t.val t.isLt) (iblk m c 2 t) from by unfold out4; rw [if_neg (by omega)]; rfl]
  rw [show out6 m c t = k0_pay4 (hAt m c t.val t.isLt) (iblk m c 2 t) from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_v c (grid0.coords t) _ _ _ _ _ _ _ _ _ _ _ _ _ _ _ _ _ _ hc1 hc2 hc3 hc4 (iblk m c 0 t) (iblk m c 1 t) (iblk m c 2 t) (iblk m c 3 t) _ _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [H7]; · iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  rcases (by omega : t.val % 3 = 0 ∨ t.val % 3 = 1 ∨ t.val % 3 = 2) with h | h | h
  · exact sound_q m c t h
  · exact sound_k m c t h
  · exact sound_v m c t h

/-- The body table's row at point `t` is the body. -/
theorem row_body (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]

/-- After the last point the invariant gives it back. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_any m c _ _

/-! ## The run and the frame -/

set_option backward.isDefEq.respectTransparency.types false in
/-- Every execution of @main ends, with each array of the pipeline at what the proof data computes, every other buffer as
    the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.QkvIdeal.Body

end
-- ==== Proof.Qkv.lean ====
module

public import proofs.«01_k».proof.Proof.QkvIdealFrame
public import proofs.«01_k».proof.Proof.Gen.QkvRefIdeal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QkvIdeal.Tie

open Cert.QkvIdeal Cert.QkvIdeal.Gen Cert.QkvIdeal.Body

variable (m : (ℓ : Loc nD τ sig) → Buf (Elt Ideal) ℓ)

/-! ## What the reference computes -/

/-- The reference's root-mean-square norm of the rows of `x`, times `g`. -/
abbrev NRM (X : FVec Ideal S2x4096x2048 .f32) (G : FVec Ideal S2048 .f32) : FVec Ideal S2x4096x2048 .f32 :=
  mulf (mulf X (broadcastInDim S2x4096x2048 ![0, 1, 2] Cert.QkvRefIdeal.Gen.bcast_S2x4096x1_S2x4096x2048_0_1_2
    (Host.rsqrt (addf (Host.divf (broadcastInDim Cert.QkvRefIdeal.S2x4096x1 ![0, 1] Cert.QkvRefIdeal.Gen.bcast_S2x4096_S2x4096x1_0_1
      (Host.reduceAdd (mulf X X) (constant Cert.QkvRefIdeal.S_ .f32 0x00000000#32) Cert.QkvRefIdeal.Gen.reducesTo_S2x4096x2048_S2x4096_d2 Cert.QkvRefIdeal.Gen.h_S_))
      (broadcastInDim Cert.QkvRefIdeal.S2x4096x1 ![] Cert.QkvRefIdeal.Gen.bcast_S_S2x4096x1 (constant Cert.QkvRefIdeal.S_ .f32 0x45000000#32)))
      (broadcastInDim Cert.QkvRefIdeal.S2x4096x1 ![] Cert.QkvRefIdeal.Gen.bcast_S_S2x4096x1 (constant Cert.QkvRefIdeal.S_ .f32 0x358637BD#32))))))
    (broadcastInDim S2x4096x2048 ![0, 1, 2] Cert.QkvRefIdeal.Gen.bcast_S1x1x2048_S2x4096x2048_0_1_2
      (broadcastInDim Cert.QkvRefIdeal.S1x1x2048 ![2] Cert.QkvRefIdeal.Gen.bcast_S2048_S1x1x2048_2 G))

/-- The reference's projection `norm(x) * g @ w`, all columns. -/
abbrev PROJ (X : FVec Ideal S2x4096x2048 .f32) (G : FVec Ideal S2048 .f32) (Wt : FVec Ideal S2048x7176 .f32) : FVec Ideal Cert.QkvRefIdeal.S2x4096x7176 .f32 :=
  Host.dotGeneral Cert.QkvRefIdeal.dot_S2x4096x2048_S2048x7176_S2x4096x7176_2_0_01_1_n_n none (NRM X G) Wt

/-- The queries' columns of the projection, over the root of the head's width and the logarithm of 2. -/
abbrev REFQ (Z : FVec Ideal Cert.QkvRefIdeal.S2x4096x7176 .f32) : FVec Ideal Cert.QkvRefIdeal.S2x4096x1024 .f32 :=
  Host.divf (extractStridedSlice Cert.QkvRefIdeal.S2x4096x1024 ![0, 0, 0] Z Cert.QkvRefIdeal.Gen.slices_S2x4096x7176_S2x4096x1024_0_0_0)
    (broadcastInDim Cert.QkvRefIdeal.S2x4096x1024 ![] Cert.QkvRefIdeal.Gen.bcast_S_S2x4096x1024
      (mulf (Host.sqrt (constant Cert.QkvRefIdeal.S_ .f32 0x43000000#32)) (Host.log (constant Cert.QkvRefIdeal.S_ .f32 0x40000000#32))))

/-- The keys' columns. -/
abbrev REFK (Z : FVec Ideal Cert.QkvRefIdeal.S2x4096x7176 .f32) : FVec Ideal Cert.QkvRefIdeal.S2x4096x1024 .f32 :=
  extractStridedSlice Cert.QkvRefIdeal.S2x4096x1024 ![0, 0, 1024] Z Cert.QkvRefIdeal.Gen.slices_S2x4096x7176_S2x4096x1024_0_0_1024

/-- The values' columns. -/
abbrev REFV (Z : FVec Ideal Cert.QkvRefIdeal.S2x4096x7176 .f32) : FVec Ideal Cert.QkvRefIdeal.S2x4096x1024 .f32 :=
  extractStridedSlice Cert.QkvRefIdeal.S2x4096x1024 ![0, 0, 2048] Z Cert.QkvRefIdeal.Gen.slices_S2x4096x7176_S2x4096x1024_0_0_2048

/-- The forget gates' columns, filled up with zeros to a full row of lanes. -/
abbrev REFF (Z : FVec Ideal Cert.QkvRefIdeal.S2x4096x7176 .f32) : FVec Ideal Cert.QkvRefIdeal.S2x4096x128 .f32 :=
  pad Cert.QkvRefIdeal.S2x4096x128 ![0, 0, 0] ![0, 0, 120] ![0, 0, 0]
    (extractStridedSlice Cert.QkvRefIdeal.S2x4096x8 ![0, 0, 3072] Z Cert.QkvRefIdeal.Gen.slices_S2x4096x7176_S2x4096x8_0_0_3072)
    (sitofp .f32 (constantI Cert.QkvRefIdeal.S_ 32 0#32)) Cert.QkvRefIdeal.Gen.pads_S2x4096x8_S2x4096x128_000_000_01200 Cert.QkvRefIdeal.Gen.h_S_

/-- The first result: scaled queries, keys and values side by side. -/
abbrev REF0 (Z : FVec Ideal Cert.QkvRefIdeal.S2x4096x7176 .f32) : FVec Ideal S8192x3072 .bf16 :=
  shapeCast S8192x3072 (truncf .bf16 (concatenate Cert.QkvRefIdeal.S2x4096x3072 2 [⟨Cert.QkvRefIdeal.S2x4096x1024, REFQ Z⟩,
    ⟨Cert.QkvRefIdeal.S2x4096x1024, REFK Z⟩, ⟨Cert.QkvRefIdeal.S2x4096x1024, REFV Z⟩]
    Cert.QkvRefIdeal.Gen.concatenates_S2x4096x1024_S2x4096x1024_S2x4096x1024_S2x4096x3072_d2) Cert.QkvRefIdeal.Gen.bitsLt_bf16_f32)
    Cert.QkvRefIdeal.Gen.shapeCasts_S2x4096x3072_S8192x3072

/-- The second result, the keys; -/
abbrev REF1 (Z : FVec Ideal Cert.QkvRefIdeal.S2x4096x7176 .f32) : FVec Ideal S8192x1024 .f32 :=
  shapeCast S8192x1024 (REFK Z) Cert.QkvRefIdeal.Gen.shapeCasts_S2x4096x1024_S8192x1024

/-- the third, the values; -/
abbrev REF2 (Z : FVec Ideal Cert.QkvRefIdeal.S2x4096x7176 .f32) : FVec Ideal S8192x1024 .f32 :=
  shapeCast S8192x1024 (REFV Z) Cert.QkvRefIdeal.Gen.shapeCasts_S2x4096x1024_S8192x1024

/-- the last, the forget gates' columns. -/
abbrev REF3 (Z : FVec Ideal Cert.QkvRefIdeal.S2x4096x7176 .f32) : FVec Ideal S8192x128 .f32 :=
  shapeCast S8192x128 (REFF Z) Cert.QkvRefIdeal.Gen.shapeCasts_S2x4096x128_S8192x128

/-- The batch and the time step of a row of the joined rows. -/
abbrev bat (r : Fin 8192) : Fin 2 := ⟨r.val / 4096, by omega⟩
abbrev tim (r : Fin 8192) : Fin 4096 := ⟨r.val % 4096, by omega⟩

/-- The reference's norm at an index. -/
theorem nrm_apply (X : FVec Ideal S2x4096x2048 .f32) (G : FVec Ideal S2048 .f32) (b : Fin 2) (r : Fin 4096) (k : Fin 2048) :
    NRM X G (ix3 b r k) = Rows.norm (fun j => X (ix3 b r j)) (fun j => G (ix1 j)) k := by
  pointwise [NRM, Rows.norm, Rows.rms]

/-- The reference's projection at an index. -/
theorem proj_apply (X : FVec Ideal S2x4096x2048 .f32) (G : FVec Ideal S2048 .f32) (Wt : FVec Ideal S2048x7176 .f32) (b : Fin 2) (r : Fin 4096) (j : Fin 7176) :
    PROJ X G Wt (ix3 b r j) = ∑ k : Fin 2048, Rows.norm (fun j => X (ix3 b r j)) (fun j => G (ix1 j)) k * Wt (ix2 k j) := by
  unfold PROJ
  generalize hN : NRM X G = N
  pointwise
  subst hN
  simp only [nrm_apply]

/-- The queries' divisor. -/
theorem den : Ideal.sqrt (Ideal.ofBits .f32 0x43000000#32) * Ideal.log (Ideal.ofBits .f32 0x40000000#32)
    = ((Real.sqrt 128 * Real.log 2 : ℝ) : EReal) := by
  have e : Ideal.ofBits .f32 0x43000000#32 = ((128 : ℝ) : EReal) := by
    simp [Ideal.ofBits, Ideal.ieee]
    norm_cast
    push_cast
    norm_num
  have e' : Ideal.ofBits .f32 0x40000000#32 = ((2 : ℝ) : EReal) := by
    simp [Ideal.ofBits, Ideal.ieee]
    norm_cast
    push_cast
    norm_num
  rw [e, e']
  show (if (128 : ℝ) < 0 then ⊥ else ((Real.sqrt 128 : ℝ) : EReal)) * (if (2 : ℝ) ≤ 0 then ⊥ else ((Real.log 2 : ℝ) : EReal)) = _
  rw [if_neg (by norm_num), if_neg (by norm_num), EReal.coe_mul]

/-- The queries' factor. -/
abbrev scale : EReal := (((Real.sqrt 128)⁻¹ * (Real.log 2)⁻¹ : ℝ) : EReal)

/-- To divide by the divisor is to multiply by the factor. -/
theorem div_den (z : EReal) : Ideal.div z ((Real.sqrt 128 * Real.log 2 : ℝ) : EReal) = z * scale := by
  have h : Real.sqrt 128 * Real.log 2 ≠ 0 := (mul_pos (Real.sqrt_pos.2 (by norm_num)) (Real.log_pos (by norm_num))).ne'
  unfold Ideal.div scale
  rw [if_neg (by exact_mod_cast h), ← mul_inv, EReal.coe_inv]

/-- The first result at an index. -/
theorem ref0_apply (Z : FVec Ideal Cert.QkvRefIdeal.S2x4096x7176 .f32) (i : S8192x3072.Idx) :
    REF0 Z i = if (i 1).val < 1024 then Z (ix3 (bat (i 0)) (tim (i 0)) ⟨(i 1).val, by idx_bounds; omega⟩) * scale
      else Z (ix3 (bat (i 0)) (tim (i 0)) ⟨(i 1).val, by idx_bounds; omega⟩) := by
  idx_vars i
  pointwise [REF0]
  by_cases h1 : i1.val < 1024
  · rw [dif_pos h1, if_pos h1, den, div_den]
  · rw [dif_neg h1, if_neg h1]
    by_cases h2 : i1.val - 1024 < 1024
    · rw [dif_pos h2]
      congr 2
      exact Fin.ext (by dsimp only; omega)
    · rw [dif_neg h2]
      congr 2
      exact Fin.ext (by dsimp only; omega)

/-- The keys at an index. -/
theorem ref1_apply (Z : FVec Ideal Cert.QkvRefIdeal.S2x4096x7176 .f32) (i : S8192x1024.Idx) :
    REF1 Z i = Z (ix3 (bat (i 0)) (tim (i 0)) ⟨1024 + (i 1).val, by idx_bounds; omega⟩) := by
  idx_vars i
  pointwise [REF1]

/-- The values at an index. -/
theorem ref2_apply (Z : FVec Ideal Cert.QkvRefIdeal.S2x4096x7176 .f32) (i : S8192x1024.Idx) :
    REF2 Z i = Z (ix3 (bat (i 0)) (tim (i 0)) ⟨2048 + (i 1).val, by idx_bounds; omega⟩) := by
  idx_vars i
  pointwise [REF2]

/-- The integer zero as a float. -/
theorem zero_word : FloatOps.sitofp (F := Ideal) .f32 (0#32 : BitVec 32) = (0 : EReal) := by
  show (((0#32 : BitVec 32).toInt : ℝ) : EReal) = 0
  simp

/-- The gates at an index. -/
theorem ref3_apply (Z : FVec Ideal Cert.QkvRefIdeal.S2x4096x7176 .f32) (i : S8192x128.Idx) :
    REF3 Z i = if h : (i 1).val < 8 then Z (ix3 (bat (i 0)) (tim (i 0)) ⟨3072 + (i 1).val, by omega⟩) else 0 := by
  idx_vars i
  pointwise [REF3]
  have hb : i0.val / 4096 < 2 := by omega
  have ht : i0.val % 4096 < 4096 := by omega
  by_cases h : i1.val < 8
  · have h' : i0.val / 4096 < 2 ∧ i0.val % 4096 < 4096 ∧ i1.val < 8 := ⟨hb, ht, h⟩
    simp only [dif_pos h', dif_pos h]
  · have h' : ¬(i0.val / 4096 < 2 ∧ i0.val % 4096 < 4096 ∧ i1.val < 8) := fun h'' => h h''.2.2
    simp only [dif_neg h', dif_neg h]
    exact zero_word

/-! ## What the kernel's windows read -/

/-- The first window's rows: `x`, batch and time joined. -/
theorem V_x (c : Dev nD) : V m c main_v5 = shapeCast S8192x2048 (m ((c : Thread nD τ).loc main_arg0)) shapeCasts_S2x4096x2048_S8192x2048 := by
  entry_read
  rfl

/-- The second window's gain, as one row. -/
theorem V_g (c : Dev nD) : V m c main_v6 = shapeCast S1x2048 (m ((c : Thread nD τ).loc main_arg1)) shapeCasts_S2048_S1x2048 := by
  entry_read
  rfl

/-- The weight's columns of queries, keys and values. -/
abbrev WQKV (Wt : FVec Ideal S2048x7176 .f32) : FVec Ideal S2048x3072 .bf16 :=
  truncf .bf16 (extractStridedSlice S2048x3072 ![0, 0] Wt slices_S2048x7176_S2048x3072_0_0) bitsLt_bf16_f32
/-- The weight's columns of forget gates, filled up with zeros. -/
abbrev WFL (Wt : FVec Ideal S2048x7176 .f32) : FVec Ideal S2048x128 .bf16 :=
  truncf .bf16 (pad S2048x128 ![0, 0] ![0, 120] ![0, 0] (extractStridedSlice S2048x8 ![0, 3072] Wt slices_S2048x7176_S2048x8_0_3072)
    (sitofp .f32 (constantI S_ 32 0#32)) pads_S2048x8_S2048x128_000_01200 h_S_) bitsLt_bf16_f32

/-- The third window's array. -/
theorem V_w (c : Dev nD) : V m c main_v1 = WQKV (m ((c : Thread nD τ).loc main_arg2)) := by
  entry_read
  rfl

/-- The fourth window's array. -/
theorem V_f (c : Dev nD) : V m c main_v4 = WFL (m ((c : Thread nD τ).loc main_arg2)) := by
  rfl

/-- The joined rows at an index. -/
theorem cast_apply (A : FVec Ideal S2x4096x2048 .f32) (i : S8192x2048.Idx) :
    shapeCast S8192x2048 A shapeCasts_S2x4096x2048_S8192x2048 i = A (ix3 (bat (i 0)) (tim (i 0)) (i 1)) := by
  idx_vars i
  pointwise

/-- The gain as one row at an index. -/
theorem cast_row_apply (A : FVec Ideal S2048 .f32) (i : S1x2048.Idx) :
    shapeCast S1x2048 A shapeCasts_S2048_S1x2048 i = A (ix1 (i 1)) := by
  idx_vars i
  pointwise

/-- The third window's array at an index. -/
theorem wqkv_apply (Wt : FVec Ideal S2048x7176 .f32) (i : S2048x3072.Idx) : WQKV Wt i = Wt (ix2 (i 0) ⟨(i 1).val, by idx_bounds; omega⟩) := by
  idx_vars i
  pointwise [WQKV]

/-- The fourth window's array at an index. -/
theorem wfl_apply (Wt : FVec Ideal S2048x7176 .f32) (i : S2048x128.Idx) :
    WFL Wt i = if h : (i 1).val < 8 then Wt (ix2 (i 0) ⟨3072 + (i 1).val, by omega⟩) else 0 := by
  idx_vars i
  pointwise [WFL]
  by_cases h : i1.val < 8
  · rw [dif_pos h, dif_pos h]
  · rw [dif_neg h, dif_neg h]
    exact zero_word

/-! ## The body's arithmetic -/

/-- The normed block that the query's point stores in the scratch. -/
theorem pay2_apply (x : FVec Ideal S512x2048 .f32) (g : FVec Ideal S1x2048 .f32) (y : S512x2048.Idx) :
    k0_pay2 (F := Ideal) x g y = Rows.norm (fun j => x (ix2 (y 0) j)) (fun j => g (ix2 0 j)) (y 1) := by
  idx_vars y
  pointwise [k0_pay2, k0_pay1, Rows.norm, Rows.rms]

/-- The gates' product. -/
theorem pay3_apply (x : FVec Ideal S512x2048 .f32) (g : FVec Ideal S1x2048 .f32) (w : FVec Ideal S2048x128 .bf16) (y : S512x128.Idx) :
    k0_pay3 (F := Ideal) x g w y = ∑ k : Fin 2048, Rows.norm (fun j => x (ix2 (y 0) j)) (fun j => g (ix2 0 j)) k * w (ix2 k (y 1)) := by
  have h : k0_pay2 (F := Ideal) x g = k0_pay1 x g := by unfold k0_pay2; exact shapeCast_self _ _
  idx_vars y
  unfold k0_pay3
  generalize hN : k0_pay1 (F := Ideal) x g = N
  pointwise
  subst hN
  simp only [← h, pay2_apply]
  rfl

/-- The product with a column block of the weight. -/
theorem pay4_apply (a : FVec Ideal S512x2048 .bf16) (b : FVec Ideal S2048x1024 .bf16) (y : S512x1024.Idx) :
    k0_pay4 (F := Ideal) a b y = ∑ k : Fin 2048, a (ix2 (y 0) k) * b (ix2 k (y 1)) := by
  idx_vars y
  pointwise [k0_pay4]

/-- The queries' product is scaled. -/
theorem pay5_apply (a : FVec Ideal S512x2048 .bf16) (b : FVec Ideal S2048x1024 .bf16) (y : S512x1024.Idx) :
    k0_pay5 (F := Ideal) a b y = (k0_pay4 (F := Ideal) a b y : EReal) * scale := rfl

/-- The keys' and values' product is not. -/
theorem pay6_apply (a : FVec Ideal S512x2048 .bf16) (b : FVec Ideal S2048x1024 .bf16) (y : S512x1024.Idx) :
    k0_pay6 (F := Ideal) a b y = (k0_pay4 (F := Ideal) a b y : EReal) := rfl

/-! ## The blocks -/

/-- The blocks' places: the grid is 16 row blocks, each of 3 column blocks. -/
theorem idx : ∀ t : Fin cfg0.N, win0_0.index t = ![t.val / 3, 0] ∧ win0_1.index t = ![0, 0] ∧ win0_2.index t = ![0, t.val % 3]
    ∧ win0_3.index t = ![0, 0] ∧ win0_4.index t = ![t.val / 3, t.val % 3] ∧ win0_5.index t = ![t.val / 3, 0]
    ∧ win0_6.index t = ![t.val / 3, 0] ∧ win0_7.index t = ![t.val / 3, 0] :=
  (by decide +kernel : ∀ t : Fin grid0.N, _)

/-- The arguments, and the reference's projection of them. -/
abbrev aX (c : Dev nD) : FVec Ideal S2x4096x2048 .f32 := m ((c : Thread nD τ).loc main_arg0)
abbrev aG (c : Dev nD) : FVec Ideal S2048 .f32 := m ((c : Thread nD τ).loc main_arg1)
abbrev aW (c : Dev nD) : FVec Ideal S2048x7176 .f32 := m ((c : Thread nD τ).loc main_arg2)
abbrev Z (c : Dev nD) : FVec Ideal Cert.QkvRefIdeal.S2x4096x7176 .f32 := PROJ (aX m c) (aG m c) (aW m c)

/-- The normed row `r` of the joined rows. -/
def row (c : Dev nD) (r : Fin 8192) (k : Fin 2048) : EReal :=
  Rows.norm (fun j => aX m c (ix3 (bat r) (tim r) j)) (fun j => aG m c (ix1 j)) k

/-- The projection, as sums over the normed row. -/
theorem Z_apply (c : Dev nD) (r : Fin 8192) (j : Fin 7176) : Z m c (ix3 (bat r) (tim r) j) = ∑ k : Fin 2048, row m c r k * aW m c (ix2 k j) :=
  proj_apply _ _ _ _ _ _

/-- The joined row that row `y` of a row block is. -/
abbrev at_ (n : ℕ) (h : n < cfg0.N) (y : Fin 512) : Fin 8192 := ⟨n / 3 * 512 + y.val, by have := lt_of_lt_of_eq h N_0; omega⟩

/-- A row of the first window's block. -/
theorem blk_x (c : Dev nD) (t : Fin cfg0.N) (y : Fin 512) (j : Fin 2048) :
    (iblk m c 0 t : FVec Ideal S512x2048 .f32) (ix2 y j) = aX m c (ix3 (bat (at_ t.val t.isLt y)) (tim (at_ t.val t.isLt y)) j) := by
  have e : (iblk m c 0 t : FVec Ideal S512x2048 .f32) (ix2 y j)
      = (shapeCast S8192x2048 (aX m c) shapeCasts_S2x4096x2048_S8192x2048 : FVec Ideal S8192x2048 .f32) (ix2 (at_ t.val t.isLt y) j) := by
    blk_simp [iblk]
    rw [V_x]
    blk_ext [idx t]
  rw [e, cast_apply]
  rfl

/-- The second window's block is the gain. -/
theorem blk_g (c : Dev nD) (t : Fin cfg0.N) (j : Fin 2048) : (iblk m c 1 t : FVec Ideal S1x2048 .f32) (ix2 0 j) = aG m c (ix1 j) := by
  blk_simp [iblk]
  rw [V_g, cast_row_apply]
  blk_ext [idx t]

/-- The third window's block: the point's 1024 columns of the weight. -/
theorem blk_w (c : Dev nD) (t : Fin cfg0.N) (k : Fin 2048) (j : Fin 1024) :
    (iblk m c 2 t : FVec Ideal S2048x1024 .bf16) (ix2 k j) = aW m c (ix2 k ⟨t.val % 3 * 1024 + j.val, by omega⟩) := by
  blk_simp [iblk]
  rw [V_w, wqkv_apply]
  blk_ext [idx t]

/-- The fourth window's block: the gates' columns of the weight, then zeros. -/
theorem blk_f (c : Dev nD) (t : Fin cfg0.N) (k : Fin 2048) (j : Fin 128) :
    (iblk m c 3 t : FVec Ideal S2048x128 .bf16) (ix2 k j) = if h : j.val < 8 then aW m c (ix2 k ⟨3072 + j.val, by omega⟩) else 0 := by
  have e : (iblk m c 3 t : FVec Ideal S2048x128 .bf16) (ix2 k j) = WFL (aW m c) (ix2 k j) := by
    blk_simp [iblk]
    rw [V_f]
    blk_ext [idx t]
  rw [e, wfl_apply]
  rfl

/-- The scratch holds the normed rows of the point's row block. -/
theorem hAt_apply (c : Dev nD) (n : ℕ) (h : n < cfg0.N) (y : S512x2048.Idx) :
    (hAt m c n h : FVec Ideal S512x2048 .bf16) y = row m c (at_ n h (y 0)) (y 1) := by
  unfold hAt
  idx_vars y
  refine (pay2_apply _ _ _).trans ?_
  unfold row
  have e : 3 * (n / 3) / 3 = n / 3 := by omega
  congr 1
  · funext j
    refine (blk_x m c _ _ j).trans ?_
    simp only [pq, at_, e]
    rfl
  · funext j
    exact blk_g m c _ j

/-- A product of a row block with the columns of a point `s`. -/
theorem prod_apply (c : Dev nD) (n : ℕ) (h : n < cfg0.N) (s : Fin cfg0.N) (y : S512x1024.Idx) :
    k0_pay4 (F := Ideal) (hAt m c n h) (iblk m c 2 s) y
      = Z m c (ix3 (bat (at_ n h (y 0))) (tim (at_ n h (y 0))) ⟨s.val % 3 * 1024 + (y 1).val, by idx_bounds; omega⟩) := by
  rw [Z_apply]
  refine (pay4_apply _ _ y).trans ?_
  refine Finset.sum_congr rfl fun k _ => ?_
  exact congrArg₂ (· * ·) (hAt_apply m c n h _) (blk_w m c s k (y 1))

/-- What a point stores in the first output. -/
theorem out4_apply (c : Dev nD) (t : Fin cfg0.N) (y : S512x1024.Idx) :
    (out4 m c t : FVec Ideal S512x1024 .bf16) y = REF0 (Z m c) (((cfg0.win 4).blk t).view.emb y) := by
  have e0 : (((((cfg0.win 4).blk t).view.emb y) 0 : Fin 8192) : ℕ) = t.val / 3 * 512 + (y 0).val := by blk_simp [idx t]
  have e1 : (((((cfg0.win 4).blk t).view.emb y) 1 : Fin 3072) : ℕ) = t.val % 3 * 1024 + (y 1).val := by blk_simp [idx t]
  have hy : (y 1).val < 1024 := (y 1).isLt
  have E0 : (((cfg0.win 4).blk t).view.emb y) 0 = at_ t.val t.isLt (y 0) := Fin.ext e0
  rw [ref0_apply]
  unfold out4
  by_cases h : t.val % 3 = 0
  · rw [if_pos h, if_pos (by rw [e1]; omega)]
    refine (pay5_apply _ _ y).trans ?_
    rw [prod_apply]
    simp only [E0, e1]
  · rw [if_neg h, if_neg (by rw [e1]; omega)]
    refine (pay6_apply _ _ y).trans ?_
    rw [prod_apply]
    simp only [E0, e1]

/-- The key's block of a row block. -/
theorem out5_apply (c : Dev nD) (t : Fin cfg0.N) (y : S512x1024.Idx) :
    (out5 m c t : FVec Ideal S512x1024 .f32) y = REF1 (Z m c) (((cfg0.win 5).blk t).view.emb y) := by
  have e0 : (((((cfg0.win 5).blk t).view.emb y) 0 : Fin 8192) : ℕ) = t.val / 3 * 512 + (y 0).val := by blk_simp [idx t]
  have e1 : (((((cfg0.win 5).blk t).view.emb y) 1 : Fin 1024) : ℕ) = (y 1).val := by blk_simp [idx t]
  have E0 : (((cfg0.win 5).blk t).view.emb y) 0 = at_ t.val t.isLt (y 0) := Fin.ext e0
  have e : (pk t.val t.isLt).val % 3 * 1024 = 1024 := by unfold pk; dsimp only; omega
  rw [ref1_apply]
  unfold out5
  rw [prod_apply]
  simp only [E0, e1, e]

/-- The value's block of a row block, at the point that writes it back. -/
theorem out6_apply (c : Dev nD) (t : Fin cfg0.N) (h : t.val % 3 = 2) (y : S512x1024.Idx) :
    (out6 m c t : FVec Ideal S512x1024 .f32) y = REF2 (Z m c) (((cfg0.win 6).blk t).view.emb y) := by
  have e0 : (((((cfg0.win 6).blk t).view.emb y) 0 : Fin 8192) : ℕ) = t.val / 3 * 512 + (y 0).val := by blk_simp [idx t]
  have e1 : (((((cfg0.win 6).blk t).view.emb y) 1 : Fin 1024) : ℕ) = (y 1).val := by blk_simp [idx t]
  have E0 : (((cfg0.win 6).blk t).view.emb y) 0 = at_ t.val t.isLt (y 0) := Fin.ext e0
  have e : t.val % 3 * 1024 = 2048 := by omega
  rw [ref2_apply]
  unfold out6
  rw [prod_apply]
  simp only [E0, e1, e]

/-- The gate's block of a row block. -/
theorem out7_apply (c : Dev nD) (t : Fin cfg0.N) (y : S512x128.Idx) :
    (out7 m c t : FVec Ideal S512x128 .f32) y = REF3 (Z m c) (((cfg0.win 7).blk t).view.emb y) := by
  have e0 : (((((cfg0.win 7).blk t).view.emb y) 0 : Fin 8192) : ℕ) = t.val / 3 * 512 + (y 0).val := by blk_simp [idx t]
  have e1 : (((((cfg0.win 7).blk t).view.emb y) 1 : Fin 128) : ℕ) = (y 1).val := by blk_simp [idx t]
  have E0 : (((cfg0.win 7).blk t).view.emb y) 0 = at_ t.val t.isLt (y 0) := Fin.ext e0
  have e : 3 * (t.val / 3) / 3 = t.val / 3 := by omega
  rw [ref3_apply]
  unfold out7
  refine (pay3_apply _ _ _ y).trans ?_
  have hr : ∀ k, Rows.norm (fun j => (iblk m c 0 (pq t.val t.isLt) : FVec Ideal S512x2048 .f32) (ix2 (y 0) j))
      (fun j => (iblk m c 1 (pq t.val t.isLt) : FVec Ideal S1x2048 .f32) (ix2 0 j)) k = row m c (at_ t.val t.isLt (y 0)) k := fun k => by
    unfold row
    congr 1
    · funext j
      refine (blk_x m c _ _ j).trans ?_
      simp only [pq, at_, e]
    · funext j
      exact blk_g m c _ j
  have hf : ∀ k, (iblk m c 3 (pq t.val t.isLt) : FVec Ideal S2048x128 .bf16) (ix2 k (y 1)) = _ := fun k => blk_f m c _ k (y 1)
  simp only [E0, e1, hr]
  by_cases h : (y 1).val < 8
  · rw [dif_pos h, Z_apply]
    refine Finset.sum_congr rfl fun k _ => ?_
    rw [hf k, dif_pos h]
  · rw [dif_neg h]
    refine Finset.sum_eq_zero fun k _ => ?_
    rw [hf k, dif_neg h, mul_zero]

/-! ## The result arrays after the run are the reference's -/

/-- The scaled queries, the keys and the values side by side. -/
theorem final_a (c : Dev nD) : (dats m 0 c).arrAt 4 (cfgs 0).N = REF0 (Z m c) := by
  refine (dats m 0 c).arrAt_eq_of_covers 4 _ (by decide +kernel) fun t _ y => ?_
  blk_simp
  rw [after0_4]
  exact out4_apply m c t y

/-- The keys. -/
theorem final_b (c : Dev nD) : (dats m 0 c).arrAt 5 (cfgs 0).N = REF1 (Z m c) := by
  refine (dats m 0 c).arrAt_eq_of_covers 5 _ (by decide +kernel) fun t _ y => ?_
  blk_simp
  rw [after0_5]
  exact out5_apply m c t y

/-- The values. -/
theorem final_c (c : Dev nD) : (dats m 0 c).arrAt 6 (cfgs 0).N = REF2 (Z m c) := by
  refine (dats m 0 c).arrAt_eq_of_covers 6 _ (by decide +kernel) fun t hf y => ?_
  blk_simp
  rw [after0_6]
  exact out6_apply m c t ((flush0_6 t).mp hf) y

/-- The forget gates' columns. -/
theorem final_d (c : Dev nD) : (dats m 0 c).arrAt 7 (cfgs 0).N = REF3 (Z m c) := by
  refine (dats m 0 c).arrAt_eq_of_covers 7 _ (by decide +kernel) fun t _ y => ?_
  blk_simp
  rw [after0_7]
  exact out7_apply m c t y

/-- Every execution ends with the four results at the reference's and the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v7_0) = REF0 (Z m c)
      ∧ r.2.mem ((c.tc : Thread nD τ).loc main_v7_1) = REF1 (Z m c)
      ∧ r.2.mem ((c.tc : Thread nD τ).loc main_v7_2) = REF2 (Z m c)
      ∧ r.2.mem ((c.tc : Thread nD τ).loc main_v7_3) = REF3 (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 4).trans (final_a m c), ((h.1 c).1 5).trans (final_b m c), ((h.1 c).1 6).trans (final_c m c),
    ((h.1 c).1 7).trans (final_d m c), h.2 c⟩)
    (θ_run_and (run_main m ρ) (frame_of m ρ (dats m) (A_eq m) (run_main m ρ)))

end Cert.QkvIdeal.Tie

end
-- ==== Proof.OutEven.lean ====
module

public import proofs.«01_k».proof.Proof.Gen.OutEvenIdeal.Frame
public import proofs.«01_k».proof.Proof.Gen.OutEvenRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutEvenIdeal.Tie

open Cert.OutEvenIdeal Cert.OutEvenIdeal.Gen

variable (m : (ℓ : Loc nD τ sig) → Buf (Elt Ideal) ℓ)

/-- What the reference computes: `x + concat(a, b) @ w`, with the batch and time axes joined. -/
abbrev REF (A B : FVec Ideal S2x4096x1024 .f32) (Wt : FVec Ideal S2048x2048 .f32)
    (X : FVec Ideal S2x4096x2048 .f32) : FVec Ideal S8192x2048 .f32 :=
  shapeCast S8192x2048 (addf X (Host.dotGeneral Cert.OutEvenRefIdeal.dot_S2x4096x2048_S2048x2048_S2x4096x2048_2_0_01_1_n_n none
      (concatenate S2x4096x2048 2 [⟨S2x4096x1024, A⟩, ⟨S2x4096x1024, B⟩]
        Cert.OutEvenRefIdeal.Gen.concatenates_S2x4096x1024_S2x4096x1024_S2x4096x2048_d2) Wt))
    Cert.OutEvenRefIdeal.Gen.shapeCasts_S2x4096x2048_S8192x2048

/-- The blocks' places: the grid is 16 row blocks, each of 2 column blocks. -/
theorem idx : ∀ t : Fin cfg0.N, win0_0.index t = ![t.val / 2, 0] ∧ win0_1.index t = ![t.val / 2, 0]
    ∧ win0_2.index t = ![0, t.val % 2] ∧ win0_3.index t = ![0, t.val % 2]
    ∧ win0_4.index t = ![t.val / 2, t.val % 2] ∧ win0_5.index t = ![t.val / 2, t.val % 2] :=
  (by decide +kernel : ∀ t : Fin grid0.N, _)

/-- The reference read at an index: the product with the first half of the rows of `w` and that with the second. -/
theorem ref_apply (A B : FVec Ideal S2x4096x1024 .f32) (Wt : FVec Ideal S2048x2048 .f32) (X : FVec Ideal S2x4096x2048 .f32)
    (i : S8192x2048.Idx) : REF A B Wt X i = X (ix3 ⟨(i 0).val / 4096, by idx_bounds; omega⟩ ⟨(i 0).val % 4096, by omega⟩ (i 1))
      + ((∑ k : Fin 1024, A (ix3 ⟨(i 0).val / 4096, by idx_bounds; omega⟩ ⟨(i 0).val % 4096, by omega⟩ k) * Wt (ix2 ⟨k.val, by omega⟩ (i 1)))
      + ∑ k : Fin 1024, B (ix3 ⟨(i 0).val / 4096, by idx_bounds; omega⟩ ⟨(i 0).val % 4096, by omega⟩ k) * Wt (ix2 ⟨1024 + k.val, by omega⟩ (i 1))) := by
  idx_vars i
  pointwise [REF]

/-- The stored block read at an index. -/
theorem pay_apply (x : FVec Ideal S512x1024 .f32) (a : FVec Ideal S512x1024 .bf16) (u : FVec Ideal S1024x1024 .bf16)
    (b : FVec Ideal S512x1024 .bf16) (v : FVec Ideal S1024x1024 .bf16) (y : S512x1024.Idx) :
    k0_pay1 x a u b v y = x y + ((∑ k : Fin 1024, a (ix2 (y 0) k) * u (ix2 k (y 1))) + ∑ k : Fin 1024, b (ix2 (y 0) k) * v (ix2 k (y 1))) := by
  idx_vars y
  pointwise [k0_pay1]
  rw [add_assoc]

/-- The rows the kernel's first window reads: `a`, batch and time joined. -/
theorem V_a (c : Dev nD) : V m c main_v2 = shapeCast S8192x1024 (m ((c : Thread nD τ).loc main_arg0)) shapeCasts_S2x4096x1024_S8192x1024 := by
  entry_read
  rfl

/-- The rows the kernel's second window reads: `b`, batch and time joined. -/
theorem V_b (c : Dev nD) : V m c main_v4 = shapeCast S8192x1024 (m ((c : Thread nD τ).loc main_arg1)) shapeCasts_S2x4096x1024_S8192x1024 := by
  entry_read
  rfl

/-- The first half of the rows of `w`, which the kernel's third window reads. -/
theorem V_u (c : Dev nD) : V m c main_v5 = extractStridedSlice S1024x2048 ![0, 0] (m ((c : Thread nD τ).loc main_arg2)) slices_S2048x2048_S1024x2048_0_0 := by
  entry_read
  rfl

/-- The second half of the rows of `w`, which the kernel's fourth window reads. -/
theorem V_v (c : Dev nD) : V m c main_v6 = extractStridedSlice S1024x2048 ![1024, 0] (m ((c : Thread nD τ).loc main_arg2)) slices_S2048x2048_S1024x2048_1024_0 := by
  entry_read
  rfl

/-- The rows the kernel's fifth window reads: `x`, batch and time joined. -/
theorem V_x (c : Dev nD) : V m c main_v7 = shapeCast S8192x2048 (m ((c : Thread nD τ).loc main_arg3)) shapeCasts_S2x4096x2048_S8192x2048 := by
  entry_read
  rfl

/-- The joined rows at an index. -/
theorem cast_apply (A : FVec Ideal S2x4096x2048 .f32) (i : S8192x2048.Idx) :
    shapeCast S8192x2048 A shapeCasts_S2x4096x2048_S8192x2048 i
      = A (ix3 ⟨(i 0).val / 4096, by idx_bounds; omega⟩ ⟨(i 0).val % 4096, by omega⟩ (i 1)) := by
  idx_vars i
  pointwise

/-- The joined rows of half width at an index. -/
theorem cast_half_apply (A : FVec Ideal S2x4096x1024 .f32) (i : S8192x1024.Idx) :
    shapeCast S8192x1024 A shapeCasts_S2x4096x1024_S8192x1024 i
      = A (ix3 ⟨(i 0).val / 4096, by idx_bounds; omega⟩ ⟨(i 0).val % 4096, by omega⟩ (i 1)) := by
  idx_vars i
  pointwise

/-- The first half of the rows at an index. -/
theorem top_apply (W : FVec Ideal S2048x2048 .f32) (i : S1024x2048.Idx) :
    extractStridedSlice S1024x2048 ![0, 0] W slices_S2048x2048_S1024x2048_0_0 i
      = W (ix2 ⟨(i 0).val, by idx_bounds; omega⟩ (i 1)) := by
  idx_vars i
  pointwise

/-- The second half of the rows at an index. -/
theorem bottom_apply (W : FVec Ideal S2048x2048 .f32) (i : S1024x2048.Idx) :
    extractStridedSlice S1024x2048 ![1024, 0] W slices_S2048x2048_S1024x2048_1024_0 i
      = W (ix2 ⟨1024 + (i 0).val, by idx_bounds; omega⟩ (i 1)) := by
  idx_vars i
  pointwise

/-- One block: what a grid point stores is the reference at the block's place. -/
theorem point (c : Dev nD) (t : Fin cfg0.N) (y) : k0_pay1 (iblk m c 4 t) (iblk m c 0 t) (iblk m c 2 t) (iblk m c 1 t) (iblk m c 3 t) y
    = REF (m ((c : Thread nD τ).loc main_arg0)) (m ((c : Thread nD τ).loc main_arg1)) (m ((c : Thread nD τ).loc main_arg2))
      (m ((c : Thread nD τ).loc main_arg3)) (((cfg0.win 5).blk t).view.emb y) := by
  rw [ref_apply, pay_apply]
  reads_congr
  · blk_simp [iblk]
    rw [V_x, cast_apply]
    blk_ext [idx t]
  · blk_simp [iblk]
    rw [V_a, cast_half_apply]
    blk_ext [idx t]
  · blk_simp [iblk]
    rw [V_u, top_apply]
    blk_ext [idx t]
  · blk_simp [iblk]
    rw [V_b, cast_half_apply]
    blk_ext [idx t]
  · blk_simp [iblk]
    rw [V_v, bottom_apply]
    blk_ext [idx t]

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]; frame_out
  exact point m c t y

end Cert.OutEvenIdeal.Tie

end
-- ==== Proof.OutOdd.lean ====
module

public import proofs.«01_k».proof.Proof.Gen.OutOddIdeal.Frame
public import proofs.«01_k».proof.Proof.Gen.OutOddRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutOddIdeal.Tie

open Cert.OutOddIdeal Cert.OutOddIdeal.Gen

variable (m : (ℓ : Loc nD τ sig) → Buf (Elt Ideal) ℓ)

/-- What the reference computes: `x + y @ w`, with the batch and time axes joined. -/
abbrev REF (Y : FVec Ideal S2x4096x2048 .f32) (Wt : FVec Ideal S2048x2048 .f32)
    (X : FVec Ideal S2x4096x2048 .f32) : FVec Ideal S8192x2048 .f32 :=
  shapeCast S8192x2048 (addf X (Host.dotGeneral Cert.OutOddRefIdeal.dot_S2x4096x2048_S2048x2048_S2x4096x2048_2_0_01_1_n_n none Y Wt))
    Cert.OutOddRefIdeal.Gen.shapeCasts_S2x4096x2048_S8192x2048

/-- The blocks' places: the grid is 16 row blocks, each of 2 column blocks. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The reference read at an index. -/
theorem ref_apply (Y : FVec Ideal S2x4096x2048 .f32) (Wt : FVec Ideal S2048x2048 .f32) (X : FVec Ideal S2x4096x2048 .f32)
    (i : S8192x2048.Idx) : REF Y Wt X i = X (ix3 ⟨(i 0).val / 4096, by idx_bounds; omega⟩ ⟨(i 0).val % 4096, by omega⟩ (i 1))
      + ∑ k : Fin 2048, Y (ix3 ⟨(i 0).val / 4096, by idx_bounds; omega⟩ ⟨(i 0).val % 4096, by omega⟩ k) * Wt (ix2 k (i 1)) := by
  idx_vars i
  pointwise [REF]

/-- The stored block read at an index. -/
theorem pay_apply (x : FVec Ideal S512x1024 .f32) (a : FVec Ideal S512x2048 .bf16) (b : FVec Ideal S2048x1024 .bf16) (y : S512x1024.Idx) :
    k0_pay1 x a b y = x y + ∑ k : Fin 2048, a (ix2 (y 0) k) * b (ix2 k (y 1)) := by
  idx_vars y
  pointwise [k0_pay1]

/-- The rows the kernel's first window reads: `y`, batch and time joined. -/
theorem V_y (c : Dev nD) : V m c main_v1 = shapeCast S8192x2048 (m ((c : Thread nD τ).loc main_arg0)) shapeCasts_S2x4096x2048_S8192x2048 := by
  entry_read
  rfl

/-- The weight the kernel's second window reads. -/
theorem V_w (c : Dev nD) : V m c main_v2 = m ((c : Thread nD τ).loc main_arg1) := by
  entry_read
  rfl

/-- The rows the kernel's third window reads: `x`, batch and time joined. -/
theorem V_x (c : Dev nD) : V m c main_v3 = shapeCast S8192x2048 (m ((c : Thread nD τ).loc main_arg2)) shapeCasts_S2x4096x2048_S8192x2048 := by
  entry_read
  rfl

/-- The joined rows at an index. -/
theorem cast_apply (A : FVec Ideal S2x4096x2048 .f32) (i : S8192x2048.Idx) :
    shapeCast S8192x2048 A shapeCasts_S2x4096x2048_S8192x2048 i
      = A (ix3 ⟨(i 0).val / 4096, by idx_bounds; omega⟩ ⟨(i 0).val % 4096, by omega⟩ (i 1)) := by
  idx_vars i
  pointwise

/-- One block: what a grid point stores is the reference at the block's place. -/
theorem point (c : Dev nD) (t : Fin cfg0.N) (y) : k0_pay1 (iblk m c 2 t) (iblk m c 0 t) (iblk m c 1 t) y
    = REF (m ((c : Thread nD τ).loc main_arg0)) (m ((c : Thread nD τ).loc main_arg1)) (m ((c : Thread nD τ).loc main_arg2))
      (((cfg0.win 3).blk t).view.emb y) := by
  rw [ref_apply, pay_apply]
  reads_congr
  · blk_simp [iblk]
    rw [V_x, cast_apply]
    blk_ext [idx t]
  · blk_simp [iblk]
    rw [V_y, cast_apply]
    blk_ext [idx t]
  · blk_simp [iblk]
    rw [V_w]
    blk_ext [idx t]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutOddIdeal.Tie

end
-- ==== Proof.RgLru.lean ====
/- The RG-LRU's arithmetic on one number: the decay, the step and the output gate, and the equations by which
   the two ways of writing them agree on all of the extended reals. -/
module

public import Idealize.ShloMosaic.Lib.Pipeline.ValueKit

@[expose] public section

noncomputable section

open Idealize.ShloMosaic

namespace Cert.RgLru

/-- The logistic function of a gate's argument. -/
def gate (x : EReal) : EReal := Ideal.div 1 (1 + Ideal.exp (-x))

/-- `softplus(-l)`. -/
def softplus (l : EReal) : EReal := max (-l) 0 + Ideal.log1p (Ideal.exp (-(max l (-l))))

/-- The logarithm of the decay: `-8 * r * softplus(-l)`. -/
def decay (r l : EReal) : EReal := Ideal.ofBits .f32 3238002688#32 * r * softplus l

/-- What a step adds: `sqrt(1 - exp(2 d)) * (i * c)`, for the decay's logarithm `d`. -/
def input (d i c : EReal) : EReal := Ideal.sqrt (-(Ideal.exp (Ideal.ofBits .f32 1073741824#32 * d) - 1)) * (i * c)

/-- The tanh approximation of gelu. -/
def gelu (g : EReal) : EReal :=
  g * (Ideal.ofBits .f32 1056964608#32 * (1
    + Ideal.tanh (Ideal.ofBits .f32 1061962282#32 * (g + Ideal.ofBits .f32 1027024659#32 * (g * g * g)))))

/-- `1 - x` is `-(x - 1)`, at the infinities too. -/
theorem one_sub (x : EReal) : 1 - x = -(x - 1) := by
  induction x with
  | bot => rfl
  | top => rfl
  | coe r => rw [← EReal.coe_one, ← EReal.coe_sub, ← EReal.coe_sub, ← EReal.coe_neg]; congr 1; ring

end Cert.RgLru

end
-- ==== Proof.LruStepRef.lean ====
/- The RG-LRU step's reference: what it computes, in named pieces, and the pieces read at an index. -/
module

public import proofs.«01_k».proof.Proof.RgLru
public import proofs.«01_k».proof.Proof.Gen.LruStepRefIdeal.Run
public import Idealize.ShloMosaic.Lib.Pipeline.ValueKit

@[expose] public section

set_option maxRecDepth 16384

noncomputable section

open Idealize.ShloMosaic Idealize.ShloMosaic.TcCoe Idealize.SL.Sem

namespace Cert.LruStepRefIdeal.Tie

open Cert.LruStepRefIdeal Cert.LruStepRefIdeal.Gen

/-- The four-tap convolution over the token and the three before it. -/
def CONV (z : FVec Ideal S8x1x4096 .f32) (cs : FVec Ideal S8x3x2048 .f32) (cw : FVec Ideal S4x2048 .f32) (cb : FVec Ideal S2048 .f32) : FVec Ideal S8x1x2048 .f32 :=
  addf (broadcastInDim S8x1x2048 ![0, 1, 2] bcast_S1x1x2048_S8x1x2048_0_1_2 (broadcastInDim S1x1x2048 ![2] bcast_S2048_S1x1x2048_2 cb)) (addf (addf (addf (addf (broadcastInDim S8x1x2048 ![] bcast_S_S8x1x2048 (constant S_ .f32 0x00000000#32)) (mulf (extractStridedSlice S8x1x2048 ![0, 0, 0] (concatenate S8x4x2048 1 [⟨S8x3x2048, cs⟩, ⟨S8x1x2048, (extractStridedSlice S8x1x2048 ![0, 0, 2048] z slices_S8x1x4096_S8x1x2048_0_0_2048)⟩] concatenates_S8x3x2048_S8x1x2048_S8x4x2048_d1) slices_S8x4x2048_S8x1x2048_0_0_0) (broadcastInDim S8x1x2048 ![0, 1, 2] bcast_S1x1x2048_S8x1x2048_0_1_2 (broadcastInDim S1x1x2048 ![2] bcast_S2048_S1x1x2048_2 (shapeCast _ (extractStridedSlice S1x2048 ![0, 0] cw slices_S4x2048_S1x2048_0_0) shapeCasts_S1x2048_S2048))))) (mulf (extractStridedSlice S8x1x2048 ![0, 1, 0] (concatenate S8x4x2048 1 [⟨S8x3x2048, cs⟩, ⟨S8x1x2048, (extractStridedSlice S8x1x2048 ![0, 0, 2048] z slices_S8x1x4096_S8x1x2048_0_0_2048)⟩] concatenates_S8x3x2048_S8x1x2048_S8x4x2048_d1) slices_S8x4x2048_S8x1x2048_0_1_0) (broadcastInDim S8x1x2048 ![0, 1, 2] bcast_S1x1x2048_S8x1x2048_0_1_2 (broadcastInDim S1x1x2048 ![2] bcast_S2048_S1x1x2048_2 (shapeCast _ (extractStridedSlice S1x2048 ![1, 0] cw slices_S4x2048_S1x2048_1_0) shapeCasts_S1x2048_S2048))))) (mulf (extractStridedSlice S8x1x2048 ![0, 2, 0] (concatenate S8x4x2048 1 [⟨S8x3x2048, cs⟩, ⟨S8x1x2048, (extractStridedSlice S8x1x2048 ![0, 0, 2048] z slices_S8x1x4096_S8x1x2048_0_0_2048)⟩] concatenates_S8x3x2048_S8x1x2048_S8x4x2048_d1) slices_S8x4x2048_S8x1x2048_0_2_0) (broadcastInDim S8x1x2048 ![0, 1, 2] bcast_S1x1x2048_S8x1x2048_0_1_2 (broadcastInDim S1x1x2048 ![2] bcast_S2048_S1x1x2048_2 (shapeCast _ (extractStridedSlice S1x2048 ![2, 0] cw slices_S4x2048_S1x2048_2_0) shapeCasts_S1x2048_S2048))))) (mulf (extractStridedSlice S8x1x2048 ![0, 3, 0] (concatenate S8x4x2048 1 [⟨S8x3x2048, cs⟩, ⟨S8x1x2048, (extractStridedSlice S8x1x2048 ![0, 0, 2048] z slices_S8x1x4096_S8x1x2048_0_0_2048)⟩] concatenates_S8x3x2048_S8x1x2048_S8x4x2048_d1) slices_S8x4x2048_S8x1x2048_0_3_0) (broadcastInDim S8x1x2048 ![0, 1, 2] bcast_S1x1x2048_S8x1x2048_0_1_2 (broadcastInDim S1x1x2048 ![2] bcast_S2048_S1x1x2048_2 (shapeCast _ (extractStridedSlice S1x2048 ![3, 0] cw slices_S4x2048_S1x2048_3_0) shapeCasts_S1x2048_S2048)))))

/-- A gate: the logistic function of the block-diagonal product plus the bias. -/
def GATE (w : FVec Ideal S16x128x128 .f32) (b : FVec Ideal S2048 .f32) (c : FVec Ideal S8x1x2048 .f32) : FVec Ideal S8x1x2048 .f32 :=
  Host.divf (broadcastInDim S8x1x2048 ![] bcast_S_S8x1x2048 (constant S_ .f32 0x3F800000#32)) (addf (broadcastInDim S8x1x2048 ![] bcast_S_S8x1x2048 (constant S_ .f32 0x3F800000#32)) (Host.exp (Host.negf (addf (shapeCast _ (transpose S8x1x16x128 [2, 3, 0, 1] (Host.dotGeneral dot_S16x128x128_S8x1x16x128_S16x128x8x1_1_3_2_01_0_2 none w (shapeCast _ c shapeCasts_S8x1x2048_S8x1x16x128)) transposes_S16x128x8x1_S8x1x16x128_2_3_0_1) shapeCasts_S8x1x16x128_S8x1x2048) (broadcastInDim S8x1x2048 ![0, 1, 2] bcast_S1x1x2048_S8x1x2048_0_1_2 (broadcastInDim S1x1x2048 ![2] bcast_S2048_S1x1x2048_2 b))))))

/-- `softplus(-lam)`. -/
def SP (lam : FVec Ideal S2048 .f32) : FVec Ideal S2048 .f32 :=
  select (cmpf .une (subf (Host.negf lam) (broadcastInDim S2048 ![] bcast_S_S2048 (constant S_ .f32 0x00000000#32))) (subf (Host.negf lam) (broadcastInDim S2048 ![] bcast_S_S2048 (constant S_ .f32 0x00000000#32)))) (addf (Host.negf lam) (broadcastInDim S2048 ![] bcast_S_S2048 (constant S_ .f32 0x00000000#32))) (addf (maximumf (Host.negf lam) (broadcastInDim S2048 ![] bcast_S_S2048 (constant S_ .f32 0x00000000#32))) (Host.log1p (Host.exp (Host.negf (Host.absf (subf (Host.negf lam) (broadcastInDim S2048 ![] bcast_S_S2048 (constant S_ .f32 0x00000000#32))))))))

/-- The logarithm of the decay. -/
def LA (r : FVec Ideal S8x1x2048 .f32) (s : FVec Ideal S2048 .f32) : FVec Ideal S8x1x2048 .f32 :=
  mulf (mulf (broadcastInDim S8x1x2048 ![] bcast_S_S8x1x2048 (constant S_ .f32 0xC1000000#32)) r) (broadcastInDim S8x1x2048 ![0, 1, 2] bcast_S1x1x2048_S8x1x2048_0_1_2 (broadcastInDim S1x1x2048 ![2] bcast_S2048_S1x1x2048_2 s))

/-- The hidden state after the token. -/
def HS (l i c : FVec Ideal S8x1x2048 .f32) (h0 : FVec Ideal S8x2048 .f32) : FVec Ideal S8x1x2048 .f32 :=
  addf (mulf (Host.exp l) (broadcastInDim S8x1x2048 ![0, 2] bcast_S8x2048_S8x1x2048_0_2 h0)) (mulf (Host.sqrt (Host.negf (Host.expm1 (mulf (broadcastInDim S8x1x2048 ![] bcast_S_S8x1x2048 (constant S_ .f32 0x40000000#32)) l)))) (mulf i c))

/-- The gated output from the hidden state. -/
def OUT (z : FVec Ideal S8x1x4096 .f32) (H : FVec Ideal S8x1x2048 .f32) : FVec Ideal S8x2048 .bf16 :=
  truncf .bf16 (shapeCast _ (mulf (mulf (extractStridedSlice S8x1x2048 ![0, 0, 0] z slices_S8x1x4096_S8x1x2048_0_0_0) (mulf (broadcastInDim S8x1x2048 ![] bcast_S_S8x1x2048 (constant S_ .f32 0x3F000000#32)) (addf (broadcastInDim S8x1x2048 ![] bcast_S_S8x1x2048 (constant S_ .f32 0x3F800000#32)) (Host.tanh (mulf (broadcastInDim S8x1x2048 ![] bcast_S_S8x1x2048 (constant S_ .f32 0x3F4C422A#32)) (addf (extractStridedSlice S8x1x2048 ![0, 0, 0] z slices_S8x1x4096_S8x1x2048_0_0_0) (mulf (broadcastInDim S8x1x2048 ![] bcast_S_S8x1x2048 (constant S_ .f32 0x3D372713#32)) (mulf (mulf (extractStridedSlice S8x1x2048 ![0, 0, 0] z slices_S8x1x4096_S8x1x2048_0_0_0) (extractStridedSlice S8x1x2048 ![0, 0, 0] z slices_S8x1x4096_S8x1x2048_0_0_0)) (extractStridedSlice S8x1x2048 ![0, 0, 0] z slices_S8x1x4096_S8x1x2048_0_0_0))))))))) H) shapeCasts_S8x1x2048_S8x2048) bitsLt_bf16_f32

/-- The hidden state from the arguments. -/
def HSA (z : FVec Ideal S8x1x4096 .f32) (cs : FVec Ideal S8x3x2048 .f32) (h0 : FVec Ideal S8x2048 .f32) (cw : FVec Ideal S4x2048 .f32) (cb : FVec Ideal S2048 .f32)
    (wa : FVec Ideal S16x128x128 .f32) (ba : FVec Ideal S2048 .f32) (wx : FVec Ideal S16x128x128 .f32) (bx lam : FVec Ideal S2048 .f32) : FVec Ideal S8x1x2048 .f32 :=
  HS (LA (GATE wa ba (CONV z cs cw cb)) (SP lam)) (GATE wx bx (CONV z cs cw cb)) (CONV z cs cw cb) h0

variable (m : (ℓ : Loc nD τ sig) → Buf (Elt Ideal) ℓ)

/-- The hidden state the reference returns, by the pieces. -/
theorem res_h (c : Dev nD) : Value.res_main_v93 m c = shapeCast S8x2048 (HSA (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9)))
    shapeCasts_S8x1x2048_S8x2048 := rfl

/-- The output the reference returns, by the pieces. -/
theorem res_y (c : Dev nD) : Value.res_main_v95 m c = OUT (m ((c.tc : Thread nD τ).loc main_arg0)) (HSA (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))) := rfl

/-- The convolution at an index. -/
theorem conv_apply (z : FVec Ideal S8x1x4096 .f32) (cs : FVec Ideal S8x3x2048 .f32) (cw : FVec Ideal S4x2048 .f32) (cb : FVec Ideal S2048 .f32) (a : Fin 8) (d : Fin 2048) :
    CONV z cs cw cb (ix3 a 0 d) = cb (ix1 d) + (cs (ix3 a 0 d) * cw (ix2 0 d) + cs (ix3 a 1 d) * cw (ix2 1 d) + cs (ix3 a 2 d) * cw (ix2 2 d)
      + z (ix3 a 0 ⟨2048 + d.val, by omega⟩) * cw (ix2 3 d)) := by
  pointwise [CONV]

/-- A gate at an index. -/
theorem gate_apply (w : FVec Ideal S16x128x128 .f32) (b : FVec Ideal S2048 .f32) (c : FVec Ideal S8x1x2048 .f32) (a : Fin 8) (d : Fin 2048) :
    GATE w b c (ix3 a 0 d) = RgLru.gate ((∑ x : Fin 128, c (ix3 a 0 ⟨d.val / 128 * 128 + x.val, by omega⟩) * w (ix3 ⟨d.val / 128, by omega⟩ x ⟨d.val % 128, by omega⟩)) + b (ix1 d)) := by
  pointwise [GATE]
  unfold RgLru.gate
  simp only [mul_comm (w _)]

/-- `softplus(-lam)` at an index. -/
theorem sp_apply (lam : FVec Ideal S2048 .f32) (d : Fin 2048) : SP lam (ix1 d) = RgLru.softplus (lam (ix1 d)) := by
  pointwise [SP]
  unfold RgLru.softplus
  rw [if_neg (fun h => h rfl)]
  show max (-lam (ix1 d)) 0 + Ideal.log1p (Ideal.exp (-(max (-lam (ix1 d)) (-(-lam (ix1 d)))))) = _
  rw [neg_neg, max_comm (-lam (ix1 d)) (lam (ix1 d))]

/-- The decay's logarithm at an index. -/
theorem la_apply (r : FVec Ideal S8x1x2048 .f32) (lam : FVec Ideal S2048 .f32) (a : Fin 8) (d : Fin 2048) :
    LA r (SP lam) (ix3 a 0 d) = RgLru.decay (r (ix3 a 0 d)) (lam (ix1 d)) := by
  unfold RgLru.decay
  rw [← sp_apply]
  pointwise [LA]

/-- The hidden state at an index. -/
theorem hs_apply (l i c : FVec Ideal S8x1x2048 .f32) (h0 : FVec Ideal S8x2048 .f32) (a : Fin 8) (d : Fin 2048) :
    HS l i c h0 (ix3 a 0 d) = Ideal.exp (l (ix3 a 0 d)) * h0 (ix2 a d) + RgLru.input (l (ix3 a 0 d)) (i (ix3 a 0 d)) (c (ix3 a 0 d)) := by
  pointwise [HS]
  rfl

/-- The output at an index. -/
theorem out_apply (z : FVec Ideal S8x1x4096 .f32) (H : FVec Ideal S8x1x2048 .f32) (a : Fin 8) (d : Fin 2048) :
    OUT z H (ix2 a d) = RgLru.gelu (z (ix3 a 0 ⟨d.val, by omega⟩)) * H (ix3 a 0 d) := by
  pointwise [OUT]
  rfl

end Cert.LruStepRefIdeal.Tie

end
-- ==== Proof.LruStep.lean ====
/- The RG-LRU step: what the kernel's one block computes, read at an index, and that it is the reference's. -/
module

public import proofs.«01_k».proof.Proof.LruStepRef
public import proofs.«01_k».proof.Proof.Gen.LruStepIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruStepIdeal.Tie

open Cert.LruStepIdeal Cert.LruStepIdeal.Gen

/-- The convolution of a block at an index. -/
theorem conv_apply (u : FVec Ideal S8x2048 .f32) (b w3 : FVec Ideal S1x2048 .f32) (s0 : FVec Ideal S1x8x2048 .f32) (w0 : FVec Ideal S1x2048 .f32)
   (s1 : FVec Ideal S1x8x2048 .f32) (w1 : FVec Ideal S1x2048 .f32) (s2 : FVec Ideal S1x8x2048 .f32) (w2 : FVec Ideal S1x2048 .f32) (y : S8x2048.Idx) :
   k0_pay3 (F := Ideal) u b w3 s0 w0 s1 w1 s2 w2 y = b (ix2 0 (y 1)) + u (ix2 (y 0) (y 1)) * w3 (ix2 0 (y 1)) + s0 (ix3 0 (y 0) (y 1)) * w0 (ix2 0 (y 1))
     + s1 (ix3 0 (y 0) (y 1)) * w1 (ix2 0 (y 1)) + s2 (ix3 0 (y 0) (y 1)) * w2 (ix2 0 (y 1)) := by
  idx_vars y
  pointwise [k0_pay3, k0_pay2]

/-- Sixteen pieces side by side, read at a column: the piece the column lies in, at the column within it. -/
theorem cat16 (p0 p1 p2 p3 p4 p5 p6 p7 p8 p9 p10 p11 p12 p13 p14 p15 : FVec Ideal S8x128 .f32) (a : Fin 8) (b : Fin 2048) (G : Fin 16 → Fin 128 → EReal)
  (h0 : ∀ r, p0 (ix2 a r) = G 0 r) (h1 : ∀ r, p1 (ix2 a r) = G 1 r) (h2 : ∀ r, p2 (ix2 a r) = G 2 r) (h3 : ∀ r, p3 (ix2 a r) = G 3 r)
  (h4 : ∀ r, p4 (ix2 a r) = G 4 r) (h5 : ∀ r, p5 (ix2 a r) = G 5 r) (h6 : ∀ r, p6 (ix2 a r) = G 6 r) (h7 : ∀ r, p7 (ix2 a r) = G 7 r)
  (h8 : ∀ r, p8 (ix2 a r) = G 8 r) (h9 : ∀ r, p9 (ix2 a r) = G 9 r) (h10 : ∀ r, p10 (ix2 a r) = G 10 r) (h11 : ∀ r, p11 (ix2 a r) = G 11 r)
  (h12 : ∀ r, p12 (ix2 a r) = G 12 r) (h13 : ∀ r, p13 (ix2 a r) = G 13 r) (h14 : ∀ r, p14 (ix2 a r) = G 14 r) (h15 : ∀ r, p15 (ix2 a r) = G 15 r) :
  concatenate S8x2048 1 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩]
    concatenates_S8x128_S8x128_S8x128_S8x128_S8x128_S8x128_S8x128_S8x128_S8x128_S8x128_S8x128_S8x128_S8x128_S8x128_S8x128_S8x128_S8x2048_d1 (ix2 a b)
   = G ⟨b.val / 128, by omega⟩ ⟨b.val % 128, by omega⟩ := by
  let f : Fin 16 → FVec Ideal S8x128 .f32 := ![p0, p1, p2, p3, p4, p5, p6, p7, p8, p9, p10, p11, p12, p13, p14, p15]
  have hf : ∀ n r, f n (ix2 a r) = G n r := by
    intro n r; fin_cases n
    exacts [h0 r, h1 r, h2 r, h3 r, h4 r, h5 r, h6 r, h7 r, h8 r, h9 r, h10 r, h11 r, h12 r, h13 r, h14 r, h15 r]
  rw [← hf]
  exact concatenate_ofFn_apply (t := S8x2048) (s₁ := S8x128) 1 f
    concatenates_S8x128_S8x128_S8x128_S8x128_S8x128_S8x128_S8x128_S8x128_S8x128_S8x128_S8x128_S8x128_S8x128_S8x128_S8x128_S8x128_S8x2048_d1
    rfl 128 rfl (ix2 a b) ⟨b.val / 128, by omega⟩ rfl (ix2 a ⟨b.val % 128, by omega⟩) rfl
    (fun b hb => by fin_cases b <;> first | rfl | exact absurd rfl hb)

/-- The sums a gate's product takes, block by block. -/
def prod (C : FVec Ideal S8x2048 .f32) (W : FVec Ideal S16x128x128 .bf16) (a : Fin 8) (n : Fin 16) (r : Fin 128) : EReal :=
  ∑ x : Fin 128, C (ix2 a ⟨n.val * 128 + x.val, by omega⟩) * W (ix3 n x r)

/-- Piece 0 of the product with the gate's blocks, at an index. -/
theorem wa_0 (C : FVec Ideal S8x2048 .f32) (D : FVec Ideal S8x2048 .bf16) (hD : D = k0_pay7 (F := Ideal) C) (W : FVec Ideal S16x128x128 .bf16) (a : Fin 8) (r : Fin 128) :
    (k0_pay9 (F := Ideal) C (View.ld (Val := Elt Ideal) (e' := .bf16) W r0_9) : FVec Ideal S8x128 .f32) (ix2 a r) = prod C W a 0 r := by
  subst hD
  have h : (k0_pay9 (F := Ideal) C (View.ld (Val := Elt Ideal) (e' := .bf16) W r0_9) : FVec Ideal S8x128 .f32) (ix2 a r)
      = ∑ x : Fin 128, C (ix2 a ⟨x.val, by omega⟩) * W (ix3 0 x r) := by
    pointwise [k0_pay7, k0_pay8, k0_pay9]
  exact h

/-- Piece 1 of the product with the gate's blocks, at an index. -/
theorem wa_1 (C : FVec Ideal S8x2048 .f32) (D : FVec Ideal S8x2048 .bf16) (hD : D = k0_pay7 (F := Ideal) C) (W : FVec Ideal S16x128x128 .bf16) (a : Fin 8) (r : Fin 128) :
    (k0_pay12 (F := Ideal) C (View.ld (Val := Elt Ideal) (e' := .bf16) W r0_10) : FVec Ideal S8x128 .f32) (ix2 a r) = prod C W a 1 r := by
  subst hD
  have h : (k0_pay12 (F := Ideal) C (View.ld (Val := Elt Ideal) (e' := .bf16) W r0_10) : FVec Ideal S8x128 .f32) (ix2 a r)
      = ∑ x : Fin 128, C (ix2 a ⟨128 + x.val, by omega⟩) * W (ix3 1 x r) := by
    pointwise [k0_pay7, k0_pay11, k0_pay12]
  exact h

/-- Piece 2 of the product with the gate's blocks, at an index. -/
theorem wa_2 (C : FVec Ideal S8x2048 .f32) (D : FVec Ideal S8x2048 .bf16) (hD : D = k0_pay7 (F := Ideal) C) (W : FVec Ideal S16x128x128 .bf16) (a : Fin 8) (r : Fin 128) :
    (k0_pay15 (F := Ideal) C (View.ld (Val := Elt Ideal) (e' := .bf16) W r0_11) : FVec Ideal S8x128 .f32) (ix2 a r) = prod C W a 2 r := by
  subst hD
  have h : (k0_pay15 (F := Ideal) C (View.ld (Val := Elt Ideal) (e' := .bf16) W r0_11) : FVec Ideal S8x128 .f32) (ix2 a r)
      = ∑ x : Fin 128, C (ix2 a ⟨256 + x.val, by omega⟩) * W (ix3 2 x r) := by
    pointwise [k0_pay7, k0_pay14, k0_pay15]
  exact h

/-- Piece 3 of the product with the gate's blocks, at an index. -/
theorem wa_3 (C : FVec Ideal S8x2048 .f32) (D : FVec Ideal S8x2048 .bf16) (hD : D = k0_pay7 (F := Ideal) C) (W : FVec Ideal S16x128x128 .bf16) (a : Fin 8) (r : Fin 128) :
    (k0_pay18 (F := Ideal) C (View.ld (Val := Elt Ideal) (e' := .bf16) W r0_12) : FVec Ideal S8x128 .f32) (ix2 a r) = prod C W a 3 r := by
  subst hD
  have h : (k0_pay18 (F := Ideal) C (View.ld (Val := Elt Ideal) (e' := .bf16) W r0_12) : FVec Ideal S8x128 .f32) (ix2 a r)
      = ∑ x : Fin 128, C (ix2 a ⟨384 + x.val, by omega⟩) * W (ix3 3 x r) := by
    pointwise [k0_pay7, k0_pay17, k0_pay18]
  exact h

/-- Piece 4 of the product with the gate's blocks, at an index. -/
theorem wa_4 (C : FVec Ideal S8x2048 .f32) (D : FVec Ideal S8x2048 .bf16) (hD : D = k0_pay7 (F := Ideal) C) (W : FVec Ideal S16x128x128 .bf16) (a : Fin 8) (r : Fin 128) :
    (k0_pay22 (F := Ideal) D (View.ld (Val := Elt Ideal) (e' := .bf16) W r0_13) : FVec Ideal S8x128 .f32) (ix2 a r) = prod C W a 4 r := by
  subst hD
  have h : (k0_pay22 (F := Ideal) (k0_pay7 (F := Ideal) C) (View.ld (Val := Elt Ideal) (e' := .bf16) W r0_13) : FVec Ideal S8x128 .f32) (ix2 a r)
      = ∑ x : Fin 128, C (ix2 a ⟨512 + x.val, by omega⟩) * W (ix3 4 x r) := by
    pointwise [k0_pay7, k0_pay21, k0_pay22]
  exact h

/-- Piece 5 of the product with the gate's blocks, at an index. -/
theorem wa_5 (C : FVec Ideal S8x2048 .f32) (D : FVec Ideal S8x2048 .bf16) (hD : D = k0_pay7 (F := Ideal) C) (W : FVec Ideal S16x128x128 .bf16) (a : Fin 8) (r : Fin 128) :
    (k0_pay25 (F := Ideal) D (View.ld (Val := Elt Ideal) (e' := .bf16) W r0_14) : FVec Ideal S8x128 .f32) (ix2 a r) = prod C W a 5 r := by
  subst hD
  have h : (k0_pay25 (F := Ideal) (k0_pay7 (F := Ideal) C) (View.ld (Val := Elt Ideal) (e' := .bf16) W r0_14) : FVec Ideal S8x128 .f32) (ix2 a r)
      = ∑ x : Fin 128, C (ix2 a ⟨640 + x.val, by omega⟩) * W (ix3 5 x r) := by
    pointwise [k0_pay7, k0_pay24, k0_pay25]
  exact h

/-- Piece 6 of the product with the gate's blocks, at an index. -/
theorem wa_6 (C : FVec Ideal S8x2048 .f32) (D : FVec Ideal S8x2048 .bf16) (hD : D = k0_pay7 (F := Ideal) C) (W : FVec Ideal S16x128x128 .bf16) (a : Fin 8) (r : Fin 128) :
    (k0_pay28 (F := Ideal) D (View.ld (Val := Elt Ideal) (e' := .bf16) W r0_15) : FVec Ideal S8x128 .f32) (ix2 a r) = prod C W a 6 r := by
  subst hD
  have h : (k0_pay28 (F := Ideal) (k0_pay7 (F := Ideal) C) (View.ld (Val := Elt Ideal) (e' := .bf16) W r0_15) : FVec Ideal S8x128 .f32) (ix2 a r)
      = ∑ x : Fin 128, C (ix2 a ⟨768 + x.val, by omega⟩) * W (ix3 6 x r) := by
    pointwise [k0_pay7, k0_pay27, k0_pay28]
  exact h

/-- Piece 7 of the product with the gate's blocks, at an index. -/
theorem wa_7 (C : FVec Ideal S8x2048 .f32) (D : FVec Ideal S8x2048 .bf16) (hD : D = k0_pay7 (F := Ideal) C) (W : FVec Ideal S16x128x128 .bf16) (a : Fin 8) (r : Fin 128) :
    (k0_pay31 (F := Ideal) D (View.ld (Val := Elt Ideal) (e' := .bf16) W r0_16) : FVec Ideal S8x128 .f32) (ix2 a r) = prod C W a 7 r := by
  subst hD
  have h : (k0_pay31 (F := Ideal) (k0_pay7 (F := Ideal) C) (View.ld (Val := Elt Ideal) (e' := .bf16) W r0_16) : FVec Ideal S8x128 .f32) (ix2 a r)
      = ∑ x : Fin 128, C (ix2 a ⟨896 + x.val, by omega⟩) * W (ix3 7 x r) := by
    pointwise [k0_pay7, k0_pay30, k0_pay31]
  exact h

/-- Piece 8 of the product with the gate's blocks, at an index. -/
theorem wa_8 (C : FVec Ideal S8x2048 .f32) (D : FVec Ideal S8x2048 .bf16) (hD : D = k0_pay7 (F := Ideal) C) (W : FVec Ideal S16x128x128 .bf16) (a : Fin 8) (r : Fin 128) :
    (k0_pay35 (F := Ideal) D (View.ld (Val := Elt Ideal) (e' := .bf16) W r0_17) : FVec Ideal S8x128 .f32) (ix2 a r) = prod C W a 8 r := by
  subst hD
  have h : (k0_pay35 (F := Ideal) (k0_pay7 (F := Ideal) C) (View.ld (Val := Elt Ideal) (e' := .bf16) W r0_17) : FVec Ideal S8x128 .f32) (ix2 a r)
      = ∑ x : Fin 128, C (ix2 a ⟨1024 + x.val, by omega⟩) * W (ix3 8 x r) := by
    pointwise [k0_pay7, k0_pay34, k0_pay35]
  exact h

/-- Piece 9 of the product with the gate's blocks, at an index. -/
theorem wa_9 (C : FVec Ideal S8x2048 .f32) (D : FVec Ideal S8x2048 .bf16) (hD : D = k0_pay7 (F := Ideal) C) (W : FVec Ideal S16x128x128 .bf16) (a : Fin 8) (r : Fin 128) :
    (k0_pay38 (F := Ideal) D (View.ld (Val := Elt Ideal) (e' := .bf16) W r0_18) : FVec Ideal S8x128 .f32) (ix2 a r) = prod C W a 9 r := by
  subst hD
  have h : (k0_pay38 (F := Ideal) (k0_pay7 (F := Ideal) C) (View.ld (Val := Elt Ideal) (e' := .bf16) W r0_18) : FVec Ideal S8x128 .f32) (ix2 a r)
      = ∑ x : Fin 128, C (ix2 a ⟨1152 + x.val, by omega⟩) * W (ix3 9 x r) := by
    pointwise [k0_pay7, k0_pay37, k0_pay38]
  exact h

/-- Piece 10 of the product with the gate's blocks, at an index. -/
theorem wa_10 (C : FVec Ideal S8x2048 .f32) (D : FVec Ideal S8x2048 .bf16) (hD : D = k0_pay7 (F := Ideal) C) (W : FVec Ideal S16x128x128 .bf16) (a : Fin 8) (r : Fin 128) :
    (k0_pay41 (F := Ideal) D (View.ld (Val := Elt Ideal) (e' := .bf16) W r0_19) : FVec Ideal S8x128 .f32) (ix2 a r) = prod C W a 10 r := by
  subst hD
  have h : (k0_pay41 (F := Ideal) (k0_pay7 (F := Ideal) C) (View.ld (Val := Elt Ideal) (e' := .bf16) W r0_19) : FVec Ideal S8x128 .f32) (ix2 a r)
      = ∑ x : Fin 128, C (ix2 a ⟨1280 + x.val, by omega⟩) * W (ix3 10 x r) := by
    pointwise [k0_pay7, k0_pay40, k0_pay41]
  exact h

/-- Piece 11 of the product with the gate's blocks, at an index. -/
theorem wa_11 (C : FVec Ideal S8x2048 .f32) (D : FVec Ideal S8x2048 .bf16) (hD : D = k0_pay7 (F := Ideal) C) (W : FVec Ideal S16x128x128 .bf16) (a : Fin 8) (r : Fin 128) :
    (k0_pay44 (F := Ideal) D (View.ld (Val := Elt Ideal) (e' := .bf16) W r0_20) : FVec Ideal S8x128 .f32) (ix2 a r) = prod C W a 11 r := by
  subst hD
  have h : (k0_pay44 (F := Ideal) (k0_pay7 (F := Ideal) C) (View.ld (Val := Elt Ideal) (e' := .bf16) W r0_20) : FVec Ideal S8x128 .f32) (ix2 a r)
      = ∑ x : Fin 128, C (ix2 a ⟨1408 + x.val, by omega⟩) * W (ix3 11 x r) := by
    pointwise [k0_pay7, k0_pay43, k0_pay44]
  exact h

/-- Piece 12 of the product with the gate's blocks, at an index. -/
theorem wa_12 (C : FVec Ideal S8x2048 .f32) (D : FVec Ideal S8x2048 .bf16) (hD : D = k0_pay7 (F := Ideal) C) (W : FVec Ideal S16x128x128 .bf16) (a : Fin 8) (r : Fin 128) :
    (k0_pay48 (F := Ideal) D (View.ld (Val := Elt Ideal) (e' := .bf16) W r0_21) : FVec Ideal S8x128 .f32) (ix2 a r) = prod C W a 12 r := by
  subst hD
  have h : (k0_pay48 (F := Ideal) (k0_pay7 (F := Ideal) C) (View.ld (Val := Elt Ideal) (e' := .bf16) W r0_21) : FVec Ideal S8x128 .f32) (ix2 a r)
      = ∑ x : Fin 128, C (ix2 a ⟨1536 + x.val, by omega⟩) * W (ix3 12 x r) := by
    pointwise [k0_pay7, k0_pay47, k0_pay48]
  exact h

/-- Piece 13 of the product with the gate's blocks, at an index. -/
theorem wa_13 (C : FVec Ideal S8x2048 .f32) (D : FVec Ideal S8x2048 .bf16) (hD : D = k0_pay7 (F := Ideal) C) (W : FVec Ideal S16x128x128 .bf16) (a : Fin 8) (r : Fin 128) :
    (k0_pay51 (F := Ideal) D (View.ld (Val := Elt Ideal) (e' := .bf16) W r0_22) : FVec Ideal S8x128 .f32) (ix2 a r) = prod C W a 13 r := by
  subst hD
  have h : (k0_pay51 (F := Ideal) (k0_pay7 (F := Ideal) C) (View.ld (Val := Elt Ideal) (e' := .bf16) W r0_22) : FVec Ideal S8x128 .f32) (ix2 a r)
      = ∑ x : Fin 128, C (ix2 a ⟨1664 + x.val, by omega⟩) * W (ix3 13 x r) := by
    pointwise [k0_pay7, k0_pay50, k0_pay51]
  exact h

/-- Piece 14 of the product with the gate's blocks, at an index. -/
theorem wa_14 (C : FVec Ideal S8x2048 .f32) (D : FVec Ideal S8x2048 .bf16) (hD : D = k0_pay7 (F := Ideal) C) (W : FVec Ideal S16x128x128 .bf16) (a : Fin 8) (r : Fin 128) :
    (k0_pay54 (F := Ideal) D (View.ld (Val := Elt Ideal) (e' := .bf16) W r0_23) : FVec Ideal S8x128 .f32) (ix2 a r) = prod C W a 14 r := by
  subst hD
  have h : (k0_pay54 (F := Ideal) (k0_pay7 (F := Ideal) C) (View.ld (Val := Elt Ideal) (e' := .bf16) W r0_23) : FVec Ideal S8x128 .f32) (ix2 a r)
      = ∑ x : Fin 128, C (ix2 a ⟨1792 + x.val, by omega⟩) * W (ix3 14 x r) := by
    pointwise [k0_pay7, k0_pay53, k0_pay54]
  exact h

/-- Piece 15 of the product with the gate's blocks, at an index. -/
theorem wa_15 (C : FVec Ideal S8x2048 .f32) (D : FVec Ideal S8x2048 .bf16) (hD : D = k0_pay7 (F := Ideal) C) (W : FVec Ideal S16x128x128 .bf16) (a : Fin 8) (r : Fin 128) :
    (k0_pay57 (F := Ideal) D (View.ld (Val := Elt Ideal) (e' := .bf16) W r0_24) : FVec Ideal S8x128 .f32) (ix2 a r) = prod C W a 15 r := by
  subst hD
  have h : (k0_pay57 (F := Ideal) (k0_pay7 (F := Ideal) C) (View.ld (Val := Elt Ideal) (e' := .bf16) W r0_24) : FVec Ideal S8x128 .f32) (ix2 a r)
      = ∑ x : Fin 128, C (ix2 a ⟨1920 + x.val, by omega⟩) * W (ix3 15 x r) := by
    pointwise [k0_pay7, k0_pay56, k0_pay57]
  exact h

/-- Piece 0 of the product with the gate's blocks, at an index. -/
theorem wx_0 (C : FVec Ideal S8x2048 .f32) (D : FVec Ideal S8x2048 .bf16) (hD : D = k0_pay7 (F := Ideal) C) (W : FVec Ideal S16x128x128 .bf16) (a : Fin 8) (r : Fin 128) :
    (k0_pay10 (F := Ideal) C (View.ld (Val := Elt Ideal) (e' := .bf16) W r0_9) : FVec Ideal S8x128 .f32) (ix2 a r) = prod C W a 0 r := by
  subst hD
  have h : (k0_pay10 (F := Ideal) C (View.ld (Val := Elt Ideal) (e' := .bf16) W r0_9) : FVec Ideal S8x128 .f32) (ix2 a r)
      = ∑ x : Fin 128, C (ix2 a ⟨x.val, by omega⟩) * W (ix3 0 x r) := by
    pointwise [k0_pay7, k0_pay8, k0_pay10]
  exact h

/-- Piece 1 of the product with the gate's blocks, at an index. -/
theorem wx_1 (C : FVec Ideal S8x2048 .f32) (D : FVec Ideal S8x2048 .bf16) (hD : D = k0_pay7 (F := Ideal) C) (W : FVec Ideal S16x128x128 .bf16) (a : Fin 8) (r : Fin 128) :
    (k0_pay13 (F := Ideal) C (View.ld (Val := Elt Ideal) (e' := .bf16) W r0_10) : FVec Ideal S8x128 .f32) (ix2 a r) = prod C W a 1 r := by
  subst hD
  have h : (k0_pay13 (F := Ideal) C (View.ld (Val := Elt Ideal) (e' := .bf16) W r0_10) : FVec Ideal S8x128 .f32) (ix2 a r)
      = ∑ x : Fin 128, C (ix2 a ⟨128 + x.val, by omega⟩) * W (ix3 1 x r) := by
    pointwise [k0_pay7, k0_pay11, k0_pay13]
  exact h

/-- Piece 2 of the product with the gate's blocks, at an index. -/
theorem wx_2 (C : FVec Ideal S8x2048 .f32) (D : FVec Ideal S8x2048 .bf16) (hD : D = k0_pay7 (F := Ideal) C) (W : FVec Ideal S16x128x128 .bf16) (a : Fin 8) (r : Fin 128) :
    (k0_pay16 (F := Ideal) C (View.ld (Val := Elt Ideal) (e' := .bf16) W r0_11) : FVec Ideal S8x128 .f32) (ix2 a r) = prod C W a 2 r := by
  subst hD
  have h : (k0_pay16 (F := Ideal) C (View.ld (Val := Elt Ideal) (e' := .bf16) W r0_11) : FVec Ideal S8x128 .f32) (ix2 a r)
      = ∑ x : Fin 128, C (ix2 a ⟨256 + x.val, by omega⟩) * W (ix3 2 x r) := by
    pointwise [k0_pay7, k0_pay14, k0_pay16]
  exact h

/-- Piece 3 of the product with the gate's blocks, at an index. -/
theorem wx_3 (C : FVec Ideal S8x2048 .f32) (D : FVec Ideal S8x2048 .bf16) (hD : D = k0_pay7 (F := Ideal) C) (W : FVec Ideal S16x128x128 .bf16) (a : Fin 8) (r : Fin 128) :
    (k0_pay20 (F := Ideal) (k0_pay17 (F := Ideal) C) (k0_pay19 (F := Ideal) (View.ld (Val := Elt Ideal) (e' := .bf16) W r0_12)) : FVec Ideal S8x128 .f32) (ix2 a r) = prod C W a 3 r := by
  subst hD
  have h : (k0_pay20 (F := Ideal) (k0_pay17 (F := Ideal) C) (k0_pay19 (F := Ideal) (View.ld (Val := Elt Ideal) (e' := .bf16) W r0_12)) : FVec Ideal S8x128 .f32) (ix2 a r)
      = ∑ x : Fin 128, C (ix2 a ⟨384 + x.val, by omega⟩) * W (ix3 3 x r) := by
    pointwise [k0_pay7, k0_pay17, k0_pay19, k0_pay20]
  exact h

/-- Piece 4 of the product with the gate's blocks, at an index. -/
theorem wx_4 (C : FVec Ideal S8x2048 .f32) (D : FVec Ideal S8x2048 .bf16) (hD : D = k0_pay7 (F := Ideal) C) (W : FVec Ideal S16x128x128 .bf16) (a : Fin 8) (r : Fin 128) :
    (k0_pay23 (F := Ideal) D (View.ld (Val := Elt Ideal) (e' := .bf16) W r0_13) : FVec Ideal S8x128 .f32) (ix2 a r) = prod C W a 4 r := by
  subst hD
  have h : (k0_pay23 (F := Ideal) (k0_pay7 (F := Ideal) C) (View.ld (Val := Elt Ideal) (e' := .bf16) W r0_13) : FVec Ideal S8x128 .f32) (ix2 a r)
      = ∑ x : Fin 128, C (ix2 a ⟨512 + x.val, by omega⟩) * W (ix3 4 x r) := by
    pointwise [k0_pay7, k0_pay21, k0_pay23]
  exact h

/-- Piece 5 of the product with the gate's blocks, at an index. -/
theorem wx_5 (C : FVec Ideal S8x2048 .f32) (D : FVec Ideal S8x2048 .bf16) (hD : D = k0_pay7 (F := Ideal) C) (W : FVec Ideal S16x128x128 .bf16) (a : Fin 8) (r : Fin 128) :
    (k0_pay26 (F := Ideal) D (View.ld (Val := Elt Ideal) (e' := .bf16) W r0_14) : FVec Ideal S8x128 .f32) (ix2 a r) = prod C W a 5 r := by
  subst hD
  have h : (k0_pay26 (F := Ideal) (k0_pay7 (F := Ideal) C) (View.ld (Val := Elt Ideal) (e' := .bf16) W r0_14) : FVec Ideal S8x128 .f32) (ix2 a r)
      = ∑ x : Fin 128, C (ix2 a ⟨640 + x.val, by omega⟩) * W (ix3 5 x r) := by
    pointwise [k0_pay7, k0_pay24, k0_pay26]
  exact h

/-- Piece 6 of the product with the gate's blocks, at an index. -/
theorem wx_6 (C : FVec Ideal S8x2048 .f32) (D : FVec Ideal S8x2048 .bf16) (hD : D = k0_pay7 (F := Ideal) C) (W : FVec Ideal S16x128x128 .bf16) (a : Fin 8) (r : Fin 128) :
    (k0_pay29 (F := Ideal) D (View.ld (Val := Elt Ideal) (e' := .bf16) W r0_15) : FVec Ideal S8x128 .f32) (ix2 a r) = prod C W a 6 r := by
  subst hD
  have h : (k0_pay29 (F := Ideal) (k0_pay7 (F := Ideal) C) (View.ld (Val := Elt Ideal) (e' := .bf16) W r0_15) : FVec Ideal S8x128 .f32) (ix2 a r)
      = ∑ x : Fin 128, C (ix2 a ⟨768 + x.val, by omega⟩) * W (ix3 6 x r) := by
    pointwise [k0_pay7, k0_pay27, k0_pay29]
  exact h

/-- Piece 7 of the product with the gate's blocks, at an index. -/
theorem wx_7 (C : FVec Ideal S8x2048 .f32) (D : FVec Ideal S8x2048 .bf16) (hD : D = k0_pay7 (F := Ideal) C) (W : FVec Ideal S16x128x128 .bf16) (a : Fin 8) (r : Fin 128) :
    (k0_pay33 (F := Ideal) (k0_pay30 (F := Ideal) D) (k0_pay32 (F := Ideal) (View.ld (Val := Elt Ideal) (e' := .bf16) W r0_16)) : FVec Ideal S8x128 .f32) (ix2 a r) = prod C W a 7 r := by
  subst hD
  have h : (k0_pay33 (F := Ideal) (k0_pay30 (F := Ideal) (k0_pay7 (F := Ideal) C)) (k0_pay32 (F := Ideal) (View.ld (Val := Elt Ideal) (e' := .bf16) W r0_16)) : FVec Ideal S8x128 .f32) (ix2 a r)
      = ∑ x : Fin 128, C (ix2 a ⟨896 + x.val, by omega⟩) * W (ix3 7 x r) := by
    pointwise [k0_pay7, k0_pay30, k0_pay32, k0_pay33]
  exact h

/-- Piece 8 of the product with the gate's blocks, at an index. -/
theorem wx_8 (C : FVec Ideal S8x2048 .f32) (D : FVec Ideal S8x2048 .bf16) (hD : D = k0_pay7 (F := Ideal) C) (W : FVec Ideal S16x128x128 .bf16) (a : Fin 8) (r : Fin 128) :
    (k0_pay36 (F := Ideal) D (View.ld (Val := Elt Ideal) (e' := .bf16) W r0_17) : FVec Ideal S8x128 .f32) (ix2 a r) = prod C W a 8 r := by
  subst hD
  have h : (k0_pay36 (F := Ideal) (k0_pay7 (F := Ideal) C) (View.ld (Val := Elt Ideal) (e' := .bf16) W r0_17) : FVec Ideal S8x128 .f32) (ix2 a r)
      = ∑ x : Fin 128, C (ix2 a ⟨1024 + x.val, by omega⟩) * W (ix3 8 x r) := by
    pointwise [k0_pay7, k0_pay34, k0_pay36]
  exact h

/-- Piece 9 of the product with the gate's blocks, at an index. -/
theorem wx_9 (C : FVec Ideal S8x2048 .f32) (D : FVec Ideal S8x2048 .bf16) (hD : D = k0_pay7 (F := Ideal) C) (W : FVec Ideal S16x128x128 .bf16) (a : Fin 8) (r : Fin 128) :
    (k0_pay39 (F := Ideal) D (View.ld (Val := Elt Ideal) (e' := .bf16) W r0_18) : FVec Ideal S8x128 .f32) (ix2 a r) = prod C W a 9 r := by
  subst hD
  have h : (k0_pay39 (F := Ideal) (k0_pay7 (F := Ideal) C) (View.ld (Val := Elt Ideal) (e' := .bf16) W r0_18) : FVec Ideal S8x128 .f32) (ix2 a r)
      = ∑ x : Fin 128, C (ix2 a ⟨1152 + x.val, by omega⟩) * W (ix3 9 x r) := by
    pointwise [k0_pay7, k0_pay37, k0_pay39]
  exact h

/-- Piece 10 of the product with the gate's blocks, at an index. -/
theorem wx_10 (C : FVec Ideal S8x2048 .f32) (D : FVec Ideal S8x2048 .bf16) (hD : D = k0_pay7 (F := Ideal) C) (W : FVec Ideal S16x128x128 .bf16) (a : Fin 8) (r : Fin 128) :
    (k0_pay42 (F := Ideal) D (View.ld (Val := Elt Ideal) (e' := .bf16) W r0_19) : FVec Ideal S8x128 .f32) (ix2 a r) = prod C W a 10 r := by
  subst hD
  have h : (k0_pay42 (F := Ideal) (k0_pay7 (F := Ideal) C) (View.ld (Val := Elt Ideal) (e' := .bf16) W r0_19) : FVec Ideal S8x128 .f32) (ix2 a r)
      = ∑ x : Fin 128, C (ix2 a ⟨1280 + x.val, by omega⟩) * W (ix3 10 x r) := by
    pointwise [k0_pay7, k0_pay40, k0_pay42]
  exact h

/-- Piece 11 of the product with the gate's blocks, at an index. -/
theorem wx_11 (C : FVec Ideal S8x2048 .f32) (D : FVec Ideal S8x2048 .bf16) (hD : D = k0_pay7 (F := Ideal) C) (W : FVec Ideal S16x128x128 .bf16) (a : Fin 8) (r : Fin 128) :
    (k0_pay46 (F := Ideal) (k0_pay43 (F := Ideal) D) (k0_pay45 (F := Ideal) (View.ld (Val := Elt Ideal) (e' := .bf16) W r0_20)) : FVec Ideal S8x128 .f32) (ix2 a r) = prod C W a 11 r := by
  subst hD
  have h : (k0_pay46 (F := Ideal) (k0_pay43 (F := Ideal) (k0_pay7 (F := Ideal) C)) (k0_pay45 (F := Ideal) (View.ld (Val := Elt Ideal) (e' := .bf16) W r0_20)) : FVec Ideal S8x128 .f32) (ix2 a r)
      = ∑ x : Fin 128, C (ix2 a ⟨1408 + x.val, by omega⟩) * W (ix3 11 x r) := by
    pointwise [k0_pay7, k0_pay43, k0_pay45, k0_pay46]
  exact h

/-- Piece 12 of the product with the gate's blocks, at an index. -/
theorem wx_12 (C : FVec Ideal S8x2048 .f32) (D : FVec Ideal S8x2048 .bf16) (hD : D = k0_pay7 (F := Ideal) C) (W : FVec Ideal S16x128x128 .bf16) (a : Fin 8) (r : Fin 128) :
    (k0_pay49 (F := Ideal) D (View.ld (Val := Elt Ideal) (e' := .bf16) W r0_21) : FVec Ideal S8x128 .f32) (ix2 a r) = prod C W a 12 r := by
  subst hD
  have h : (k0_pay49 (F := Ideal) (k0_pay7 (F := Ideal) C) (View.ld (Val := Elt Ideal) (e' := .bf16) W r0_21) : FVec Ideal S8x128 .f32) (ix2 a r)
      = ∑ x : Fin 128, C (ix2 a ⟨1536 + x.val, by omega⟩) * W (ix3 12 x r) := by
    pointwise [k0_pay7, k0_pay47, k0_pay49]
  exact h

/-- Piece 13 of the product with the gate's blocks, at an index. -/
theorem wx_13 (C : FVec Ideal S8x2048 .f32) (D : FVec Ideal S8x2048 .bf16) (hD : D = k0_pay7 (F := Ideal) C) (W : FVec Ideal S16x128x128 .bf16) (a : Fin 8) (r : Fin 128) :
    (k0_pay52 (F := Ideal) D (View.ld (Val := Elt Ideal) (e' := .bf16) W r0_22) : FVec Ideal S8x128 .f32) (ix2 a r) = prod C W a 13 r := by
  subst hD
  have h : (k0_pay52 (F := Ideal) (k0_pay7 (F := Ideal) C) (View.ld (Val := Elt Ideal) (e' := .bf16) W r0_22) : FVec Ideal S8x128 .f32) (ix2 a r)
      = ∑ x : Fin 128, C (ix2 a ⟨1664 + x.val, by omega⟩) * W (ix3 13 x r) := by
    pointwise [k0_pay7, k0_pay50, k0_pay52]
  exact h

/-- Piece 14 of the product with the gate's blocks, at an index. -/
theorem wx_14 (C : FVec Ideal S8x2048 .f32) (D : FVec Ideal S8x2048 .bf16) (hD : D = k0_pay7 (F := Ideal) C) (W : FVec Ideal S16x128x128 .bf16) (a : Fin 8) (r : Fin 128) :
    (k0_pay55 (F := Ideal) D (View.ld (Val := Elt Ideal) (e' := .bf16) W r0_23) : FVec Ideal S8x128 .f32) (ix2 a r) = prod C W a 14 r := by
  subst hD
  have h : (k0_pay55 (F := Ideal) (k0_pay7 (F := Ideal) C) (View.ld (Val := Elt Ideal) (e' := .bf16) W r0_23) : FVec Ideal S8x128 .f32) (ix2 a r)
      = ∑ x : Fin 128, C (ix2 a ⟨1792 + x.val, by omega⟩) * W (ix3 14 x r) := by
    pointwise [k0_pay7, k0_pay53, k0_pay55]
  exact h

/-- Piece 15 of the product with the gate's blocks, at an index. -/
theorem wx_15 (C : FVec Ideal S8x2048 .f32) (D : FVec Ideal S8x2048 .bf16) (hD : D = k0_pay7 (F := Ideal) C) (W : FVec Ideal S16x128x128 .bf16) (a : Fin 8) (r : Fin 128) :
    (matmul dot_S8x128_S128x128_S8x128_1_0_0_1_n_n none (k0_pay56 (F := Ideal) D) (k0_pay58 (F := Ideal) (View.ld (Val := Elt Ideal) (e' := .bf16) W r0_24)) (constant S8x128 .f32 0x00000000#32) : FVec Ideal S8x128 .f32) (ix2 a r) = prod C W a 15 r := by
  subst hD
  have h : (matmul dot_S8x128_S128x128_S8x128_1_0_0_1_n_n none (k0_pay56 (F := Ideal) (k0_pay7 (F := Ideal) C)) (k0_pay58 (F := Ideal) (View.ld (Val := Elt Ideal) (e' := .bf16) W r0_24)) (constant S8x128 .f32 0x00000000#32) : FVec Ideal S8x128 .f32) (ix2 a r)
      = ∑ x : Fin 128, C (ix2 a ⟨1920 + x.val, by omega⟩) * W (ix3 15 x r) := by
    pointwise [k0_pay7, k0_pay56, k0_pay58]
  exact h

/-- The logarithm of the decay at an index, from the sixteen products side by side. -/
theorem la_apply (b l : FVec Ideal S1x2048 .f32) (p0 p1 p2 p3 p4 p5 p6 p7 p8 p9 p10 p11 p12 p13 p14 p15 : FVec Ideal S8x128 .f32) (a : Fin 8) (d : Fin 2048) (G : Fin 16 → Fin 128 → EReal)
    (h0 : ∀ r, p0 (ix2 a r) = G 0 r) (h1 : ∀ r, p1 (ix2 a r) = G 1 r) (h2 : ∀ r, p2 (ix2 a r) = G 2 r) (h3 : ∀ r, p3 (ix2 a r) = G 3 r) (h4 : ∀ r, p4 (ix2 a r) = G 4 r) (h5 : ∀ r, p5 (ix2 a r) = G 5 r) (h6 : ∀ r, p6 (ix2 a r) = G 6 r) (h7 : ∀ r, p7 (ix2 a r) = G 7 r) (h8 : ∀ r, p8 (ix2 a r) = G 8 r) (h9 : ∀ r, p9 (ix2 a r) = G 9 r) (h10 : ∀ r, p10 (ix2 a r) = G 10 r) (h11 : ∀ r, p11 (ix2 a r) = G 11 r) (h12 : ∀ r, p12 (ix2 a r) = G 12 r) (h13 : ∀ r, p13 (ix2 a r) = G 13 r) (h14 : ∀ r, p14 (ix2 a r) = G 14 r) (h15 : ∀ r, p15 (ix2 a r) = G 15 r) :
    k0_pay59 (F := Ideal) b l p0 p1 p2 p3 p4 p5 p6 p7 p8 p9 p10 p11 p12 p13 p14 p15 (ix2 a d)
      = RgLru.decay (RgLru.gate (G ⟨d.val / 128, by omega⟩ ⟨d.val % 128, by omega⟩ + b (ix2 0 d))) (l (ix2 0 d)) := by
  have hc := cat16 p0 p1 p2 p3 p4 p5 p6 p7 p8 p9 p10 p11 p12 p13 p14 p15 a d G h0 h1 h2 h3 h4 h5 h6 h7 h8 h9 h10 h11 h12 h13 h14 h15
  unfold k0_pay59
  generalize concatenate S8x2048 1 _ _ = Z at hc ⊢
  pointwise
  rw [hc]
  unfold RgLru.decay RgLru.gate RgLru.softplus
  simp only [zero_sub]
  rfl

/-- What the step adds at an index, from the products side by side. -/
theorem input_apply (C : FVec Ideal S8x2048 .f32) (b b' l : FVec Ideal S1x2048 .f32) (p0 p1 p2 p3 p4 p5 p6 p7 p8 p9 p10 p11 p12 p13 p14 p15 q0 q1 q2 q3 q4 q5 q6 q7 q8 q9 q10 q11 q12 q13 q14 : FVec Ideal S8x128 .f32) (u : FVec Ideal S8x128 .bf16) (w : FVec Ideal S128x128 .bf16)
    (a : Fin 8) (d : Fin 2048) (G K : Fin 16 → Fin 128 → EReal)
    (h0 : ∀ r, p0 (ix2 a r) = G 0 r) (h1 : ∀ r, p1 (ix2 a r) = G 1 r) (h2 : ∀ r, p2 (ix2 a r) = G 2 r) (h3 : ∀ r, p3 (ix2 a r) = G 3 r) (h4 : ∀ r, p4 (ix2 a r) = G 4 r) (h5 : ∀ r, p5 (ix2 a r) = G 5 r) (h6 : ∀ r, p6 (ix2 a r) = G 6 r) (h7 : ∀ r, p7 (ix2 a r) = G 7 r) (h8 : ∀ r, p8 (ix2 a r) = G 8 r) (h9 : ∀ r, p9 (ix2 a r) = G 9 r) (h10 : ∀ r, p10 (ix2 a r) = G 10 r) (h11 : ∀ r, p11 (ix2 a r) = G 11 r) (h12 : ∀ r, p12 (ix2 a r) = G 12 r) (h13 : ∀ r, p13 (ix2 a r) = G 13 r) (h14 : ∀ r, p14 (ix2 a r) = G 14 r) (h15 : ∀ r, p15 (ix2 a r) = G 15 r)
    (g0 : ∀ r, q0 (ix2 a r) = K 0 r) (g1 : ∀ r, q1 (ix2 a r) = K 1 r) (g2 : ∀ r, q2 (ix2 a r) = K 2 r) (g3 : ∀ r, q3 (ix2 a r) = K 3 r) (g4 : ∀ r, q4 (ix2 a r) = K 4 r) (g5 : ∀ r, q5 (ix2 a r) = K 5 r) (g6 : ∀ r, q6 (ix2 a r) = K 6 r) (g7 : ∀ r, q7 (ix2 a r) = K 7 r) (g8 : ∀ r, q8 (ix2 a r) = K 8 r) (g9 : ∀ r, q9 (ix2 a r) = K 9 r) (g10 : ∀ r, q10 (ix2 a r) = K 10 r) (g11 : ∀ r, q11 (ix2 a r) = K 11 r) (g12 : ∀ r, q12 (ix2 a r) = K 12 r) (g13 : ∀ r, q13 (ix2 a r) = K 13 r) (g14 : ∀ r, q14 (ix2 a r) = K 14 r) (g15 : ∀ r, (matmul dot_S8x128_S128x128_S8x128_1_0_0_1_n_n none u w (constant S8x128 .f32 0x00000000#32) : FVec Ideal S8x128 .f32) (ix2 a r) = K 15 r) :
    k0_pay61 (F := Ideal) C b b' l p0 q0 p1 q1 p2 q2 p3 q3 p4 q4 p5 q5 p6 q6 p7 q7 p8 q8 p9 q9 p10 q10 p11 q11 p12 q12 p13 q13 p14 q14 u p15 w (ix2 a d)
      = RgLru.input (RgLru.decay (RgLru.gate (G ⟨d.val / 128, by omega⟩ ⟨d.val % 128, by omega⟩ + b (ix2 0 d))) (l (ix2 0 d)))
        (RgLru.gate (K ⟨d.val / 128, by omega⟩ ⟨d.val % 128, by omega⟩ + b' (ix2 0 d))) (C (ix2 a d)) := by
  have hl := la_apply b l p0 p1 p2 p3 p4 p5 p6 p7 p8 p9 p10 p11 p12 p13 p14 p15 a d G h0 h1 h2 h3 h4 h5 h6 h7 h8 h9 h10 h11 h12 h13 h14 h15
  have hc := cat16 q0 q1 q2 q3 q4 q5 q6 q7 q8 q9 q10 q11 q12 q13 q14 _ a d K g0 g1 g2 g3 g4 g5 g6 g7 g8 g9 g10 g11 g12 g13 g14 g15
  unfold k0_pay61
  generalize concatenate S8x2048 1 _ _ = Z at hc ⊢
  generalize k0_pay59 (F := Ideal) b l _ _ _ _ _ _ _ _ _ _ _ _ _ _ _ _ = L at hl ⊢
  pointwise
  rw [hc, hl]
  unfold RgLru.input
  rw [RgLru.one_sub]
  unfold RgLru.gate
  simp only [zero_sub]

/-- The block's convolution, from the block's arrays. -/
theorem pay66_apply (x0 x1 : FVec Ideal S8x2048 .f32) (x2 : FVec Ideal S3x8x2048 .f32) (x3 : FVec Ideal S8x2048 .f32) (x4 : FVec Ideal S4x2048 .f32) (x5 : FVec Ideal S1x2048 .f32) (x6 x7 : FVec Ideal S16x128x128 .bf16) (x8 x9 x10 : FVec Ideal S1x2048 .f32) (a : Fin 8) (d : Fin 2048) :
    k0_pay66 (F := Ideal) x0 x1 x2 x3 x4 x5 x6 x7 x8 x9 x10 (ix2 a d) = x5 (ix2 0 d) + (x2 (ix3 0 a d) * x4 (ix2 0 d) + x2 (ix3 1 a d) * x4 (ix2 1 d) + x2 (ix3 2 a d) * x4 (ix2 2 d) + x1 (ix2 a d) * x4 (ix2 3 d)) := by
  unfold k0_pay66
  rw [conv_apply]
  have e1 : ∀ (r : Fin 4) (inb), View.ld (Val := Elt Ideal) (e' := .f32) x4 (Rect.unit (s := S4x2048) ![r.val, 0] S1x2048.size inb) (ix2 0 d) = x4 (ix2 r d) := fun r inb =>
    View.ld_unit_apply_of (Val := Elt Ideal) (e := .f32) x4 _ _ inb _ _ fun a => by
      fin_cases a
      · rfl
      · exact (Nat.zero_add _).symm
  have e2 : ∀ (r : Fin 3) (inb), View.ld (Val := Elt Ideal) (e' := .f32) x2 (Rect.unit (s := S3x8x2048) ![r.val, 0, 0] S1x8x2048.size inb) (ix3 0 a d) = x2 (ix3 r a d) := fun r inb =>
    View.ld_unit_apply_of (Val := Elt Ideal) (e := .f32) x2 _ _ inb _ _ fun b => by
      fin_cases b
      · rfl
      · exact (Nat.zero_add _).symm
      · exact (Nat.zero_add _).symm
  have h1 : View.ld (Val := Elt Ideal) (e' := .f32) x1 r0_0 (ix2 a d) = x1 (ix2 a d) := by rw [View.ld_unit_lit _ _ (fun a => by fin_cases a <;> rfl)]
  have h5 : View.ld (Val := Elt Ideal) (e' := .f32) x5 r0_1 (ix2 0 d) = x5 (ix2 0 d) := by rw [View.ld_unit_lit _ _ (fun a => by fin_cases a <;> rfl)]
  have w0 : View.ld (Val := Elt Ideal) (e' := .f32) x4 r0_4 (ix2 0 d) = _ := e1 0 _
  have w1 : View.ld (Val := Elt Ideal) (e' := .f32) x4 r0_6 (ix2 0 d) = _ := e1 1 _
  have w2 : View.ld (Val := Elt Ideal) (e' := .f32) x4 r0_8 (ix2 0 d) = _ := e1 2 _
  have w3 : View.ld (Val := Elt Ideal) (e' := .f32) x4 r0_2 (ix2 0 d) = _ := e1 3 _
  have s0 : View.ld (Val := Elt Ideal) (e' := .f32) x2 r0_3 (ix3 0 a d) = _ := e2 0 _
  have s1 : View.ld (Val := Elt Ideal) (e' := .f32) x2 r0_5 (ix3 0 a d) = _ := e2 1 _
  have s2 : View.ld (Val := Elt Ideal) (e' := .f32) x2 r0_7 (ix3 0 a d) = _ := e2 2 _
  show View.ld (Val := Elt Ideal) (e' := .f32) x5 r0_1 (ix2 0 d) + View.ld (Val := Elt Ideal) (e' := .f32) x1 r0_0 (ix2 a d) * View.ld (Val := Elt Ideal) (e' := .f32) x4 r0_2 (ix2 0 d)
     + View.ld (Val := Elt Ideal) (e' := .f32) x2 r0_3 (ix3 0 a d) * View.ld (Val := Elt Ideal) (e' := .f32) x4 r0_4 (ix2 0 d)
     + View.ld (Val := Elt Ideal) (e' := .f32) x2 r0_5 (ix3 0 a d) * View.ld (Val := Elt Ideal) (e' := .f32) x4 r0_6 (ix2 0 d)
     + View.ld (Val := Elt Ideal) (e' := .f32) x2 r0_7 (ix3 0 a d) * View.ld (Val := Elt Ideal) (e' := .f32) x4 r0_8 (ix2 0 d) = _
  rw [h1, h5, w0, w1, w2, w3, s0, s1, s2]
  ac_rfl

set_option maxHeartbeats 800000 in
/-- The decay at an index, from the block's arrays. -/
theorem pay86_apply (x0 x1 : FVec Ideal S8x2048 .f32) (x2 : FVec Ideal S3x8x2048 .f32) (x3 : FVec Ideal S8x2048 .f32) (x4 : FVec Ideal S4x2048 .f32) (x5 : FVec Ideal S1x2048 .f32) (x6 x7 : FVec Ideal S16x128x128 .bf16) (x8 x9 x10 : FVec Ideal S1x2048 .f32) (a : Fin 8) (d : Fin 2048) :
    k0_pay86 (F := Ideal) x0 x1 x2 x3 x4 x5 x6 x7 x8 x9 x10 (ix2 a d)
      = Ideal.exp (RgLru.decay (RgLru.gate (prod (k0_pay66 (F := Ideal) x0 x1 x2 x3 x4 x5 x6 x7 x8 x9 x10) x6 a ⟨d.val / 128, by omega⟩ ⟨d.val % 128, by omega⟩ + x8 (ix2 0 d))) (x10 (ix2 0 d))) := by
  have h := la_apply (k0_pay67 (F := Ideal) x0 x1 x2 x3 x4 x5 x6 x7 x8 x9 x10) (k0_pay68 (F := Ideal) x0 x1 x2 x3 x4 x5 x6 x7 x8 x9 x10) (k0_pay9 (F := Ideal) (k0_pay66 (F := Ideal) x0 x1 x2 x3 x4 x5 x6 x7 x8 x9 x10) (View.ld (Val := Elt Ideal) (e' := .bf16) x6 r0_9)) (k0_pay12 (F := Ideal) (k0_pay66 (F := Ideal) x0 x1 x2 x3 x4 x5 x6 x7 x8 x9 x10) (View.ld (Val := Elt Ideal) (e' := .bf16) x6 r0_10)) (k0_pay15 (F := Ideal) (k0_pay66 (F := Ideal) x0 x1 x2 x3 x4 x5 x6 x7 x8 x9 x10) (View.ld (Val := Elt Ideal) (e' := .bf16) x6 r0_11)) (k0_pay18 (F := Ideal) (k0_pay66 (F := Ideal) x0 x1 x2 x3 x4 x5 x6 x7 x8 x9 x10) (View.ld (Val := Elt Ideal) (e' := .bf16) x6 r0_12)) (k0_pay22 (F := Ideal) (k0_pay69 (F := Ideal) x0 x1 x2 x3 x4 x5 x6 x7 x8 x9 x10) (View.ld (Val := Elt Ideal) (e' := .bf16) x6 r0_13)) (k0_pay25 (F := Ideal) (k0_pay69 (F := Ideal) x0 x1 x2 x3 x4 x5 x6 x7 x8 x9 x10) (View.ld (Val := Elt Ideal) (e' := .bf16) x6 r0_14)) (k0_pay28 (F := Ideal) (k0_pay69 (F := Ideal) x0 x1 x2 x3 x4 x5 x6 x7 x8 x9 x10) (View.ld (Val := Elt Ideal) (e' := .bf16) x6 r0_15)) (k0_pay31 (F := Ideal) (k0_pay69 (F := Ideal) x0 x1 x2 x3 x4 x5 x6 x7 x8 x9 x10) (View.ld (Val := Elt Ideal) (e' := .bf16) x6 r0_16)) (k0_pay35 (F := Ideal) (k0_pay69 (F := Ideal) x0 x1 x2 x3 x4 x5 x6 x7 x8 x9 x10) (View.ld (Val := Elt Ideal) (e' := .bf16) x6 r0_17)) (k0_pay38 (F := Ideal) (k0_pay69 (F := Ideal) x0 x1 x2 x3 x4 x5 x6 x7 x8 x9 x10) (View.ld (Val := Elt Ideal) (e' := .bf16) x6 r0_18)) (k0_pay41 (F := Ideal) (k0_pay69 (F := Ideal) x0 x1 x2 x3 x4 x5 x6 x7 x8 x9 x10) (View.ld (Val := Elt Ideal) (e' := .bf16) x6 r0_19)) (k0_pay44 (F := Ideal) (k0_pay69 (F := Ideal) x0 x1 x2 x3 x4 x5 x6 x7 x8 x9 x10) (View.ld (Val := Elt Ideal) (e' := .bf16) x6 r0_20)) (k0_pay48 (F := Ideal) (k0_pay69 (F := Ideal) x0 x1 x2 x3 x4 x5 x6 x7 x8 x9 x10) (View.ld (Val := Elt Ideal) (e' := .bf16) x6 r0_21)) (k0_pay51 (F := Ideal) (k0_pay69 (F := Ideal) x0 x1 x2 x3 x4 x5 x6 x7 x8 x9 x10) (View.ld (Val := Elt Ideal) (e' := .bf16) x6 r0_22)) (k0_pay54 (F := Ideal) (k0_pay69 (F := Ideal) x0 x1 x2 x3 x4 x5 x6 x7 x8 x9 x10) (View.ld (Val := Elt Ideal) (e' := .bf16) x6 r0_23)) (k0_pay57 (F := Ideal) (k0_pay69 (F := Ideal) x0 x1 x2 x3 x4 x5 x6 x7 x8 x9 x10) (View.ld (Val := Elt Ideal) (e' := .bf16) x6 r0_24)) a d (prod (k0_pay66 (F := Ideal) x0 x1 x2 x3 x4 x5 x6 x7 x8 x9 x10) x6 a)
      (fun r => wa_0 (k0_pay66 (F := Ideal) x0 x1 x2 x3 x4 x5 x6 x7 x8 x9 x10) (k0_pay69 (F := Ideal) x0 x1 x2 x3 x4 x5 x6 x7 x8 x9 x10) rfl x6 a r)
      (fun r => wa_1 (k0_pay66 (F := Ideal) x0 x1 x2 x3 x4 x5 x6 x7 x8 x9 x10) (k0_pay69 (F := Ideal) x0 x1 x2 x3 x4 x5 x6 x7 x8 x9 x10) rfl x6 a r)
      (fun r => wa_2 (k0_pay66 (F := Ideal) x0 x1 x2 x3 x4 x5 x6 x7 x8 x9 x10) (k0_pay69 (F := Ideal) x0 x1 x2 x3 x4 x5 x6 x7 x8 x9 x10) rfl x6 a r)
      (fun r => wa_3 (k0_pay66 (F := Ideal) x0 x1 x2 x3 x4 x5 x6 x7 x8 x9 x10) (k0_pay69 (F := Ideal) x0 x1 x2 x3 x4 x5 x6 x7 x8 x9 x10) rfl x6 a r)
      (fun r => wa_4 (k0_pay66 (F := Ideal) x0 x1 x2 x3 x4 x5 x6 x7 x8 x9 x10) (k0_pay69 (F := Ideal) x0 x1 x2 x3 x4 x5 x6 x7 x8 x9 x10) rfl x6 a r)
      (fun r => wa_5 (k0_pay66 (F := Ideal) x0 x1 x2 x3 x4 x5 x6 x7 x8 x9 x10) (k0_pay69 (F := Ideal) x0 x1 x2 x3 x4 x5 x6 x7 x8 x9 x10) rfl x6 a r)
      (fun r => wa_6 (k0_pay66 (F := Ideal) x0 x1 x2 x3 x4 x5 x6 x7 x8 x9 x10) (k0_pay69 (F := Ideal) x0 x1 x2 x3 x4 x5 x6 x7 x8 x9 x10) rfl x6 a r)
      (fun r => wa_7 (k0_pay66 (F := Ideal) x0 x1 x2 x3 x4 x5 x6 x7 x8 x9 x10) (k0_pay69 (F := Ideal) x0 x1 x2 x3 x4 x5 x6 x7 x8 x9 x10) rfl x6 a r)
      (fun r => wa_8 (k0_pay66 (F := Ideal) x0 x1 x2 x3 x4 x5 x6 x7 x8 x9 x10) (k0_pay69 (F := Ideal) x0 x1 x2 x3 x4 x5 x6 x7 x8 x9 x10) rfl x6 a r)
      (fun r => wa_9 (k0_pay66 (F := Ideal) x0 x1 x2 x3 x4 x5 x6 x7 x8 x9 x10) (k0_pay69 (F := Ideal) x0 x1 x2 x3 x4 x5 x6 x7 x8 x9 x10) rfl x6 a r)
      (fun r => wa_10 (k0_pay66 (F := Ideal) x0 x1 x2 x3 x4 x5 x6 x7 x8 x9 x10) (k0_pay69 (F := Ideal) x0 x1 x2 x3 x4 x5 x6 x7 x8 x9 x10) rfl x6 a r)
      (fun r => wa_11 (k0_pay66 (F := Ideal) x0 x1 x2 x3 x4 x5 x6 x7 x8 x9 x10) (k0_pay69 (F := Ideal) x0 x1 x2 x3 x4 x5 x6 x7 x8 x9 x10) rfl x6 a r)
      (fun r => wa_12 (k0_pay66 (F := Ideal) x0 x1 x2 x3 x4 x5 x6 x7 x8 x9 x10) (k0_pay69 (F := Ideal) x0 x1 x2 x3 x4 x5 x6 x7 x8 x9 x10) rfl x6 a r)
      (fun r => wa_13 (k0_pay66 (F := Ideal) x0 x1 x2 x3 x4 x5 x6 x7 x8 x9 x10) (k0_pay69 (F := Ideal) x0 x1 x2 x3 x4 x5 x6 x7 x8 x9 x10) rfl x6 a r)
      (fun r => wa_14 (k0_pay66 (F := Ideal) x0 x1 x2 x3 x4 x5 x6 x7 x8 x9 x10) (k0_pay69 (F := Ideal) x0 x1 x2 x3 x4 x5 x6 x7 x8 x9 x10) rfl x6 a r)
      (fun r => wa_15 (k0_pay66 (F := Ideal) x0 x1 x2 x3 x4 x5 x6 x7 x8 x9 x10) (k0_pay69 (F := Ideal) x0 x1 x2 x3 x4 x5 x6 x7 x8 x9 x10) rfl x6 a r)
  have h8 : k0_pay67 (F := Ideal) x0 x1 x2 x3 x4 x5 x6 x7 x8 x9 x10 (ix2 0 d) = x8 (ix2 0 d) := by
    unfold k0_pay67
    rw [View.ld_unit_lit _ _ (fun a => by fin_cases a <;> rfl)]
    pointwise [k0_pay4]
  have h10 : k0_pay68 (F := Ideal) x0 x1 x2 x3 x4 x5 x6 x7 x8 x9 x10 (ix2 0 d) = x10 (ix2 0 d) := by
    unfold k0_pay68
    rw [View.ld_unit_lit _ _ (fun a => by fin_cases a <;> rfl)]
    pointwise [k0_pay6]
  rw [h8, h10] at h
  exact congrArg Ideal.exp h

set_option maxHeartbeats 800000 in
/-- What the step adds at an index, from the block's arrays. -/
theorem pay87_apply (x0 x1 : FVec Ideal S8x2048 .f32) (x2 : FVec Ideal S3x8x2048 .f32) (x3 : FVec Ideal S8x2048 .f32) (x4 : FVec Ideal S4x2048 .f32) (x5 : FVec Ideal S1x2048 .f32) (x6 x7 : FVec Ideal S16x128x128 .bf16) (x8 x9 x10 : FVec Ideal S1x2048 .f32) (a : Fin 8) (d : Fin 2048) :
    k0_pay87 (F := Ideal) x0 x1 x2 x3 x4 x5 x6 x7 x8 x9 x10 (ix2 a d)
      = RgLru.input (RgLru.decay (RgLru.gate (prod (k0_pay66 (F := Ideal) x0 x1 x2 x3 x4 x5 x6 x7 x8 x9 x10) x6 a ⟨d.val / 128, by omega⟩ ⟨d.val % 128, by omega⟩ + x8 (ix2 0 d))) (x10 (ix2 0 d)))
        (RgLru.gate (prod (k0_pay66 (F := Ideal) x0 x1 x2 x3 x4 x5 x6 x7 x8 x9 x10) x7 a ⟨d.val / 128, by omega⟩ ⟨d.val % 128, by omega⟩ + x9 (ix2 0 d))) (k0_pay66 (F := Ideal) x0 x1 x2 x3 x4 x5 x6 x7 x8 x9 x10 (ix2 a d)) := by
  have h8 : k0_pay67 (F := Ideal) x0 x1 x2 x3 x4 x5 x6 x7 x8 x9 x10 (ix2 0 d) = x8 (ix2 0 d) := by
    unfold k0_pay67
    rw [View.ld_unit_lit _ _ (fun a => by fin_cases a <;> rfl)]
    pointwise [k0_pay4]
  have h9 : k0_pay5 (F := Ideal) (View.ld (Val := Elt Ideal) (e' := .f32) x9 r0_1) (ix2 0 d) = x9 (ix2 0 d) := by
    rw [View.ld_unit_lit _ _ (fun a => by fin_cases a <;> rfl)]
    pointwise [k0_pay5]
  have h10 : k0_pay68 (F := Ideal) x0 x1 x2 x3 x4 x5 x6 x7 x8 x9 x10 (ix2 0 d) = x10 (ix2 0 d) := by
    unfold k0_pay68
    rw [View.ld_unit_lit _ _ (fun a => by fin_cases a <;> rfl)]
    pointwise [k0_pay6]
  have h := input_apply (k0_pay66 (F := Ideal) x0 x1 x2 x3 x4 x5 x6 x7 x8 x9 x10) (k0_pay67 (F := Ideal) x0 x1 x2 x3 x4 x5 x6 x7 x8 x9 x10) (k0_pay5 (F := Ideal) (View.ld (Val := Elt Ideal) (e' := .f32) x9 r0_1)) (k0_pay68 (F := Ideal) x0 x1 x2 x3 x4 x5 x6 x7 x8 x9 x10) (k0_pay70 (F := Ideal) x0 x1 x2 x3 x4 x5 x6 x7 x8 x9 x10) (k0_pay71 (F := Ideal) x0 x1 x2 x3 x4 x5 x6 x7 x8 x9 x10) (k0_pay72 (F := Ideal) x0 x1 x2 x3 x4 x5 x6 x7 x8 x9 x10) (k0_pay73 (F := Ideal) x0 x1 x2 x3 x4 x5 x6 x7 x8 x9 x10) (k0_pay74 (F := Ideal) x0 x1 x2 x3 x4 x5 x6 x7 x8 x9 x10) (k0_pay75 (F := Ideal) x0 x1 x2 x3 x4 x5 x6 x7 x8 x9 x10) (k0_pay76 (F := Ideal) x0 x1 x2 x3 x4 x5 x6 x7 x8 x9 x10) (k0_pay77 (F := Ideal) x0 x1 x2 x3 x4 x5 x6 x7 x8 x9 x10) (k0_pay78 (F := Ideal) x0 x1 x2 x3 x4 x5 x6 x7 x8 x9 x10) (k0_pay79 (F := Ideal) x0 x1 x2 x3 x4 x5 x6 x7 x8 x9 x10) (k0_pay80 (F := Ideal) x0 x1 x2 x3 x4 x5 x6 x7 x8 x9 x10) (k0_pay81 (F := Ideal) x0 x1 x2 x3 x4 x5 x6 x7 x8 x9 x10) (k0_pay82 (F := Ideal) x0 x1 x2 x3 x4 x5 x6 x7 x8 x9 x10) (k0_pay83 (F := Ideal) x0 x1 x2 x3 x4 x5 x6 x7 x8 x9 x10) (k0_pay84 (F := Ideal) x0 x1 x2 x3 x4 x5 x6 x7 x8 x9 x10) (k0_pay85 (F := Ideal) x0 x1 x2 x3 x4 x5 x6 x7 x8 x9 x10) (k0_pay10 (F := Ideal) (k0_pay66 (F := Ideal) x0 x1 x2 x3 x4 x5 x6 x7 x8 x9 x10) (View.ld (Val := Elt Ideal) (e' := .bf16) x7 r0_9)) (k0_pay13 (F := Ideal) (k0_pay66 (F := Ideal) x0 x1 x2 x3 x4 x5 x6 x7 x8 x9 x10) (View.ld (Val := Elt Ideal) (e' := .bf16) x7 r0_10)) (k0_pay16 (F := Ideal) (k0_pay66 (F := Ideal) x0 x1 x2 x3 x4 x5 x6 x7 x8 x9 x10) (View.ld (Val := Elt Ideal) (e' := .bf16) x7 r0_11)) (k0_pay20 (F := Ideal) (k0_pay17 (F := Ideal) (k0_pay66 (F := Ideal) x0 x1 x2 x3 x4 x5 x6 x7 x8 x9 x10)) (k0_pay19 (F := Ideal) (View.ld (Val := Elt Ideal) (e' := .bf16) x7 r0_12))) (k0_pay23 (F := Ideal) (k0_pay69 (F := Ideal) x0 x1 x2 x3 x4 x5 x6 x7 x8 x9 x10) (View.ld (Val := Elt Ideal) (e' := .bf16) x7 r0_13)) (k0_pay26 (F := Ideal) (k0_pay69 (F := Ideal) x0 x1 x2 x3 x4 x5 x6 x7 x8 x9 x10) (View.ld (Val := Elt Ideal) (e' := .bf16) x7 r0_14)) (k0_pay29 (F := Ideal) (k0_pay69 (F := Ideal) x0 x1 x2 x3 x4 x5 x6 x7 x8 x9 x10) (View.ld (Val := Elt Ideal) (e' := .bf16) x7 r0_15)) (k0_pay33 (F := Ideal) (k0_pay30 (F := Ideal) (k0_pay69 (F := Ideal) x0 x1 x2 x3 x4 x5 x6 x7 x8 x9 x10)) (k0_pay32 (F := Ideal) (View.ld (Val := Elt Ideal) (e' := .bf16) x7 r0_16))) (k0_pay36 (F := Ideal) (k0_pay69 (F := Ideal) x0 x1 x2 x3 x4 x5 x6 x7 x8 x9 x10) (View.ld (Val := Elt Ideal) (e' := .bf16) x7 r0_17)) (k0_pay39 (F := Ideal) (k0_pay69 (F := Ideal) x0 x1 x2 x3 x4 x5 x6 x7 x8 x9 x10) (View.ld (Val := Elt Ideal) (e' := .bf16) x7 r0_18)) (k0_pay42 (F := Ideal) (k0_pay69 (F := Ideal) x0 x1 x2 x3 x4 x5 x6 x7 x8 x9 x10) (View.ld (Val := Elt Ideal) (e' := .bf16) x7 r0_19)) (k0_pay46 (F := Ideal) (k0_pay43 (F := Ideal) (k0_pay69 (F := Ideal) x0 x1 x2 x3 x4 x5 x6 x7 x8 x9 x10)) (k0_pay45 (F := Ideal) (View.ld (Val := Elt Ideal) (e' := .bf16) x7 r0_20))) (k0_pay49 (F := Ideal) (k0_pay69 (F := Ideal) x0 x1 x2 x3 x4 x5 x6 x7 x8 x9 x10) (View.ld (Val := Elt Ideal) (e' := .bf16) x7 r0_21)) (k0_pay52 (F := Ideal) (k0_pay69 (F := Ideal) x0 x1 x2 x3 x4 x5 x6 x7 x8 x9 x10) (View.ld (Val := Elt Ideal) (e' := .bf16) x7 r0_22)) (k0_pay55 (F := Ideal) (k0_pay69 (F := Ideal) x0 x1 x2 x3 x4 x5 x6 x7 x8 x9 x10) (View.ld (Val := Elt Ideal) (e' := .bf16) x7 r0_23)) (k0_pay56 (F := Ideal) (k0_pay69 (F := Ideal) x0 x1 x2 x3 x4 x5 x6 x7 x8 x9 x10)) (k0_pay58 (F := Ideal) (View.ld (Val := Elt Ideal) (e' := .bf16) x7 r0_24))
      a d (prod (k0_pay66 (F := Ideal) x0 x1 x2 x3 x4 x5 x6 x7 x8 x9 x10) x6 a) (prod (k0_pay66 (F := Ideal) x0 x1 x2 x3 x4 x5 x6 x7 x8 x9 x10) x7 a)
      (fun r => wa_0 (k0_pay66 (F := Ideal) x0 x1 x2 x3 x4 x5 x6 x7 x8 x9 x10) (k0_pay69 (F := Ideal) x0 x1 x2 x3 x4 x5 x6 x7 x8 x9 x10) rfl x6 a r)
      (fun r => wa_1 (k0_pay66 (F := Ideal) x0 x1 x2 x3 x4 x5 x6 x7 x8 x9 x10) (k0_pay69 (F := Ideal) x0 x1 x2 x3 x4 x5 x6 x7 x8 x9 x10) rfl x6 a r)
      (fun r => wa_2 (k0_pay66 (F := Ideal) x0 x1 x2 x3 x4 x5 x6 x7 x8 x9 x10) (k0_pay69 (F := Ideal) x0 x1 x2 x3 x4 x5 x6 x7 x8 x9 x10) rfl x6 a r)
      (fun r => wa_3 (k0_pay66 (F := Ideal) x0 x1 x2 x3 x4 x5 x6 x7 x8 x9 x10) (k0_pay69 (F := Ideal) x0 x1 x2 x3 x4 x5 x6 x7 x8 x9 x10) rfl x6 a r)
      (fun r => wa_4 (k0_pay66 (F := Ideal) x0 x1 x2 x3 x4 x5 x6 x7 x8 x9 x10) (k0_pay69 (F := Ideal) x0 x1 x2 x3 x4 x5 x6 x7 x8 x9 x10) rfl x6 a r)
      (fun r => wa_5 (k0_pay66 (F := Ideal) x0 x1 x2 x3 x4 x5 x6 x7 x8 x9 x10) (k0_pay69 (F := Ideal) x0 x1 x2 x3 x4 x5 x6 x7 x8 x9 x10) rfl x6 a r)
      (fun r => wa_6 (k0_pay66 (F := Ideal) x0 x1 x2 x3 x4 x5 x6 x7 x8 x9 x10) (k0_pay69 (F := Ideal) x0 x1 x2 x3 x4 x5 x6 x7 x8 x9 x10) rfl x6 a r)
      (fun r => wa_7 (k0_pay66 (F := Ideal) x0 x1 x2 x3 x4 x5 x6 x7 x8 x9 x10) (k0_pay69 (F := Ideal) x0 x1 x2 x3 x4 x5 x6 x7 x8 x9 x10) rfl x6 a r)
      (fun r => wa_8 (k0_pay66 (F := Ideal) x0 x1 x2 x3 x4 x5 x6 x7 x8 x9 x10) (k0_pay69 (F := Ideal) x0 x1 x2 x3 x4 x5 x6 x7 x8 x9 x10) rfl x6 a r)
      (fun r => wa_9 (k0_pay66 (F := Ideal) x0 x1 x2 x3 x4 x5 x6 x7 x8 x9 x10) (k0_pay69 (F := Ideal) x0 x1 x2 x3 x4 x5 x6 x7 x8 x9 x10) rfl x6 a r)
      (fun r => wa_10 (k0_pay66 (F := Ideal) x0 x1 x2 x3 x4 x5 x6 x7 x8 x9 x10) (k0_pay69 (F := Ideal) x0 x1 x2 x3 x4 x5 x6 x7 x8 x9 x10) rfl x6 a r)
      (fun r => wa_11 (k0_pay66 (F := Ideal) x0 x1 x2 x3 x4 x5 x6 x7 x8 x9 x10) (k0_pay69 (F := Ideal) x0 x1 x2 x3 x4 x5 x6 x7 x8 x9 x10) rfl x6 a r)
      (fun r => wa_12 (k0_pay66 (F := Ideal) x0 x1 x2 x3 x4 x5 x6 x7 x8 x9 x10) (k0_pay69 (F := Ideal) x0 x1 x2 x3 x4 x5 x6 x7 x8 x9 x10) rfl x6 a r)
      (fun r => wa_13 (k0_pay66 (F := Ideal) x0 x1 x2 x3 x4 x5 x6 x7 x8 x9 x10) (k0_pay69 (F := Ideal) x0 x1 x2 x3 x4 x5 x6 x7 x8 x9 x10) rfl x6 a r)
      (fun r => wa_14 (k0_pay66 (F := Ideal) x0 x1 x2 x3 x4 x5 x6 x7 x8 x9 x10) (k0_pay69 (F := Ideal) x0 x1 x2 x3 x4 x5 x6 x7 x8 x9 x10) rfl x6 a r)
      (fun r => wa_15 (k0_pay66 (F := Ideal) x0 x1 x2 x3 x4 x5 x6 x7 x8 x9 x10) (k0_pay69 (F := Ideal) x0 x1 x2 x3 x4 x5 x6 x7 x8 x9 x10) rfl x6 a r)
      (fun r => wx_0 (k0_pay66 (F := Ideal) x0 x1 x2 x3 x4 x5 x6 x7 x8 x9 x10) (k0_pay69 (F := Ideal) x0 x1 x2 x3 x4 x5 x6 x7 x8 x9 x10) rfl x7 a r)
      (fun r => wx_1 (k0_pay66 (F := Ideal) x0 x1 x2 x3 x4 x5 x6 x7 x8 x9 x10) (k0_pay69 (F := Ideal) x0 x1 x2 x3 x4 x5 x6 x7 x8 x9 x10) rfl x7 a r)
      (fun r => wx_2 (k0_pay66 (F := Ideal) x0 x1 x2 x3 x4 x5 x6 x7 x8 x9 x10) (k0_pay69 (F := Ideal) x0 x1 x2 x3 x4 x5 x6 x7 x8 x9 x10) rfl x7 a r)
      (fun r => wx_3 (k0_pay66 (F := Ideal) x0 x1 x2 x3 x4 x5 x6 x7 x8 x9 x10) (k0_pay69 (F := Ideal) x0 x1 x2 x3 x4 x5 x6 x7 x8 x9 x10) rfl x7 a r)
      (fun r => wx_4 (k0_pay66 (F := Ideal) x0 x1 x2 x3 x4 x5 x6 x7 x8 x9 x10) (k0_pay69 (F := Ideal) x0 x1 x2 x3 x4 x5 x6 x7 x8 x9 x10) rfl x7 a r)
      (fun r => wx_5 (k0_pay66 (F := Ideal) x0 x1 x2 x3 x4 x5 x6 x7 x8 x9 x10) (k0_pay69 (F := Ideal) x0 x1 x2 x3 x4 x5 x6 x7 x8 x9 x10) rfl x7 a r)
      (fun r => wx_6 (k0_pay66 (F := Ideal) x0 x1 x2 x3 x4 x5 x6 x7 x8 x9 x10) (k0_pay69 (F := Ideal) x0 x1 x2 x3 x4 x5 x6 x7 x8 x9 x10) rfl x7 a r)
      (fun r => wx_7 (k0_pay66 (F := Ideal) x0 x1 x2 x3 x4 x5 x6 x7 x8 x9 x10) (k0_pay69 (F := Ideal) x0 x1 x2 x3 x4 x5 x6 x7 x8 x9 x10) rfl x7 a r)
      (fun r => wx_8 (k0_pay66 (F := Ideal) x0 x1 x2 x3 x4 x5 x6 x7 x8 x9 x10) (k0_pay69 (F := Ideal) x0 x1 x2 x3 x4 x5 x6 x7 x8 x9 x10) rfl x7 a r)
      (fun r => wx_9 (k0_pay66 (F := Ideal) x0 x1 x2 x3 x4 x5 x6 x7 x8 x9 x10) (k0_pay69 (F := Ideal) x0 x1 x2 x3 x4 x5 x6 x7 x8 x9 x10) rfl x7 a r)
      (fun r => wx_10 (k0_pay66 (F := Ideal) x0 x1 x2 x3 x4 x5 x6 x7 x8 x9 x10) (k0_pay69 (F := Ideal) x0 x1 x2 x3 x4 x5 x6 x7 x8 x9 x10) rfl x7 a r)
      (fun r => wx_11 (k0_pay66 (F := Ideal) x0 x1 x2 x3 x4 x5 x6 x7 x8 x9 x10) (k0_pay69 (F := Ideal) x0 x1 x2 x3 x4 x5 x6 x7 x8 x9 x10) rfl x7 a r)
      (fun r => wx_12 (k0_pay66 (F := Ideal) x0 x1 x2 x3 x4 x5 x6 x7 x8 x9 x10) (k0_pay69 (F := Ideal) x0 x1 x2 x3 x4 x5 x6 x7 x8 x9 x10) rfl x7 a r)
      (fun r => wx_13 (k0_pay66 (F := Ideal) x0 x1 x2 x3 x4 x5 x6 x7 x8 x9 x10) (k0_pay69 (F := Ideal) x0 x1 x2 x3 x4 x5 x6 x7 x8 x9 x10) rfl x7 a r)
      (fun r => wx_14 (k0_pay66 (F := Ideal) x0 x1 x2 x3 x4 x5 x6 x7 x8 x9 x10) (k0_pay69 (F := Ideal) x0 x1 x2 x3 x4 x5 x6 x7 x8 x9 x10) rfl x7 a r)
      (fun r => wx_15 (k0_pay66 (F := Ideal) x0 x1 x2 x3 x4 x5 x6 x7 x8 x9 x10) (k0_pay69 (F := Ideal) x0 x1 x2 x3 x4 x5 x6 x7 x8 x9 x10) rfl x7 a r)
  rw [h8, h9, h10] at h
  exact h

variable (m : (ℓ : Loc nD τ sig) → Buf (Elt Ideal) ℓ)

/-- The blocks' places: one grid point, every window at its array's start, the second at the second half of the columns. -/
theorem idx : ∀ t : Fin cfg0.N, win0_0.index t = ![0, 0] ∧ win0_1.index t = ![0, 1] ∧ win0_2.index t = ![0, 0, 0] ∧ win0_3.index t = ![0, 0]
    ∧ win0_4.index t = ![0, 0] ∧ win0_5.index t = ![0, 0] ∧ win0_6.index t = ![0, 0, 0] ∧ win0_7.index t = ![0, 0, 0]
    ∧ win0_8.index t = ![0, 0] ∧ win0_9.index t = ![0, 0] ∧ win0_10.index t = ![0, 0] ∧ win0_11.index t = ![0, 0] ∧ win0_12.index t = ![0, 0, 0] ∧ win0_13.index t = ![0, 0] :=
  (by decide +kernel : ∀ t : Fin grid0.N, _)

/-- The projection's rows. -/
theorem V_z (c : Dev nD) : V m c main_v0 = shapeCast S8x4096 (m ((c : Thread nD τ).loc main_arg0)) shapeCasts_S8x1x4096_S8x4096 := by
  entry_read
  rfl
/-- The convolution's state, tap first. -/
theorem V_s (c : Dev nD) : V m c main_v1 = transpose S3x8x2048 [1, 0, 2] (m ((c : Thread nD τ).loc main_arg1)) transposes_S8x3x2048_S3x8x2048_1_0_2 := by
  entry_read
  rfl
/-- The decay gate's blocks. -/
theorem V_wa (c : Dev nD) : V m c main_v2 = (m ((c : Thread nD τ).loc main_arg5) : FVec Ideal S16x128x128 .f32) := by
  entry_read
  rfl
/-- The input gate's blocks. -/
theorem V_wx (c : Dev nD) : V m c main_v3 = (m ((c : Thread nD τ).loc main_arg7) : FVec Ideal S16x128x128 .f32) := by
  entry_read
  rfl
/-- The convolution's bias as a row. -/
theorem V_cb (c : Dev nD) : V m c main_v4 = shapeCast S1x2048 (m ((c : Thread nD τ).loc main_arg4)) shapeCasts_S2048_S1x2048 := by
  entry_read
  rfl
/-- The decay gate's bias as a row. -/
theorem V_ba (c : Dev nD) : V m c main_v5 = shapeCast S1x2048 (m ((c : Thread nD τ).loc main_arg6)) shapeCasts_S2048_S1x2048 := by
  entry_read
  rfl
/-- The input gate's bias as a row. -/
theorem V_bx (c : Dev nD) : V m c main_v6 = shapeCast S1x2048 (m ((c : Thread nD τ).loc main_arg8)) shapeCasts_S2048_S1x2048 := by
  entry_read
  rfl
/-- The decay's parameter as a row. -/
theorem V_l (c : Dev nD) : V m c main_v7 = shapeCast S1x2048 (m ((c : Thread nD τ).loc main_arg9)) shapeCasts_S2048_S1x2048 := by
  entry_read
  rfl

/-- A vector as a row, at an index. -/
theorem row_apply (A : FVec Ideal S2048 .f32) (i : S1x2048.Idx) : shapeCast S1x2048 A shapeCasts_S2048_S1x2048 i = A (ix1 (i 1)) := by
  idx_vars i
  pointwise
/-- The projection's rows at an index. -/
theorem z_apply (A : FVec Ideal S8x1x4096 .f32) (i : S8x4096.Idx) : shapeCast S8x4096 A shapeCasts_S8x1x4096_S8x4096 i = A (ix3 (i 0) 0 (i 1)) := by
  idx_vars i
  pointwise
/-- The convolution's state at an index. -/
theorem s_apply (A : FVec Ideal S8x3x2048 .f32) (i : S3x8x2048.Idx) : transpose S3x8x2048 [1, 0, 2] A transposes_S8x3x2048_S3x8x2048_1_0_2 i = A (ix3 (i 1) (i 0) (i 2)) := by
  idx_vars i
  pointwise

/-- The gate half of the projection. -/
theorem b0 (c : Dev nD) (t : Fin cfg0.N) (a : Fin 8) (d : Fin 2048) : iblk m c 0 t (ix2 a d) = m ((c : Thread nD τ).loc main_arg0) (ix3 a 0 ⟨d.val, by omega⟩) := by
  blk_simp [iblk]
  rw [V_z, z_apply]
  blk_ext [idx t]
/-- The recurrent half of the projection. -/
theorem b1 (c : Dev nD) (t : Fin cfg0.N) (a : Fin 8) (d : Fin 2048) : iblk m c 1 t (ix2 a d) = m ((c : Thread nD τ).loc main_arg0) (ix3 a 0 ⟨2048 + d.val, by omega⟩) := by
  blk_simp [iblk]
  rw [V_z, z_apply]
  blk_ext [idx t]
/-- The convolution's state. -/
theorem b2 (c : Dev nD) (t : Fin cfg0.N) (j : Fin 3) (a : Fin 8) (d : Fin 2048) : iblk m c 2 t (ix3 j a d) = m ((c : Thread nD τ).loc main_arg1) (ix3 a j d) := by
  blk_simp [iblk]
  rw [V_s, s_apply]
  blk_ext [idx t]
/-- The hidden state before the token. -/
theorem b3 (c : Dev nD) (t : Fin cfg0.N) (a : Fin 8) (d : Fin 2048) : iblk m c 3 t (ix2 a d) = m ((c : Thread nD τ).loc main_arg2) (ix2 a d) := by
  blk_simp [iblk]
  rw [V_main_arg2]
  blk_ext [idx t]
/-- The convolution's taps. -/
theorem b4 (c : Dev nD) (t : Fin cfg0.N) (a : Fin 4) (d : Fin 2048) : iblk m c 4 t (ix2 a d) = m ((c : Thread nD τ).loc main_arg3) (ix2 a d) := by
  blk_simp [iblk]
  rw [V_main_arg3]
  blk_ext [idx t]
/-- The convolution's bias. -/
theorem b5 (c : Dev nD) (t : Fin cfg0.N) (d : Fin 2048) : iblk m c 5 t (ix2 0 d) = m ((c : Thread nD τ).loc main_arg4) (ix1 d) := by
  blk_simp [iblk]
  rw [V_cb, row_apply]
  blk_ext [idx t]
/-- The decay gate's blocks. -/
theorem b6 (c : Dev nD) (t : Fin cfg0.N) (n : Fin 16) (x r : Fin 128) : iblk m c 6 t (ix3 n x r) = m ((c : Thread nD τ).loc main_arg5) (ix3 n x r) := by
  blk_simp [iblk]
  rw [V_wa]
  blk_ext [idx t]
/-- The input gate's blocks. -/
theorem b7 (c : Dev nD) (t : Fin cfg0.N) (n : Fin 16) (x r : Fin 128) : iblk m c 7 t (ix3 n x r) = m ((c : Thread nD τ).loc main_arg7) (ix3 n x r) := by
  blk_simp [iblk]
  rw [V_wx]
  blk_ext [idx t]
/-- The decay gate's bias. -/
theorem b8 (c : Dev nD) (t : Fin cfg0.N) (d : Fin 2048) : iblk m c 8 t (ix2 0 d) = m ((c : Thread nD τ).loc main_arg6) (ix1 d) := by
  blk_simp [iblk]
  rw [V_ba, row_apply]
  blk_ext [idx t]
/-- The input gate's bias. -/
theorem b9 (c : Dev nD) (t : Fin cfg0.N) (d : Fin 2048) : iblk m c 9 t (ix2 0 d) = m ((c : Thread nD τ).loc main_arg8) (ix1 d) := by
  blk_simp [iblk]
  rw [V_bx, row_apply]
  blk_ext [idx t]
/-- The decay's parameter. -/
theorem b10 (c : Dev nD) (t : Fin cfg0.N) (d : Fin 2048) : iblk m c 10 t (ix2 0 d) = m ((c : Thread nD τ).loc main_arg9) (ix1 d) := by
  blk_simp [iblk]
  rw [V_l, row_apply]
  blk_ext [idx t]

/-- The block's convolution is the reference's. -/
theorem conv_eq (c : Dev nD) (t : Fin cfg0.N) (a : Fin 8) (d : Fin 2048) : k0_pay66 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a d)
    = LruStepRefIdeal.Tie.CONV (m ((c : Thread nD τ).loc main_arg0)) (m ((c : Thread nD τ).loc main_arg1)) (m ((c : Thread nD τ).loc main_arg3)) (m ((c : Thread nD τ).loc main_arg4)) (ix3 a 0 d) := by
  rw [pay66_apply, LruStepRefIdeal.Tie.conv_apply, b1, b5, b2, b2, b2, b4, b4, b4, b4]

/-- The decay gate is the reference's. -/
theorem ga_eq (c : Dev nD) (t : Fin cfg0.N) (a : Fin 8) (d : Fin 2048) :
    RgLru.gate (prod (k0_pay66 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 6 t) a ⟨d.val / 128, by omega⟩ ⟨d.val % 128, by omega⟩ + iblk m c 8 t (ix2 0 d))
    = LruStepRefIdeal.Tie.GATE (m ((c : Thread nD τ).loc main_arg5)) (m ((c : Thread nD τ).loc main_arg6)) (LruStepRefIdeal.Tie.CONV (m ((c : Thread nD τ).loc main_arg0)) (m ((c : Thread nD τ).loc main_arg1)) (m ((c : Thread nD τ).loc main_arg3)) (m ((c : Thread nD τ).loc main_arg4))) (ix3 a 0 d) := by
  rw [LruStepRefIdeal.Tie.gate_apply, b8]
  unfold prod
  simp only [conv_eq, b6]

/-- The input gate is the reference's. -/
theorem gx_eq (c : Dev nD) (t : Fin cfg0.N) (a : Fin 8) (d : Fin 2048) :
    RgLru.gate (prod (k0_pay66 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 7 t) a ⟨d.val / 128, by omega⟩ ⟨d.val % 128, by omega⟩ + iblk m c 9 t (ix2 0 d))
    = LruStepRefIdeal.Tie.GATE (m ((c : Thread nD τ).loc main_arg7)) (m ((c : Thread nD τ).loc main_arg8)) (LruStepRefIdeal.Tie.CONV (m ((c : Thread nD τ).loc main_arg0)) (m ((c : Thread nD τ).loc main_arg1)) (m ((c : Thread nD τ).loc main_arg3)) (m ((c : Thread nD τ).loc main_arg4))) (ix3 a 0 d) := by
  rw [LruStepRefIdeal.Tie.gate_apply, b9]
  unfold prod
  simp only [conv_eq, b7]

/-- One block's hidden state is the reference's. -/
theorem point_h (c : Dev nD) (t : Fin cfg0.N) (a : Fin 8) (d : Fin 2048) :
    k0_pay62 (F := Ideal) (k0_pay86 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay87 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 3 t) (ix2 a d)
    = LruStepRefIdeal.Tie.HSA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 a 0 d) := by
  have h : k0_pay62 (F := Ideal) (k0_pay86 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay87 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 3 t) (ix2 a d)
      = k0_pay86 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a d) * iblk m c 3 t (ix2 a d) + k0_pay87 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a d) := rfl
  rw [h, pay86_apply, pay87_apply, conv_eq, ga_eq, gx_eq, b3, b10]
  unfold LruStepRefIdeal.Tie.HSA
  rw [LruStepRefIdeal.Tie.hs_apply, LruStepRefIdeal.Tie.la_apply]

/-- The gated output at an index. -/
theorem pay63_apply (p q : FVec Ideal S8x2048 .f32) (h z : FVec Ideal S8x2048 .f32) (y : S8x2048.Idx) :
    k0_pay63 (F := Ideal) p q h z y = RgLru.gelu (z y) * k0_pay62 (F := Ideal) p q h y := by
  idx_vars y
  generalize hv : k0_pay62 (F := Ideal) p q h = v
  unfold k0_pay63
  rw [hv]
  pointwise
  unfold RgLru.gelu
  congr 1
  rw [mul_assoc, mul_left_comm]

/-- One block's output is the reference's. -/
theorem point_y (c : Dev nD) (t : Fin cfg0.N) (a : Fin 8) (d : Fin 2048) :
    k0_pay63 (F := Ideal) (k0_pay86 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay87 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 3 t) (iblk m c 0 t) (ix2 a d)
    = LruStepRefIdeal.Tie.OUT (m ((c : Thread nD τ).loc main_arg0)) (LruStepRefIdeal.Tie.HSA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 a d) := by
  rw [pay63_apply, point_h, b0, LruStepRefIdeal.Tie.out_apply]

/-- The output array after the run is the reference's. -/
theorem final_y (c : Dev nD) : (dats m 0 c).arrAt 11 (cfgs 0).N = LruStepRefIdeal.Tie.OUT (m ((c : Thread nD τ).loc main_arg0)) (LruStepRefIdeal.Tie.HSA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (dats m 0 c).arrAt_eq_of_covers 11 _ (by decide +kernel) fun t _ y => ?_
  blk_simp
  rw [after0_11]; frame_out
  idx_vars y
  refine (point_y m c t y0 y1).trans (congrArg _ ?_)
  blk_ext [idx t]

/-- The hidden states after the run are the reference's. -/
theorem final_h (c : Dev nD) : (dats m 0 c).arrAt 13 (cfgs 0).N = shapeCast S8x2048 (LruStepRefIdeal.Tie.HSA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) LruStepRefIdeal.Gen.shapeCasts_S8x1x2048_S8x2048 := by
  refine (dats m 0 c).arrAt_eq_of_covers 13 _ (by decide +kernel) fun t _ y => ?_
  blk_simp
  rw [after0_13]; frame_out
  idx_vars y
  refine (point_h m c t y0 y1).trans ?_
  generalize LruStepRefIdeal.Tie.HSA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = H
  have hr : ∀ i : S8x2048.Idx, shapeCast S8x2048 H LruStepRefIdeal.Gen.shapeCasts_S8x1x2048_S8x2048 i = H (ix3 (i 0) 0 (i 1)) := by
    intro i
    idx_vars i
    pointwise
  rw [hr]
  blk_ext [idx t]

/-- The convolution's new state. -/
abbrev NEWCONV (z : FVec Ideal S8x1x4096 .f32) (cs : FVec Ideal S8x3x2048 .f32) : FVec Ideal S3x8x2048 .f32 :=
  transpose S3x8x2048 [1, 0, 2] (extractStridedSlice LruStepRefIdeal.S8x3x2048 ![0, 1, 0] (concatenate LruStepRefIdeal.S8x4x2048 1 [⟨LruStepRefIdeal.S8x3x2048, cs⟩, ⟨LruStepRefIdeal.S8x1x2048, (extractStridedSlice LruStepRefIdeal.S8x1x2048 ![0, 0, 2048] z LruStepRefIdeal.Gen.slices_S8x1x4096_S8x1x2048_0_0_2048)⟩] LruStepRefIdeal.Gen.concatenates_S8x3x2048_S8x1x2048_S8x4x2048_d1) LruStepRefIdeal.Gen.slices_S8x4x2048_S8x3x2048_0_1_0) LruStepRefIdeal.Gen.transposes_S8x3x2048_S3x8x2048_1_0_2

/-- The oldest of the three kept rows. -/
theorem newconv_0 (z : FVec Ideal S8x1x4096 .f32) (cs : FVec Ideal S8x3x2048 .f32) (a : Fin 8) (d : Fin 2048) : NEWCONV z cs (ix3 0 a d) = cs (ix3 a 1 d) := by
  pointwise [NEWCONV]
/-- The middle one. -/
theorem newconv_1 (z : FVec Ideal S8x1x4096 .f32) (cs : FVec Ideal S8x3x2048 .f32) (a : Fin 8) (d : Fin 2048) : NEWCONV z cs (ix3 1 a d) = cs (ix3 a 2 d) := by
  pointwise [NEWCONV]
/-- The newest, the token's own. -/
theorem newconv_2 (z : FVec Ideal S8x1x4096 .f32) (cs : FVec Ideal S8x3x2048 .f32) (a : Fin 8) (d : Fin 2048) : NEWCONV z cs (ix3 2 a d) = z (ix3 a 0 ⟨2048 + d.val, by omega⟩) := by
  pointwise [NEWCONV]

/-- A stored row of the state reads its place. -/
theorem place (x : S1x8x2048.Idx) (y : S3x8x2048.Idx) (n : Fin 3) (h : ∀ a, (y a : Nat) = (![n.val, 0, 0] : Fin 3 → Nat) a + x a) :
    y = ix3 n (x 1) (x 2) := by
  have h0 : (y 0 : Nat) = n.val + (x 0 : Nat) := h 0
  have h1 : (y 1 : Nat) = 0 + (x 1 : Nat) := h 1
  have h2 : (y 2 : Nat) = 0 + (x 2 : Nat) := h 2
  have hx : (x 0 : Nat) < 1 := (x 0).isLt
  funext a
  fin_cases a
  · exact Fin.ext (show (y 0 : Nat) = n.val by omega)
  · exact Fin.ext (show (y 1 : Nat) = (x 1 : Nat) by omega)
  · exact Fin.ext (show (y 2 : Nat) = (x 2 : Nat) by omega)

/-- The newest row's payload at an index. -/
theorem pay1_apply (x1 : FVec Ideal S8x2048 .f32) (x : S1x8x2048.Idx) : k0_pay1 (F := Ideal) (k0_pay2 (F := Ideal) (View.ld (Val := Elt Ideal) (e' := .f32) x1 r0_0)) x = x1 (ix2 (x 1) (x 2)) := by
  idx_vars x
  pointwise [k0_pay1, k0_pay2]
/-- The middle row's payload at an index. -/
theorem pay65_apply (x2 : FVec Ideal S3x8x2048 .f32) (x : S1x8x2048.Idx) : k0_pay65 (F := Ideal) (View.ld (Val := Elt Ideal) (e' := .f32) x2 r0_7) x = x2 (ix3 2 (x 1) (x 2)) := by
  idx_vars x
  pointwise [k0_pay65]
/-- The oldest row's payload at an index. -/
theorem pay64_apply (x2 : FVec Ideal S3x8x2048 .f32) (x : S1x8x2048.Idx) : k0_pay64 (F := Ideal) (View.ld (Val := Elt Ideal) (e' := .f32) x2 r0_5) x = x2 (ix3 1 (x 1) (x 2)) := by
  idx_vars x
  pointwise [k0_pay64]

/-- The block's new state is the reference's. -/
theorem point_c (c : Dev nD) (t : Fin cfg0.N) (y : S3x8x2048.Idx) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y = NEWCONV (m ((c : Thread nD τ).loc main_arg0)) (m ((c : Thread nD τ).loc main_arg1)) y := by
  unfold out0_12
  refine View.canon_eq_of_allAt (Val := Elt Ideal) _ y _ (cover0_12 _ _ _ y) (View.allAt_cons_unit _ _ _ _ _ ?_ (View.allAt_cons_unit _ _ _ _ _ ?_
    (View.allAt_cons_unit _ _ _ _ _ ?_ (View.allAt_nil _ _))))
  · intro x hx
    exact (pay1_apply _ x).trans ((b1 m c t _ _).trans ((congrArg (NEWCONV (m ((c : Thread nD τ).loc main_arg0)) (m ((c : Thread nD τ).loc main_arg1))) (place x y 2 hx)).trans (newconv_2 (m ((c : Thread nD τ).loc main_arg0)) (m ((c : Thread nD τ).loc main_arg1)) (x 1) (x 2))).symm)
  · intro x hx
    exact (pay65_apply _ x).trans ((b2 m c t _ _ _).trans ((congrArg (NEWCONV (m ((c : Thread nD τ).loc main_arg0)) (m ((c : Thread nD τ).loc main_arg1))) (place x y 1 hx)).trans (newconv_1 (m ((c : Thread nD τ).loc main_arg0)) (m ((c : Thread nD τ).loc main_arg1)) (x 1) (x 2))).symm)
  · intro x hx
    exact (pay64_apply _ x).trans ((b2 m c t _ _ _).trans ((congrArg (NEWCONV (m ((c : Thread nD τ).loc main_arg0)) (m ((c : Thread nD τ).loc main_arg1))) (place x y 0 hx)).trans (newconv_0 (m ((c : Thread nD τ).loc main_arg0)) (m ((c : Thread nD τ).loc main_arg1)) (x 1) (x 2))).symm)

/-- The convolution's state after the run is the reference's. -/
theorem final_c (c : Dev nD) : (dats m 0 c).arrAt 12 (cfgs 0).N = NEWCONV (m ((c : Thread nD τ).loc main_arg0)) (m ((c : Thread nD τ).loc main_arg1)) := by
  refine (dats m 0 c).arrAt_eq_of_covers 12 _ (by decide +kernel) fun t _ y => ?_
  blk_simp
  rw [after0_12]
  refine (point_c m c t y).trans (congrArg _ ?_)
  blk_ext [idx t]

end Cert.LruStepIdeal.Tie

end
-- ==== Proof.Hgrn2.lean ====
/- The HGRN2 step's arithmetic on one number: the forget gate, the state's next value and the gated output, and the
   equations by which the two ways of writing them agree on all of the extended reals. -/
module

public import Idealize.ShloMosaic.Lib.Pipeline.ValueKit

@[expose] public section

noncomputable section

open Idealize.ShloMosaic

namespace Cert.Hgrn2

/-- `log(sigmoid(x))`. -/
def lsig (x : EReal) : EReal := -(max (-x) 0 + Ideal.log1p (Ideal.exp (-(max x (-x)))))

/-- `log(exp(a) + exp(b))`. -/
def lae (a b : EReal) : EReal := max a b + Ideal.log1p (Ideal.exp (-(max (a - b) (-(a - b)))))

/-- The forget gate's logarithm from the gate's argument and the lower bound. -/
def logf (x l : EReal) : EReal := lae (Ideal.log l) (Ideal.log1p (-l) + lsig x)

/-- `x * sigmoid(x)`. -/
def silu (x : EReal) : EReal := x * Ideal.div 1 (1 + Ideal.exp (-x))

/-- The state's next value, from the forget gate, the state and the value. -/
def next (f s v : EReal) : EReal := f * s + (1 - f) * v

/-- The output: a head's row normalised, scaled and gated. -/
def out (o : Fin 128 → EReal) (v : Fin 128) (g h : EReal) : EReal :=
  o v * Ideal.rsqrt (Ideal.div (∑ w, o w * o w) (Ideal.ofBits .f32 0x43000000#32) + Ideal.ofBits .f32 0x358637BD#32) * g * silu h

/-- `log(1 + exp(y))` is at least 0. -/
theorem log1p_exp_ne_bot (y : EReal) : Ideal.log1p (Ideal.exp y) ≠ ⊥ := by
  unfold Ideal.log1p
  induction y with
  | bot => show Ideal.log (1 + 0) ≠ ⊥; rw [add_zero]; exact ne_of_eq_of_ne (if_neg (by norm_num)) (EReal.coe_ne_bot _)
  | top => show Ideal.log (1 + ⊤) ≠ ⊥; exact top_ne_bot
  | coe r =>
    show Ideal.log (((1 : ℝ) : EReal) + ((Real.exp r : ℝ) : EReal)) ≠ ⊥
    rw [← EReal.coe_add]
    exact ne_of_eq_of_ne (if_neg (not_le.2 (by positivity))) (EReal.coe_ne_bot _)

/-- The logarithm of the logistic function, written with a minimum. -/
theorem min_sub (x : EReal) : min x 0 - Ideal.log1p (Ideal.exp (0 - max x (-x))) = lsig x := by
  unfold lsig
  rw [zero_sub, EReal.neg_add (.inl ?_) (.inr (log1p_exp_ne_bot _)), sub_eq_add_neg]
  · congr 1
    rcases le_total x 0 with h | h
    · rw [min_eq_left h, max_eq_left (by simpa using EReal.neg_le_neg_iff.2 h), neg_neg]
    · rw [min_eq_right h, max_eq_right (by simpa using EReal.neg_le_neg_iff.2 h), neg_zero]
  · exact ne_of_gt (lt_of_lt_of_le EReal.bot_lt_zero (le_max_right _ _))

/-- `1 - x` is `-(x - 1)`, at the infinities too. -/
theorem one_sub (x : EReal) : 1 - x = -(x - 1) := by
  induction x with
  | bot => rfl
  | top => rfl
  | coe r => rw [← EReal.coe_one, ← EReal.coe_sub, ← EReal.coe_sub, ← EReal.coe_neg]; congr 1; ring

end Cert.Hgrn2

end
-- ==== Proof.HgrnStepRef.lean ====
/- The HGRN2 step's reference: what it computes, in named pieces, and the pieces read at an index. -/
module

public import proofs.«01_k».proof.Proof.Hgrn2
public import proofs.«01_k».proof.Proof.Gen.HgrnStepRefIdeal.Run
public import Idealize.ShloMosaic.Lib.Pipeline.ValueKit

@[expose] public section

set_option maxRecDepth 16384

noncomputable section

open Idealize.ShloMosaic Idealize.ShloMosaic.TcCoe Idealize.SL.Sem

namespace Cert.HgrnStepRefIdeal.Tie

open Cert.HgrnStepRefIdeal Cert.HgrnStepRefIdeal.Gen

/-- The forget gate's logarithm. -/
def LOGF (z : FVec Ideal S8x1x4096 .f32) (lb : FVec Ideal S1024 .f32) : FVec Ideal S8x1024 .f32 :=
  select (cmpf .une (subf (broadcastInDim S8x1024 ![0, 1] bcast_S1x1024_S8x1024_0_1 (broadcastInDim S1x1024 ![1] bcast_S1024_S1x1024_1 (Host.log lb))) (addf (broadcastInDim S8x1024 ![0, 1] bcast_S1x1024_S8x1024_0_1 (broadcastInDim S1x1024 ![1] bcast_S1024_S1x1024_1 (Host.log1p (Host.negf lb)))) (Host.negf (select (cmpf .une (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32)))) (addf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (addf (maximumf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (Host.log1p (Host.exp (Host.negf (Host.absf (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32)))))))))))) (subf (broadcastInDim S8x1024 ![0, 1] bcast_S1x1024_S8x1024_0_1 (broadcastInDim S1x1024 ![1] bcast_S1024_S1x1024_1 (Host.log lb))) (addf (broadcastInDim S8x1024 ![0, 1] bcast_S1x1024_S8x1024_0_1 (broadcastInDim S1x1024 ![1] bcast_S1024_S1x1024_1 (Host.log1p (Host.negf lb)))) (Host.negf (select (cmpf .une (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32)))) (addf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (addf (maximumf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (Host.log1p (Host.exp (Host.negf (Host.absf (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))))))))))))) (addf (broadcastInDim S8x1024 ![0, 1] bcast_S1x1024_S8x1024_0_1 (broadcastInDim S1x1024 ![1] bcast_S1024_S1x1024_1 (Host.log lb))) (addf (broadcastInDim S8x1024 ![0, 1] bcast_S1x1024_S8x1024_0_1 (broadcastInDim S1x1024 ![1] bcast_S1024_S1x1024_1 (Host.log1p (Host.negf lb)))) (Host.negf (select (cmpf .une (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32)))) (addf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (addf (maximumf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (Host.log1p (Host.exp (Host.negf (Host.absf (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32)))))))))))) (addf (maximumf (broadcastInDim S8x1024 ![0, 1] bcast_S1x1024_S8x1024_0_1 (broadcastInDim S1x1024 ![1] bcast_S1024_S1x1024_1 (Host.log lb))) (addf (broadcastInDim S8x1024 ![0, 1] bcast_S1x1024_S8x1024_0_1 (broadcastInDim S1x1024 ![1] bcast_S1024_S1x1024_1 (Host.log1p (Host.negf lb)))) (Host.negf (select (cmpf .une (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32)))) (addf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (addf (maximumf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (Host.log1p (Host.exp (Host.negf (Host.absf (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32)))))))))))) (Host.log1p (Host.exp (Host.negf (Host.absf (subf (broadcastInDim S8x1024 ![0, 1] bcast_S1x1024_S8x1024_0_1 (broadcastInDim S1x1024 ![1] bcast_S1024_S1x1024_1 (Host.log lb))) (addf (broadcastInDim S8x1024 ![0, 1] bcast_S1x1024_S8x1024_0_1 (broadcastInDim S1x1024 ![1] bcast_S1024_S1x1024_1 (Host.log1p (Host.negf lb)))) (Host.negf (select (cmpf .une (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32)))) (addf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (addf (maximumf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32))) (Host.log1p (Host.exp (Host.negf (Host.absf (subf (Host.negf (extractStridedSlice S8x1024 ![0, 1024] (shapeCast _ z shapeCasts_S8x1x4096_S8x4096) slices_S8x4096_S8x1024_0_1024)) (broadcastInDim S8x1024 ![] bcast_S_S8x1024 (constant S_ .f32 0x00000000#32)))))))))))))))))

/-- The query. -/
def QUERY (z : FVec Ideal S8x1x4096 .f32) : FVec Ideal S8x8x128 .f32 :=
  shapeCast _ (mulf (extractStridedSlice S8x1024 ![0, 0] (shapeCast _ z shapeCasts_S8x1x4096_S8x4096) slices_S8x4096_S8x1024_0_0) (Host.divf (broadcastInDim S8x1024 ![] bcast_S_S8x1024 (constant S_ .f32 0x3F800000#32)) (addf (broadcastInDim S8x1024 ![] bcast_S_S8x1024 (constant S_ .f32 0x3F800000#32)) (Host.exp (Host.negf (extractStridedSlice S8x1024 ![0, 0] (shapeCast _ z shapeCasts_S8x1x4096_S8x4096) slices_S8x4096_S8x1024_0_0)))))) shapeCasts_S8x1024_S8x8x128

/-- The state after the token. -/
def STATE (l : FVec Ideal S8x1024 .f32) (z : FVec Ideal S8x1x4096 .f32) (st : FVec Ideal S8x2x8x128x128 .f32) : FVec Ideal S8x8x128x128 .f32 :=
  addf (mulf (broadcastInDim S8x8x128x128 ![0, 1, 2, 3] bcast_S8x8x128x1_S8x8x128x128_0_1_2_3 (broadcastInDim S8x8x128x1 ![0, 1, 2] bcast_S8x8x128_S8x8x128x1_0_1_2 (shapeCast _ (Host.exp l) shapeCasts_S8x1024_S8x8x128))) (shapeCast _ (extractStridedSlice S8x1x8x128x128 ![0, 1, 0, 0, 0] st slices_S8x2x8x128x128_S8x1x8x128x128_0_1_0_0_0) shapeCasts_S8x1x8x128x128_S8x8x128x128)) (mulf (broadcastInDim S8x8x128x128 ![0, 1, 2, 3] bcast_S8x8x128x1_S8x8x128x128_0_1_2_3 (broadcastInDim S8x8x128x1 ![0, 1, 2] bcast_S8x8x128_S8x8x128x1_0_1_2 (shapeCast _ (Host.negf (Host.expm1 l)) shapeCasts_S8x1024_S8x8x128))) (broadcastInDim S8x8x128x128 ![0, 1, 2, 3] bcast_S8x8x1x128_S8x8x128x128_0_1_2_3 (broadcastInDim S8x8x1x128 ![0, 1, 3] bcast_S8x8x128_S8x8x1x128_0_1_3 (shapeCast _ (extractStridedSlice S8x1024 ![0, 2048] (shapeCast _ z shapeCasts_S8x1x4096_S8x4096) slices_S8x4096_S8x1024_0_2048) shapeCasts_S8x1024_S8x8x128))))

/-- The output from the query and the state. -/
def OUT (q : FVec Ideal S8x8x128 .f32) (s : FVec Ideal S8x8x128x128 .f32) (z : FVec Ideal S8x1x4096 .f32) (gn : FVec Ideal S1024 .f32) : FVec Ideal S8x8x1x128 .f32 :=
  shapeCast _ (mulf (mulf (mulf (Host.dotGeneral dot_S8x8x128_S8x8x128x128_S8x8x128_2_2_n_3_01_01 none q s) (broadcastInDim S8x8x128 ![0, 1, 2] bcast_S8x8x1_S8x8x128_0_1_2 (Host.rsqrt (addf (Host.divf (broadcastInDim S8x8x1 ![0, 1] bcast_S8x8_S8x8x1_0_1 (Host.reduceAdd (mulf (Host.dotGeneral dot_S8x8x128_S8x8x128x128_S8x8x128_2_2_n_3_01_01 none q s) (Host.dotGeneral dot_S8x8x128_S8x8x128x128_S8x8x128_2_2_n_3_01_01 none q s)) (constant S_ .f32 0x00000000#32) reducesTo_S8x8x128_S8x8_d2 h_S_)) (broadcastInDim S8x8x1 ![] bcast_S_S8x8x1 (constant S_ .f32 0x43000000#32))) (broadcastInDim S8x8x1 ![] bcast_S_S8x8x1 (constant S_ .f32 0x358637BD#32)))))) (broadcastInDim S8x8x128 ![0, 1, 2] bcast_S1x8x128_S8x8x128_0_1_2 (broadcastInDim S1x8x128 ![1, 2] bcast_S8x128_S1x8x128_1_2 (shapeCast _ gn shapeCasts_S1024_S8x128)))) (shapeCast _ (mulf (extractStridedSlice S8x1024 ![0, 3072] (shapeCast _ z shapeCasts_S8x1x4096_S8x4096) slices_S8x4096_S8x1024_0_3072) (Host.divf (broadcastInDim S8x1024 ![] bcast_S_S8x1024 (constant S_ .f32 0x3F800000#32)) (addf (broadcastInDim S8x1024 ![] bcast_S_S8x1024 (constant S_ .f32 0x3F800000#32)) (Host.exp (Host.negf (extractStridedSlice S8x1024 ![0, 3072] (shapeCast _ z shapeCasts_S8x1x4096_S8x4096) slices_S8x4096_S8x1024_0_3072)))))) shapeCasts_S8x1024_S8x8x128)) shapeCasts_S8x8x128_S8x8x1x128

variable (m : (ℓ : Loc nD τ sig) → Buf (Elt Ideal) ℓ)

/-- The state the reference returns, by the pieces. -/
theorem res_s (c : Dev nD) : Value.res_main_v44 m c = STATE (LOGF (m ((c.tc : Thread nD τ).loc main_arg0)) (m ((c.tc : Thread nD τ).loc main_arg1))) (m ((c.tc : Thread nD τ).loc main_arg0)) (m ((c.tc : Thread nD τ).loc main_arg3)) := rfl

/-- The output the reference returns, by the pieces. -/
theorem res_o (c : Dev nD) : Value.res_main_v63 m c = OUT (QUERY (m ((c.tc : Thread nD τ).loc main_arg0))) (STATE (LOGF (m ((c.tc : Thread nD τ).loc main_arg0)) (m ((c.tc : Thread nD τ).loc main_arg1))) (m ((c.tc : Thread nD τ).loc main_arg0)) (m ((c.tc : Thread nD τ).loc main_arg3))) (m ((c.tc : Thread nD τ).loc main_arg0)) (m ((c.tc : Thread nD τ).loc main_arg2)) := rfl

/-- The forget gate's logarithm at an index. -/
theorem logf_apply (z : FVec Ideal S8x1x4096 .f32) (lb : FVec Ideal S1024 .f32) (b : Fin 8) (d : Fin 1024) :
    LOGF z lb (ix2 b d) = Hgrn2.logf (z (ix3 b 0 ⟨1024 + d.val, by omega⟩)) (lb (ix1 d)) := by
  pointwise [LOGF]
  simp only [ne_eq, not_true_eq_false, if_false]
  unfold Hgrn2.logf Hgrn2.lae Hgrn2.lsig
  show _ + Ideal.log1p (Ideal.exp (-(max _ (-_)))) = _
  have h (x : EReal) : max (-x) 0 + Ideal.log1p (Ideal.exp (-FloatOps.absf (F := Ideal) (φ := .f32) (-x)))
      = max (-x) 0 + Ideal.log1p (Ideal.exp (-(max x (-x)))) := by
    show max (-x) 0 + Ideal.log1p (Ideal.exp (-(max (-x) (- -x)))) = _
    rw [neg_neg, max_comm (-x) x]
  simp only [h]

/-- The query at an index. -/
theorem query_apply (z : FVec Ideal S8x1x4096 .f32) (b h : Fin 8) (j : Fin 128) :
    QUERY z (ix3 b h j) = Hgrn2.silu (z (ix3 b 0 ⟨h.val * 128 + j.val, by omega⟩)) := by
  pointwise [QUERY]
  rfl

/-- The state at an index. -/
theorem state_apply (l : FVec Ideal S8x1024 .f32) (z : FVec Ideal S8x1x4096 .f32) (st : FVec Ideal S8x2x8x128x128 .f32) (b h : Fin 8) (j v : Fin 128) :
    STATE l z st (ix4 b h j v) = Hgrn2.next (Ideal.exp (l (ix2 b ⟨h.val * 128 + j.val, by omega⟩))) (st (ix5 b 1 h j v)) (z (ix3 b 0 ⟨2048 + (h.val * 128 + v.val), by omega⟩)) := by
  pointwise [STATE]
  unfold Hgrn2.next
  rw [Hgrn2.one_sub]

/-- The output at an index. -/
theorem out_apply (q : FVec Ideal S8x8x128 .f32) (s : FVec Ideal S8x8x128x128 .f32) (z : FVec Ideal S8x1x4096 .f32) (gn : FVec Ideal S1024 .f32) (b h : Fin 8) (v : Fin 128) :
    OUT q s z gn (ix4 b h 0 v) = Hgrn2.out (fun w : Fin 128 => ∑ x : Fin 128, q (ix3 b h x) * s (ix4 b h x w)) v
      (gn (ix1 ⟨h.val * 128 + v.val, by omega⟩)) (z (ix3 b 0 ⟨3072 + (h.val * 128 + v.val), by omega⟩)) := by
  pointwise [OUT]
  rfl

end Cert.HgrnStepRefIdeal.Tie

end
-- ==== Proof.HgrnStep.lean ====
/- The HGRN2 step: what the kernel's blocks compute, read at an index, and that the arrays they fill are the
   reference's. -/
module

public import proofs.«01_k».proof.Proof.HgrnStepRef
public import proofs.«01_k».proof.Proof.Gen.HgrnStepIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HgrnStepIdeal.Tie

open Cert.HgrnStepIdeal Cert.HgrnStepIdeal.Gen

/-- The forget gate of a block at an index. -/
theorem pay2_apply (x : FVec Ideal S1x1x1x128 .f32) (a b : FVec Ideal S1x1x128 .f32) (j : Fin 128) :
    k0_pay2 (F := Ideal) (View.ld (Val := Elt Ideal) (e' := .f32) x r0_0) (View.ld (Val := Elt Ideal) (e' := .f32) a r0_1) (View.ld (Val := Elt Ideal) (e' := .f32) b r0_1) (ix2 0 j)
      = Ideal.exp (Hgrn2.lae (a (ix3 0 0 j)) (b (ix3 0 0 j) + Hgrn2.lsig (x (ix4 0 0 0 j)))) := by
  rw [← Hgrn2.min_sub]
  unfold Hgrn2.lae
  rw [← zero_sub (max _ (- _))]
  pointwise [k0_pay2]
  rfl

/-- The query of a block at an index. -/
theorem pay3_apply (x : FVec Ideal S1x1x1x128 .f32) (j : Fin 128) :
    k0_pay3 (F := Ideal) x (ix2 0 j) = Hgrn2.silu (x (ix4 0 0 0 j)) := by
  unfold Hgrn2.silu
  rw [← zero_sub (x _)]
  pointwise [k0_pay3]

/-- A row's entries on the diagonal, added up along a row: the entry at the row's place. -/
theorem diag (g : Fin 128 → EReal) (j : Fin 128) :
    (∑ x : Fin 128, Scalar.select (IntOp.cmpi CmpIPredicate.eq (BitVec.ofNat 32 j.val) (BitVec.ofNat 32 x.val)) (g x) 0) = g j := by
  have e (x : Fin 128) : Scalar.select (IntOp.cmpi CmpIPredicate.eq (BitVec.ofNat 32 j.val) (BitVec.ofNat 32 x.val)) (g x) 0
      = if j = x then g x else 0 := by
    rw [WordCmp.cmpi_eq_ofNat (by omega) (by omega)]
    by_cases h : j = x
    · subst h; simp [Scalar.select]
    · have h' : ¬ j.val = x.val := fun q => h (Fin.ext q)
      simp [Scalar.select, h, h']
  simp only [e]
  rw [Finset.sum_ite_eq, if_pos (Finset.mem_univ j)]

/-- The query as a column, at an index. -/
theorem pay7_apply (q : FVec Ideal S1x128 .f32) (j v : Fin 128) : k0_pay7 (F := Ideal) q (ix2 j v) = q (ix2 0 j) := by
  pointwise [k0_pay7]
  exact diag (fun x => q (ix2 0 x)) j

/-- The next state of a block at an index. -/
theorem pay5_apply (f : FVec Ideal S1x128 .f32) (s : FVec Ideal S1x1x1x128x128 .f32) (x : FVec Ideal S1x1x1x128 .f32) (j v : Fin 128) :
    k0_pay5 (F := Ideal) f k0_pay4 (FloatOps.ofBits .f32 0x00000000#32 : Ideal .f32) s x (ix2 j v)
      = Hgrn2.next (f (ix2 0 j)) (s (ix5 0 0 0 j v)) (x (ix4 0 0 0 v)) := by
  unfold Hgrn2.next
  pointwise [k0_pay5, k0_pay4]
  rw [diag (fun x => f (ix2 0 x)) j, diag (fun x => 1 - f (ix2 0 x)) j]

/-- The state as it is stored, at an index. -/
theorem pay6_apply (f : FVec Ideal S1x128 .f32) (e : IVec S128x128 1) (z : Ideal .f32) (s : FVec Ideal S1x1x1x128x128 .f32) (x : FVec Ideal S1x1x1x128 .f32) (j v : Fin 128) :
    k0_pay6 (F := Ideal) f e z s x (ix4 0 0 j v) = k0_pay5 (F := Ideal) f e z s x (ix2 j v) := by
  unfold k0_pay6
  generalize k0_pay5 (F := Ideal) f e z s x = w
  pointwise

/-- The output of a block at an index. -/
theorem pay1_apply (s q : FVec Ideal S128x128 .f32) (x : FVec Ideal S1x1x1x128 .f32) (g : FVec Ideal S1x1x128 .f32) (v : Fin 128) :
    k0_pay1 (F := Ideal) s q x g (ix4 0 0 0 v)
      = Hgrn2.out (fun w : Fin 128 => ∑ j : Fin 128, q (ix2 j w) * s (ix2 j w)) v (g (ix3 0 0 v)) (x (ix4 0 0 0 v)) := by
  unfold Hgrn2.out Hgrn2.silu
  rw [← zero_sub (x _)]
  pointwise [k0_pay1]

variable (m : (ℓ : Loc nD τ sig) → Buf (Elt Ideal) ℓ)

/-- The blocks' places. -/
theorem idx : ∀ t : Fin cfg0.N, win0_0.index t = ![t.val / 8, t.val % 8, 0, 0] ∧ win0_1.index t = ![t.val / 8, 8 + t.val % 8, 0, 0]
    ∧ win0_2.index t = ![t.val / 8, 16 + t.val % 8, 0, 0] ∧ win0_3.index t = ![t.val / 8, 24 + t.val % 8, 0, 0]
    ∧ win0_4.index t = ![t.val % 8, 0, 0] ∧ win0_5.index t = ![t.val % 8, 0, 0] ∧ win0_6.index t = ![t.val % 8, 0, 0]
    ∧ win0_7.index t = ![t.val / 8, 1, t.val % 8, 0, 0] ∧ win0_8.index t = ![t.val / 8, t.val % 8, 0, 0] ∧ win0_9.index t = ![t.val / 8, t.val % 8, 0, 0] :=
  (by decide +kernel : ∀ t : Fin grid0.N, _)

/-- The projection's columns by head. -/
theorem V_z (c : Dev nD) : V m c main_v0 = shapeCast S8x32x1x128 (m ((c : Thread nD τ).loc main_arg0)) shapeCasts_S8x1x4096_S8x32x1x128 := by
  entry_read
  rfl
/-- The lower bound. -/
abbrev aL (c : Dev nD) : FVec Ideal S1024 .f32 := m ((c : Thread nD τ).loc main_arg1)
/-- A vector by head. -/
abbrev ROW (a : FVec Ideal S1024 .f32) : FVec Ideal S8x1x128 .f32 := shapeCast S8x1x128 a shapeCasts_S1024_S8x1x128
/-- The lower bound's logarithm by head. -/
theorem V_l (c : Dev nD) : V m c main_v4 = ROW (Host.log (aL m c)) := by
  entry_read
  rfl
/-- The logarithm of one minus the lower bound by head. -/
theorem V_k (c : Dev nD) : V m c main_v5 = ROW (Host.log1p (Host.negf (aL m c))) := by
  entry_read
  rfl
/-- The norm's scale by head. -/
theorem V_g (c : Dev nD) : V m c main_v6 = ROW (m ((c : Thread nD τ).loc main_arg2)) := by
  entry_read
  rfl

/-- The projection's columns at an index. -/
theorem z_apply (z : FVec Ideal S8x1x4096 .f32) (i : S8x32x1x128.Idx) :
    shapeCast S8x32x1x128 z shapeCasts_S8x1x4096_S8x32x1x128 i = z (ix3 (i 0) 0 ⟨(i 1 : Nat) * 128 + (i 3 : Nat), by have h1 : (i 1 : Nat) < 32 := (i 1).isLt; have h3 : (i 3 : Nat) < 128 := (i 3).isLt; omega⟩) := by
  idx_vars i
  pointwise
/-- A vector by head, at an index. -/
theorem row_apply (a : FVec Ideal S1024 .f32) (i : S8x1x128.Idx) :
    ROW a i = a (ix1 ⟨(i 0 : Nat) * 128 + (i 2 : Nat), by have h1 : (i 0 : Nat) < 8 := (i 0).isLt; have h3 : (i 2 : Nat) < 128 := (i 2).isLt; omega⟩) := by
  idx_vars i
  pointwise

theorem tdiv (t : Fin cfg0.N) : t.val / 8 < 8 := by have h : t.val < 64 := t.isLt; omega
theorem tmod (t : Fin cfg0.N) : t.val % 8 < 8 := Nat.mod_lt _ (by omega)
theorem bnd (n : Nat) (t : Fin cfg0.N) (j : Fin 128) (h : n ≤ 3072) : n + (t.val % 8 * 128 + j.val) < 4096 := by have := j.isLt; omega
theorem bnd0 (t : Fin cfg0.N) (j : Fin 128) : t.val % 8 * 128 + j.val < 4096 := by have := j.isLt; omega
theorem bndh (t : Fin cfg0.N) (j : Fin 128) : t.val % 8 * 128 + j.val < 1024 := by have := j.isLt; omega

/-- The query's column of the projection. -/
theorem b0 (c : Dev nD) (t : Fin cfg0.N) (j : Fin 128) : iblk m c 0 t (ix4 0 0 0 j) = m ((c : Thread nD τ).loc main_arg0) (ix3 ⟨t.val / 8, tdiv t⟩ 0 ⟨((t.val % 8) * 128 + j.val), bnd0 t j⟩) := by
  blk_simp [iblk]
  rw [V_z, z_apply]
  blk_ext [idx t]
/-- The forget gate's column of the projection. -/
theorem b1 (c : Dev nD) (t : Fin cfg0.N) (j : Fin 128) : iblk m c 1 t (ix4 0 0 0 j) = m ((c : Thread nD τ).loc main_arg0) (ix3 ⟨t.val / 8, tdiv t⟩ 0 ⟨1024 + ((t.val % 8) * 128 + j.val), bnd 1024 t j (by omega)⟩) := by
  blk_simp [iblk]
  rw [V_z, z_apply]
  blk_ext [idx t]
/-- The value's column of the projection. -/
theorem b2 (c : Dev nD) (t : Fin cfg0.N) (j : Fin 128) : iblk m c 2 t (ix4 0 0 0 j) = m ((c : Thread nD τ).loc main_arg0) (ix3 ⟨t.val / 8, tdiv t⟩ 0 ⟨2048 + ((t.val % 8) * 128 + j.val), bnd 2048 t j (by omega)⟩) := by
  blk_simp [iblk]
  rw [V_z, z_apply]
  blk_ext [idx t]
/-- The output gate's column of the projection. -/
theorem b3 (c : Dev nD) (t : Fin cfg0.N) (j : Fin 128) : iblk m c 3 t (ix4 0 0 0 j) = m ((c : Thread nD τ).loc main_arg0) (ix3 ⟨t.val / 8, tdiv t⟩ 0 ⟨3072 + ((t.val % 8) * 128 + j.val), bnd 3072 t j (by omega)⟩) := by
  blk_simp [iblk]
  rw [V_z, z_apply]
  blk_ext [idx t]
/-- The lower bound's logarithm. -/
theorem b4 (c : Dev nD) (t : Fin cfg0.N) (j : Fin 128) : iblk m c 4 t (ix3 0 0 j) = Ideal.log ((aL m c) (ix1 ⟨t.val % 8 * 128 + j.val, bndh t j⟩)) := by
  blk_simp [iblk]
  rw [V_l, row_apply]
  refine congrArg (fun i => Ideal.log ((aL m c) i)) ?_
  blk_ext [idx t]
/-- The logarithm of one minus the lower bound. -/
theorem b5 (c : Dev nD) (t : Fin cfg0.N) (j : Fin 128) : iblk m c 5 t (ix3 0 0 j) = Ideal.log1p (-((aL m c) (ix1 ⟨t.val % 8 * 128 + j.val, bndh t j⟩))) := by
  blk_simp [iblk]
  rw [V_k, row_apply]
  refine congrArg (fun i => Ideal.log1p (-((aL m c) i))) ?_
  blk_ext [idx t]
/-- The norm's scale. -/
theorem b6 (c : Dev nD) (t : Fin cfg0.N) (j : Fin 128) : iblk m c 6 t (ix3 0 0 j) = m ((c : Thread nD τ).loc main_arg2) (ix1 ⟨t.val % 8 * 128 + j.val, bndh t j⟩) := by
  blk_simp [iblk]
  rw [V_g, row_apply]
  blk_ext [idx t]
/-- The state before the token. -/
theorem b7 (c : Dev nD) (t : Fin cfg0.N) (j v : Fin 128) : iblk m c 7 t (ix5 0 0 0 j v) = m ((c : Thread nD τ).loc main_arg3) (ix5 ⟨t.val / 8, tdiv t⟩ 1 ⟨t.val % 8, tmod t⟩ j v) := by
  blk_simp [iblk]
  rw [V_main_arg3]
  blk_ext [idx t]

/-- One block's next state is the reference's. -/
theorem point_s (c : Dev nD) (t : Fin cfg0.N) (j v : Fin 128) :
    k0_pay5 (F := Ideal) (k0_pay8 (F := Ideal) (iblk m c 0 t) (iblk m c 1 t) (iblk m c 2 t) (iblk m c 3 t) (iblk m c 4 t) (iblk m c 5 t) (iblk m c 6 t) (iblk m c 7 t)) (k0_pay9 (F := Ideal) (iblk m c 0 t) (iblk m c 1 t) (iblk m c 2 t) (iblk m c 3 t) (iblk m c 4 t) (iblk m c 5 t) (iblk m c 6 t) (iblk m c 7 t)) (FloatOps.ofBits .f32 0x00000000#32 : Ideal .f32) (iblk m c 7 t) (iblk m c 2 t) (ix2 j v)
      = (HgrnStepRefIdeal.Tie.STATE (HgrnStepRefIdeal.Tie.LOGF (m ((c : Thread nD τ).loc main_arg0)) (m ((c : Thread nD τ).loc main_arg1))) (m ((c : Thread nD τ).loc main_arg0)) (m ((c : Thread nD τ).loc main_arg3))) (ix4 ⟨t.val / 8, tdiv t⟩ ⟨t.val % 8, tmod t⟩ j v) := by
  have h := pay5_apply (k0_pay8 (F := Ideal) (iblk m c 0 t) (iblk m c 1 t) (iblk m c 2 t) (iblk m c 3 t) (iblk m c 4 t) (iblk m c 5 t) (iblk m c 6 t) (iblk m c 7 t)) (iblk m c 7 t) (iblk m c 2 t) j v
  have hf := pay2_apply (iblk m c 1 t) (iblk m c 4 t) (iblk m c 5 t) j
  refine h.trans ?_
  unfold k0_pay8
  rw [hf, HgrnStepRefIdeal.Tie.state_apply, HgrnStepRefIdeal.Tie.logf_apply, b1, b2, b4, b5, b7]
  rfl

/-- One block's output is the reference's. -/
theorem point_o (c : Dev nD) (t : Fin cfg0.N) (v : Fin 128) (s : FVec Ideal S128x128 .f32) (hs : ∀ j v : Fin 128, s (ix2 j v) = (HgrnStepRefIdeal.Tie.STATE (HgrnStepRefIdeal.Tie.LOGF (m ((c : Thread nD τ).loc main_arg0)) (m ((c : Thread nD τ).loc main_arg1))) (m ((c : Thread nD τ).loc main_arg0)) (m ((c : Thread nD τ).loc main_arg3))) (ix4 ⟨t.val / 8, tdiv t⟩ ⟨t.val % 8, tmod t⟩ j v)) :
    k0_pay1 (F := Ideal) s (k0_pay7 (F := Ideal) (k0_pay3 (F := Ideal) (iblk m c 0 t))) (iblk m c 3 t) (iblk m c 6 t) (ix4 0 0 0 v)
      = (HgrnStepRefIdeal.Tie.OUT (HgrnStepRefIdeal.Tie.QUERY (m ((c : Thread nD τ).loc main_arg0))) (HgrnStepRefIdeal.Tie.STATE (HgrnStepRefIdeal.Tie.LOGF (m ((c : Thread nD τ).loc main_arg0)) (m ((c : Thread nD τ).loc main_arg1))) (m ((c : Thread nD τ).loc main_arg0)) (m ((c : Thread nD τ).loc main_arg3))) (m ((c : Thread nD τ).loc main_arg0)) (m ((c : Thread nD τ).loc main_arg2))) (ix4 ⟨t.val / 8, tdiv t⟩ ⟨t.val % 8, tmod t⟩ 0 v) := by
  have h := pay1_apply s (k0_pay7 (F := Ideal) (k0_pay3 (F := Ideal) (iblk m c 0 t))) (iblk m c 3 t) (iblk m c 6 t) v
  have hq (j w : Fin 128) : k0_pay7 (F := Ideal) (k0_pay3 (F := Ideal) (iblk m c 0 t)) (ix2 j w)
      = HgrnStepRefIdeal.Tie.QUERY (m ((c : Thread nD τ).loc main_arg0)) (ix3 ⟨t.val / 8, tdiv t⟩ ⟨t.val % 8, tmod t⟩ j) := by
    rw [pay7_apply, HgrnStepRefIdeal.Tie.query_apply, ← b0 m c t j]
    exact pay3_apply (iblk m c 0 t) j
  refine h.trans ?_
  rw [HgrnStepRefIdeal.Tie.out_apply, b3, b6]
  simp only [hs, hq]

/-- The output array after the run is the reference's. -/
theorem final_o (c : Dev nD) : (dats m 0 c).arrAt 8 (cfgs 0).N = (HgrnStepRefIdeal.Tie.OUT (HgrnStepRefIdeal.Tie.QUERY (m ((c : Thread nD τ).loc main_arg0))) (HgrnStepRefIdeal.Tie.STATE (HgrnStepRefIdeal.Tie.LOGF (m ((c : Thread nD τ).loc main_arg0)) (m ((c : Thread nD τ).loc main_arg1))) (m ((c : Thread nD τ).loc main_arg0)) (m ((c : Thread nD τ).loc main_arg3))) (m ((c : Thread nD τ).loc main_arg0)) (m ((c : Thread nD τ).loc main_arg2))) := by
  refine (dats m 0 c).arrAt_eq_of_covers 8 _ (by decide +kernel) fun t _ y => ?_
  blk_simp
  rw [after0_8]; frame_out
  idx_vars y
  obtain rfl : y0 = 0 := Subsingleton.elim _ _
  obtain rfl : y1 = 0 := Subsingleton.elim _ _
  obtain rfl : y2 = 0 := Subsingleton.elim _ _
  refine (point_o m c t y3 _ (point_s m c t)).trans (congrArg _ ?_)
  blk_ext [idx t]

/-- The states after the run are the reference's. -/
theorem final_s (c : Dev nD) : (dats m 0 c).arrAt 9 (cfgs 0).N = (HgrnStepRefIdeal.Tie.STATE (HgrnStepRefIdeal.Tie.LOGF (m ((c : Thread nD τ).loc main_arg0)) (m ((c : Thread nD τ).loc main_arg1))) (m ((c : Thread nD τ).loc main_arg0)) (m ((c : Thread nD τ).loc main_arg3))) := by
  refine (dats m 0 c).arrAt_eq_of_covers 9 _ (by decide +kernel) fun t _ y => ?_
  blk_simp
  rw [after0_9]; frame_out
  idx_vars y
  obtain rfl : y0 = 0 := Subsingleton.elim _ _
  obtain rfl : y1 = 0 := Subsingleton.elim _ _
  refine (pay6_apply _ _ _ _ _ y2 y3).trans ((point_s m c t y2 y3).trans (congrArg _ ?_))
  blk_ext [idx t]

end Cert.HgrnStepIdeal.Tie

end
-- ==== Proof.LogCumSum.lean ====
/- Cumulative sums: the ways the kernel and the reference write them agree on all extended reals below infinity. -/
module

public import proofs.«01_k».proof.Proof.Hgrn2
public import Idealize.ShloMosaic.Lib.Pipeline.ValueKit

@[expose] public section

noncomputable section

open Idealize.ShloMosaic

namespace Cert.LogCumSum

/-- The logarithm of the logistic function is never plus infinity. -/
theorem lsig_ne_top (x : EReal) : Hgrn2.lsig x ≠ ⊤ := by
  unfold Hgrn2.lsig
  rw [Ne, EReal.neg_eq_top_iff, EReal.add_eq_bot_iff, not_or]
  exact ⟨ne_of_gt (lt_of_lt_of_le EReal.bot_lt_zero (le_max_right _ _)), Hgrn2.log1p_exp_ne_bot _⟩

/-- A number below plus infinity, plus what is left of it after taking it off once, plus what is left after that. -/
theorem rest3 (x : EReal) (hx : x ≠ ⊤) : x + (x - x) + (x - x - (x - x)) = x := by
  induction x with
  | bot => rfl
  | top => exact absurd rfl hx
  | coe r => rw [← EReal.coe_sub, sub_self, ← EReal.coe_sub, sub_self, ← EReal.coe_add, ← EReal.coe_add, add_zero, add_zero]

/-- A masked sum of the three parts is the masked sum. -/
theorem split3 {n : ℕ} (x d e : Fin n → EReal) (hx : ∀ k, x k ≠ ⊤) (hd : ∀ k, d k = x k - x k) (he : ∀ k, e k = d k - d k)
    (p : Fin n → Prop) [DecidablePred p] :
    (∑ k, (if p k then x k else 0)) + (∑ k, if p k then d k else 0) + (∑ k, if p k then e k else 0)
      = ∑ k, if p k then x k else 0 := by
  rw [← Finset.sum_add_distrib, ← Finset.sum_add_distrib]
  refine Finset.sum_congr rfl fun k _ => ?_
  by_cases h : p k
  · rw [if_pos h, if_pos h, if_pos h, he, hd, rest3 _ (hx k)]
  · rw [if_neg h, if_neg h, if_neg h, add_zero, add_zero]

/-- A sum of numbers below plus infinity is below it. -/
theorem sum_ne_top {n : ℕ} (x : Fin n → EReal) (hx : ∀ k, x k ≠ ⊤) : ∑ k, x k ≠ ⊤ := by
  refine Finset.sum_induction x (· ≠ ⊤) (fun a b ha hb h => ?_) (by simp) fun k _ => hx k
  exact (EReal.add_lt_top ha hb).ne h

/-- A sum up to a time, by groups: the groups before the time's group, and the time's group up to it. -/
theorem by_groups (f : Fin 32 → Fin 128 → EReal) (g : Fin 32) (l : Fin 128) :
    (∑ k, if k ≤ l then f g k else 0) + (∑ g', if g' < g then ∑ k, f g' k else 0)
      = ∑ s : Fin 4096, if s.val ≤ g.val * 128 + l.val then f ⟨s.val / 128, by omega⟩ ⟨s.val % 128, by omega⟩ else 0 := by
  have hs : (∑ s : Fin 4096, if s.val ≤ g.val * 128 + l.val then f ⟨s.val / 128, by omega⟩ ⟨s.val % 128, by omega⟩ else 0)
      = ∑ q : Fin 32 × Fin 128, if q.1.val * 128 + q.2.val ≤ g.val * 128 + l.val then f q.1 q.2 else 0 := by
    refine (Fintype.sum_equiv (finProdFinEquiv (m := 32) (n := 128)) _ _ fun q => ?_).symm
    have e1 : (finProdFinEquiv q).val = q.2.val + 128 * q.1.val := rfl
    have h2 := q.2.isLt
    have a1 : (⟨(finProdFinEquiv q).val / 128, by omega⟩ : Fin 32) = q.1 := Fin.ext (by dsimp only; omega)
    have a2 : (⟨(finProdFinEquiv q).val % 128, by omega⟩ : Fin 128) = q.2 := Fin.ext (by dsimp only; omega)
    rw [a1, a2]
    exact if_congr (by omega) rfl rfl
  rw [hs, Fintype.sum_prod_type]
  have hone : (∑ k, if k ≤ l then f g k else 0) = ∑ g', if g' = g then ∑ k, (if k ≤ l then f g k else 0) else 0 := by
    rw [Finset.sum_ite_eq', if_pos (Finset.mem_univ g)]
  rw [hone, ← Finset.sum_add_distrib]
  refine Finset.sum_congr rfl fun g' _ => ?_
  rcases lt_trichotomy g' g with h | h | h
  · rw [if_neg h.ne, if_pos h, zero_add]
    exact Finset.sum_congr rfl fun k _ => (if_pos (by dsimp only; omega)).symm
  · subst h
    rw [if_pos rfl, if_neg (lt_irrefl _), add_zero]
    exact Finset.sum_congr rfl fun k _ => if_congr (by dsimp only; omega) rfl rfl
  · rw [if_neg h.ne', if_neg (not_lt.2 h.le), add_zero]
    exact (Finset.sum_eq_zero fun k _ => if_neg (by dsimp only; omega)).symm

/-- The rows before a row among those of its batch and head are its groups before its own. -/
theorem by_rows (T : Fin 512 → EReal) (q : Fin 16) (g : Fin 32) :
    (∑ r : Fin 512, if r.val < q.val * 32 + g.val ∧ r.val / 32 = q.val then T r else 0)
      = ∑ g' : Fin 32, if g' < g then T ⟨q.val * 32 + g'.val, by omega⟩ else 0 := by
  have hs : (∑ r : Fin 512, if r.val < q.val * 32 + g.val ∧ r.val / 32 = q.val then T r else 0)
      = ∑ p : Fin 16 × Fin 32, if p.1 = q then (if p.2 < g then T ⟨q.val * 32 + p.2.val, by omega⟩ else 0) else 0 := by
    refine (Fintype.sum_equiv (finProdFinEquiv (m := 16) (n := 32)) _ _ fun p => ?_).symm
    have e1 : (finProdFinEquiv p).val = p.2.val + 32 * p.1.val := rfl
    have h2 := p.2.isLt
    by_cases h : p.1 = q
    · subst h
      rw [if_pos rfl]
      have a : (⟨p.1.val * 32 + p.2.val, by omega⟩ : Fin 512) = finProdFinEquiv p := Fin.ext (by dsimp only; omega)
      rw [a]
      exact if_congr (by omega) rfl rfl
    · have h' : p.1.val ≠ q.val := fun e => h (Fin.ext e)
      rw [if_neg h, if_neg (by omega)]
  rw [hs, Fintype.sum_prod_type]
  simp only [Finset.sum_ite_irrel, Finset.sum_const_zero]
  rw [Finset.sum_ite_eq', if_pos (Finset.mem_univ q)]

/-- A window's sum, read as it is folded: the entries up to a time. -/
theorem window (x : Fin 4096 → EReal) (t : Fin 4096) :
    (∑ n : Fin 4096, if h : 4095 ≤ t.val + n.val ∧ t.val + n.val - 4095 < 4096 then x ⟨t.val + n.val - 4095, h.2⟩ else 0)
      = ∑ s : Fin 4096, if s.val ≤ t.val then x s else 0 := by
  refine Finset.sum_bij_ne_zero (fun n _ hn => ⟨t.val + n.val - 4095, by omega⟩) (fun _ _ _ => Finset.mem_univ _) ?_ ?_ ?_
  · intro a _ ha b _ hb e
    have ha' : 4095 ≤ t.val + a.val := by by_contra h; exact ha (dif_neg fun q => h q.1)
    have hb' : 4095 ≤ t.val + b.val := by by_contra h; exact hb (dif_neg fun q => h q.1)
    have := congrArg Fin.val e
    dsimp only at this
    exact Fin.ext (by omega)
  · intro s _ hs
    have h : s.val ≤ t.val := by by_contra h; exact hs (if_neg h)
    have e : (⟨t.val + (4095 - t.val + s.val) - 4095, by omega⟩ : Fin 4096) = s := Fin.ext (by dsimp only; omega)
    refine ⟨⟨4095 - t.val + s.val, by omega⟩, Finset.mem_univ _, ?_, e⟩
    rw [dif_pos (by dsimp only; omega)]
    dsimp only
    rw [e]
    rw [if_pos h] at hs
    exact hs
  · intro n _ hn
    have h : 4095 ≤ t.val + n.val := by by_contra h; exact hn (dif_neg fun q => h q.1)
    rw [dif_pos ⟨h, by omega⟩, if_pos (by dsimp only; omega)]

end Cert.LogCumSum

end
-- ==== Proof.FoxLogf.lean ====
/- The prompt's log-forget values and their cumulative sums: what the kernel's one block computes, read at an index,
   and that it is the reference's. -/
module

public import proofs.«01_k».proof.Proof.LogCumSum
public import proofs.«01_k».proof.Proof.Gen.FoxLogfIdeal.Frame
public import proofs.«01_k».proof.Proof.Gen.FoxLogfRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FoxLogfIdeal.Tie

open Cert.FoxLogfIdeal Cert.FoxLogfIdeal.Gen

/-- The log-forget values of a row, at an index. -/
theorem pay2_apply (x : FVec Ideal S512x128 .f32) (b : FVec Ideal S512x1 .f32) (r : Fin 512) (l : Fin 128) :
    k0_pay2 (F := Ideal) x b (ix2 r l) = Hgrn2.lsig (x (ix2 r l) + b (ix2 r 0)) := by
  rw [← Hgrn2.min_sub]
  pointwise [k0_pay2]
  rfl

/-- A mask's number: 1 where it is set, 0 elsewhere. -/
theorem mask (p : Prop) [Decidable p] : (FloatOps.sitofp (F := Ideal) FTy.f32 (BitVec.setWidth 32 (BitVec.ofBool (decide p))) : EReal) = if p then 1 else 0 := by
  show ((((BitVec.setWidth 32 (BitVec.ofBool (decide p))).toInt : ℝ)) : EReal) = _
  by_cases h : p
  · rw [if_pos h, decide_eq_true h]
    have e : (BitVec.setWidth 32 (BitVec.ofBool true)).toInt = 1 := by decide
    rw [e, Int.cast_one, EReal.coe_one]
  · rw [if_neg h, decide_eq_false h]
    have e : (BitVec.setWidth 32 (BitVec.ofBool false)).toInt = 0 := by decide
    rw [e, Int.cast_zero, EReal.coe_zero]

/-- The upper triangle's mask. -/
theorem upper (x l : Fin 128) : (FloatOps.sitofp (F := Ideal) FTy.f32
    (BitVec.setWidth 32 (IntOp.cmpi CmpIPredicate.sle (BitVec.ofNat 32 x.val) (BitVec.ofNat 32 l.val))) : EReal) = if x ≤ l then 1 else 0 := by
  rw [WordCmp.cmpi_sle_ofNat (by omega) (by omega), mask]
  exact if_congr (by omega) rfl rfl

/-- A row's group: its number shifted right by five. -/
theorem shr : ∀ x : Fin 512, IntOp.shrsi ArithUnit.vector (BitVec.ofNat 32 x.val) 5#32 = BitVec.ofNat 32 (x.val / 32) := by
  decide +kernel

/-- The mask of the rows before a row in its group. -/
theorem earlier (x r : Fin 512) : (FloatOps.sitofp (F := Ideal) FTy.f32 (BitVec.setWidth 32
      (IntOp.andi (IntOp.cmpi CmpIPredicate.slt (BitVec.ofNat 32 x.val) (BitVec.ofNat 32 r.val))
        (IntOp.cmpi CmpIPredicate.eq (IntOp.shrsi ArithUnit.vector (BitVec.ofNat 32 x.val) 5#32)
          (IntOp.shrsi ArithUnit.vector (BitVec.ofNat 32 r.val) 5#32)))) : EReal) = if x.val < r.val ∧ x.val / 32 = r.val / 32 then 1 else 0 := by
  rw [shr, shr, WordCmp.cmpi_slt_ofNat (by omega) (by omega), WordCmp.cmpi_eq_ofNat (by omega) (by omega), WordCmp.andi_ofBool,
    ← Bool.decide_and, mask]

/-- A number times a mask. -/
theorem mul_mask (x : EReal) (p : Prop) [Decidable p] : x * (if p then 1 else 0) = if p then x else 0 := by
  split_ifs
  · exact mul_one x
  · exact mul_zero x

/-- A mask times a number. -/
theorem mask_mul (x : EReal) (p : Prop) [Decidable p] : (if p then 1 else 0) * x = if p then x else 0 := by
  rw [mul_comm, mul_mask]

/-- The sums along a row up to a column. -/
theorem pay3_apply (x : FVec Ideal S512x128 .f32) (b : FVec Ideal S512x1 .f32) (hx : ∀ i, k0_pay2 (F := Ideal) x b i ≠ (⊤ : EReal)) (r : Fin 512) (l : Fin 128) :
    k0_pay3 (F := Ideal) x b (ix2 r l) = ∑ k : Fin 128, if k ≤ l then (k0_pay2 (F := Ideal) x b (ix2 r k) : EReal) else 0 := by
  have h := LogCumSum.split3 (fun k => (k0_pay2 (F := Ideal) x b (ix2 r k) : EReal)) (fun k => (k0_pay2 (F := Ideal) x b (ix2 r k) : EReal) - k0_pay2 (F := Ideal) x b (ix2 r k))
    (fun k => ((k0_pay2 (F := Ideal) x b (ix2 r k) : EReal) - k0_pay2 (F := Ideal) x b (ix2 r k)) - (k0_pay2 (F := Ideal) x b (ix2 r k) - k0_pay2 (F := Ideal) x b (ix2 r k)))
    (fun k => hx _) (fun _ => rfl) (fun _ => rfl) (fun k => k ≤ l)
  refine Eq.trans ?_ h
  unfold k0_pay3
  generalize k0_pay2 (F := Ideal) x b = w
  pointwise
  simp only [upper, mul_mask]

/-- A row's whole sum, repeated along the row. -/
theorem pay4_apply (x : FVec Ideal S512x128 .f32) (b : FVec Ideal S512x1 .f32) (r : Fin 512) (l : Fin 128) :
    k0_pay4 (F := Ideal) x b (ix2 r l) = k0_pay3 (F := Ideal) x b (ix2 r 127) := by
  unfold k0_pay4
  generalize k0_pay3 (F := Ideal) x b = w
  pointwise

/-- The named factor. -/
theorem log2e : (Named.named κ "log2_e" 0x3FB8AA3B#32 : Ideal .f32) = (((Real.log 2)⁻¹ : ℝ) : EReal) := rfl

/-- The stored sums: along the row up to the column, and of the rows before it in its group, times the factor. -/
theorem pay1_apply (w v : FVec Ideal S512x128 .f32) (hv : ∀ i, v i ≠ (⊤ : EReal)) (r : Fin 512) (l : Fin 128) :
    k0_pay1 (F := Ideal) w v k0_pay5 k0_pay6 k0_pay7 (ix2 r l)
      = (w (ix2 r l) + ∑ x : Fin 512, if x.val < r.val ∧ x.val / 32 = r.val / 32 then (v (ix2 x l) : EReal) else 0) * (((Real.log 2)⁻¹ : ℝ) : EReal) := by
  have h := LogCumSum.split3 (fun x => (v (ix2 x l) : EReal)) (fun x => (v (ix2 x l) : EReal) - v (ix2 x l)) (fun x => ((v (ix2 x l) : EReal) - v (ix2 x l)) - (v (ix2 x l) - v (ix2 x l)))
    (fun k => hv _) (fun _ => rfl) (fun _ => rfl) (fun x : Fin 512 => x.val < r.val ∧ x.val / 32 = r.val / 32)
  rw [← h]
  pointwise [k0_pay1, k0_pay5, k0_pay6, k0_pay7]
  simp only [earlier, mask_mul, log2e]

/-! ## The reference -/

/-- The reference's log-forget values. -/
abbrev LOGF (X : FVec Ideal S2x4096x8 .f32) (b : FVec Ideal S8 .f32) : FVec Ideal S2x4096x8 .f32 :=
  Host.negf (select (cmpf .une (subf (Host.negf (addf X (broadcastInDim S2x4096x8 ![0, 1, 2] FoxLogfRefIdeal.Gen.bcast_S1x1x8_S2x4096x8_0_1_2 (broadcastInDim FoxLogfRefIdeal.S1x1x8 ![2] FoxLogfRefIdeal.Gen.bcast_S8_S1x1x8_2 b)))) (broadcastInDim S2x4096x8 ![] FoxLogfRefIdeal.Gen.bcast_S_S2x4096x8 (constant FoxLogfRefIdeal.S_ .f32 0x00000000#32))) (subf (Host.negf (addf X (broadcastInDim S2x4096x8 ![0, 1, 2] FoxLogfRefIdeal.Gen.bcast_S1x1x8_S2x4096x8_0_1_2 (broadcastInDim FoxLogfRefIdeal.S1x1x8 ![2] FoxLogfRefIdeal.Gen.bcast_S8_S1x1x8_2 b)))) (broadcastInDim S2x4096x8 ![] FoxLogfRefIdeal.Gen.bcast_S_S2x4096x8 (constant FoxLogfRefIdeal.S_ .f32 0x00000000#32)))) (addf (Host.negf (addf X (broadcastInDim S2x4096x8 ![0, 1, 2] FoxLogfRefIdeal.Gen.bcast_S1x1x8_S2x4096x8_0_1_2 (broadcastInDim FoxLogfRefIdeal.S1x1x8 ![2] FoxLogfRefIdeal.Gen.bcast_S8_S1x1x8_2 b)))) (broadcastInDim S2x4096x8 ![] FoxLogfRefIdeal.Gen.bcast_S_S2x4096x8 (constant FoxLogfRefIdeal.S_ .f32 0x00000000#32))) (addf (maximumf (Host.negf (addf X (broadcastInDim S2x4096x8 ![0, 1, 2] FoxLogfRefIdeal.Gen.bcast_S1x1x8_S2x4096x8_0_1_2 (broadcastInDim FoxLogfRefIdeal.S1x1x8 ![2] FoxLogfRefIdeal.Gen.bcast_S8_S1x1x8_2 b)))) (broadcastInDim S2x4096x8 ![] FoxLogfRefIdeal.Gen.bcast_S_S2x4096x8 (constant FoxLogfRefIdeal.S_ .f32 0x00000000#32))) (Host.log1p (Host.exp (Host.negf (Host.absf (subf (Host.negf (addf X (broadcastInDim S2x4096x8 ![0, 1, 2] FoxLogfRefIdeal.Gen.bcast_S1x1x8_S2x4096x8_0_1_2 (broadcastInDim FoxLogfRefIdeal.S1x1x8 ![2] FoxLogfRefIdeal.Gen.bcast_S8_S1x1x8_2 b)))) (broadcastInDim S2x4096x8 ![] FoxLogfRefIdeal.Gen.bcast_S_S2x4096x8 (constant FoxLogfRefIdeal.S_ .f32 0x00000000#32)))))))))

/-- The reference's cumulative sums, divided by the logarithm of 2. -/
abbrev CUM (L : FVec Ideal S2x4096x8 .f32) : FVec Ideal S2x8x1x4096 .f32 :=
  shapeCast S2x8x1x4096 (transpose S2x8x4096 [0, 2, 1] (Host.divf (Host.reduceWindowAdd ![1, 4096, 1] ![1, 1, 1] ![0, 4095, 0] ![0, 0, 0] L (broadcastInDim FoxLogfRefIdeal.S_ ![] FoxLogfRefIdeal.Gen.bcast_S_S_ (constant FoxLogfRefIdeal.S_ .f32 0x00000000#32)) FoxLogfRefIdeal.Gen.reduceWindows_S2x4096x8_S2x4096x8_w1s1p0_0_w4096s1p4095_0_w1s1p0_0 FoxLogfRefIdeal.Gen.h_S_) (broadcastInDim S2x4096x8 ![] FoxLogfRefIdeal.Gen.bcast_S_S2x4096x8 (Host.log (constant FoxLogfRefIdeal.S_ .f32 0x40000000#32)))) FoxLogfRefIdeal.Gen.transposes_S2x4096x8_S2x8x4096_0_2_1) FoxLogfRefIdeal.Gen.shapeCasts_S2x8x4096_S2x8x1x4096

/-- The log-forget values at an index. -/
theorem logf_apply (X : FVec Ideal S2x4096x8 .f32) (b : FVec Ideal S8 .f32) (a : Fin 2) (t : Fin 4096) (h : Fin 8) :
    LOGF X b (ix3 a t h) = Hgrn2.lsig (X (ix3 a t h) + b (ix1 h)) := by
  pointwise [LOGF]
  simp only [ne_eq, not_true_eq_false, if_false]
  unfold Hgrn2.lsig
  show -(max (-_) 0 + Ideal.log1p (Ideal.exp (-(max (-_) (- -_))))) = _
  rw [neg_neg, max_comm (-(X (ix3 a t h) + b (ix1 h))) 0, max_comm (-(X (ix3 a t h) + b (ix1 h))) (X (ix3 a t h) + b (ix1 h))]

/-- A sum, as a list folds it. -/
theorem foldl_sum {α : Type} (g : α → EReal) (v : EReal) : ∀ l : List α, l.foldl (fun r n => r + g n) v = v + (l.map g).sum
  | [] => (add_zero v).symm
  | n :: l => by rw [List.foldl_cons, foldl_sum g _ l, List.map_cons, List.sum_cons, add_assoc]

/-- A window sum at an index: the initial value and the sum over the window. -/
theorem windowAdd_apply {s t u : Shape} (window strides lo hi : Fin s.rank → Nat) (x : FVec Ideal s .f32) (init : FVec Ideal u .f32)
    (h : s.ReduceWindows window strides lo hi t) (hu : 0 < u.numel) (j : t.Idx) (hz : ∀ i, init i = (0 : EReal)) :
    (Host.reduceWindowAdd window strides lo hi x init h hu j : EReal) = ∑ w : (⟨s.rank, window⟩ : Shape).Idx,
      if hin : ∀ a, lo a ≤ (j (a.cast h.1.symm)).val * strides a + (w a).val ∧ (j (a.cast h.1.symm)).val * strides a + (w a).val - lo a < s.size a then
        (x (fun a => ⟨(j (a.cast h.1.symm)).val * strides a + (w a).val - lo a, (hin a).2⟩) : EReal) else 0 := by
  rw [← Equiv.sum_comp (⟨s.rank, window⟩ : Shape).rowMajor.symm, Fin.sum_univ_def]
  refine Eq.trans ?_ (zero_add _)
  rw [← foldl_sum]
  unfold Host.reduceWindowAdd
  rw [hz, Ideal.hostReduceWindowAdd_def]
  unfold Ideal.hostReduceWindowAdd Host.reduceWindow
  refine congrArg (fun f => List.foldl f (0 : EReal) _) ?_
  funext r n
  refine congrArg (fun y : EReal => r + y) ?_
  exact dite_congr rfl (fun _ => rfl) fun _ => rfl

/-- The window sum's index set is the times. -/
def times : (⟨3, ![1, 4096, 1]⟩ : Shape).Idx ≃ Fin 4096 where
  toFun w := w 1
  invFun n := ix3 0 n 0
  left_inv w := by
    idx_vars w
    obtain rfl : w0 = 0 := Subsingleton.elim _ _
    obtain rfl : w2 = 0 := Subsingleton.elim _ _
    rfl
  right_inv n := rfl

/-- The fold over a window is a sum over its indices. -/
theorem fold_window (W : Shape) (f : W.Idx → EReal) :
    (List.finRange W.numel).foldl (fun r n => r + f (W.rowMajor.symm n)) 0 = ∑ w, f w := by
  rw [foldl_sum, zero_add, ← Fin.sum_univ_def, Equiv.sum_comp W.rowMajor.symm f]

/-- The cumulative sum at an index: the sum of the entries up to the time. -/
theorem cum_apply (x : FVec Ideal S2x4096x8 .f32) (z : FVec Ideal FoxLogfRefIdeal.S_ .f32) (hz : ∀ i, z i = (0 : EReal)) (a : Fin 2) (t : Fin 4096) (h : Fin 8) :
    Host.reduceWindowAdd ![1, 4096, 1] ![1, 1, 1] ![0, 4095, 0] ![0, 0, 0] x z FoxLogfRefIdeal.Gen.reduceWindows_S2x4096x8_S2x4096x8_w1s1p0_0_w4096s1p4095_0_w1s1p0_0
        FoxLogfRefIdeal.Gen.h_S_ (ix3 a t h)
      = ∑ s : Fin 4096, if s.val ≤ t.val then (x (ix3 a s h) : EReal) else 0 := by
  refine Eq.trans ?_ (LogCumSum.window (fun s => (x (ix3 a s h) : EReal)) t)
  refine (windowAdd_apply _ _ _ _ _ _ _ _ _ hz).trans ?_
  refine (Equiv.sum_comp times.symm _).symm.trans ?_
  refine Finset.sum_congr rfl fun n _ => ?_
  refine dite_congr (propext ⟨fun hh => ?_, fun hh => ?_⟩) (fun hh => ?_) fun _ => rfl
  · have := hh 1
    change 4095 ≤ t.val * 1 + n.val ∧ t.val * 1 + n.val - 4095 < 4096 at this
    omega
  · intro d
    fin_cases d
    · change 0 ≤ a.val * 1 + 0 ∧ a.val * 1 + 0 - 0 < 2
      omega
    · change 4095 ≤ t.val * 1 + n.val ∧ t.val * 1 + n.val - 4095 < 4096
      omega
    · change 0 ≤ h.val * 1 + 0 ∧ h.val * 1 + 0 - 0 < 8
      omega
  · refine congrArg x ?_
    funext d
    refine Fin.ext ?_
    fin_cases d
    · change a.val * 1 + 0 - 0 = a.val
      omega
    · change t.val * 1 + n.val - 4095 = t.val + n.val - 4095
      omega
    · change h.val * 1 + 0 - 0 = h.val
      omega

/-- The divisor. -/
theorem den : Ideal.log (Ideal.ofBits .f32 0x40000000#32) = ((Real.log 2 : ℝ) : EReal) := by
  have e : Ideal.ofBits .f32 0x40000000#32 = ((2 : ℝ) : EReal) := by
    simp [Ideal.ofBits, Ideal.ieee]
    norm_cast
    push_cast
    norm_num
  rw [e]
  show (if (2 : ℝ) ≤ 0 then ⊥ else ((Real.log 2 : ℝ) : EReal)) = _
  rw [if_neg (by norm_num)]

/-- To divide by the divisor is to multiply by the factor. -/
theorem div_den (z : EReal) : Ideal.div z ((Real.log 2 : ℝ) : EReal) = z * (((Real.log 2)⁻¹ : ℝ) : EReal) := by
  have h : Real.log 2 ≠ 0 := (Real.log_pos (by norm_num)).ne'
  unfold Ideal.div
  rw [if_neg (by exact_mod_cast h), EReal.coe_inv]

/-- The reference's scaled sums at an index. -/
theorem ref_apply (L : FVec Ideal S2x4096x8 .f32) (a : Fin 2) (h : Fin 8) (t : Fin 4096) :
    CUM L (ix4 a h 0 t) = (∑ s : Fin 4096, if s.val ≤ t.val then (L (ix3 a s h) : EReal) else 0) * (((Real.log 2)⁻¹ : ℝ) : EReal) := by
  have hz : ∀ i, (broadcastInDim FoxLogfRefIdeal.S_ ![] FoxLogfRefIdeal.Gen.bcast_S_S_ (constant FoxLogfRefIdeal.S_ .f32 0x00000000#32) : FVec Ideal FoxLogfRefIdeal.S_ .f32) i = (0 : EReal) := by
    intro i
    pointwise
  rw [← cum_apply L _ hz a t h, ← div_den, ← den]
  unfold CUM
  generalize Host.reduceWindowAdd (F := Ideal) _ _ _ _ L _ _ _ = C
  pointwise

/-! ## The kernel's arrays -/

variable (m : (ℓ : Loc nD τ sig) → Buf (Elt Ideal) ℓ)

/-- The gates by rows: each batch's and head's times in 32 rows. -/
abbrev XR (X : FVec Ideal S2x4096x8 .f32) : FVec Ideal S512x128 .f32 :=
  shapeCast S512x128 (transpose S2x8x4096 [0, 2, 1] X transposes_S2x4096x8_S2x8x4096_0_2_1) shapeCasts_S2x8x4096_S512x128

/-- The biases by rows. -/
abbrev BR (b : FVec Ideal S8 .f32) : FVec Ideal S512x1 .f32 :=
  shapeCast S512x1 (broadcastInDim S2x8x32 ![0, 1, 2] bcast_S1x8x1_S2x8x32_0_1_2 (shapeCast S1x8x1 b shapeCasts_S8_S1x8x1)) shapeCasts_S2x8x32_S512x1

/-- The rows the kernel reads: the gates, each batch's and head's times in 32 rows. -/
theorem V_fl (c : Dev nD) : V m c main_v1 = XR (m ((c : Thread nD τ).loc main_arg0)) := by
  entry_read
  rfl

/-- The rows' biases. -/
theorem V_b (c : Dev nD) : V m c main_v4 = BR (m ((c : Thread nD τ).loc main_arg1)) := by
  entry_read
  rfl

/-- The gates' rows at an index. -/
theorem fl_apply (X : FVec Ideal S2x4096x8 .f32) (r : Fin 512) (l : Fin 128) : XR X (ix2 r l) = X (ix3 ⟨r.val / 256, by omega⟩ ⟨r.val % 32 * 128 + l.val, by omega⟩ ⟨r.val / 32 % 8, by omega⟩) := by
  pointwise

/-- The biases' rows at an index. -/
theorem b_apply (b : FVec Ideal S8 .f32) (r : Fin 512) : BR b (ix2 r 0) = b (ix1 ⟨r.val / 32 % 8, by omega⟩) := by
  pointwise

/-- The log-forget values by rows. -/
abbrev outL (X : FVec Ideal S512x128 .f32) (b : FVec Ideal S512x1 .f32) : FVec Ideal S512x128 .f32 := k0_pay2 (F := Ideal) X b

/-- The scaled sums by rows. -/
abbrev outC (X : FVec Ideal S512x128 .f32) (b : FVec Ideal S512x1 .f32) : FVec Ideal S512x128 .f32 :=
  k0_pay1 (F := Ideal) (k0_pay3 X b) (k0_pay4 X b) k0_pay5 k0_pay6 k0_pay7

/-- Every window's block starts at zero. -/
theorem idx : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 := by
  decide +kernel

/-- The gates' window is its whole array. -/
theorem blk0 (c : Dev nD) (t : Fin cfg0.N) : iblk m c 0 t = V m c main_v1 := by
  funext y
  blk_simp [iblk]
  refine congrArg (V m c main_v1) ?_
  blk_ext [idx t]

/-- The biases' window is its whole array. -/
theorem blk1 (c : Dev nD) (t : Fin cfg0.N) : iblk m c 1 t = V m c main_v4 := by
  funext y
  blk_simp [iblk]
  refine congrArg (V m c main_v4) ?_
  blk_ext [idx t]

/-- The log-forget values' array after the run. -/
theorem arr2 (c : Dev nD) : (dats m 0 c).arrAt 2 (cfgs 0).N = outL (V m c main_v1) (V m c main_v4) := by
  refine (dats m 0 c).arrAt_eq_of_covers 2 _ (by decide +kernel) fun t _ y => ?_
  blk_simp
  rw [after0_2, blk0, blk1]
  frame_out
  refine congrArg (outL (V m c main_v1) (V m c main_v4)) ?_
  blk_ext [idx t]

/-- The scaled sums' array after the run. -/
theorem arr3 (c : Dev nD) : (dats m 0 c).arrAt 3 (cfgs 0).N = outC (V m c main_v1) (V m c main_v4) := by
  refine (dats m 0 c).arrAt_eq_of_covers 3 _ (by decide +kernel) fun t _ y => ?_
  blk_simp
  rw [after0_3, blk0, blk1]
  frame_out
  refine congrArg (outC (V m c main_v1) (V m c main_v4)) ?_
  blk_ext [idx t]

/-- The first result: the log-forget values' array in the reference's layout. -/
theorem tail_l (c : Dev nD) : Pipeline.afterTail₀ cfgs (dats m) 0 (V0 m) [hostOps1] c main_v7
    = transpose S2x4096x8 [0, 2, 1] (shapeCast S2x8x4096 ((dats m 0 c).arrAt 2 (cfgs 0).N) shapeCasts_S512x128_S2x8x4096) transposes_S2x8x4096_S2x4096x8_0_2_1 := by
  unfold Pipeline.afterTail₀
  have h := Pipeline.withArrays_arr spec0 (by decide) c (V0 m c) (fun w => (dats m 0 c).arrAt w (cfgs 0).N) 2
  rw [← h]
  generalize Pipeline.withArrays spec0 c (V0 m c) (fun w => (dats m 0 c).arrAt w (cfgs 0).N) = W
  simp only [hostOps1, List.flatten_cons, List.flatten_nil, List.append_nil]
  after_results
  rfl

/-- The second result: the scaled sums' array in the reference's layout. -/
theorem tail_c (c : Dev nD) : Pipeline.afterTail₀ cfgs (dats m) 0 (V0 m) [hostOps1] c main_v8
    = shapeCast S2x8x1x4096 ((dats m 0 c).arrAt 3 (cfgs 0).N) shapeCasts_S512x128_S2x8x1x4096 := by
  unfold Pipeline.afterTail₀
  have h := Pipeline.withArrays_arr spec0 (by decide) c (V0 m c) (fun w => (dats m 0 c).arrAt w (cfgs 0).N) 3
  rw [← h]
  generalize Pipeline.withArrays spec0 c (V0 m c) (fun w => (dats m 0 c).arrAt w (cfgs 0).N) = W
  simp only [hostOps1, List.flatten_cons, List.flatten_nil, List.append_nil]
  after_results
  rfl

/-- The log-forget values by rows at an index are the reference's. -/
theorem rows_l (X : FVec Ideal S2x4096x8 .f32) (b : FVec Ideal S8 .f32) (r : Fin 512) (l : Fin 128) :
    outL (XR X) (BR b) (ix2 r l) = LOGF X b (ix3 ⟨r.val / 256, by omega⟩ ⟨r.val % 32 * 128 + l.val, by omega⟩ ⟨r.val / 32 % 8, by omega⟩) := by
  refine (pay2_apply _ _ _ _).trans ?_
  rw [logf_apply, fl_apply, b_apply]

/-- The rows' log-forget values are below infinity. -/
theorem rows_ne (X : FVec Ideal S512x128 .f32) (b : FVec Ideal S512x1 .f32) (i : S512x128.Idx) : k0_pay2 (F := Ideal) X b i ≠ (⊤ : EReal) := by
  idx_vars i
  rw [pay2_apply]
  exact LogCumSum.lsig_ne_top _

/-- An entry depends on its indices' values. -/
theorem at3 (L : FVec Ideal S2x4096x8 .f32) {a a' : Fin 2} {t t' : Fin 4096} {h h' : Fin 8} (ea : a.val = a'.val) (et : t.val = t'.val) (eh : h.val = h'.val) :
    L (ix3 a t h) = L (ix3 a' t' h') := by
  rw [Fin.ext ea, Fin.ext et, Fin.ext eh]

/-- An entry depends on its indices' values. -/
theorem at4 (L : FVec Ideal S2x8x1x4096 .f32) {a a' : Fin 2} {h h' : Fin 8} {t t' : Fin 4096} (ea : a.val = a'.val) (eh : h.val = h'.val) (et : t.val = t'.val) :
    L (ix4 a h 0 t) = L (ix4 a' h' 0 t') := by
  rw [Fin.ext ea, Fin.ext et, Fin.ext eh]

/-- The scaled sums by rows at an index are the reference's. -/
theorem rows_c (X : FVec Ideal S2x4096x8 .f32) (b : FVec Ideal S8 .f32) (r : Fin 512) (l : Fin 128) :
    outC (XR X) (BR b) (ix2 r l) = CUM (LOGF X b) (ix4 ⟨r.val / 256, by omega⟩ ⟨r.val / 32 % 8, by omega⟩ 0 ⟨r.val % 32 * 128 + l.val, by omega⟩) := by
  have h3 : ∀ i, k0_pay3 (F := Ideal) (XR X) (BR b) i ≠ (⊤ : EReal) := by
    intro i
    idx_vars i
    rw [pay3_apply _ _ (rows_ne _ _)]
    refine LogCumSum.sum_ne_top _ fun k => ?_
    split_ifs
    · exact rows_ne _ _ _
    · exact EReal.zero_ne_top
  have h4 : ∀ i, k0_pay4 (F := Ideal) (XR X) (BR b) i ≠ (⊤ : EReal) := by
    intro i
    idx_vars i
    rw [pay4_apply]
    exact h3 _
  refine (pay1_apply _ _ h4 r l).trans ?_
  rw [ref_apply, pay3_apply _ _ (rows_ne _ _)]
  refine congrArg (fun z : EReal => z * (((Real.log 2)⁻¹ : ℝ) : EReal)) ?_
  have hq : r.val / 32 < 16 := by omega
  have hg : r.val % 32 < 32 := by omega
  have ha : (∑ x : Fin 512, if x.val < r.val ∧ x.val / 32 = r.val / 32 then (k0_pay4 (F := Ideal) (XR X) (BR b) (ix2 x l) : EReal) else 0)
      = ∑ g' : Fin 32, if g' < ⟨r.val % 32, hg⟩ then (∑ k : Fin 128, (k0_pay2 (F := Ideal) (XR X) (BR b) (ix2 ⟨r.val / 32 * 32 + g'.val, by omega⟩ k) : EReal)) else 0 := by
    have e := LogCumSum.by_rows (fun x => ∑ k : Fin 128, (k0_pay2 (F := Ideal) (XR X) (BR b) (ix2 x k) : EReal)) ⟨r.val / 32, hq⟩ ⟨r.val % 32, hg⟩
    refine Eq.trans (Finset.sum_congr rfl fun x _ => ?_) e
    refine if_congr (by dsimp only; omega) ?_ rfl
    rw [pay4_apply, pay3_apply _ _ (rows_ne _ _)]
    exact Finset.sum_congr rfl fun k _ => if_pos (by omega)
  rw [ha]
  have hr : (⟨r.val / 32 * 32 + r.val % 32, by omega⟩ : Fin 512) = r := Fin.ext (by dsimp only; omega)
  have e := LogCumSum.by_groups (fun g' k => (k0_pay2 (F := Ideal) (XR X) (BR b) (ix2 ⟨r.val / 32 * 32 + g'.val, by omega⟩ k) : EReal)) ⟨r.val % 32, hg⟩ l
  dsimp only at e
  rw [hr] at e
  rw [e]
  refine Finset.sum_congr rfl fun s _ => if_congr Iff.rfl ?_ rfl
  refine (rows_l X b _ _).trans (at3 _ ?_ ?_ ?_) <;> dsimp only <;> omega

/-- Rows in the first result's layout. -/
theorem layout_l (A : FVec Ideal S512x128 .f32) (L : FVec Ideal S2x4096x8 .f32)
    (h : ∀ (r : Fin 512) (l : Fin 128), A (ix2 r l) = L (ix3 ⟨r.val / 256, by omega⟩ ⟨r.val % 32 * 128 + l.val, by omega⟩ ⟨r.val / 32 % 8, by omega⟩)) :
    transpose S2x4096x8 [0, 2, 1] (shapeCast S2x8x4096 A shapeCasts_S512x128_S2x8x4096) transposes_S2x8x4096_S2x4096x8_0_2_1 = L := by
  funext i
  idx_vars i
  pointwise
  rw [h]
  refine at3 _ ?_ ?_ ?_ <;> dsimp only <;> omega

/-- Rows in the second result's layout. -/
theorem layout_c (A : FVec Ideal S512x128 .f32) (L : FVec Ideal S2x8x1x4096 .f32)
    (h : ∀ (r : Fin 512) (l : Fin 128), A (ix2 r l) = L (ix4 ⟨r.val / 256, by omega⟩ ⟨r.val / 32 % 8, by omega⟩ 0 ⟨r.val % 32 * 128 + l.val, by omega⟩)) :
    shapeCast S2x8x1x4096 A shapeCasts_S512x128_S2x8x1x4096 = L := by
  funext i
  idx_vars i
  obtain rfl : i2 = 0 := Subsingleton.elim _ _
  pointwise
  rw [h]
  refine at4 _ ?_ ?_ ?_ <;> dsimp only <;> omega

/-- The first result is the reference's. -/
theorem final_l (c : Dev nD) : Pipeline.afterTail₀ cfgs (dats m) 0 (V0 m) [hostOps1] c main_v7
    = LOGF (m ((c : Thread nD τ).loc main_arg0)) (m ((c : Thread nD τ).loc main_arg1)) := by
  rw [tail_l, arr2, V_fl, V_b]
  exact layout_l _ _ (rows_l _ _)

/-- The second result is the reference's. -/
theorem final_c (c : Dev nD) : Pipeline.afterTail₀ cfgs (dats m) 0 (V0 m) [hostOps1] c main_v8
    = CUM (LOGF (m ((c : Thread nD τ).loc main_arg0)) (m ((c : Thread nD τ).loc main_arg1))) := by
  rw [tail_c, arr3, V_fl, V_b]
  exact layout_c _ _ (rows_c _ _)

end Cert.FoxLogfIdeal.Tie

end
-- ==== Proof.MlpS.lean ====
module

public import proofs.«01_k».proof.Proof.Gen.MlpSIdeal.Frame
public import proofs.«01_k».proof.Proof.Gen.MlpSRefIdeal.Run
public import proofs.«01_k».proof.Proof.Rows
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpSIdeal.Tie

open Cert.MlpSIdeal Cert.MlpSIdeal.Gen

variable (m : (ℓ : Loc nD τ sig) → Buf (Elt Ideal) ℓ)

/-- The reference's root-mean-square norm of the rows of `x`, times `g`. -/
abbrev NRM (X : FVec Ideal S8x1x2048 .f32) (G : FVec Ideal S2048 .f32) : FVec Ideal S8x1x2048 .f32 :=
  mulf (mulf X (broadcastInDim S8x1x2048 ![0, 1, 2] Cert.MlpSRefIdeal.Gen.bcast_S8x1x1_S8x1x2048_0_1_2
    (Host.rsqrt (addf (Host.divf (broadcastInDim Cert.MlpSRefIdeal.S8x1x1 ![0, 1] Cert.MlpSRefIdeal.Gen.bcast_S8x1_S8x1x1_0_1
      (Host.reduceAdd (mulf X X) (constant Cert.MlpSRefIdeal.S_ .f32 0x00000000#32) Cert.MlpSRefIdeal.Gen.reducesTo_S8x1x2048_S8x1_d2 Cert.MlpSRefIdeal.Gen.h_S_))
      (broadcastInDim Cert.MlpSRefIdeal.S8x1x1 ![] Cert.MlpSRefIdeal.Gen.bcast_S_S8x1x1 (constant Cert.MlpSRefIdeal.S_ .f32 0x45000000#32)))
      (broadcastInDim Cert.MlpSRefIdeal.S8x1x1 ![] Cert.MlpSRefIdeal.Gen.bcast_S_S8x1x1 (constant Cert.MlpSRefIdeal.S_ .f32 0x358637BD#32))))))
    (broadcastInDim S8x1x2048 ![0, 1, 2] Cert.MlpSRefIdeal.Gen.bcast_S1x1x2048_S8x1x2048_0_1_2
      (broadcastInDim Cert.MlpSRefIdeal.S1x1x2048 ![2] Cert.MlpSRefIdeal.Gen.bcast_S2048_S1x1x2048_2 G))

/-- The reference's squared ReLU of the normed rows times `w1`. -/
abbrev ACT (X : FVec Ideal S8x1x2048 .f32) (G : FVec Ideal S2048 .f32) (W1 : FVec Ideal S2048x8192 .f32) : FVec Ideal Cert.MlpSRefIdeal.S8x1x8192 .f32 :=
  mulf (maximumf (Host.dotGeneral Cert.MlpSRefIdeal.dot_S8x1x2048_S2048x8192_S8x1x8192_2_0_01_1_n_n none (NRM X G) W1)
      (broadcastInDim Cert.MlpSRefIdeal.S8x1x8192 ![] Cert.MlpSRefIdeal.Gen.bcast_S_S8x1x8192 (constant Cert.MlpSRefIdeal.S_ .f32 0x00000000#32)))
    (maximumf (Host.dotGeneral Cert.MlpSRefIdeal.dot_S8x1x2048_S2048x8192_S8x1x8192_2_0_01_1_n_n none (NRM X G) W1)
      (broadcastInDim Cert.MlpSRefIdeal.S8x1x8192 ![] Cert.MlpSRefIdeal.Gen.bcast_S_S8x1x8192 (constant Cert.MlpSRefIdeal.S_ .f32 0x00000000#32)))

/-- The reference's residual sum `x + relu(norm(x) * g @ w1)² @ w2`. -/
abbrev RES (X : FVec Ideal S8x1x2048 .f32) (G : FVec Ideal S2048 .f32) (W1 : FVec Ideal S2048x8192 .f32) (W2 : FVec Ideal S8192x2048 .f32) :
    FVec Ideal S8x1x2048 .f32 :=
  addf X (Host.dotGeneral Cert.MlpSRefIdeal.dot_S8x1x8192_S8192x2048_S8x1x2048_2_0_01_1_n_n none (ACT X G W1) W2)

/-- The reference's first result: the residual sum, with the batch and time axes joined. -/
abbrev REF (X : FVec Ideal S8x1x2048 .f32) (G : FVec Ideal S2048 .f32) (W1 : FVec Ideal S2048x8192 .f32) (W2 : FVec Ideal S8192x2048 .f32) :
    FVec Ideal S8x2048 .f32 :=
  shapeCast S8x2048 (RES X G W1 W2) Cert.MlpSRefIdeal.Gen.shapeCasts_S8x1x2048_S8x2048

/-- The reference's second result: the final norm of the residual sum, with the batch and time axes joined. -/
abbrev REFY (X : FVec Ideal S8x1x2048 .f32) (G : FVec Ideal S2048 .f32) (W1 : FVec Ideal S2048x8192 .f32) (W2 : FVec Ideal S8192x2048 .f32)
    (GF : FVec Ideal S2048 .f32) : FVec Ideal S8x2048 .f32 :=
  shapeCast S8x2048 (NRM (RES X G W1 W2) GF) Cert.MlpSRefIdeal.Gen.shapeCasts_S8x1x2048_S8x2048

/-- The blocks' places: one row block, of 16 blocks of the hidden axis. -/
theorem idx : ∀ t : Fin cfg0.N, win0_0.index t = ![t.val / 16, 0] ∧ win0_1.index t = ![0, 0]
    ∧ win0_2.index t = ![0, t.val % 16] ∧ win0_3.index t = ![t.val % 16, 0] ∧ win0_4.index t = ![0, 0]
    ∧ win0_5.index t = ![t.val / 16, 0] ∧ win0_6.index t = ![t.val / 16, 0] :=
  (by decide +kernel : ∀ t : Fin grid0.N, _)

/-- The reference's norm at an index. -/
theorem nrm_apply (X : FVec Ideal S8x1x2048 .f32) (G : FVec Ideal S2048 .f32) (b : Fin 8) (r : Fin 1) (k : Fin 2048) :
    NRM X G (ix3 b r k) = Rows.norm (fun j => X (ix3 b r j)) (fun j => G (ix1 j)) k := by
  obtain rfl : r = 0 := Subsingleton.elim _ _
  pointwise [NRM, Rows.norm, Rows.rms]

/-- The reference's hidden activations at an index. -/
theorem act_apply (X : FVec Ideal S8x1x2048 .f32) (G : FVec Ideal S2048 .f32) (W1 : FVec Ideal S2048x8192 .f32) (b : Fin 8) (r : Fin 1) (f : Fin 8192) :
    ACT X G W1 (ix3 b r f) = Rows.sqrelu (∑ k : Fin 2048, Rows.norm (fun j => X (ix3 b r j)) (fun j => G (ix1 j)) k * W1 (ix2 k f)) := by
  unfold ACT
  generalize hN : NRM X G = N
  pointwise [Rows.sqrelu]
  subst hN
  simp only [nrm_apply]

/-- The reference's residual sum at an index. -/
theorem res_apply (X : FVec Ideal S8x1x2048 .f32) (G : FVec Ideal S2048 .f32) (W1 : FVec Ideal S2048x8192 .f32) (W2 : FVec Ideal S8192x2048 .f32)
    (b : Fin 8) (r : Fin 1) (k : Fin 2048) :
    RES X G W1 W2 (ix3 b r k) = X (ix3 b r k) + ∑ f : Fin 8192, ACT X G W1 (ix3 b r f) * W2 (ix2 f k) := by
  unfold RES
  generalize ACT X G W1 = A
  pointwise

/-- The copy of the rows that the first hidden block's point stores in the result's block. -/
theorem pay1_apply (x : FVec Ideal S8x2048 .f32) (y : S8x2048.Idx) : k0_pay1 (F := Ideal) x y = x y := by
  idx_vars y
  pointwise [k0_pay1]

/-- The normed block that the first hidden block's point stores in the scratch. -/
theorem pay2_apply (x : FVec Ideal S8x2048 .f32) (g : FVec Ideal S1x2048 .f32) (y : S8x2048.Idx) :
    k0_pay2 (F := Ideal) x g y = Rows.norm (fun j => x (ix2 (y 0) j)) (fun j => g (ix2 0 j)) (y 1) := by
  idx_vars y
  pointwise [k0_pay2, k0_pay1, Rows.norm, Rows.rms]

/-- What every point adds to the result's block. -/
theorem pay3_apply (h : FVec Ideal S8x2048 .bf16) (w1 : FVec Ideal S2048x512 .bf16) (a : FVec Ideal S8x2048 .f32) (w2 : FVec Ideal S512x2048 .bf16)
    (y : S8x2048.Idx) : k0_pay3 (F := Ideal) h w1 a w2 y
    = a y + ∑ f : Fin 512, Rows.sqrelu (∑ k : Fin 2048, h (ix2 (y 0) k) * w1 (ix2 k f)) * w2 (ix2 f (y 1)) := by
  idx_vars y
  pointwise [k0_pay3, Rows.sqrelu]

/-- The final norm that the last hidden block's point stores. -/
theorem pay4_apply (x : FVec Ideal S8x2048 .f32) (g : FVec Ideal S1x2048 .f32) (y : S8x2048.Idx) :
    k0_pay4 (F := Ideal) x g y = Rows.norm (fun j => x (ix2 (y 0) j)) (fun j => g (ix2 0 j)) (y 1) := by
  idx_vars y
  pointwise [k0_pay4, Rows.norm, Rows.rms]

/-- The rows the kernel's first window reads: `x`, batch and time joined. -/
theorem V_x (c : Dev nD) : V m c main_v0 = shapeCast S8x2048 (m ((c : Thread nD τ).loc main_arg0)) shapeCasts_S8x1x2048_S8x2048 := by
  entry_read
  rfl

/-- The gain the kernel's second window reads, as one row. -/
theorem V_g (c : Dev nD) : V m c main_v3 = shapeCast S1x2048 (m ((c : Thread nD τ).loc main_arg1)) shapeCasts_S2048_S1x2048 := by
  entry_read
  rfl

/-- The final gain the kernel's fifth window reads, as one row. -/
theorem V_gf (c : Dev nD) : V m c main_v4 = shapeCast S1x2048 (m ((c : Thread nD τ).loc main_arg4)) shapeCasts_S2048_S1x2048 := by
  entry_read
  rfl

/-- The weight into the hidden axis that the kernel's third window reads. -/
theorem V_w1 (c : Dev nD) : V m c main_v1 = m ((c : Thread nD τ).loc main_arg2) := by
  entry_read
  rfl

/-- The weight out of the hidden axis that the kernel's fourth window reads. -/
theorem V_w2 (c : Dev nD) : V m c main_v2 = m ((c : Thread nD τ).loc main_arg3) := by
  entry_read
  rfl

/-- The joined rows at an index. -/
theorem cast_apply (A : FVec Ideal S8x1x2048 .f32) (i : S8x2048.Idx) :
    shapeCast S8x2048 A shapeCasts_S8x1x2048_S8x2048 i
      = A (ix3 ⟨(i 0).val / 1, by idx_bounds; omega⟩ ⟨(i 0).val % 1, by omega⟩ (i 1)) := by
  idx_vars i
  pointwise

/-- The gain as one row at an index. -/
theorem cast_row_apply (A : FVec Ideal S2048 .f32) (i : S1x2048.Idx) :
    shapeCast S1x2048 A shapeCasts_S2048_S1x2048 i = A (ix1 (i 1)) := by
  idx_vars i
  pointwise

/-- The normed row `r` of the joined rows. -/
def row (c : Dev nD) (r : Fin 8) (k : Fin 2048) : EReal :=
  Rows.norm (fun j => (m ((c : Thread nD τ).loc main_arg0) : FVec Ideal S8x1x2048 .f32) (ix3 ⟨r.val / 1, by omega⟩ ⟨r.val % 1, by omega⟩ j))
    (fun j => (m ((c : Thread nD τ).loc main_arg1) : FVec Ideal S2048 .f32) (ix1 j)) k

/-- The hidden activation `f` of row `r` of the joined rows. -/
def act (c : Dev nD) (r : Fin 8) (f : Fin 8192) : EReal :=
  Rows.sqrelu (∑ k : Fin 2048, row m c r k * (m ((c : Thread nD τ).loc main_arg2) : FVec Ideal S2048x8192 .f32) (ix2 k f))

/-- Hidden block `s`'s part of the product with `w2`, at row `r` and column `k`. -/
def part (c : Dev nD) (r : Fin 8) (s : ℕ) (k : Fin 2048) : EReal :=
  ∑ f : Fin 512, act m c r ⟨(s * 512 + f.val) % 8192, by omega⟩
    * (m ((c : Thread nD τ).loc main_arg3) : FVec Ideal S8192x2048 .f32) (ix2 ⟨(s * 512 + f.val) % 8192, by omega⟩ k)

/-- Row `r` of the joined rows. -/
def xrow (c : Dev nD) (r : Fin 8) (k : Fin 2048) : EReal :=
  (m ((c : Thread nD τ).loc main_arg0) : FVec Ideal S8x1x2048 .f32) (ix3 ⟨r.val / 1, by omega⟩ ⟨r.val % 1, by omega⟩ k)

/-- A point's block of rows is its row block of the joined rows. -/
theorem blk_x (c : Dev nD) (t : Fin cfg0.N) (y : S8x2048.Idx) : (iblk m c 0 t : FVec Ideal S8x2048 .f32) y
    = xrow m c ⟨t.val / 16 * 8 + (y 0).val, by have := lt_of_lt_of_eq t.isLt N_0; idx_bounds; omega⟩ (y 1) := by
  unfold xrow
  blk_simp [iblk]
  rw [V_x, cast_apply]
  blk_ext [idx t]

/-- The first hidden block's point norms the rows of its row block. -/
theorem fill (c : Dev nD) (t : Fin cfg0.N) (y : S8x2048.Idx) : k0_pay2 (iblk m c 0 t) (iblk m c 1 t) y
    = row m c ⟨t.val / 16 * 8 + (y 0).val, by have := lt_of_lt_of_eq t.isLt N_0; idx_bounds; omega⟩ (y 1) := by
  refine (pay2_apply _ _ y).trans ?_
  unfold row
  congr 1
  · funext j
    exact blk_x m c t (ix2 (y 0) j)
  · funext j
    blk_simp [iblk]
    rw [V_g, cast_row_apply]
    blk_ext [idx t]

/-- What a point adds is its hidden block's part, when the scratch holds the normed rows. -/
theorem add_part (c : Dev nD) (t : Fin cfg0.N) (h : FVec Ideal S8x2048 .bf16) (a : FVec Ideal S8x2048 .f32) (y : S8x2048.Idx)
    (hh : ∀ k : Fin 2048, h (ix2 (y 0) k) = row m c ⟨t.val / 16 * 8 + (y 0).val, by have := lt_of_lt_of_eq t.isLt N_0; idx_bounds; omega⟩ k) :
    k0_pay3 (F := Ideal) h (iblk m c 2 t) a (iblk m c 3 t) y
      = a y + part m c ⟨t.val / 16 * 8 + (y 0).val, by have := lt_of_lt_of_eq t.isLt N_0; idx_bounds; omega⟩ (t.val % 16) (y 1) := by
  refine (pay3_apply _ _ _ _ y).trans ?_
  refine congrArg (a y + ·) (Finset.sum_congr rfl fun f _ => ?_)
  unfold act
  refine congr (congrArg _ (congrArg Rows.sqrelu (Finset.sum_congr rfl fun k _ => ?_))) ?_
  · rw [hh k]
    refine congrArg (row m c _ k * ·) ?_
    blk_simp [iblk]
    rw [V_w1]
    blk_ext [idx t]
  · blk_simp [iblk]
    rw [V_w2]
    blk_ext [idx t]

/-- After any point, the scratch holds the normed rows of the point's row block. -/
theorem scratch (c : Dev nD) : ∀ (n : ℕ) (h : n < cfg0.N) (y : S8x2048.Idx), (outsAt0 m c n h).2.2 y
    = row m c ⟨n / 16 * 8 + (y 0).val, by have := lt_of_lt_of_eq h N_0; idx_bounds; omega⟩ (y 1) := by
  intro n
  induction n with
  | zero =>
    intro h y
    rw [outsAt0_A m c ⟨0, h⟩ rfl (by show ¬ 0 % 16 = 15; omega)]; frame_out
    exact fill m c ⟨0, h⟩ y
  | succ n ih =>
    intro h y
    have e : ¬ (n + 1) % 16 = 0 → n / 16 = (n + 1) / 16 := by omega
    by_cases h0 : (n + 1) % 16 = 0
    · rw [outsAt0_A m c ⟨n + 1, h⟩ h0 (by show ¬ (n + 1) % 16 = 15; omega)]; frame_out
      exact fill m c ⟨n + 1, h⟩ y
    · by_cases h1 : (n + 1) % 16 = 15
      · rw [outsAt0_C m c ⟨n + 1, h⟩ h0 h1]; frame_out
        refine (ih (Nat.lt_of_succ_lt h) y).trans ?_
        simp only [e h0]
      · rw [outsAt0_B m c ⟨n + 1, h⟩ h0 h1]; frame_out
        refine (ih (Nat.lt_of_succ_lt h) y).trans ?_
        simp only [e h0]

/-- The row block `b`'s running sum after `j` hidden blocks. -/
def run (c : Dev nD) (r : Fin 8) (j : ℕ) (k : Fin 2048) : EReal := xrow m c r k + ∑ s ∈ Finset.range j, part m c r s k

/-- After any point, the first result's block holds the rows plus the parts of the hidden blocks so far. -/
theorem acc (c : Dev nD) : ∀ (n : ℕ) (h : n < cfg0.N) (y : S8x2048.Idx), (outsAt0 m c n h).1 y
    = run m c ⟨n / 16 * 8 + (y 0).val, by have := lt_of_lt_of_eq h N_0; idx_bounds; omega⟩ (n % 16 + 1) (y 1) := by
  have first : ∀ t : Fin cfg0.N, t.val % 16 = 0 → ∀ y : S8x2048.Idx,
      k0_pay3 (F := Ideal) (k0_pay2 (iblk m c 0 t) (iblk m c 1 t)) (iblk m c 2 t) (k0_pay1 (iblk m c 0 t)) (iblk m c 3 t) y
        = run m c ⟨t.val / 16 * 8 + (y 0).val, by have := lt_of_lt_of_eq t.isLt N_0; idx_bounds; omega⟩ (t.val % 16 + 1) (y 1) := by
    intro t h0 y
    refine (add_part m c t _ _ y fun k => fill m c t (ix2 (y 0) k)).trans ?_
    rw [pay1_apply, blk_x m c t y]
    unfold run
    rw [h0, Finset.sum_range_one]
  have step : ∀ (n : ℕ) (h : n + 1 < cfg0.N), ¬ (n + 1) % 16 = 0 →
      (∀ y : S8x2048.Idx, (outsAt0 m c n (Nat.lt_of_succ_lt h)).1 y
        = run m c ⟨n / 16 * 8 + (y 0).val, by have := lt_of_lt_of_eq h N_0; idx_bounds; omega⟩ (n % 16 + 1) (y 1)) →
      ∀ y : S8x2048.Idx, k0_pay3 (F := Ideal) (outsAt0 m c n (Nat.lt_of_succ_lt h)).2.2 (iblk m c 2 ⟨n + 1, h⟩) (outsAt0 m c n (Nat.lt_of_succ_lt h)).1 (iblk m c 3 ⟨n + 1, h⟩) y
        = run m c ⟨(n + 1) / 16 * 8 + (y 0).val, by have := lt_of_lt_of_eq h N_0; idx_bounds; omega⟩ ((n + 1) % 16 + 1) (y 1) := by
    intro n h h0 ih y
    have e : n / 16 = (n + 1) / 16 := by omega
    have e' : n % 16 + 1 = (n + 1) % 16 := by omega
    refine (add_part m c ⟨n + 1, h⟩ _ _ y fun k => (scratch m c n _ (ix2 (y 0) k)).trans ?_).trans ?_
    · simp only [e]
      rfl
    · rw [ih y]
      unfold run
      simp only [e, e']
      rw [Finset.sum_range_succ, add_assoc]
  intro n
  induction n with
  | zero =>
    intro h y
    rw [outsAt0_A m c ⟨0, h⟩ rfl (by show ¬ 0 % 16 = 15; omega)]; frame_out
    exact first ⟨0, h⟩ rfl y
  | succ n ih =>
    intro h y
    by_cases h0 : (n + 1) % 16 = 0
    · rw [outsAt0_A m c ⟨n + 1, h⟩ h0 (by show ¬ (n + 1) % 16 = 15; omega)]; frame_out
      exact first ⟨n + 1, h⟩ h0 y
    · by_cases h1 : (n + 1) % 16 = 15
      · rw [outsAt0_C m c ⟨n + 1, h⟩ h0 h1]; frame_out
        simp only [read_unread_whole]
        exact step n h h0 (ih (Nat.lt_of_succ_lt h)) y
      · rw [outsAt0_B m c ⟨n + 1, h⟩ h0 h1]; frame_out
        simp only [read_unread_whole]
        exact step n h h0 (ih (Nat.lt_of_succ_lt h)) y

/-- All sixteen hidden blocks' parts make the reference's residual sum. -/
theorem run_all (c : Dev nD) (r : Fin 8) (k : Fin 2048) : run m c r 16 k
    = RES (m ((c : Thread nD τ).loc main_arg0)) (m ((c : Thread nD τ).loc main_arg1)) (m ((c : Thread nD τ).loc main_arg2)) (m ((c : Thread nD τ).loc main_arg3)) (ix3 ⟨r.val / 1, by omega⟩ ⟨r.val % 1, by omega⟩ k) := by
  rw [res_apply]
  unfold run
  refine congrArg (_ + ·) ?_
  rw [Finset.sum_range]
  unfold part
  refine Fin.sum_mul_add_congr fun s f hl => ?_
  have e : (s.val * 512 + f.val) % 8192 = s.val * 512 + f.val := Nat.mod_eq_of_lt hl
  simp only [e]
  refine congrArg (· * _) ?_
  rw [act_apply]
  rfl

/-- What the last hidden block's point leaves in the first result's block. -/
theorem acc_last (c : Dev nD) (t : Fin cfg0.N) (h1 : t.val % 16 = 15) (y : S8x2048.Idx) : (outsAt0 m c t.val t.isLt).1 y
    = RES (m ((c : Thread nD τ).loc main_arg0)) (m ((c : Thread nD τ).loc main_arg1)) (m ((c : Thread nD τ).loc main_arg2)) (m ((c : Thread nD τ).loc main_arg3))
      (ix3 ⟨(t.val / 16 * 8 + (y 0).val) / 1, by have := lt_of_lt_of_eq t.isLt N_0; idx_bounds; omega⟩ ⟨(t.val / 16 * 8 + (y 0).val) % 1, by omega⟩ (y 1)) := by
  rw [acc m c t.val t.isLt y, h1]
  exact run_all m c _ _

/-- … and in the second result's block: the final norm of it. -/
theorem out_y (c : Dev nD) (t : Fin cfg0.N) (h1 : t.val % 16 = 15) (y : S8x2048.Idx) : (outsAt0 m c t.val t.isLt).2.1 y
    = k0_pay4 (F := Ideal) (outsAt0 m c t.val t.isLt).1 (iblk m c 4 t) y := by
  rw [outsAt0_C m c t (by omega) h1]; frame_out

/-- The reference's first result at an index. -/
theorem ref_apply (X : FVec Ideal S8x1x2048 .f32) (G : FVec Ideal S2048 .f32) (W1 : FVec Ideal S2048x8192 .f32) (W2 : FVec Ideal S8192x2048 .f32)
    (i : S8x2048.Idx) : REF X G W1 W2 i = RES X G W1 W2 (ix3 ⟨(i 0).val / 1, by idx_bounds; omega⟩ ⟨(i 0).val % 1, by omega⟩ (i 1)) :=
  cast_apply _ i

/-- The reference's second result at an index. -/
theorem refy_apply (X : FVec Ideal S8x1x2048 .f32) (G : FVec Ideal S2048 .f32) (W1 : FVec Ideal S2048x8192 .f32) (W2 : FVec Ideal S8192x2048 .f32)
    (GF : FVec Ideal S2048 .f32) (i : S8x2048.Idx) : REFY X G W1 W2 GF i
      = Rows.norm (fun j => RES X G W1 W2 (ix3 ⟨(i 0).val / 1, by idx_bounds; omega⟩ ⟨(i 0).val % 1, by omega⟩ j)) (fun j => GF (ix1 j)) (i 1) :=
  (cast_apply _ i).trans (nrm_apply _ _ _ _ _)

/-- One block of the first result: the reference at the block's place. -/
theorem point (c : Dev nD) (t : Fin cfg0.N) (h1 : t.val % 16 = 15) (y : S8x2048.Idx) : (outsAt0 m c t.val t.isLt).1 y
    = REF (m ((c : Thread nD τ).loc main_arg0)) (m ((c : Thread nD τ).loc main_arg1)) (m ((c : Thread nD τ).loc main_arg2)) (m ((c : Thread nD τ).loc main_arg3)) (((cfg0.win 5).blk t).view.emb y) := by
  have e0 : (((((cfg0.win 5).blk t).view.emb y) 0 : Fin 8) : ℕ) = t.val / 16 * 8 + (y 0).val := by blk_simp [idx t]
  have e1 : ((((cfg0.win 5).blk t).view.emb y) 1 : Fin 2048) = y 1 := by apply Fin.ext; blk_simp [idx t]
  rw [acc_last m c t h1 y, ref_apply]
  simp only [e0]
  exact congrArg (fun k => RES (m ((c : Thread nD τ).loc main_arg0)) (m ((c : Thread nD τ).loc main_arg1)) (m ((c : Thread nD τ).loc main_arg2)) (m ((c : Thread nD τ).loc main_arg3)) (ix3 _ _ k)) e1.symm

/-- One block of the second result: the reference at the block's place. -/
theorem point_y (c : Dev nD) (t : Fin cfg0.N) (h1 : t.val % 16 = 15) (y : S8x2048.Idx) : (outsAt0 m c t.val t.isLt).2.1 y
    = REFY (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have e0 : (((((cfg0.win 6).blk t).view.emb y) 0 : Fin 8) : ℕ) = t.val / 16 * 8 + (y 0).val := by blk_simp [idx t]
  have e1 : ((((cfg0.win 6).blk t).view.emb y) 1 : Fin 2048) = y 1 := by apply Fin.ext; blk_simp [idx t]
  rw [out_y m c t h1 y, refy_apply, e1]
  refine (pay4_apply _ _ y).trans ?_
  congr 1
  · funext j
    simp only [e0]
    exact acc_last m c t h1 (ix2 (y 0) j)
  · funext j
    blk_simp [iblk]
    rw [V_gf, cast_row_apply]
    blk_ext [idx t]

/-- The first result's array after the run is the reference's. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact point m c t ((flush0_5 t).mp hf) y

/-- The second result's array after the run is the reference's. -/
theorem final_y (c : Dev nD) : (dats m 0 c).arrAt 6 (cfgs 0).N = REFY (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  exact point_y m c t ((flush0_6 t).mp hf) y

end Cert.MlpSIdeal.Tie

end
-- ==== Proof.QkvSIdealBody.lean ====
module

public import proofs.«01_k».proof.Proof.Gen.QkvSIdeal.Frame
public import proofs.«01_k».proof.Proof.Gen.QkvSIdeal.Skeleton
public import Idealize.ShloMosaic.Lib.Pipeline.ValueKit

@[expose] public section

set_option maxRecDepth 16384

noncomputable section

namespace Cert.QkvSIdeal.Body

open Cert.QkvSIdeal Cert.QkvSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A store through a whole buffer leaves what it stores. -/
theorem stored {Val : EltTy → Type} {κ : Kind} {sp : Space} {S : Shape} {e : EltTy} (v : View sig κ sp S e) (f : v.ty.Contents Val)
    {off : Fin S.rank → Nat} (inb : ∀ a, off a + S.size a ≤ S.size a) (w : S.Idx → Val e) (h : ∀ a, off a = 0) :
    v.read Val (v.writes Val f [⟨Rect.unit off S.size inb, w⟩]) = w := by
  funext y
  have e : (Rect.unit off S.size inb).emb y = y := by
    funext a
    refine Fin.ext ?_
    show off a + 1 * (y a).val = (y a).val
    rw [h a]; omega
  have h := View.read_writes_cons_emb v f (Rect.unit off S.size inb) w [] y
  rwa [e] at h

set_option maxHeartbeats 1000000 in
/-- The body at the first column block, on any staging buffers: it stores the normed rows in the scratch, their product
    with the gate's weight in the last output, and their product with the query's weight, scaled, in the first output. -/
theorem run_q (c : Dev nD) (i : grid0.Coords)
    (arg2 : Memref sig .tc .vmem S8x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2048x128 .bf16) (harg5 : arg5.IsWhole)
    (arg6 : Memref sig .tc .vmem S8x1024 .bf16) (harg6 : arg6.IsWhole) (arg7 : Memref sig .tc .vmem S8x1024 .f32) (harg7 : arg7.IsWhole)
    (arg8 : Memref sig .tc .vmem S8x1024 .f32) (harg8 : arg8.IsWhole) (arg9 : Memref sig .tc .vmem S8x128 .f32) (harg9 : arg9.IsWhole)
    (arg10 : Memref sig .tc .vmem S8x2048 .bf16) (harg10 : arg10.IsWhole)
    (hc1 : k0_cond1 i = 1#1) (hc2 : k0_cond2 i = 1#1) (hc3 : ¬k0_cond3 i = 1#1) (hc4 : ¬k0_cond4 i = 1#1)
    (x0 : Vec F S8x2048 .f32) (x1 : Vec F S1x2048 .f32) (x2 : Vec F S2048x1024 .bf16) (x3 : Vec F S2048x128 .bf16)
    (x5 : Vec F S8x1024 .f32) (x6 : Vec F S8x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay5 (k0_pay2 x0 x1) x2) ∗ owns (c : Thread nD τ) arg7 fullShare x5
            ∗ owns (c : Thread nD τ) arg8 fullShare x6 ∗ owns (c : Thread nD τ) arg9 fullShare (k0_pay3 x0 x1 x3) ∗ owns (c : Thread nD τ) arg10 fullShare (k0_pay2 x0 x1)) -∗ K ⟨⟩))
      ⊢ wp frame (wpE (defs₀ (F := F)) Variants.none c none) E
        (cc0_qkv_proj i arg2 harg2 arg3 harg3 arg4 harg4 arg5 harg5 arg6 harg6 arg7 harg7 arg8 harg8 arg9 harg9 arg10 harg10) K := by
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%dS, %fS, -, HS⟩, Hk⟩
  obtain rfl := harg2.eq_unread hf0; obtain rfl := harg3.eq_unread hf1; obtain rfl := harg4.eq_unread hf2; obtain rfl := harg5.eq_unread hf3
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; frame_out; exact stored _ _ _ _ (by decide)
  isplitl [H5]
  · iexists _; isplitr; · ipureintro; exact hf5
    iexact H5
  isplitl [H6]
  · iexists _; isplitr; · ipureintro; exact hf6
    iexact H6
  isplitl [H7]
  · iexists _; isplitr
    swap; · iexact H7
    ipureintro; frame_out; exact stored _ _ _ _ (by decide)
  iexists _; isplitr
  swap; · iexact HS
  ipureintro; frame_out; exact stored _ _ _ _ (by decide)

set_option maxHeartbeats 1000000 in
/-- The body at the second column block: it stores the scratch's product with the key's weight in the first and in the
    second output, and leaves the other outputs and the scratch as they are. -/
theorem run_k (c : Dev nD) (i : grid0.Coords)
    (arg2 : Memref sig .tc .vmem S8x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2048x128 .bf16) (harg5 : arg5.IsWhole)
    (arg6 : Memref sig .tc .vmem S8x1024 .bf16) (harg6 : arg6.IsWhole) (arg7 : Memref sig .tc .vmem S8x1024 .f32) (harg7 : arg7.IsWhole)
    (arg8 : Memref sig .tc .vmem S8x1024 .f32) (harg8 : arg8.IsWhole) (arg9 : Memref sig .tc .vmem S8x128 .f32) (harg9 : arg9.IsWhole)
    (arg10 : Memref sig .tc .vmem S8x2048 .bf16) (harg10 : arg10.IsWhole)
    (hc1 : ¬k0_cond1 i = 1#1) (hc2 : ¬k0_cond2 i = 1#1) (hc3 : k0_cond3 i = 1#1) (hc4 : ¬k0_cond4 i = 1#1)
    (x0 : Vec F S8x2048 .f32) (x1 : Vec F S1x2048 .f32) (x2 : Vec F S2048x1024 .bf16) (x3 : Vec F S2048x128 .bf16)
    (x6 : Vec F S8x1024 .f32) (x7 : Vec F S8x128 .f32) (xs : Vec F S8x2048 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare x6 ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay6 xs x2) ∗ owns (c : Thread nD τ) arg7 fullShare (k0_pay4 xs x2)
            ∗ owns (c : Thread nD τ) arg8 fullShare x6 ∗ owns (c : Thread nD τ) arg9 fullShare x7 ∗ owns (c : Thread nD τ) arg10 fullShare xs) -∗ K ⟨⟩))
      ⊢ wp frame (wpE (defs₀ (F := F)) Variants.none c none) E
        (cc0_qkv_proj i arg2 harg2 arg3 harg3 arg4 harg4 arg5 harg5 arg6 harg6 arg7 harg7 arg8 harg8 arg9 harg9 arg10 harg10) K := by
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fS, %hfS, HS⟩, Hk⟩
  obtain rfl := harg2.eq_unread hf0; obtain rfl := harg3.eq_unread hf1; obtain rfl := harg4.eq_unread hf2; obtain rfl := harg5.eq_unread hf3
  obtain rfl := harg10.eq_unread hfS
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; frame_out; exact stored _ _ _ _ (by decide)
  isplitl [H5]
  · iexists _; isplitr
    swap; · iexact H5
    ipureintro; frame_out; exact stored _ _ _ _ (by decide)
  isplitl [H6]
  · iexists _; isplitr; · ipureintro; exact hf6
    iexact H6
  isplitl [H7]
  · iexists _; isplitr; · ipureintro; exact hf7
    iexact H7
  iexists _; isplitr; · ipureintro; exact harg10.read_unread _
  iexact HS

set_option maxHeartbeats 1000000 in
/-- The body at the third column block: it stores the scratch's product with the value's weight in the first and in the
    third output, and leaves the other outputs and the scratch as they are. -/
theorem run_v (c : Dev nD) (i : grid0.Coords)
    (arg2 : Memref sig .tc .vmem S8x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2048x128 .bf16) (harg5 : arg5.IsWhole)
    (arg6 : Memref sig .tc .vmem S8x1024 .bf16) (harg6 : arg6.IsWhole) (arg7 : Memref sig .tc .vmem S8x1024 .f32) (harg7 : arg7.IsWhole)
    (arg8 : Memref sig .tc .vmem S8x1024 .f32) (harg8 : arg8.IsWhole) (arg9 : Memref sig .tc .vmem S8x128 .f32) (harg9 : arg9.IsWhole)
    (arg10 : Memref sig .tc .vmem S8x2048 .bf16) (harg10 : arg10.IsWhole)
    (hc1 : ¬k0_cond1 i = 1#1) (hc2 : ¬k0_cond2 i = 1#1) (hc3 : ¬k0_cond3 i = 1#1) (hc4 : k0_cond4 i = 1#1)
    (x0 : Vec F S8x2048 .f32) (x1 : Vec F S1x2048 .f32) (x2 : Vec F S2048x1024 .bf16) (x3 : Vec F S2048x128 .bf16)
    (x5 : Vec F S8x1024 .f32) (x7 : Vec F S8x128 .f32) (xs : Vec F S8x2048 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ (∃ d, owns (c : Thread nD τ) arg8 fullShare d) ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay7 xs x2) ∗ owns (c : Thread nD τ) arg7 fullShare x5
            ∗ owns (c : Thread nD τ) arg8 fullShare (k0_pay4 xs x2) ∗ owns (c : Thread nD τ) arg9 fullShare x7 ∗ owns (c : Thread nD τ) arg10 fullShare xs) -∗ K ⟨⟩))
      ⊢ wp frame (wpE (defs₀ (F := F)) Variants.none c none) E
        (cc0_qkv_proj i arg2 harg2 arg3 harg3 arg4 harg4 arg5 harg5 arg6 harg6 arg7 harg7 arg8 harg8 arg9 harg9 arg10 harg10) K := by
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%f7, %hf7, H7⟩, ⟨%fS, %hfS, HS⟩, Hk⟩
  obtain rfl := harg2.eq_unread hf0; obtain rfl := harg3.eq_unread hf1; obtain rfl := harg4.eq_unread hf2; obtain rfl := harg5.eq_unread hf3
  obtain rfl := harg10.eq_unread hfS
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; frame_out; exact stored _ _ _ _ (by decide)
  isplitl [H5]
  · iexists _; isplitr; · ipureintro; exact hf5
    iexact H5
  isplitl [H6]
  · iexists _; isplitr
    swap; · iexact H6
    ipureintro; frame_out; exact stored _ _ _ _ (by decide)
  isplitl [H7]
  · iexists _; isplitr; · ipureintro; exact hf7
    iexact H7
  iexists _; isplitr; · ipureintro; exact harg10.read_unread _
  iexact HS

end Cert.QkvSIdeal.Body

end
-- ==== Proof.QkvSIdealFrame.lean ====
module

public import proofs.«01_k».proof.Proof.QkvSIdealBody
public import Idealize.ShloMosaic.Lib.Claim
public import Idealize.ShloMosaic.Lib.Pipeline.TableIdle

@[expose] public section

set_option maxRecDepth 16384

noncomputable section

namespace Cert.QkvSIdeal.Body

open Cert.QkvSIdeal Cert.QkvSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid: one row block, of the three column blocks query, key and value -/

/-- The point of the query's column block in the row block of point `n`. -/
def pq (n : ℕ) (h : n < cfg0.N) : Fin cfg0.N := ⟨3 * (n / 3), by omega⟩
/-- The point of the key's column block in the row block of point `n`. -/
def pk (n : ℕ) (h : n < cfg0.N) : Fin cfg0.N := ⟨3 * (n / 3) + 1, by have : cfg0.N = 3 := N_0; omega⟩

theorem pq_self (t : Fin cfg0.N) (h : t.val % 3 = 0) : pq t.val t.isLt = t := Fin.ext (by unfold pq; dsimp only; omega)
theorem pk_self (t : Fin cfg0.N) (h : t.val % 3 = 1) : pk t.val t.isLt = t := Fin.ext (by unfold pk; dsimp only; omega)
theorem pq_pred (n : ℕ) (h : n < cfg0.N) (h' : n - 1 < cfg0.N) (h0 : n % 3 ≠ 0) : pq (n - 1) h' = pq n h :=
  Fin.ext (by unfold pq; dsimp only; omega)
theorem pk_pred (n : ℕ) (h : n < cfg0.N) (h' : n - 1 < cfg0.N) (h0 : n % 3 ≠ 0) : pk (n - 1) h' = pk n h :=
  Fin.ext (by unfold pk; dsimp only; omega)

/-- The branches that the query's points take. -/
theorem cond_q : ∀ t : Fin cfg0.N, t.val % 3 = 0 → k0_cond1 (grid0.coords t) = 1#1 ∧ k0_cond2 (grid0.coords t) = 1#1
    ∧ ¬k0_cond3 (grid0.coords t) = 1#1 ∧ ¬k0_cond4 (grid0.coords t) = 1#1 :=
  (by decide +kernel : ∀ t : Fin grid0.N, _)
/-- The branches that the key's points take. -/
theorem cond_k : ∀ t : Fin cfg0.N, t.val % 3 = 1 → ¬k0_cond1 (grid0.coords t) = 1#1 ∧ ¬k0_cond2 (grid0.coords t) = 1#1
    ∧ k0_cond3 (grid0.coords t) = 1#1 ∧ ¬k0_cond4 (grid0.coords t) = 1#1 :=
  (by decide +kernel : ∀ t : Fin grid0.N, _)
/-- The branches that the value's points take. -/
theorem cond_v : ∀ t : Fin cfg0.N, t.val % 3 = 2 → ¬k0_cond1 (grid0.coords t) = 1#1 ∧ ¬k0_cond2 (grid0.coords t) = 1#1
    ∧ ¬k0_cond3 (grid0.coords t) = 1#1 ∧ k0_cond4 (grid0.coords t) = 1#1 :=
  (by decide +kernel : ∀ t : Fin grid0.N, _)

/-- The first output is stored at every point. -/
theorem idle_4 : ∀ t : Fin cfg0.N, cfg0.idle 4 (grid0.coords t) = false := (by decide +kernel : ∀ t : Fin grid0.N, _)
/-- The second output is stored at the key's points alone, the third at the value's, the last at the query's. -/
theorem idle_5 : ∀ t : Fin cfg0.N, cfg0.idle 5 (grid0.coords t) = !decide (t.val % 3 = 1) := (by decide +kernel : ∀ t : Fin grid0.N, _)
theorem idle_6 : ∀ t : Fin cfg0.N, cfg0.idle 6 (grid0.coords t) = !decide (t.val % 3 = 2) := (by decide +kernel : ∀ t : Fin grid0.N, _)
theorem idle_7 : ∀ t : Fin cfg0.N, cfg0.idle 7 (grid0.coords t) = !decide (t.val % 3 = 0) := (by decide +kernel : ∀ t : Fin grid0.N, _)
/-- The three are written back at the value's points. -/
theorem flush_5 (t : Fin cfg0.N) : (cfg0.win 5).flush t = decide (t.val % 3 = 2) := by rw [Bool.eq_iff_iff, flush0_5, decide_eq_true_iff]
theorem flush_6 (t : Fin cfg0.N) : (cfg0.win 6).flush t = decide (t.val % 3 = 2) := by rw [Bool.eq_iff_iff, flush0_6, decide_eq_true_iff]
theorem flush_7 (t : Fin cfg0.N) : (cfg0.win 7).flush t = decide (t.val % 3 = 2) := by rw [Bool.eq_iff_iff, flush0_7, decide_eq_true_iff]
/-- Before the key's point of a row block is done, nothing of it is in the second output's buffer. -/
theorem fresh_5 : ∀ n, n ≤ cfg0.N → cfg0.fresh 5 n = !decide (n % 3 = 2) :=
  Cfg.fresh_tab cfg0 5 _ rfl fun t => by
    rw [flush_5, idle_5]
    rcases (by omega : t.val % 3 = 0 ∨ t.val % 3 = 1 ∨ t.val % 3 = 2) with h | h | h
    · rw [h, show (t.val + 1) % 3 = 1 by omega]; rfl
    · rw [h, show (t.val + 1) % 3 = 2 by omega]; rfl
    · rw [h, show (t.val + 1) % 3 = 0 by omega]; rfl
/-- Before the query's point of a row block is done, nothing of it is in the last output's buffer. -/
theorem fresh_7 : ∀ n, n ≤ cfg0.N → cfg0.fresh 7 n = decide (n % 3 = 0) :=
  Cfg.fresh_tab cfg0 7 _ rfl fun t => by
    rw [flush_7, idle_7]
    rcases (by omega : t.val % 3 = 0 ∨ t.val % 3 = 1 ∨ t.val % 3 = 2) with h | h | h
    · rw [h, show (t.val + 1) % 3 = 1 by omega]; rfl
    · rw [h, show (t.val + 1) % 3 = 2 by omega]; rfl
    · rw [h, show (t.val + 1) % 3 = 0 by omega]; rfl

/-! ## What the scratch and the outputs' buffers hold -/

/-- Window 0's current buffer at point `t`. -/
abbrev ms0_0 (t : Fin cfg0.N) : Memref sig .tc .vmem S8x2048 .f32 := win0_0.stage (cfg0.slots t 0)
/-- Window 1's current buffer at point `t`. -/
abbrev ms0_1 (t : Fin cfg0.N) : Memref sig .tc .vmem S1x2048 .f32 := win0_1.stage (cfg0.slots t 1)
/-- Window 2's current buffer at point `t`. -/
abbrev ms0_2 (t : Fin cfg0.N) : Memref sig .tc .vmem S2048x1024 .bf16 := win0_2.stage (cfg0.slots t 2)
/-- Window 3's current buffer at point `t`. -/
abbrev ms0_3 (t : Fin cfg0.N) : Memref sig .tc .vmem S2048x128 .bf16 := win0_3.stage (cfg0.slots t 3)
/-- Window 4's current buffer at point `t`. -/
abbrev ms0_4 (t : Fin cfg0.N) : Memref sig .tc .vmem S8x1024 .bf16 := win0_4.stage (cfg0.slots t 4)
/-- Window 5's current buffer at point `t`. -/
abbrev ms0_5 (t : Fin cfg0.N) : Memref sig .tc .vmem S8x1024 .f32 := win0_5.stage (cfg0.slots t 5)
/-- Window 6's current buffer at point `t`. -/
abbrev ms0_6 (t : Fin cfg0.N) : Memref sig .tc .vmem S8x1024 .f32 := win0_6.stage (cfg0.slots t 6)
/-- Window 7's current buffer at point `t`. -/
abbrev ms0_7 (t : Fin cfg0.N) : Memref sig .tc .vmem S8x128 .f32 := win0_7.stage (cfg0.slots t 7)
/-- The scratch that holds the normed rows of the row block. -/
abbrev scr : Memref sig .tc .vmem S8x2048 .bf16 := Memref.whole cc0_scratch0

/-- After point `n` the scratch holds the normed rows of the point's row block. -/
def hAt (c : Dev nD) (n : ℕ) (h : n < cfg0.N) : Vec F S8x2048 .bf16 := k0_pay2 (iblk m c 0 (pq n h)) (iblk m c 1 (pq n h))
/-- What point `t` stores in the first output: the product with the point's columns of the weight, the query's scaled. -/
def out4 (c : Dev nD) (t : Fin cfg0.N) : Vec F S8x1024 .bf16 :=
  if t.val % 3 = 0 then k0_pay5 (hAt m c t.val t.isLt) (iblk m c 2 t) else k0_pay6 (hAt m c t.val t.isLt) (iblk m c 2 t)
/-- The key's block of the point's row block. -/
def out5 (c : Dev nD) (t : Fin cfg0.N) : Vec F S8x1024 .f32 := k0_pay4 (hAt m c t.val t.isLt) (iblk m c 2 (pk t.val t.isLt))
/-- The value's block, at the value's points. -/
def out6 (c : Dev nD) (t : Fin cfg0.N) : Vec F S8x1024 .f32 := k0_pay4 (hAt m c t.val t.isLt) (iblk m c 2 t)
/-- The gate's block of the point's row block. -/
def out7 (c : Dev nD) (t : Fin cfg0.N) : Vec F S8x128 .f32 :=
  k0_pay3 (iblk m c 0 (pq t.val t.isLt)) (iblk m c 1 (pq t.val t.isLt)) (iblk m c 3 (pq t.val t.isLt))

/-- What every scratch holds is any thing, as the launch hands it. -/
theorem any_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- The invariant before position `n`: at first the scratch at anything, later at what the point before left. -/
def Inv (c : Dev nD) : (n : ℕ) → n ≤ cfg0.N → sProp 𝕄
  | 0, _ => Pipeline.ΦA spec0 c
  | n + 1, hn => iprop(iprop(owns (c : Thread nD τ) scr fullShare (hAt m c n hn)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) scr fullShare (hAt m c n hn)) ∗ (∃ r, prngReg c r)) := rfl
theorem Inv_pos (c : Dev nD) (n : ℕ) (h : n ≤ cfg0.N) (hz : n ≠ 0) :
    Inv m c n h = iprop(iprop(owns (c : Thread nD τ) scr fullShare (hAt m c (n - 1) (by omega))) ∗ (∃ r, prngReg c r)) := by
  cases n with
  | zero => exact absurd rfl hz
  | succ n => rfl

/-- The invariant before any point gives the scratch at some contents. -/
theorem Inv_any (c : Dev nD) (n : ℕ) (h : n ≤ cfg0.N) : Inv m c n h ⊢ Pipeline.ΦA spec0 c := by
  cases n with
  | zero => exact Idealize.SL.BI.Entails.refl _
  | succ n =>
    rw [Inv_succ m c n h, any_eq]
    iintro ⟨HS, Hg⟩
    isplitl [HS]
    · iexists _; iexact HS
    iexact Hg

/-- The proof data: the arrays as the region finds them; each input's buffer at its block; the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
    | ⟨7, _⟩ => out7 m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val (Nat.le_of_lt t.isLt) := by
  dsimp only [dats]; exact Pipeline.Dat.Φ_castSucc (Inv m c) t

/-! What the body leaves in each buffer. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]

/-! What each input's buffer holds before the body: its block. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At the value's points the second output's buffer still holds the key's block. -/
theorem before0_5 (c : Dev nD) (t : Fin cfg0.N) (h : t.val % 3 = 2) (d) : (dats m 0 c).before 5 t d = out5 m c t := by
  rw [(dats m 0 c).before_out_traj 5 rfl (fun _ _ => rfl) (fun s hs hi hf => ?_) t.val t rfl d, fresh_5 t.val (Nat.le_of_lt t.isLt),
    if_neg (by rw [h]; exact Bool.false_ne_true), after0_5]
  · unfold out5 hAt
    rw [pq_pred t.val t.isLt _ (by omega), pk_pred t.val t.isLt _ (by omega)]
  · have h2 : s.val % 3 = 2 := by
      rw [fresh_5 s.val (Nat.le_of_lt s.isLt)] at hf
      simpa using hf
    rw [after0_5, after0_5]
    unfold out5 hAt
    rw [pq_pred s.val s.isLt _ (by omega), pk_pred s.val s.isLt _ (by omega)]
/-- At the value's points the last output's buffer still holds the gate's block. -/
theorem before0_7 (c : Dev nD) (t : Fin cfg0.N) (h : t.val % 3 = 2) (d) : (dats m 0 c).before 7 t d = out7 m c t := by
  rw [(dats m 0 c).before_out_traj 7 rfl (fun _ _ => rfl) (fun s hs hi hf => ?_) t.val t rfl d, fresh_7 t.val (Nat.le_of_lt t.isLt),
    if_neg (by rw [h]; exact Bool.false_ne_true), after0_7]
  · unfold out7
    rw [pq_pred t.val t.isLt _ (by omega)]
  · have h2 : s.val % 3 ≠ 0 := by
      rw [fresh_7 s.val (Nat.le_of_lt s.isLt)] at hf
      simpa using hf
    rw [after0_7, after0_7]
    unfold out7
    rw [pq_pred s.val s.isLt _ h2]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from rfl, after0_0]
theorem leaves_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from rfl, after0_1]
theorem leaves_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from rfl, after0_2]
theorem leaves_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from rfl, after0_3]
theorem leaves_4 (c : Dev nD) (t : Fin cfg0.N) : (dats m 0 c).leavesExact 4 t = owns (c : Thread nD τ) (ms0_4 t) fullShare (out4 m c t) := by
  rw [show (dats m 0 c).leavesExact 4 t = owns (c : Thread nD τ) (ms0_4 t) fullShare ((dats m 0 c).after 4 t) from by
    unfold Dat.leavesExact; rw [idle_4 t], after0_4]
theorem leaves_5 (c : Dev nD) (t : Fin cfg0.N) (h : t.val % 3 = 1) : (dats m 0 c).leavesExact 5 t = owns (c : Thread nD τ) (ms0_5 t) fullShare (out5 m c t) := by
  rw [show (dats m 0 c).leavesExact 5 t = owns (c : Thread nD τ) (ms0_5 t) fullShare ((dats m 0 c).after 5 t) from by
    unfold Dat.leavesExact; rw [show cfg0.idle 5 (cfg0.grid.coords t) = false from (idle_5 t).trans (by rw [h]; rfl)], after0_5]
theorem leaves_6 (c : Dev nD) (t : Fin cfg0.N) (h : t.val % 3 = 2) : (dats m 0 c).leavesExact 6 t = owns (c : Thread nD τ) (ms0_6 t) fullShare (out6 m c t) := by
  rw [show (dats m 0 c).leavesExact 6 t = owns (c : Thread nD τ) (ms0_6 t) fullShare ((dats m 0 c).after 6 t) from by
    unfold Dat.leavesExact; rw [show cfg0.idle 6 (cfg0.grid.coords t) = false from (idle_6 t).trans (by rw [h]; rfl)], after0_6]
theorem leaves_7 (c : Dev nD) (t : Fin cfg0.N) (h : t.val % 3 = 0) : (dats m 0 c).leavesExact 7 t = owns (c : Thread nD τ) (ms0_7 t) fullShare (out7 m c t) := by
  rw [show (dats m 0 c).leavesExact 7 t = owns (c : Thread nD τ) (ms0_7 t) fullShare ((dats m 0 c).after 7 t) from by
    unfold Dat.leavesExact; rw [show cfg0.idle 7 (cfg0.grid.coords t) = false from (idle_7 t).trans (by rw [h]; rfl)], after0_7]
theorem leaves_5_back (c : Dev nD) (t : Fin cfg0.N) (h : t.val % 3 = 2) : (dats m 0 c).leavesExact 5 t = owns (c : Thread nD τ) (ms0_5 t) fullShare (out5 m c t) := by
  rw [show (dats m 0 c).leavesExact 5 t = owns (c : Thread nD τ) (ms0_5 t) fullShare ((dats m 0 c).after 5 t) from by
    unfold Dat.leavesExact
    rw [show cfg0.idle 5 (cfg0.grid.coords t) = true from (idle_5 t).trans (by rw [h]; rfl), show (cfg0.win 5).flush t = true from (flush_5 t).trans (by rw [h]; rfl)], after0_5]
theorem leaves_7_back (c : Dev nD) (t : Fin cfg0.N) (h : t.val % 3 = 2) : (dats m 0 c).leavesExact 7 t = owns (c : Thread nD τ) (ms0_7 t) fullShare (out7 m c t) := by
  rw [show (dats m 0 c).leavesExact 7 t = owns (c : Thread nD τ) (ms0_7 t) fullShare ((dats m 0 c).after 7 t) from by
    unfold Dat.leavesExact
    rw [show cfg0.idle 7 (cfg0.grid.coords t) = true from (idle_7 t).trans (by rw [h]; rfl), show (cfg0.win 7).flush t = true from (flush_7 t).trans (by rw [h]; rfl)], after0_7]
theorem keeps_5_0 (c : Dev nD) (t : Fin cfg0.N) (h : t.val % 3 = 0) : (dats m 0 c).leavesExact 5 t = iprop(∃ d, owns (c : Thread nD τ) (ms0_5 t) fullShare ((dats m 0 c).before 5 t d)) :=
  Dat.leavesExact_idle (dats m 0 c) 5 t ((idle_5 t).trans (by rw [h]; rfl)) ((flush_5 t).trans (by rw [h]; rfl))
theorem keeps_6_0 (c : Dev nD) (t : Fin cfg0.N) (h : t.val % 3 = 0) : (dats m 0 c).leavesExact 6 t = iprop(∃ d, owns (c : Thread nD τ) (ms0_6 t) fullShare ((dats m 0 c).before 6 t d)) :=
  Dat.leavesExact_idle (dats m 0 c) 6 t ((idle_6 t).trans (by rw [h]; rfl)) ((flush_6 t).trans (by rw [h]; rfl))
theorem keeps_6_1 (c : Dev nD) (t : Fin cfg0.N) (h : t.val % 3 = 1) : (dats m 0 c).leavesExact 6 t = iprop(∃ d, owns (c : Thread nD τ) (ms0_6 t) fullShare ((dats m 0 c).before 6 t d)) :=
  Dat.leavesExact_idle (dats m 0 c) 6 t ((idle_6 t).trans (by rw [h]; rfl)) ((flush_6 t).trans (by rw [h]; rfl))
theorem keeps_7_1 (c : Dev nD) (t : Fin cfg0.N) (h : t.val % 3 = 1) : (dats m 0 c).leavesExact 7 t = iprop(∃ d, owns (c : Thread nD τ) (ms0_7 t) fullShare ((dats m 0 c).before 7 t d)) :=
  Dat.leavesExact_idle (dats m 0 c) 7 t ((idle_7 t).trans (by rw [h]; rfl)) ((flush_7 t).trans (by rw [h]; rfl))

set_option maxHeartbeats 4000000 in
/-- The body at the query's points. -/
theorem sound_q (c : Dev nD) (t : Fin cfg0.N) (h : t.val % 3 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Inv m c (t.val + 1) t.isLt from rfl, Inv_succ, Inv_castSucc]
  obtain ⟨hc1, hc2, hc3, hc4⟩ := cond_q t h
  rw [leaves_0, leaves_1, leaves_2, leaves_3, leaves_4, keeps_5_0 m c t h, keeps_6_0 m c t h, leaves_7 m c t h]
  rw [show hAt m c t.val t.isLt = k0_pay2 (iblk m c 0 t) (iblk m c 1 t) from by unfold hAt; rw [pq_self t h]]
  rw [show out4 m c t = k0_pay5 (k0_pay2 (iblk m c 0 t) (iblk m c 1 t)) (iblk m c 2 t) from by unfold out4 hAt; rw [if_pos h, pq_self t h]]
  rw [show out7 m c t = k0_pay3 (iblk m c 0 t) (iblk m c 1 t) (iblk m c 3 t) from by unfold out7; rw [pq_self t h]]
  refine (Laws.sep_mono_left (Inv_any m c t.val (Nat.le_of_lt t.isLt))).trans ?_
  rw [any_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_q c (grid0.coords t) _ _ _ _ _ _ _ _ _ _ _ _ _ _ _ _ _ _ hc1 hc2 hc3 hc4 (iblk m c 0 t) (iblk m c 1 t) (iblk m c 2 t) (iblk m c 3 t) _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexists _; iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexact H7

set_option maxHeartbeats 4000000 in
/-- The body at the key's points. -/
theorem sound_k (c : Dev nD) (t : Fin cfg0.N) (h : t.val % 3 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Inv m c (t.val + 1) t.isLt from rfl, Inv_succ, Inv_castSucc]
  obtain ⟨hc1, hc2, hc3, hc4⟩ := cond_k t h
  rw [leaves_0, leaves_1, leaves_2, leaves_3, leaves_4, leaves_5 m c t h, keeps_6_1 m c t h, keeps_7_1 m c t h]
  rw [Inv_pos m c t.val _ (by omega)]
  rw [show hAt m c (t.val - 1) (by omega) = hAt m c t.val t.isLt from by unfold hAt; rw [pq_pred t.val t.isLt _ (by omega)]]
  rw [show out4 m c t = k0_pay6 (hAt m c t.val t.isLt) (iblk m c 2 t) from by unfold out4; rw [if_neg (by omega)]]
  rw [show out5 m c t = k0_pay4 (hAt m c t.val t.isLt) (iblk m c 2 t) from by unfold out5; rw [pk_self t h]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_k c (grid0.coords t) _ _ _ _ _ _ _ _ _ _ _ _ _ _ _ _ _ _ hc1 hc2 hc3 hc4 (iblk m c 0 t) (iblk m c 1 t) (iblk m c 2 t) (iblk m c 3 t) _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4000000 in
/-- The body at the value's points. -/
theorem sound_v (c : Dev nD) (t : Fin cfg0.N) (h : t.val % 3 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_5 m c t h, before0_7 m c t h]
  rw [show (dats m 0 c).owesAt () t.succ = (dats m 0 c).owesAt () t.castSucc from rfl]
  rw [show (dats m 0 c).Φ t.succ = Inv m c (t.val + 1) t.isLt from rfl, Inv_succ, Inv_castSucc]
  obtain ⟨hc1, hc2, hc3, hc4⟩ := cond_v t h
  rw [leaves_0, leaves_1, leaves_2, leaves_3, leaves_4, leaves_5_back m c t h, leaves_6 m c t h, leaves_7_back m c t h]
  rw [Inv_pos m c t.val _ (by omega)]
  rw [show hAt m c (t.val - 1) (by omega) = hAt m c t.val t.isLt from by unfold hAt; rw [pq_pred t.val t.isLt _ (by omega)]]
  rw [show out4 m c t = k0_pay7 (hAt m c t.val t.isLt) (iblk m c 2 t) from by unfold out4; rw [if_neg (by omega)]; rfl]
  rw [show out6 m c t = k0_pay4 (hAt m c t.val t.isLt) (iblk m c 2 t) from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_v c (grid0.coords t) _ _ _ _ _ _ _ _ _ _ _ _ _ _ _ _ _ _ hc1 hc2 hc3 hc4 (iblk m c 0 t) (iblk m c 1 t) (iblk m c 2 t) (iblk m c 3 t) _ _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [H7]; · iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  rcases (by omega : t.val % 3 = 0 ∨ t.val % 3 = 1 ∨ t.val % 3 = 2) with h | h | h
  · exact sound_q m c t h
  · exact sound_k m c t h
  · exact sound_v m c t h

/-- The body table's row at point `t` is the body. -/
theorem row_body (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]

/-- After the last point the invariant gives it back. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_any m c _ _

/-! ## The run and the frame -/

set_option backward.isDefEq.respectTransparency.types false in
/-- Every execution of @main ends, with each array of the pipeline at what the proof data computes, every other buffer as
    the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.QkvSIdeal.Body

end
-- ==== Proof.QkvS.lean ====
module

public import proofs.«01_k».proof.Proof.QkvSIdealFrame
public import proofs.«01_k».proof.Proof.Gen.QkvSRefIdeal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QkvSIdeal.Tie

open Cert.QkvSIdeal Cert.QkvSIdeal.Gen Cert.QkvSIdeal.Body

variable (m : (ℓ : Loc nD τ sig) → Buf (Elt Ideal) ℓ)

/-! ## What the reference computes -/

/-- The reference's root-mean-square norm of the rows of `x`, times `g`. -/
abbrev NRM (X : FVec Ideal S8x1x2048 .f32) (G : FVec Ideal S2048 .f32) : FVec Ideal S8x1x2048 .f32 :=
  mulf (mulf X (broadcastInDim S8x1x2048 ![0, 1, 2] Cert.QkvSRefIdeal.Gen.bcast_S8x1x1_S8x1x2048_0_1_2
    (Host.rsqrt (addf (Host.divf (broadcastInDim Cert.QkvSRefIdeal.S8x1x1 ![0, 1] Cert.QkvSRefIdeal.Gen.bcast_S8x1_S8x1x1_0_1
      (Host.reduceAdd (mulf X X) (constant Cert.QkvSRefIdeal.S_ .f32 0x00000000#32) Cert.QkvSRefIdeal.Gen.reducesTo_S8x1x2048_S8x1_d2 Cert.QkvSRefIdeal.Gen.h_S_))
      (broadcastInDim Cert.QkvSRefIdeal.S8x1x1 ![] Cert.QkvSRefIdeal.Gen.bcast_S_S8x1x1 (constant Cert.QkvSRefIdeal.S_ .f32 0x45000000#32)))
      (broadcastInDim Cert.QkvSRefIdeal.S8x1x1 ![] Cert.QkvSRefIdeal.Gen.bcast_S_S8x1x1 (constant Cert.QkvSRefIdeal.S_ .f32 0x358637BD#32))))))
    (broadcastInDim S8x1x2048 ![0, 1, 2] Cert.QkvSRefIdeal.Gen.bcast_S1x1x2048_S8x1x2048_0_1_2
      (broadcastInDim Cert.QkvSRefIdeal.S1x1x2048 ![2] Cert.QkvSRefIdeal.Gen.bcast_S2048_S1x1x2048_2 G))

/-- The reference's projection `norm(x) * g @ w`, all columns. -/
abbrev PROJ (X : FVec Ideal S8x1x2048 .f32) (G : FVec Ideal S2048 .f32) (Wt : FVec Ideal S2048x7176 .f32) : FVec Ideal Cert.QkvSRefIdeal.S8x1x7176 .f32 :=
  Host.dotGeneral Cert.QkvSRefIdeal.dot_S8x1x2048_S2048x7176_S8x1x7176_2_0_01_1_n_n none (NRM X G) Wt

/-- The queries' columns of the projection, over the root of the head's width and the logarithm of 2. -/
abbrev REFQ (Z : FVec Ideal Cert.QkvSRefIdeal.S8x1x7176 .f32) : FVec Ideal Cert.QkvSRefIdeal.S8x1x1024 .f32 :=
  Host.divf (extractStridedSlice Cert.QkvSRefIdeal.S8x1x1024 ![0, 0, 0] Z Cert.QkvSRefIdeal.Gen.slices_S8x1x7176_S8x1x1024_0_0_0)
    (broadcastInDim Cert.QkvSRefIdeal.S8x1x1024 ![] Cert.QkvSRefIdeal.Gen.bcast_S_S8x1x1024
      (mulf (Host.sqrt (constant Cert.QkvSRefIdeal.S_ .f32 0x43000000#32)) (Host.log (constant Cert.QkvSRefIdeal.S_ .f32 0x40000000#32))))

/-- The keys' columns. -/
abbrev REFK (Z : FVec Ideal Cert.QkvSRefIdeal.S8x1x7176 .f32) : FVec Ideal Cert.QkvSRefIdeal.S8x1x1024 .f32 :=
  extractStridedSlice Cert.QkvSRefIdeal.S8x1x1024 ![0, 0, 1024] Z Cert.QkvSRefIdeal.Gen.slices_S8x1x7176_S8x1x1024_0_0_1024

/-- The values' columns. -/
abbrev REFV (Z : FVec Ideal Cert.QkvSRefIdeal.S8x1x7176 .f32) : FVec Ideal Cert.QkvSRefIdeal.S8x1x1024 .f32 :=
  extractStridedSlice Cert.QkvSRefIdeal.S8x1x1024 ![0, 0, 2048] Z Cert.QkvSRefIdeal.Gen.slices_S8x1x7176_S8x1x1024_0_0_2048

/-- The forget gates' columns, filled up with zeros to a full row of lanes. -/
abbrev REFF (Z : FVec Ideal Cert.QkvSRefIdeal.S8x1x7176 .f32) : FVec Ideal Cert.QkvSRefIdeal.S8x1x128 .f32 :=
  pad Cert.QkvSRefIdeal.S8x1x128 ![0, 0, 0] ![0, 0, 120] ![0, 0, 0]
    (extractStridedSlice Cert.QkvSRefIdeal.S8x1x8 ![0, 0, 3072] Z Cert.QkvSRefIdeal.Gen.slices_S8x1x7176_S8x1x8_0_0_3072)
    (sitofp .f32 (constantI Cert.QkvSRefIdeal.S_ 32 0#32)) Cert.QkvSRefIdeal.Gen.pads_S8x1x8_S8x1x128_000_000_01200 Cert.QkvSRefIdeal.Gen.h_S_

/-- The first result: scaled queries, keys and values side by side. -/
abbrev REF0 (Z : FVec Ideal Cert.QkvSRefIdeal.S8x1x7176 .f32) : FVec Ideal S8x3072 .bf16 :=
  shapeCast S8x3072 (truncf .bf16 (concatenate Cert.QkvSRefIdeal.S8x1x3072 2 [⟨Cert.QkvSRefIdeal.S8x1x1024, REFQ Z⟩,
    ⟨Cert.QkvSRefIdeal.S8x1x1024, REFK Z⟩, ⟨Cert.QkvSRefIdeal.S8x1x1024, REFV Z⟩]
    Cert.QkvSRefIdeal.Gen.concatenates_S8x1x1024_S8x1x1024_S8x1x1024_S8x1x3072_d2) Cert.QkvSRefIdeal.Gen.bitsLt_bf16_f32)
    Cert.QkvSRefIdeal.Gen.shapeCasts_S8x1x3072_S8x3072

/-- The second result, the keys; -/
abbrev REF1 (Z : FVec Ideal Cert.QkvSRefIdeal.S8x1x7176 .f32) : FVec Ideal S8x1024 .f32 :=
  shapeCast S8x1024 (REFK Z) Cert.QkvSRefIdeal.Gen.shapeCasts_S8x1x1024_S8x1024

/-- the third, the values; -/
abbrev REF2 (Z : FVec Ideal Cert.QkvSRefIdeal.S8x1x7176 .f32) : FVec Ideal S8x1024 .f32 :=
  shapeCast S8x1024 (REFV Z) Cert.QkvSRefIdeal.Gen.shapeCasts_S8x1x1024_S8x1024

/-- the last, the forget gates' columns. -/
abbrev REF3 (Z : FVec Ideal Cert.QkvSRefIdeal.S8x1x7176 .f32) : FVec Ideal S8x128 .f32 :=
  shapeCast S8x128 (REFF Z) Cert.QkvSRefIdeal.Gen.shapeCasts_S8x1x128_S8x128

/-- The batch and the time step of a row of the joined rows. -/
abbrev bat (r : Fin 8) : Fin 8 := r
abbrev tim (r : Fin 8) : Fin 1 := 0

/-- The reference's norm at an index. -/
theorem nrm_apply (X : FVec Ideal S8x1x2048 .f32) (G : FVec Ideal S2048 .f32) (b : Fin 8) (r : Fin 1) (k : Fin 2048) :
    NRM X G (ix3 b r k) = Rows.norm (fun j => X (ix3 b r j)) (fun j => G (ix1 j)) k := by
  obtain rfl : r = 0 := Subsingleton.elim _ _
  pointwise [NRM, Rows.norm, Rows.rms]

/-- The reference's projection at an index. -/
theorem proj_apply (X : FVec Ideal S8x1x2048 .f32) (G : FVec Ideal S2048 .f32) (Wt : FVec Ideal S2048x7176 .f32) (b : Fin 8) (r : Fin 1) (j : Fin 7176) :
    PROJ X G Wt (ix3 b r j) = ∑ k : Fin 2048, Rows.norm (fun j => X (ix3 b r j)) (fun j => G (ix1 j)) k * Wt (ix2 k j) := by
  unfold PROJ
  generalize hN : NRM X G = N
  pointwise
  subst hN
  simp only [nrm_apply]

/-- The queries' divisor. -/
theorem den : Ideal.sqrt (Ideal.ofBits .f32 0x43000000#32) * Ideal.log (Ideal.ofBits .f32 0x40000000#32)
    = ((Real.sqrt 128 * Real.log 2 : ℝ) : EReal) := by
  have e : Ideal.ofBits .f32 0x43000000#32 = ((128 : ℝ) : EReal) := by
    simp [Ideal.ofBits, Ideal.ieee]
    norm_cast
    push_cast
    norm_num
  have e' : Ideal.ofBits .f32 0x40000000#32 = ((2 : ℝ) : EReal) := by
    simp [Ideal.ofBits, Ideal.ieee]
    norm_cast
    push_cast
    norm_num
  rw [e, e']
  show (if (128 : ℝ) < 0 then ⊥ else ((Real.sqrt 128 : ℝ) : EReal)) * (if (2 : ℝ) ≤ 0 then ⊥ else ((Real.log 2 : ℝ) : EReal)) = _
  rw [if_neg (by norm_num), if_neg (by norm_num), EReal.coe_mul]

/-- The queries' factor. -/
abbrev scale : EReal := (((Real.sqrt 128)⁻¹ * (Real.log 2)⁻¹ : ℝ) : EReal)

/-- To divide by the divisor is to multiply by the factor. -/
theorem div_den (z : EReal) : Ideal.div z ((Real.sqrt 128 * Real.log 2 : ℝ) : EReal) = z * scale := by
  have h : Real.sqrt 128 * Real.log 2 ≠ 0 := (mul_pos (Real.sqrt_pos.2 (by norm_num)) (Real.log_pos (by norm_num))).ne'
  unfold Ideal.div scale
  rw [if_neg (by exact_mod_cast h), ← mul_inv, EReal.coe_inv]

/-- The first result at an index. -/
theorem ref0_apply (Z : FVec Ideal Cert.QkvSRefIdeal.S8x1x7176 .f32) (i : S8x3072.Idx) :
    REF0 Z i = if (i 1).val < 1024 then Z (ix3 (bat (i 0)) (tim (i 0)) ⟨(i 1).val, by idx_bounds; omega⟩) * scale
      else Z (ix3 (bat (i 0)) (tim (i 0)) ⟨(i 1).val, by idx_bounds; omega⟩) := by
  idx_vars i
  pointwise [REF0]
  by_cases h1 : i1.val < 1024
  · rw [dif_pos h1, if_pos h1, den, div_den]
  · rw [dif_neg h1, if_neg h1]
    by_cases h2 : i1.val - 1024 < 1024
    · rw [dif_pos h2]
      congr 2
      exact Fin.ext (by dsimp only; omega)
    · rw [dif_neg h2]
      congr 2
      exact Fin.ext (by dsimp only; omega)

/-- The keys at an index. -/
theorem ref1_apply (Z : FVec Ideal Cert.QkvSRefIdeal.S8x1x7176 .f32) (i : S8x1024.Idx) :
    REF1 Z i = Z (ix3 (bat (i 0)) (tim (i 0)) ⟨1024 + (i 1).val, by idx_bounds; omega⟩) := by
  idx_vars i
  pointwise [REF1]

/-- The values at an index. -/
theorem ref2_apply (Z : FVec Ideal Cert.QkvSRefIdeal.S8x1x7176 .f32) (i : S8x1024.Idx) :
    REF2 Z i = Z (ix3 (bat (i 0)) (tim (i 0)) ⟨2048 + (i 1).val, by idx_bounds; omega⟩) := by
  idx_vars i
  pointwise [REF2]

/-- The integer zero as a float. -/
theorem zero_word : FloatOps.sitofp (F := Ideal) .f32 (0#32 : BitVec 32) = (0 : EReal) := by
  show (((0#32 : BitVec 32).toInt : ℝ) : EReal) = 0
  simp

/-- The gates at an index. -/
theorem ref3_apply (Z : FVec Ideal Cert.QkvSRefIdeal.S8x1x7176 .f32) (i : S8x128.Idx) :
    REF3 Z i = if h : (i 1).val < 8 then Z (ix3 (bat (i 0)) (tim (i 0)) ⟨3072 + (i 1).val, by omega⟩) else 0 := by
  idx_vars i
  pointwise [REF3]
  have hb : i0.val / 1 < 8 := by omega
  have ht : i0.val % 1 < 1 := by omega
  by_cases h : i1.val < 8
  · have h' : i0.val / 1 < 8 ∧ i0.val % 1 < 1 ∧ i1.val < 8 := ⟨hb, ht, h⟩
    simp only [dif_pos h', dif_pos h]
  · have h' : ¬(i0.val / 1 < 8 ∧ i0.val % 1 < 1 ∧ i1.val < 8) := fun h'' => h h''.2.2
    simp only [dif_neg h', dif_neg h]
    exact zero_word

/-! ## What the kernel's windows read -/

/-- The first window's rows: `x`, batch and time joined. -/
theorem V_x (c : Dev nD) : V m c main_v5 = shapeCast S8x2048 (m ((c : Thread nD τ).loc main_arg0)) shapeCasts_S8x1x2048_S8x2048 := by
  entry_read
  rfl

/-- The second window's gain, as one row. -/
theorem V_g (c : Dev nD) : V m c main_v6 = shapeCast S1x2048 (m ((c : Thread nD τ).loc main_arg1)) shapeCasts_S2048_S1x2048 := by
  entry_read
  rfl

/-- The weight's columns of queries, keys and values. -/
abbrev WQKV (Wt : FVec Ideal S2048x7176 .f32) : FVec Ideal S2048x3072 .bf16 :=
  truncf .bf16 (extractStridedSlice S2048x3072 ![0, 0] Wt slices_S2048x7176_S2048x3072_0_0) bitsLt_bf16_f32
/-- The weight's columns of forget gates, filled up with zeros. -/
abbrev WFL (Wt : FVec Ideal S2048x7176 .f32) : FVec Ideal S2048x128 .bf16 :=
  truncf .bf16 (pad S2048x128 ![0, 0] ![0, 120] ![0, 0] (extractStridedSlice S2048x8 ![0, 3072] Wt slices_S2048x7176_S2048x8_0_3072)
    (sitofp .f32 (constantI S_ 32 0#32)) pads_S2048x8_S2048x128_000_01200 h_S_) bitsLt_bf16_f32

/-- The third window's array. -/
theorem V_w (c : Dev nD) : V m c main_v1 = WQKV (m ((c : Thread nD τ).loc main_arg2)) := by
  entry_read
  rfl

/-- The fourth window's array. -/
theorem V_f (c : Dev nD) : V m c main_v4 = WFL (m ((c : Thread nD τ).loc main_arg2)) := by
  rfl

/-- The joined rows at an index. -/
theorem cast_apply (A : FVec Ideal S8x1x2048 .f32) (i : S8x2048.Idx) :
    shapeCast S8x2048 A shapeCasts_S8x1x2048_S8x2048 i = A (ix3 (bat (i 0)) (tim (i 0)) (i 1)) := by
  idx_vars i
  pointwise

/-- The gain as one row at an index. -/
theorem cast_row_apply (A : FVec Ideal S2048 .f32) (i : S1x2048.Idx) :
    shapeCast S1x2048 A shapeCasts_S2048_S1x2048 i = A (ix1 (i 1)) := by
  idx_vars i
  pointwise

/-- The third window's array at an index. -/
theorem wqkv_apply (Wt : FVec Ideal S2048x7176 .f32) (i : S2048x3072.Idx) : WQKV Wt i = Wt (ix2 (i 0) ⟨(i 1).val, by idx_bounds; omega⟩) := by
  idx_vars i
  pointwise [WQKV]

/-- The fourth window's array at an index. -/
theorem wfl_apply (Wt : FVec Ideal S2048x7176 .f32) (i : S2048x128.Idx) :
    WFL Wt i = if h : (i 1).val < 8 then Wt (ix2 (i 0) ⟨3072 + (i 1).val, by omega⟩) else 0 := by
  idx_vars i
  pointwise [WFL]
  by_cases h : i1.val < 8
  · rw [dif_pos h, dif_pos h]
  · rw [dif_neg h, dif_neg h]
    exact zero_word

/-! ## The body's arithmetic -/

/-- The normed block that the query's point stores in the scratch. -/
theorem pay2_apply (x : FVec Ideal S8x2048 .f32) (g : FVec Ideal S1x2048 .f32) (y : S8x2048.Idx) :
    k0_pay2 (F := Ideal) x g y = Rows.norm (fun j => x (ix2 (y 0) j)) (fun j => g (ix2 0 j)) (y 1) := by
  idx_vars y
  pointwise [k0_pay2, k0_pay1, Rows.norm, Rows.rms]

/-- The gates' product. -/
theorem pay3_apply (x : FVec Ideal S8x2048 .f32) (g : FVec Ideal S1x2048 .f32) (w : FVec Ideal S2048x128 .bf16) (y : S8x128.Idx) :
    k0_pay3 (F := Ideal) x g w y = ∑ k : Fin 2048, Rows.norm (fun j => x (ix2 (y 0) j)) (fun j => g (ix2 0 j)) k * w (ix2 k (y 1)) := by
  have h : k0_pay2 (F := Ideal) x g = k0_pay1 x g := by unfold k0_pay2; exact shapeCast_self _ _
  idx_vars y
  unfold k0_pay3
  generalize hN : k0_pay1 (F := Ideal) x g = N
  pointwise
  subst hN
  simp only [← h, pay2_apply]
  rfl

/-- The product with a column block of the weight. -/
theorem pay4_apply (a : FVec Ideal S8x2048 .bf16) (b : FVec Ideal S2048x1024 .bf16) (y : S8x1024.Idx) :
    k0_pay4 (F := Ideal) a b y = ∑ k : Fin 2048, a (ix2 (y 0) k) * b (ix2 k (y 1)) := by
  idx_vars y
  pointwise [k0_pay4]

/-- The queries' product is scaled. -/
theorem pay5_apply (a : FVec Ideal S8x2048 .bf16) (b : FVec Ideal S2048x1024 .bf16) (y : S8x1024.Idx) :
    k0_pay5 (F := Ideal) a b y = (k0_pay4 (F := Ideal) a b y : EReal) * scale := rfl

/-- The keys' and values' product is not. -/
theorem pay6_apply (a : FVec Ideal S8x2048 .bf16) (b : FVec Ideal S2048x1024 .bf16) (y : S8x1024.Idx) :
    k0_pay6 (F := Ideal) a b y = (k0_pay4 (F := Ideal) a b y : EReal) := rfl

/-! ## The blocks -/

/-- The blocks' places: one row block, of 3 column blocks. -/
theorem idx : ∀ t : Fin cfg0.N, win0_0.index t = ![t.val / 3, 0] ∧ win0_1.index t = ![0, 0] ∧ win0_2.index t = ![0, t.val % 3]
    ∧ win0_3.index t = ![0, 0] ∧ win0_4.index t = ![t.val / 3, t.val % 3] ∧ win0_5.index t = ![t.val / 3, 0]
    ∧ win0_6.index t = ![t.val / 3, 0] ∧ win0_7.index t = ![t.val / 3, 0] :=
  (by decide +kernel : ∀ t : Fin grid0.N, _)

/-- The arguments, and the reference's projection of them. -/
abbrev aX (c : Dev nD) : FVec Ideal S8x1x2048 .f32 := m ((c : Thread nD τ).loc main_arg0)
abbrev aG (c : Dev nD) : FVec Ideal S2048 .f32 := m ((c : Thread nD τ).loc main_arg1)
abbrev aW (c : Dev nD) : FVec Ideal S2048x7176 .f32 := m ((c : Thread nD τ).loc main_arg2)
abbrev Z (c : Dev nD) : FVec Ideal Cert.QkvSRefIdeal.S8x1x7176 .f32 := PROJ (aX m c) (aG m c) (aW m c)

/-- The normed row `r` of the joined rows. -/
def row (c : Dev nD) (r : Fin 8) (k : Fin 2048) : EReal :=
  Rows.norm (fun j => aX m c (ix3 (bat r) (tim r) j)) (fun j => aG m c (ix1 j)) k

/-- The projection, as sums over the normed row. -/
theorem Z_apply (c : Dev nD) (r : Fin 8) (j : Fin 7176) : Z m c (ix3 (bat r) (tim r) j) = ∑ k : Fin 2048, row m c r k * aW m c (ix2 k j) :=
  proj_apply _ _ _ _ _ _

/-- The joined row that row `y` of a row block is. -/
abbrev at_ (n : ℕ) (h : n < cfg0.N) (y : Fin 8) : Fin 8 := ⟨n / 3 * 8 + y.val, by have := lt_of_lt_of_eq h N_0; omega⟩

/-- A row of the first window's block. -/
theorem blk_x (c : Dev nD) (t : Fin cfg0.N) (y : Fin 8) (j : Fin 2048) :
    (iblk m c 0 t : FVec Ideal S8x2048 .f32) (ix2 y j) = aX m c (ix3 (bat (at_ t.val t.isLt y)) (tim (at_ t.val t.isLt y)) j) := by
  have e : (iblk m c 0 t : FVec Ideal S8x2048 .f32) (ix2 y j)
      = (shapeCast S8x2048 (aX m c) shapeCasts_S8x1x2048_S8x2048 : FVec Ideal S8x2048 .f32) (ix2 (at_ t.val t.isLt y) j) := by
    blk_simp [iblk]
    rw [V_x]
    blk_ext [idx t]
  rw [e, cast_apply]
  rfl

/-- The second window's block is the gain. -/
theorem blk_g (c : Dev nD) (t : Fin cfg0.N) (j : Fin 2048) : (iblk m c 1 t : FVec Ideal S1x2048 .f32) (ix2 0 j) = aG m c (ix1 j) := by
  blk_simp [iblk]
  rw [V_g, cast_row_apply]
  blk_ext [idx t]

/-- The third window's block: the point's 1024 columns of the weight. -/
theorem blk_w (c : Dev nD) (t : Fin cfg0.N) (k : Fin 2048) (j : Fin 1024) :
    (iblk m c 2 t : FVec Ideal S2048x1024 .bf16) (ix2 k j) = aW m c (ix2 k ⟨t.val % 3 * 1024 + j.val, by omega⟩) := by
  blk_simp [iblk]
  rw [V_w, wqkv_apply]
  blk_ext [idx t]

/-- The fourth window's block: the gates' columns of the weight, then zeros. -/
theorem blk_f (c : Dev nD) (t : Fin cfg0.N) (k : Fin 2048) (j : Fin 128) :
    (iblk m c 3 t : FVec Ideal S2048x128 .bf16) (ix2 k j) = if h : j.val < 8 then aW m c (ix2 k ⟨3072 + j.val, by omega⟩) else 0 := by
  have e : (iblk m c 3 t : FVec Ideal S2048x128 .bf16) (ix2 k j) = WFL (aW m c) (ix2 k j) := by
    blk_simp [iblk]
    rw [V_f]
    blk_ext [idx t]
  rw [e, wfl_apply]
  rfl

/-- The scratch holds the normed rows of the point's row block. -/
theorem hAt_apply (c : Dev nD) (n : ℕ) (h : n < cfg0.N) (y : S8x2048.Idx) :
    (hAt m c n h : FVec Ideal S8x2048 .bf16) y = row m c (at_ n h (y 0)) (y 1) := by
  unfold hAt
  idx_vars y
  refine (pay2_apply _ _ _).trans ?_
  unfold row
  have e : 3 * (n / 3) / 3 = n / 3 := by omega
  congr 1
  · funext j
    refine (blk_x m c _ _ j).trans ?_
    simp only [pq, at_, e]
    rfl
  · funext j
    exact blk_g m c _ j

/-- A product of a row block with the columns of a point `s`. -/
theorem prod_apply (c : Dev nD) (n : ℕ) (h : n < cfg0.N) (s : Fin cfg0.N) (y : S8x1024.Idx) :
    k0_pay4 (F := Ideal) (hAt m c n h) (iblk m c 2 s) y
      = Z m c (ix3 (bat (at_ n h (y 0))) (tim (at_ n h (y 0))) ⟨s.val % 3 * 1024 + (y 1).val, by idx_bounds; omega⟩) := by
  rw [Z_apply]
  refine (pay4_apply _ _ y).trans ?_
  refine Finset.sum_congr rfl fun k _ => ?_
  exact congrArg₂ (· * ·) (hAt_apply m c n h _) (blk_w m c s k (y 1))

/-- What a point stores in the first output. -/
theorem out4_apply (c : Dev nD) (t : Fin cfg0.N) (y : S8x1024.Idx) :
    (out4 m c t : FVec Ideal S8x1024 .bf16) y = REF0 (Z m c) (((cfg0.win 4).blk t).view.emb y) := by
  have e0 : (((((cfg0.win 4).blk t).view.emb y) 0 : Fin 8) : ℕ) = t.val / 3 * 8 + (y 0).val := by blk_simp [idx t]
  have e1 : (((((cfg0.win 4).blk t).view.emb y) 1 : Fin 3072) : ℕ) = t.val % 3 * 1024 + (y 1).val := by blk_simp [idx t]
  have hy : (y 1).val < 1024 := (y 1).isLt
  have E0 : (((cfg0.win 4).blk t).view.emb y) 0 = at_ t.val t.isLt (y 0) := Fin.ext e0
  rw [ref0_apply]
  unfold out4
  by_cases h : t.val % 3 = 0
  · rw [if_pos h, if_pos (by rw [e1]; omega)]
    refine (pay5_apply _ _ y).trans ?_
    rw [prod_apply]
    simp only [E0, e1]
  · rw [if_neg h, if_neg (by rw [e1]; omega)]
    refine (pay6_apply _ _ y).trans ?_
    rw [prod_apply]
    simp only [E0, e1]

/-- The key's block of a row block. -/
theorem out5_apply (c : Dev nD) (t : Fin cfg0.N) (y : S8x1024.Idx) :
    (out5 m c t : FVec Ideal S8x1024 .f32) y = REF1 (Z m c) (((cfg0.win 5).blk t).view.emb y) := by
  have e0 : (((((cfg0.win 5).blk t).view.emb y) 0 : Fin 8) : ℕ) = t.val / 3 * 8 + (y 0).val := by blk_simp [idx t]
  have e1 : (((((cfg0.win 5).blk t).view.emb y) 1 : Fin 1024) : ℕ) = (y 1).val := by blk_simp [idx t]
  have E0 : (((cfg0.win 5).blk t).view.emb y) 0 = at_ t.val t.isLt (y 0) := Fin.ext e0
  have e : (pk t.val t.isLt).val % 3 * 1024 = 1024 := by unfold pk; dsimp only; omega
  rw [ref1_apply]
  unfold out5
  rw [prod_apply]
  simp only [E0, e1, e]

/-- The value's block of a row block, at the point that writes it back. -/
theorem out6_apply (c : Dev nD) (t : Fin cfg0.N) (h : t.val % 3 = 2) (y : S8x1024.Idx) :
    (out6 m c t : FVec Ideal S8x1024 .f32) y = REF2 (Z m c) (((cfg0.win 6).blk t).view.emb y) := by
  have e0 : (((((cfg0.win 6).blk t).view.emb y) 0 : Fin 8) : ℕ) = t.val / 3 * 8 + (y 0).val := by blk_simp [idx t]
  have e1 : (((((cfg0.win 6).blk t).view.emb y) 1 : Fin 1024) : ℕ) = (y 1).val := by blk_simp [idx t]
  have E0 : (((cfg0.win 6).blk t).view.emb y) 0 = at_ t.val t.isLt (y 0) := Fin.ext e0
  have e : t.val % 3 * 1024 = 2048 := by omega
  rw [ref2_apply]
  unfold out6
  rw [prod_apply]
  simp only [E0, e1, e]

/-- The gate's block of a row block. -/
theorem out7_apply (c : Dev nD) (t : Fin cfg0.N) (y : S8x128.Idx) :
    (out7 m c t : FVec Ideal S8x128 .f32) y = REF3 (Z m c) (((cfg0.win 7).blk t).view.emb y) := by
  have e0 : (((((cfg0.win 7).blk t).view.emb y) 0 : Fin 8) : ℕ) = t.val / 3 * 8 + (y 0).val := by blk_simp [idx t]
  have e1 : (((((cfg0.win 7).blk t).view.emb y) 1 : Fin 128) : ℕ) = (y 1).val := by blk_simp [idx t]
  have E0 : (((cfg0.win 7).blk t).view.emb y) 0 = at_ t.val t.isLt (y 0) := Fin.ext e0
  have e : 3 * (t.val / 3) / 3 = t.val / 3 := by omega
  rw [ref3_apply]
  unfold out7
  refine (pay3_apply _ _ _ y).trans ?_
  have hr : ∀ k, Rows.norm (fun j => (iblk m c 0 (pq t.val t.isLt) : FVec Ideal S8x2048 .f32) (ix2 (y 0) j))
      (fun j => (iblk m c 1 (pq t.val t.isLt) : FVec Ideal S1x2048 .f32) (ix2 0 j)) k = row m c (at_ t.val t.isLt (y 0)) k := fun k => by
    unfold row
    congr 1
    · funext j
      refine (blk_x m c _ _ j).trans ?_
      simp only [pq, at_, e]
    · funext j
      exact blk_g m c _ j
  have hf : ∀ k, (iblk m c 3 (pq t.val t.isLt) : FVec Ideal S2048x128 .bf16) (ix2 k (y 1)) = _ := fun k => blk_f m c _ k (y 1)
  simp only [E0, e1, hr]
  by_cases h : (y 1).val < 8
  · rw [dif_pos h, Z_apply]
    refine Finset.sum_congr rfl fun k _ => ?_
    rw [hf k, dif_pos h]
  · rw [dif_neg h]
    refine Finset.sum_eq_zero fun k _ => ?_
    rw [hf k, dif_neg h, mul_zero]

/-! ## The result arrays after the run are the reference's -/

/-- The scaled queries, the keys and the values side by side. -/
theorem final_a (c : Dev nD) : (dats m 0 c).arrAt 4 (cfgs 0).N = REF0 (Z m c) := by
  refine (dats m 0 c).arrAt_eq_of_covers 4 _ (by decide +kernel) fun t _ y => ?_
  blk_simp
  rw [after0_4]
  exact out4_apply m c t y

/-- The keys. -/
theorem final_b (c : Dev nD) : (dats m 0 c).arrAt 5 (cfgs 0).N = REF1 (Z m c) := by
  refine (dats m 0 c).arrAt_eq_of_covers 5 _ (by decide +kernel) fun t _ y => ?_
  blk_simp
  rw [after0_5]
  exact out5_apply m c t y

/-- The values. -/
theorem final_c (c : Dev nD) : (dats m 0 c).arrAt 6 (cfgs 0).N = REF2 (Z m c) := by
  refine (dats m 0 c).arrAt_eq_of_covers 6 _ (by decide +kernel) fun t hf y => ?_
  blk_simp
  rw [after0_6]
  exact out6_apply m c t ((flush0_6 t).mp hf) y

/-- The forget gates' columns. -/
theorem final_d (c : Dev nD) : (dats m 0 c).arrAt 7 (cfgs 0).N = REF3 (Z m c) := by
  refine (dats m 0 c).arrAt_eq_of_covers 7 _ (by decide +kernel) fun t _ y => ?_
  blk_simp
  rw [after0_7]
  exact out7_apply m c t y

/-- Every execution ends with the four results at the reference's and the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v7_0) = REF0 (Z m c)
      ∧ r.2.mem ((c.tc : Thread nD τ).loc main_v7_1) = REF1 (Z m c)
      ∧ r.2.mem ((c.tc : Thread nD τ).loc main_v7_2) = REF2 (Z m c)
      ∧ r.2.mem ((c.tc : Thread nD τ).loc main_v7_3) = REF3 (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 4).trans (final_a m c), ((h.1 c).1 5).trans (final_b m c), ((h.1 c).1 6).trans (final_c m c),
    ((h.1 c).1 7).trans (final_d m c), h.2 c⟩)
    (θ_run_and (run_main m ρ) (frame_of m ρ (dats m) (A_eq m) (run_main m ρ)))

end Cert.QkvSIdeal.Tie

end
-- ==== Proof.lean ====
/- The certificate: each program's frame, each kernel's idealization, and each kernel's results against its
   reference's, from the modules that prove them. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Mlp.Frame
public import proofs.«01_k».proof.Proof.Gen.MlpIdeal.Frame
public import proofs.«01_k».proof.Proof.Gen.MlpRefIdeal.Run
public import proofs.«01_k».proof.Proof.Gen.ProjIn.Frame
public import proofs.«01_k».proof.Proof.Gen.ProjInIdeal.Frame
public import proofs.«01_k».proof.Proof.Gen.ProjInRefIdeal.Run
public import proofs.«01_k».proof.Proof.Gen.Qkv.Frame
public import proofs.«01_k».proof.Proof.Gen.QkvIdeal.Frame
public import proofs.«01_k».proof.Proof.Gen.QkvRefIdeal.Run
public import proofs.«01_k».proof.Proof.Gen.OutEven.Frame
public import proofs.«01_k».proof.Proof.Gen.OutEvenIdeal.Frame
public import proofs.«01_k».proof.Proof.Gen.OutEvenRefIdeal.Run
public import proofs.«01_k».proof.Proof.Gen.OutOdd.Frame
public import proofs.«01_k».proof.Proof.Gen.OutOddIdeal.Frame
public import proofs.«01_k».proof.Proof.Gen.OutOddRefIdeal.Run
public import proofs.«01_k».proof.Proof.Gen.LruStep.Frame
public import proofs.«01_k».proof.Proof.Gen.LruStepIdeal.Frame
public import proofs.«01_k».proof.Proof.Gen.LruStepRefIdeal.Run
public import proofs.«01_k».proof.Proof.Gen.HgrnStep.Frame
public import proofs.«01_k».proof.Proof.Gen.HgrnStepIdeal.Frame
public import proofs.«01_k».proof.Proof.Gen.HgrnStepRefIdeal.Run
public import proofs.«01_k».proof.Proof.Gen.FoxLogf.Frame
public import proofs.«01_k».proof.Proof.Gen.FoxLogfIdeal.Frame
public import proofs.«01_k».proof.Proof.Gen.FoxLogfRefIdeal.Run
public import proofs.«01_k».proof.Proof.Gen.MlpS.Frame
public import proofs.«01_k».proof.Proof.Gen.MlpSIdeal.Frame
public import proofs.«01_k».proof.Proof.Gen.MlpSRefIdeal.Run
public import proofs.«01_k».proof.Proof.Gen.QkvS.Frame
public import proofs.«01_k».proof.Proof.Gen.QkvSIdeal.Frame
public import proofs.«01_k».proof.Proof.Gen.QkvSRefIdeal.Run
public import proofs.«01_k».proof.Proof.Gen.Pre_finite
public import proofs.«01_k».proof.Proof.FoxPre
public import proofs.«01_k».proof.Proof.Mlp
public import proofs.«01_k».proof.Proof.ProjIn
public import proofs.«01_k».proof.Proof.Qkv
public import proofs.«01_k».proof.Proof.OutEven
public import proofs.«01_k».proof.Proof.OutOdd
public import proofs.«01_k».proof.Proof.LruStep
public import proofs.«01_k».proof.Proof.HgrnStep
public import proofs.«01_k».proof.Proof.FoxLogf
public import proofs.«01_k».proof.Proof.MlpS
public import proofs.«01_k».proof.Proof.QkvS
public import proofs.«01_k».proof.Proof.Gen.Qkv.Skeleton
public import proofs.«01_k».proof.Proof.Gen.QkvIdeal.Skeleton
public import proofs.«01_k».proof.Proof.QkvFrame
public import proofs.«01_k».proof.Proof.QkvIdealFrame
public import proofs.«01_k».proof.Proof.Gen.QkvS.Skeleton
public import proofs.«01_k».proof.Proof.Gen.QkvSIdeal.Skeleton
public import proofs.«01_k».proof.Proof.QkvSFrame
public import proofs.«01_k».proof.Proof.QkvSIdealFrame
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference ReferenceIdeal runs, leaves its arguments and ends with every counter at zero. -/
theorem quiescent_ReferenceIdeal : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩) (Cert.ReferenceIdeal.Value.run m g)

/-- The reference ReferenceIdeal runs, leaves its arguments and ends with every counter at zero. -/
theorem quiescent_ReferenceIdeal_pre_finite : Cert.quiescent_ReferenceIdeal_pre_finite (hReferenceIdeal := Cert.ReferenceIdeal.Gen.facts) (hPre_finite := Cert.Pre_finite.Gen.facts) := by
  intro m g _
  exact (θ_run Cert.ReferenceIdeal.defs _ _).mono (fun r h => ⟨fun c => (h c).2, sem_eq_zero_of_no_sems (by decide) r.2⟩) (Cert.ReferenceIdeal.Value.run m g)

/-- The reference MlpRefIdeal runs, leaves its arguments and ends with every counter at zero. -/
theorem quiescent_MlpRefIdeal : Cert.quiescent_MlpRefIdeal (hMlpRefIdeal := Cert.MlpRefIdeal.Gen.facts) := by
  intro m g _
  exact (θ_run Cert.MlpRefIdeal.defs _ _).mono (fun r h => ⟨fun c => (h c).2.2, sem_eq_zero_of_no_sems (by decide) r.2⟩) (Cert.MlpRefIdeal.Value.run m g)

/-- The reference ProjInRefIdeal runs, leaves its arguments and ends with every counter at zero. -/
theorem quiescent_ProjInRefIdeal : Cert.quiescent_ProjInRefIdeal (hProjInRefIdeal := Cert.ProjInRefIdeal.Gen.facts) := by
  intro m g _
  exact (θ_run Cert.ProjInRefIdeal.defs _ _).mono (fun r h => ⟨fun c => (h c).2, sem_eq_zero_of_no_sems (by decide) r.2⟩) (Cert.ProjInRefIdeal.Value.run m g)

/-- The reference QkvRefIdeal runs, leaves its arguments and ends with every counter at zero. -/
theorem quiescent_QkvRefIdeal : Cert.quiescent_QkvRefIdeal (hQkvRefIdeal := Cert.QkvRefIdeal.Gen.facts) := by
  intro m g _
  exact (θ_run Cert.QkvRefIdeal.defs _ _).mono (fun r h => ⟨fun c => (h c).2.2.2.2, sem_eq_zero_of_no_sems (by decide) r.2⟩) (Cert.QkvRefIdeal.Value.run m g)

/-- The reference OutEvenRefIdeal runs, leaves its arguments and ends with every counter at zero. -/
theorem quiescent_OutEvenRefIdeal : Cert.quiescent_OutEvenRefIdeal (hOutEvenRefIdeal := Cert.OutEvenRefIdeal.Gen.facts) := by
  intro m g _
  exact (θ_run Cert.OutEvenRefIdeal.defs _ _).mono (fun r h => ⟨fun c => (h c).2, sem_eq_zero_of_no_sems (by decide) r.2⟩) (Cert.OutEvenRefIdeal.Value.run m g)

/-- The reference OutOddRefIdeal runs, leaves its arguments and ends with every counter at zero. -/
theorem quiescent_OutOddRefIdeal : Cert.quiescent_OutOddRefIdeal (hOutOddRefIdeal := Cert.OutOddRefIdeal.Gen.facts) := by
  intro m g _
  exact (θ_run Cert.OutOddRefIdeal.defs _ _).mono (fun r h => ⟨fun c => (h c).2, sem_eq_zero_of_no_sems (by decide) r.2⟩) (Cert.OutOddRefIdeal.Value.run m g)

/-- The reference LruStepRefIdeal runs, leaves its arguments and ends with every counter at zero. -/
theorem quiescent_LruStepRefIdeal : Cert.quiescent_LruStepRefIdeal (hLruStepRefIdeal := Cert.LruStepRefIdeal.Gen.facts) := by
  intro m g _
  exact (θ_run Cert.LruStepRefIdeal.defs _ _).mono (fun r h => ⟨fun c => (h c).2.2.2, sem_eq_zero_of_no_sems (by decide) r.2⟩) (Cert.LruStepRefIdeal.Value.run m g)

/-- The reference HgrnStepRefIdeal runs, leaves its arguments and ends with every counter at zero. -/
theorem quiescent_HgrnStepRefIdeal : Cert.quiescent_HgrnStepRefIdeal (hHgrnStepRefIdeal := Cert.HgrnStepRefIdeal.Gen.facts) := by
  intro m g _
  exact (θ_run Cert.HgrnStepRefIdeal.defs _ _).mono (fun r h => ⟨fun c => (h c).2.2, sem_eq_zero_of_no_sems (by decide) r.2⟩) (Cert.HgrnStepRefIdeal.Value.run m g)

/-- The reference FoxLogfRefIdeal runs, leaves its arguments and ends with every counter at zero. -/
theorem quiescent_FoxLogfRefIdeal : Cert.quiescent_FoxLogfRefIdeal (hFoxLogfRefIdeal := Cert.FoxLogfRefIdeal.Gen.facts) := by
  intro m g _
  exact (θ_run Cert.FoxLogfRefIdeal.defs _ _).mono (fun r h => ⟨fun c => (h c).2.2, sem_eq_zero_of_no_sems (by decide) r.2⟩) (Cert.FoxLogfRefIdeal.Value.run m g)

/-- The reference MlpSRefIdeal runs, leaves its arguments and ends with every counter at zero. -/
theorem quiescent_MlpSRefIdeal : Cert.quiescent_MlpSRefIdeal (hMlpSRefIdeal := Cert.MlpSRefIdeal.Gen.facts) := by
  intro m g _
  exact (θ_run Cert.MlpSRefIdeal.defs _ _).mono (fun r h => ⟨fun c => (h c).2.2, sem_eq_zero_of_no_sems (by decide) r.2⟩) (Cert.MlpSRefIdeal.Value.run m g)

/-- The reference QkvSRefIdeal runs, leaves its arguments and ends with every counter at zero. -/
theorem quiescent_QkvSRefIdeal : Cert.quiescent_QkvSRefIdeal (hQkvSRefIdeal := Cert.QkvSRefIdeal.Gen.facts) := by
  intro m g _
  exact (θ_run Cert.QkvSRefIdeal.defs _ _).mono (fun r h => ⟨fun c => (h c).2.2.2.2, sem_eq_zero_of_no_sems (by decide) r.2⟩) (Cert.QkvSRefIdeal.Value.run m g)

/-- The kernel's result is the reference's: the prompt's forgetting attention. -/
theorem algebraic_KernelIdeal_ReferenceIdeal_pre_finite : Cert.algebraic_KernelIdeal_ReferenceIdeal_pre_finite (hKernelIdeal := Cert.KernelIdeal.Gen.facts) (hReferenceIdeal := Cert.ReferenceIdeal.Gen.facts) (hPre_finite := Cert.Pre_finite.Gen.facts) := by
  pair_intro
  · run_from Cert.KernelIdeal.Gen.run_main m g
  · run_from Cert.ReferenceIdeal.Value.run m' g'
    have hfin := fun c => Cert.KernelIdeal.Tie.fin3 m hpre c
    unfold Cert.ReferenceIdeal.Value.res_main_v33
    simp only [hagree c]
    exact (Cert.KernelIdeal.Tie.final m c (hfin c)).symm

/-- The kernel's results are the reference's: the squared-ReLU MLP with its residual and the final norm. -/
theorem algebraic_MlpIdeal_MlpRefIdeal : Cert.algebraic_MlpIdeal_MlpRefIdeal (hMlpIdeal := Cert.MlpIdeal.Gen.facts) (hMlpRefIdeal := Cert.MlpRefIdeal.Gen.facts) := by
  pair_intro
  · run_from Cert.MlpIdeal.Gen.run_main m g
  · run_from Cert.MlpRefIdeal.Value.run m' g'
    · exact (Cert.MlpIdeal.Tie.final m c).symm
    · unfold Cert.MlpRefIdeal.Value.res_main_v32
      simp only [hagree c]
      exact (Cert.MlpIdeal.Tie.final_y m c).symm

/-- The kernel's results are the reference's: the layers' input projection: norm and product. -/
theorem algebraic_ProjInIdeal_ProjInRefIdeal : Cert.algebraic_ProjInIdeal_ProjInRefIdeal (hProjInIdeal := Cert.ProjInIdeal.Gen.facts) (hProjInRefIdeal := Cert.ProjInRefIdeal.Gen.facts) := by
  pair_intro
  · run_from Cert.ProjInIdeal.Gen.run_main m g
  · run_from Cert.ProjInRefIdeal.Value.run m' g'
    exact (Cert.ProjInIdeal.Tie.final m c).symm

/-- The kernel's results are the reference's: the layer's queries, keys, values and forget gates. -/
theorem algebraic_QkvIdeal_QkvRefIdeal : Cert.algebraic_QkvIdeal_QkvRefIdeal (hQkvIdeal := Cert.QkvIdeal.Gen.facts) (hQkvRefIdeal := Cert.QkvRefIdeal.Gen.facts) := by
  intro m g m' g' _ hagree
  refine ⟨_, _, _, _, Cert.QkvIdeal.Tie.run m g, (θ_run Cert.QkvRefIdeal.defs _ _).mono (fun r h c => ?_) (Cert.QkvRefIdeal.Value.run m' g')⟩
  obtain ⟨h0, h1, h2, h3, ha⟩ := h c
  obtain ⟨e0, e1, e2⟩ := hagree c
  rw [e0, e1, e2] at h0 h1 h2 h3
  exact ⟨h0, h1, h2, h3, ha⟩

/-- The kernel's results are the reference's: the even layers' output projection and residual. -/
theorem algebraic_OutEvenIdeal_OutEvenRefIdeal : Cert.algebraic_OutEvenIdeal_OutEvenRefIdeal (hOutEvenIdeal := Cert.OutEvenIdeal.Gen.facts) (hOutEvenRefIdeal := Cert.OutEvenRefIdeal.Gen.facts) := by
  pair_intro
  · run_from Cert.OutEvenIdeal.Gen.run_main m g
  · run_from Cert.OutEvenRefIdeal.Value.run m' g'
    exact (Cert.OutEvenIdeal.Tie.final m c).symm

/-- The kernel's results are the reference's: the odd layers' output projection and residual. -/
theorem algebraic_OutOddIdeal_OutOddRefIdeal : Cert.algebraic_OutOddIdeal_OutOddRefIdeal (hOutOddIdeal := Cert.OutOddIdeal.Gen.facts) (hOutOddRefIdeal := Cert.OutOddRefIdeal.Gen.facts) := by
  pair_intro
  · run_from Cert.OutOddIdeal.Gen.run_main m g
  · run_from Cert.OutOddRefIdeal.Value.run m' g'
    exact (Cert.OutOddIdeal.Tie.final m c).symm

/-- The kernel's results are the reference's: the RG-LRU's decode step, its output, the convolution's new state and the
    new hidden state. -/
theorem algebraic_LruStepIdeal_LruStepRefIdeal : Cert.algebraic_LruStepIdeal_LruStepRefIdeal (hLruStepIdeal := Cert.LruStepIdeal.Gen.facts) (hLruStepRefIdeal := Cert.LruStepRefIdeal.Gen.facts) := by
  pair_intro
  · run_from Cert.LruStepIdeal.Gen.run_main m g
  · run_from Cert.LruStepRefIdeal.Value.run m' g'
    · rw [Cert.LruStepRefIdeal.Tie.res_y]
      simp only [hagree c]
      exact (Cert.LruStepIdeal.Tie.final_y m c).symm
    · exact (Cert.LruStepIdeal.Tie.final_c m c).symm
    · rw [Cert.LruStepRefIdeal.Tie.res_h]
      simp only [hagree c]
      exact (Cert.LruStepIdeal.Tie.final_h m c).symm

/-- The kernel's results are the reference's: the HGRN2's decode step, its output and the new state. -/
theorem algebraic_HgrnStepIdeal_HgrnStepRefIdeal : Cert.algebraic_HgrnStepIdeal_HgrnStepRefIdeal (hHgrnStepIdeal := Cert.HgrnStepIdeal.Gen.facts) (hHgrnStepRefIdeal := Cert.HgrnStepRefIdeal.Gen.facts) := by
  pair_intro
  · run_from Cert.HgrnStepIdeal.Gen.run_main m g
  · run_from Cert.HgrnStepRefIdeal.Value.run m' g'
    · rw [Cert.HgrnStepRefIdeal.Tie.res_o]
      simp only [hagree c]
      exact (Cert.HgrnStepIdeal.Tie.final_o m c).symm
    · rw [Cert.HgrnStepRefIdeal.Tie.res_s]
      simp only [hagree c]
      exact (Cert.HgrnStepIdeal.Tie.final_s m c).symm

/-- The kernel's results are the reference's: the prompt's log-forget values and their scaled cumulative sums. -/
theorem algebraic_FoxLogfIdeal_FoxLogfRefIdeal : Cert.algebraic_FoxLogfIdeal_FoxLogfRefIdeal (hFoxLogfIdeal := Cert.FoxLogfIdeal.Gen.facts) (hFoxLogfRefIdeal := Cert.FoxLogfRefIdeal.Gen.facts) := by
  pair_intro
  · run_from Cert.FoxLogfIdeal.Gen.run_main m g
    · exact Cert.FoxLogfIdeal.Gen.W_main_arg0 m _ c
    · exact Cert.FoxLogfIdeal.Gen.W_main_arg1 m _ c
  · run_from Cert.FoxLogfRefIdeal.Value.run m' g'
    · exact (Cert.FoxLogfIdeal.Tie.final_l m c).symm
    · exact (Cert.FoxLogfIdeal.Tie.final_c m c).symm

/-- The kernel's results are the reference's: the squared-ReLU MLP with its residual and the final norm, at the decode's
    tokens. -/
theorem algebraic_MlpSIdeal_MlpSRefIdeal : Cert.algebraic_MlpSIdeal_MlpSRefIdeal (hMlpSIdeal := Cert.MlpSIdeal.Gen.facts) (hMlpSRefIdeal := Cert.MlpSRefIdeal.Gen.facts) := by
  pair_intro
  · run_from Cert.MlpSIdeal.Gen.run_main m g
  · run_from Cert.MlpSRefIdeal.Value.run m' g'
    · exact (Cert.MlpSIdeal.Tie.final m c).symm
    · unfold Cert.MlpSRefIdeal.Value.res_main_v32
      simp only [hagree c]
      exact (Cert.MlpSIdeal.Tie.final_y m c).symm

/-- The kernel's results are the reference's: the layer's queries, keys, values and forget gates, at the
    decode's tokens. -/
theorem algebraic_QkvSIdeal_QkvSRefIdeal : Cert.algebraic_QkvSIdeal_QkvSRefIdeal (hQkvSIdeal := Cert.QkvSIdeal.Gen.facts) (hQkvSRefIdeal := Cert.QkvSRefIdeal.Gen.facts) := by
  intro m g m' g' _ hagree
  refine ⟨_, _, _, _, Cert.QkvSIdeal.Tie.run m g, (θ_run Cert.QkvSRefIdeal.defs _ _).mono (fun r h c => ?_) (Cert.QkvSRefIdeal.Value.run m' g')⟩
  obtain ⟨h0, h1, h2, h3, ha⟩ := h c
  obtain ⟨e0, e1, e2⟩ := hagree c
  rw [e0, e1, e2] at h0 h1 h2 h3
  exact ⟨h0, h1, h2, h3, ha⟩

/-- The whole certificate. -/
theorem claim : Cert.Claim :=
  ⟨Cert.Kernel.Gen.facts, Cert.KernelIdeal.Gen.facts, Cert.ReferenceIdeal.Gen.facts, Cert.Mlp.Gen.facts, Cert.MlpIdeal.Gen.facts, Cert.MlpRefIdeal.Gen.facts, Cert.ProjIn.Gen.facts, Cert.ProjInIdeal.Gen.facts, Cert.ProjInRefIdeal.Gen.facts, Cert.Qkv.Gen.facts, Cert.QkvIdeal.Gen.facts, Cert.QkvRefIdeal.Gen.facts, Cert.OutEven.Gen.facts, Cert.OutEvenIdeal.Gen.facts, Cert.OutEvenRefIdeal.Gen.facts, Cert.OutOdd.Gen.facts, Cert.OutOddIdeal.Gen.facts, Cert.OutOddRefIdeal.Gen.facts, Cert.LruStep.Gen.facts, Cert.LruStepIdeal.Gen.facts, Cert.LruStepRefIdeal.Gen.facts, Cert.HgrnStep.Gen.facts, Cert.HgrnStepIdeal.Gen.facts, Cert.HgrnStepRefIdeal.Gen.facts, Cert.FoxLogf.Gen.facts, Cert.FoxLogfIdeal.Gen.facts, Cert.FoxLogfRefIdeal.Gen.facts, Cert.MlpS.Gen.facts, Cert.MlpSIdeal.Gen.facts, Cert.MlpSRefIdeal.Gen.facts, Cert.QkvS.Gen.facts, Cert.QkvSIdeal.Gen.facts, Cert.QkvSRefIdeal.Gen.facts, Cert.Pre_finite.Gen.facts,
   fun m g _ => Cert.Kernel.Gen.frame m g,
   fun m g _ => Cert.KernelIdeal.Gen.frame m g,
   fun m g _ => Cert.KernelIdeal.Gen.frame m g,
   quiescent_ReferenceIdeal,
   quiescent_ReferenceIdeal_pre_finite,
   fun m g _ => Cert.Mlp.Gen.frame m g,
   fun m g _ => Cert.MlpIdeal.Gen.frame m g,
   quiescent_MlpRefIdeal,
   fun m g _ => Cert.ProjIn.Gen.frame m g,
   fun m g _ => Cert.ProjInIdeal.Gen.frame m g,
   quiescent_ProjInRefIdeal,
   fun m g _ => Cert.Qkv.Body.frame m g,
   fun m g _ => Cert.QkvIdeal.Body.frame m g,
   quiescent_QkvRefIdeal,
   fun m g _ => Cert.OutEven.Gen.frame m g,
   fun m g _ => Cert.OutEvenIdeal.Gen.frame m g,
   quiescent_OutEvenRefIdeal,
   fun m g _ => Cert.OutOdd.Gen.frame m g,
   fun m g _ => Cert.OutOddIdeal.Gen.frame m g,
   quiescent_OutOddRefIdeal,
   fun m g _ => Cert.LruStep.Gen.frame m g,
   fun m g _ => Cert.LruStepIdeal.Gen.frame m g,
   quiescent_LruStepRefIdeal,
   fun m g _ => Cert.HgrnStep.Gen.frame m g,
   fun m g _ => Cert.HgrnStepIdeal.Gen.frame m g,
   quiescent_HgrnStepRefIdeal,
   fun m g _ => Cert.FoxLogf.Gen.frame m g,
   fun m g _ => Cert.FoxLogfIdeal.Gen.frame m g,
   quiescent_FoxLogfRefIdeal,
   fun m g _ => Cert.MlpS.Gen.frame m g,
   fun m g _ => Cert.MlpSIdeal.Gen.frame m g,
   quiescent_MlpSRefIdeal,
   fun m g _ => Cert.QkvS.Body.frame m g,
   fun m g _ => Cert.QkvSIdeal.Body.frame m g,
   quiescent_QkvSRefIdeal,
   trivial,
   algebraic_KernelIdeal_ReferenceIdeal_pre_finite,
   trivial,
   algebraic_MlpIdeal_MlpRefIdeal,
   trivial,
   algebraic_ProjInIdeal_ProjInRefIdeal,
   IdealRules.named_const.statement _ _ _ _ _ rfl,
   algebraic_QkvIdeal_QkvRefIdeal,
   trivial,
   algebraic_OutEvenIdeal_OutEvenRefIdeal,
   trivial,
   algebraic_OutOddIdeal_OutOddRefIdeal,
   trivial,
   algebraic_LruStepIdeal_LruStepRefIdeal,
   trivial,
   algebraic_HgrnStepIdeal_HgrnStepRefIdeal,
   IdealRules.named_const.statement _ _ _ _ _ rfl,
   algebraic_FoxLogfIdeal_FoxLogfRefIdeal,
   trivial,
   algebraic_MlpSIdeal_MlpSRefIdeal,
   IdealRules.named_const.statement _ _ _ _ _ rfl,
   algebraic_QkvSIdeal_QkvSRefIdeal⟩

end Cert.Proof

end
